-- ==== Defs.lean ====
def Pre_Kernel [hPre_edges : Cert.Pre_edges.Facts] (m : (ℓ : Loc Cert.Kernel.nD Cert.Kernel.τ Cert.Kernel.sig) → Buf (Elt Bits) ℓ) : Prop :=
  ∀ c : Dev Cert.Kernel.nD,
    (Cert.Pre_edges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_edges : Cert.Pre_edges.Facts] (m : (ℓ : Loc Cert.KernelIdeal.nD Cert.KernelIdeal.τ Cert.KernelIdeal.sig) → Buf (Elt Ideal) ℓ) : Prop :=
  ∀ c : Dev Cert.KernelIdeal.nD,
    (Cert.Pre_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_edges : Cert.Pre_edges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_edges : Cert.Pre_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges : Cert.Pre_edges.Facts) (hPre_finite : Cert.Pre_finite.Facts),
    quiescent_Kernel (hKernel := hKernel) (hPre_edges := hPre_edges)
    ∧ quiescent_KernelIdeal (hKernelIdeal := hKernelIdeal) (hPre_edges := hPre_edges)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_edges.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x64 : Shape := ⟨2, ![1, 64]⟩
abbrev S1 : Shape := ⟨1, ![1]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S_ .f32) (main_arg12 : FVec F S1x64 .f32) (main_arg13 : FVec F S1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 1 := constantI S_ 1 1#1
  let main_v2 : IVec S_ 1 := (fun x v => Host.reduce IntOp.andi x v reducesTo_S2x320000_S_d0_1 h_S_) main_v1 main_c_0
  let main_c_1 : IVec S_ 32 := constantI S_ 32 10000#32
  let main_v3 : IVec S2x320000 32 := broadcastInDim S2x320000 ![] bcast_S_S2x320000 main_c_1
  let main_v4 : IVec S2x320000 1 := cmpi .slt main_arg1 main_v3
  let main_c_2 : IVec S_ 1 := constantI S_ 1 1#1
  let main_v5 : IVec S_ 1 := (fun x v => Host.reduce IntOp.andi x v reducesTo_S2x320000_S_d0_1 h_S_) main_v4 main_c_2
  let main_v6 : IVec S_ 1 := andi main_v2 main_v5
  main_v6
-- ==== Pre_finite.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x64 : Shape := ⟨2, ![1, 64]⟩
abbrev S1 : Shape := ⟨1, ![1]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_v66 : IVec S_ 1) (main_c_26 : IVec S_ 32) : IVec S_ 1 :=
  let main_v67 : IVec S2x320000 32 := broadcastInDim S2x320000 ![] bcast_S_S2x320000 main_c_26
  let main_v68 : IVec S2x320000 1 := cmpi .slt main_arg1 main_v67
  let main_c_27 : IVec S_ 1 := constantI S_ 1 1#1
  let main_v69 : IVec S_ 1 := (fun x v => Host.reduce IntOp.andi x v reducesTo_S2x320000_S_d0_1 h_S_) main_v68 main_c_27
  let main_v70 : IVec S_ 1 := andi main_v66 main_v69
  main_v70

def fn_part3 {F : FTy → Type} [FloatOps F] (main_arg1 : IVec S2x320000 32) (main_arg12 : FVec F S1x64 .f32) (main_arg13 : FVec F S1 .f32) (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  let main_v53 : FVec F S1x64 .f32 := Host.absf main_arg12
  let main_cst_20 : FVec F S_ .f32 := constant S_ .f32 0x7F800000#32
  let main_v54 : FVec F S1x64 .f32 := broadcastInDim S1x64 ![] bcast_S_S1x64 main_cst_20
  let main_v55 : IVec S1x64 1 := cmpf .olt main_v53 main_v54
  let main_c_21 : IVec S_ 1 := constantI S_ 1 1#1
  let main_v56 : IVec S_ 1 := (fun x v => Host.reduce IntOp.andi x v reducesTo_S1x64_S_d0_1 h_S_) main_v55 main_c_21
  let main_v57 : IVec S_ 1 := andi main_v52 main_v56
  let main_v58 : FVec F S1 .f32 := Host.absf main_arg13
  let main_cst_22 : FVec F S_ .f32 := constant S_ .f32 0x7F800000#32
  let main_v59 : FVec F S1 .f32 := broadcastInDim S1 ![] bcast_S_S1 main_cst_22
  let main_v60 : IVec S1 1 := cmpf .olt main_v58 main_v59
  let main_c_23 : IVec S_ 1 := constantI S_ 1 1#1
  let main_v61 : IVec S_ 1 := (fun x v => Host.reduce IntOp.andi x v reducesTo_S1_S_d0 h_S_) main_v60 main_c_23
  let main_v62 : IVec S_ 1 := andi main_v57 main_v61
  let main_c_24 : IVec S_ 32 := constantI S_ 32 0#32
  let main_v63 : IVec S2x320000 32 := broadcastInDim S2x320000 ![] bcast_S_S2x320000 main_c_24
  let main_v64 : IVec S2x320000 1 := cmpi .sge main_arg1 main_v63
  let main_c_25 : IVec S_ 1 := constantI S_ 1 1#1
  let main_v65 : IVec S_ 1 := (fun x v => Host.reduce IntOp.andi x v reducesTo_S2x320000_S_d0_1 h_S_) main_v64 main_c_25
  let main_v66 : IVec S_ 1 := andi main_v62 main_v65
  let main_c_26 : IVec S_ 32 := constantI S_ 32 10000#32
  fn_part4 (F := F) main_arg1 main_v66 main_c_26

def fn_part2 {F : FTy → Type} [FloatOps F] (main_arg1 : IVec S2x320000 32) (main_arg8 : FVec F S64x128 .f32) (main_arg9 : FVec F S64 .f32) (main_arg10 : FVec F S64x128 .f32) (main_arg11 : FVec F S_ .f32) (main_arg12 : FVec F S1x64 .f32) (main_arg13 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S_ .f32 := Host.absf main_arg11
  let main_cst_18 : FVec F S_ .f32 := constant S_ .f32 0x7F800000#32
  let main_v50 : IVec S_ 1 := cmpf .olt main_v49 main_cst_18
  fn_part3 (F := F) main_arg1 main_arg12 main_arg13 main_v48 main_v50

def fn_part1 {F : FTy → Type} [FloatOps F] (main_arg1 : IVec S2x320000 32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S_ .f32) (main_arg12 : FVec F S1x64 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S_ .f32) (main_arg12 : FVec F S1x64 .f32) (main_arg13 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x64 : Shape := ⟨2, ![1, 64]⟩
abbrev S1 : Shape := ⟨1, ![1]⟩
abbrev S1x320000 : Shape := ⟨2, ![1, 320000]⟩
abbrev S320000 : Shape := ⟨1, ![320000]⟩
abbrev S10240x128 : Shape := ⟨2, ![10240, 128]⟩
abbrev S10240 : Shape := ⟨1, ![10240]⟩
abbrev S1x1 : Shape := ⟨2, ![1, 1]⟩
abbrev S128x1 : Shape := ⟨2, ![128, 1]⟩
abbrev S1x128 : Shape := ⟨2, ![1, 128]⟩
abbrev S2x128 : Shape := ⟨2, ![2, 128]⟩
abbrev S32x10240 : Shape := ⟨2, ![32, 10240]⟩
abbrev S10000 : Shape := ⟨1, ![10000]⟩
abbrev S16 : Shape := ⟨1, ![16]⟩
abbrev S1x10240 : Shape := ⟨2, ![1, 10240]⟩
abbrev S32x2048 : Shape := ⟨2, ![32, 2048]⟩
abbrev S1x2048 : Shape := ⟨2, ![1, 2048]⟩
abbrev S2048 : Shape := ⟨1, ![2048]⟩
abbrev S128x10240 : Shape := ⟨2, ![128, 10240]⟩
abbrev S2048x128 : Shape := ⟨2, ![2048, 128]⟩
abbrev S128x2048 : Shape := ⟨2, ![128, 2048]⟩
abbrev S4x10240 : Shape := ⟨2, ![4, 10240]⟩
abbrev S8000 : Shape := ⟨1, ![8000]⟩
abbrev S1x16 : Shape := ⟨2, ![1, 16]⟩
abbrev S2x10240 : Shape := ⟨2, ![2, 10240]⟩
abbrev S2x2048 : Shape := ⟨2, ![2, 2048]⟩
abbrev S1x10000 : Shape := ⟨2, ![1, 10000]⟩

abbrev nBuf : Table → Nat
  | .hbm => 47
  | .local .tc .vmem => 46
  | .local .scVector .vmem => 20
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S_, .f32⟩
  | .hbm, ⟨12, _⟩ => ⟨S1x64, .f32⟩
  | .hbm, ⟨13, _⟩ => ⟨S1, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S_, .i32⟩
  | .hbm, ⟨19, _⟩ => ⟨S_, .f32⟩
  | .hbm, ⟨20, _⟩ => ⟨S10240x128, .f32⟩
  | .hbm, ⟨21, _⟩ => ⟨S_, .f32⟩
  | .hbm, ⟨22, _⟩ => ⟨S10240, .f32⟩
  | .hbm, ⟨23, _⟩ => ⟨S1x1, .f32⟩
  | .hbm, ⟨24, _⟩ => ⟨S128x1, .f32⟩
  | .hbm, ⟨25, _⟩ => ⟨S128x1, .f32⟩
  | .hbm, ⟨26, _⟩ => ⟨S1x128, .f32⟩
  | .hbm, ⟨27, _⟩ => ⟨S1x128, .f32⟩
  | .hbm, ⟨28, _⟩ => ⟨S2x128, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S32x10240, .f32⟩
  | .hbm, ⟨33, _⟩ => ⟨S1x10240, .f32⟩
  | .hbm, ⟨34, _⟩ => ⟨S128x10240, .f32⟩
  | .hbm, ⟨35, _⟩ => ⟨S128x10240, .f32⟩
  | .hbm, ⟨36, _⟩ => ⟨S128x10240, .f32⟩
  | .hbm, ⟨37, _⟩ => ⟨S128x10240, .f32⟩
  | .hbm, ⟨38, _⟩ => ⟨S128x10240, .f32⟩
  | .hbm, ⟨39, _⟩ => ⟨S128x10240, .f32⟩
  | .hbm, ⟨40, _⟩ => ⟨S2x10240, .f32⟩
  | .hbm, ⟨41, _⟩ => ⟨S1x10240, .f32⟩
  | .hbm, ⟨42, _⟩ => ⟨S10240, .f32⟩
  | .hbm, ⟨43, _⟩ => ⟨S32x10240, .f32⟩
  | .hbm, ⟨44, _⟩ => ⟨S1x10240, .f32⟩
  | .hbm, ⟨45, _⟩ => ⟨S1x10000, .f32⟩
  | .hbm, ⟨46, _⟩ => ⟨S10000, .f32⟩
  | .local .tc .vmem, ⟨0, _⟩ => ⟨S32x2048, .f32⟩
  | .local .tc .vmem, ⟨1, _⟩ => ⟨S32x2048, .f32⟩
  | .local .tc .vmem, ⟨2, _⟩ => ⟨S1x2048, .f32⟩
  | .local .tc .vmem, ⟨3, _⟩ => ⟨S1x2048, .f32⟩
  | .local .tc .vmem, ⟨4, _⟩ => ⟨S2048x128, .f32⟩
  | .local .tc .vmem, ⟨5, _⟩ => ⟨S2048x128, .f32⟩
  | .local .tc .vmem, ⟨6, _⟩ => ⟨S128x128, .f32⟩
  | .local .tc .vmem, ⟨7, _⟩ => ⟨S128x128, .f32⟩
  | .local .tc .vmem, ⟨8, _⟩ => ⟨S128x1, .f32⟩
  | .local .tc .vmem, ⟨9, _⟩ => ⟨S128x2048, .f32⟩
  | .local .tc .vmem, ⟨10, _⟩ => ⟨S128x2048, .f32⟩
  | .local .tc .vmem, ⟨11, _⟩ => ⟨S128x2048, .f32⟩
  | .local .tc .vmem, ⟨12, _⟩ => ⟨S128x2048, .f32⟩
  | .local .tc .vmem, ⟨13, _⟩ => ⟨S128x2048, .f32⟩
  | .local .tc .vmem, ⟨14, _⟩ => ⟨S128x2048, .f32⟩
  | .local .tc .vmem, ⟨15, _⟩ => ⟨S128x2048, .f32⟩
  | .local .tc .vmem, ⟨16, _⟩ => ⟨S128x2048, .f32⟩
  | .local .tc .vmem, ⟨17, _⟩ => ⟨S1x2048, .f32⟩
  | .local .tc .vmem, ⟨18, _⟩ => ⟨S1x2048, .f32⟩
  | .local .tc .vmem, ⟨19, _⟩ => ⟨S1x1, .f32⟩
  | .local .tc .vmem, ⟨20, _⟩ => ⟨S128x128, .f32⟩
  | .local .tc .vmem, ⟨21, _⟩ => ⟨S128x128, .f32⟩
  | .local .tc .vmem, ⟨22, _⟩ => ⟨S128x1, .f32⟩
  | .local .tc .vmem, ⟨23, _⟩ => ⟨S128x2048, .f32⟩
  | .local .tc .vmem, ⟨24, _⟩ => ⟨S128x2048, .f32⟩
  | .local .tc .vmem, ⟨25, _⟩ => ⟨S128x2048, .f32⟩
  | .local .tc .vmem, ⟨26, _⟩ => ⟨S128x2048, .f32⟩
  | .local .tc .vmem, ⟨27, _⟩ => ⟨S128x2048, .f32⟩
  | .local .tc .vmem, ⟨28, _⟩ => ⟨S128x2048, .f32⟩
  | .local .tc .vmem, ⟨29, _⟩ => ⟨S128x2048, .f32⟩
  | .local .tc .vmem, ⟨30, _⟩ => ⟨S128x2048, .f32⟩
  | .local .tc .vmem, ⟨31, _⟩ => ⟨S1x2048, .f32⟩
  | .local .tc .vmem, ⟨32, _⟩ => ⟨S1x2048, .f32⟩
  | .local .tc .vmem, ⟨33, _⟩ => ⟨S1x1, .f32⟩
  | .local .tc .vmem, ⟨34, _⟩ => ⟨S2x128, .f32⟩
  | .local .tc .vmem, ⟨35, _⟩ => ⟨S2x2048, .f32⟩
  | .local .tc .vmem, ⟨36, _⟩ => ⟨S2x2048, .f32⟩
  | .local .tc .vmem, ⟨37, _⟩ => ⟨S32x2048, .f32⟩
  | .local .tc .vmem, ⟨38, _⟩ => ⟨S32x2048, .f32⟩
  | .local .tc .vmem, ⟨39, _⟩ => ⟨S2x2048, .f32⟩
  | .local .tc .vmem, ⟨40, _⟩ => ⟨S2x2048, .f32⟩
  | .local .tc .vmem, ⟨41, _⟩ => ⟨S1x2048, .f32⟩
  | .local .tc .vmem, ⟨42, _⟩ => ⟨S1x2048, .f32⟩
  | .local .tc .vmem, ⟨43, _⟩ => ⟨S1x1, .f32⟩
  | .local .tc .vmem, ⟨44, _⟩ => ⟨S1x2048, .f32⟩
  | .local .tc .vmem, ⟨45, _⟩ => ⟨S1x2048, .f32⟩
  | .local .scVector .vmem, ⟨0, _⟩ => ⟨S10240, .f32⟩
  | .local .scVector .vmem, ⟨1, _⟩ => ⟨S10240, .f32⟩
  | .local .scVector .vmem, ⟨2, _⟩ => ⟨S10000, .i32⟩
  | .local .scVector .vmem, ⟨3, _⟩ => ⟨S10000, .i32⟩
  | .local .scVector .vmem, ⟨4, _⟩ => ⟨S4x10240, .f32⟩
  | .local .scVector .vmem, ⟨5, _⟩ => ⟨S4x10240, .f32⟩
  | .local .scVector .vmem, ⟨6, _⟩ => ⟨S8000, .i32⟩
  | .local .scVector .vmem, ⟨7, _⟩ => ⟨S8000, .i32⟩
  | .local .scVector .vmem, ⟨8, _⟩ => ⟨S8000, .i32⟩
  | .local .scVector .vmem, ⟨9, _⟩ => ⟨S8000, .i32⟩
  | .local .scVector .vmem, ⟨10, _⟩ => ⟨S4x10240, .f32⟩
  | .local .scVector .vmem, ⟨11, _⟩ => ⟨S4x10240, .f32⟩
  | .local .scVector .vmem, ⟨12, _⟩ => ⟨S8000, .i32⟩
  | .local .scVector .vmem, ⟨13, _⟩ => ⟨S8000, .i32⟩
  | .local .scVector .vmem, ⟨14, _⟩ => ⟨S8000, .i32⟩
  | .local .scVector .vmem, ⟨15, _⟩ => ⟨S8000, .i32⟩
  | .local .scVector .vmem, ⟨16, _⟩ => ⟨S10240, .f32⟩
  | .local .scVector .vmem, ⟨17, _⟩ => ⟨S10240, .f32⟩
  | .local .scVector .vmem, ⟨18, _⟩ => ⟨S10000, .i32⟩
  | .local .scVector .vmem, ⟨19, _⟩ => ⟨S10000, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 66 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => false
  | ⟨38, _⟩ => false
  | ⟨39, _⟩ => false
  | ⟨40, _⟩ => false
  | ⟨41, _⟩ => false
  | ⟨42, _⟩ => false
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => false
  | ⟨54, _⟩ => false
  | ⟨55, _⟩ => false
  | ⟨56, _⟩ => false
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTables nBuf rfl bufTy 4 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v5_scv : Ref sig .scVector := ⟨.hbm, 22, rfl⟩
abbrev main_v1_scv : Ref sig .scVector := ⟨.hbm, 15, rfl⟩
abbrev main_v3_scv : Ref sig .scVector := ⟨.hbm, 17, rfl⟩
abbrev main_v15_scv : Ref sig .scVector := ⟨.hbm, 32, rfl⟩
abbrev main_v17_0_scv : Ref sig .scVector := ⟨.hbm, 34, rfl⟩
abbrev main_v18_scv : Ref sig .scVector := ⟨.hbm, 36, rfl⟩
abbrev main_v19_0_scv : Ref sig .scVector := ⟨.hbm, 37, rfl⟩
abbrev main_v20_scv : Ref sig .scVector := ⟨.hbm, 39, rfl⟩
abbrev main_v23_scv : Ref sig .scVector := ⟨.hbm, 42, rfl⟩
abbrev main_v24_scv : Ref sig .scVector := ⟨.hbm, 43, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg4_1 : Ref sig .tc := ⟨.vmem, 10, rfl⟩
abbrev cc2_stg5_0 : Ref sig .tc := ⟨.vmem, 11, rfl⟩
abbrev cc2_stg5_1 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg1_1 : Ref sig .tc := ⟨.vmem, 16, rfl⟩
abbrev cc4_stg2_0 : Ref sig .tc := ⟨.vmem, 17, rfl⟩
abbrev cc4_stg2_1 : Ref sig .tc := ⟨.vmem, 18, rfl⟩
abbrev cc4_stg3_0 : Ref sig .tc := ⟨.vmem, 19, rfl⟩
abbrev cc4_stg4_0 : Ref sig .tc := ⟨.vmem, 20, rfl⟩
abbrev cc4_stg5_0 : Ref sig .tc := ⟨.vmem, 21, rfl⟩
abbrev cc4_stg6_0 : Ref sig .tc := ⟨.vmem, 22, rfl⟩
abbrev cc4_stg7_0 : Ref sig .tc := ⟨.vmem, 23, rfl⟩
abbrev cc4_stg7_1 : Ref sig .tc := ⟨.vmem, 24, rfl⟩
abbrev cc4_stg8_0 : Ref sig .tc := ⟨.vmem, 25, rfl⟩
abbrev cc4_stg8_1 : Ref sig .tc := ⟨.vmem, 26, rfl⟩
abbrev cc6_stg0_0 : Ref sig .tc := ⟨.vmem, 27, rfl⟩
abbrev cc6_stg0_1 : Ref sig .tc := ⟨.vmem, 28, rfl⟩
abbrev cc6_stg1_0 : Ref sig .tc := ⟨.vmem, 29, rfl⟩
abbrev cc6_stg1_1 : Ref sig .tc := ⟨.vmem, 30, rfl⟩
abbrev cc6_stg2_0 : Ref sig .tc := ⟨.vmem, 31, rfl⟩
abbrev cc6_stg2_1 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg5_1 : Ref sig .tc := ⟨.vmem, 36, rfl⟩
abbrev cc8_stg0_0 : Ref sig .tc := ⟨.vmem, 37, rfl⟩
abbrev cc8_stg0_1 : Ref sig .tc := ⟨.vmem, 38, rfl⟩
abbrev cc8_stg1_0 : Ref sig .tc := ⟨.vmem, 39, rfl⟩
abbrev cc8_stg1_1 : Ref sig .tc := ⟨.vmem, 40, rfl⟩
abbrev cc8_stg2_0 : Ref sig .tc := ⟨.vmem, 41, rfl⟩
abbrev cc8_stg2_1 : Ref sig .tc := ⟨.vmem, 42, rfl⟩
abbrev cc8_stg3_0 : Ref sig .tc := ⟨.vmem, 43, rfl⟩
abbrev cc8_stg4_0 : Ref sig .tc := ⟨.vmem, 44, rfl⟩
abbrev cc8_stg4_1 : Ref sig .tc := ⟨.vmem, 45, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc3_scratch4 : Ref sig .scVector := ⟨.vmem, 8, rfl⟩
abbrev cc3_scratch5 : Ref sig .scVector := ⟨.vmem, 9, rfl⟩
abbrev cc5_scratch0 : Ref sig .scVector := ⟨.vmem, 10, rfl⟩
abbrev cc5_scratch1 : Ref sig .scVector := ⟨.vmem, 11, rfl⟩
abbrev cc5_scratch2 : Ref sig .scVector := ⟨.vmem, 12, rfl⟩
abbrev cc5_scratch3 : Ref sig .scVector := ⟨.vmem, 13, rfl⟩
abbrev cc5_scratch4 : Ref sig .scVector := ⟨.vmem, 14, rfl⟩
abbrev cc5_scratch5 : Ref sig .scVector := ⟨.vmem, 15, rfl⟩
abbrev cc7_scratch0 : Ref sig .scVector := ⟨.vmem, 16, rfl⟩
abbrev cc7_scratch1 : Ref sig .scVector := ⟨.vmem, 17, rfl⟩
abbrev cc7_scratch2 : Ref sig .scVector := ⟨.vmem, 18, rfl⟩
abbrev cc7_scratch3 : Ref sig .scVector := ⟨.vmem, 19, rfl⟩
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem4_1 : DmaSem sig := 14
abbrev cc2_sem5_0 : DmaSem sig := 15
abbrev cc2_sem5_1 : DmaSem sig := 16
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem7_1 : DmaSem sig := 34
abbrev cc4_sem8_0 : DmaSem sig := 35
abbrev cc4_sem8_1 : DmaSem sig := 36
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem5_0 : DmaSem sig := 51
abbrev cc6_sem5_1 : DmaSem sig := 52
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem2_1 : DmaSem sig := 62
abbrev cc8_sem3_0 : DmaSem sig := 63
abbrev cc8_sem4_0 : DmaSem sig := 64
abbrev cc8_sem4_1 : DmaSem sig := 65
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32 : BitVec 32 := 0#32
  let c640_i32 : BitVec 32 := 640#32
  let v4 : BitVec 32 := Scalar.addi c0_i32 c640_i32
  let c1_i32 : BitVec 32 := 1#32
  ⟨c0_i32, v4, c1_i32⟩
def k0_off2 (k0_t1 : Fin k0_t1_loop.trips) : Fin 1 → Nat :=
  let c0_i32_5 : BitVec 32 := 0#32
  let c0_i32 : BitVec 32 := 0#32
  let c1_i32 : BitVec 32 := 1#32
  let arg10 : BitVec 32 := Scf.iv c0_i32 c1_i32 k0_t1
  let c1_i32_4 : BitVec 32 := 1#32
  let v6 : BitVec 32 := Scalar.muli arg10 c1_i32_4
  let v7 : BitVec 32 := Scalar.addi c0_i32_5 v6
  let c16_i32 : BitVec 32 := 16#32
  let v8 : BitVec 32 := Scalar.muli v7 c16_i32
  let v9 : Index := Scalar.indexCast v8
  ![v9.toNat]
@[reducible] def k0_t2_loop : Scf.Loop 32 :=
  let c0_i32_1 : BitVec 32 := 0#32
  let c625_i32 : BitVec 32 := 625#32
  let v5 : BitVec 32 := Scalar.addi c0_i32_1 c625_i32
  let c1_i32_2 : BitVec 32 := 1#32
  ⟨c0_i32_1, v5, c1_i32_2⟩
def k0_off3 (k0_t2 : Fin k0_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k0_t2
  let c1_i32_4 : BitVec 32 := 1#32
  let v6 : BitVec 32 := Scalar.muli arg10 c1_i32_4
  let v7 : BitVec 32 := Scalar.addi c0_i32_5 v6
  let c16_i32 : BitVec 32 := 16#32
  let v8 : BitVec 32 := Scalar.muli v7 c16_i32
  let v9 : Index := Scalar.indexCast v8
  ![v9.toNat]

def k0_chk1 (v10 : IVec S16 32) : Prop :=
  (∀ a x, ((![v10] : Fin 1 → IVec S16 32) a x).toNat < S10240.size a)
theorem k0_idx1_inb : ∀ (v10 : IVec S16 32) (k0_hw1 : k0_chk1 v10), ∀ a x, ((![v10] : Fin 1 → IVec S16 32) a x).toNat < S10240.size a := fun v10 k0_hw1 => k0_hw1

def k0_chk2 (v13 : IVec S16 32) : Prop :=
  (∀ a x, ((![v13] : Fin 1 → IVec S16 32) a x).toNat < S10240.size a)
theorem k0_idx2_inb : ∀ (v13 : IVec S16 32) (k0_hw2 : k0_chk2 v13), ∀ a x, ((![v13] : Fin 1 → IVec S16 32) a x).toNat < S10240.size a := fun v13 k0_hw2 => k0_hw2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r3 : BitVec 32 := 0#32
  ![v1.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  ![v2.toNat, 0]
@[reducible] def k3_t1_loop : Scf.Loop 32 :=
  let c0_i32_5 : BitVec 32 := 0#32
  let c640_i32 : BitVec 32 := 640#32
  let v10 : BitVec 32 := Scalar.addi c0_i32_5 c640_i32
  let c1_i32 : BitVec 32 := 1#32
  ⟨c0_i32_5, v10, c1_i32⟩
def k3_off2 (k3_t1 : Fin k3_t1_loop.trips) : Fin 2 → Nat :=
  let c0_i32_18 : BitVec 32 := 0#32
  let v21 : Index := Scalar.indexCast c0_i32_18
  let c0_i32_17 : BitVec 32 := 0#32
  let c0_i32_5 : BitVec 32 := 0#32
  let c1_i32 : BitVec 32 := 1#32
  let arg17 : BitVec 32 := Scf.iv c0_i32_5 c1_i32 k3_t1
  let c1_i32_16 : BitVec 32 := 1#32
  let v18 : BitVec 32 := Scalar.muli arg17 c1_i32_16
  let v19 : BitVec 32 := Scalar.addi c0_i32_17 v18
  let c16_i32 : BitVec 32 := 16#32
  let v20 : BitVec 32 := Scalar.muli v19 c16_i32
  let v22 : Index := Scalar.indexCast v20
  ![0, v22.toNat]
def k3_off3 (k3_t1 : Fin k3_t1_loop.trips) : Fin 2 → Nat :=
  let c1_i32_20 : BitVec 32 := 1#32
  let v25 : Index := Scalar.indexCast c1_i32_20
  let c0_i32_17 : BitVec 32 := 0#32
  let c0_i32_5 : BitVec 32 := 0#32
  let c1_i32 : BitVec 32 := 1#32
  let arg17 : BitVec 32 := Scf.iv c0_i32_5 c1_i32 k3_t1
  let c1_i32_16 : BitVec 32 := 1#32
  let v18 : BitVec 32 := Scalar.muli arg17 c1_i32_16
  let v19 : BitVec 32 := Scalar.addi c0_i32_17 v18
  let c16_i32_19 : BitVec 32 := 16#32
  let v24 : BitVec 32 := Scalar.muli v19 c16_i32_19
  let v26 : Index := Scalar.indexCast v24
  ![1, v26.toNat]
def k3_off4 (k3_t1 : Fin k3_t1_loop.trips) : Fin 2 → Nat :=
  let c2_i32_22 : BitVec 32 := 2#32
  let v29 : Index := Scalar.indexCast c2_i32_22
  let c0_i32_17 : BitVec 32 := 0#32
  let c0_i32_5 : BitVec 32 := 0#32
  let c1_i32 : BitVec 32 := 1#32
  let arg17 : BitVec 32 := Scf.iv c0_i32_5 c1_i32 k3_t1
  let c1_i32_16 : BitVec 32 := 1#32
  let v18 : BitVec 32 := Scalar.muli arg17 c1_i32_16
  let v19 : BitVec 32 := Scalar.addi c0_i32_17 v18
  let c16_i32_21 : BitVec 32 := 16#32
  let v28 : BitVec 32 := Scalar.muli v19 c16_i32_21
  let v30 : Index := Scalar.indexCast v28
  ![2, v30.toNat]
def k3_off5 (k3_t1 : Fin k3_t1_loop.trips) : Fin 2 → Nat :=
  let c3_i32_24 : BitVec 32 := 3#32
  let v33 : Index := Scalar.indexCast c3_i32_24
  let c0_i32_17 : BitVec 32 := 0#32
  let c0_i32_5 : BitVec 32 := 0#32
  let c1_i32 : BitVec 32 := 1#32
  let arg17 : BitVec 32 := Scf.iv c0_i32_5 c1_i32 k3_t1
  let c1_i32_16 : BitVec 32 := 1#32
  let v18 : BitVec 32 := Scalar.muli arg17 c1_i32_16
  let v19 : BitVec 32 := Scalar.addi c0_i32_17 v18
  let c16_i32_23 : BitVec 32 := 16#32
  let v32 : BitVec 32 := Scalar.muli v19 c16_i32_23
  let v34 : Index := Scalar.indexCast v32
  ![3, v34.toNat]
@[reducible] def k3_t2_loop : Scf.Loop 32 :=
  let c0_i32_13 : BitVec 32 := 0#32
  let c20_i32 : BitVec 32 := 20#32
  let v17 : BitVec 32 := Scalar.addi c0_i32_13 c20_i32
  let c1_i32_14 : BitVec 32 := 1#32
  ⟨c0_i32_13, v17, c1_i32_14⟩
def k3_off6 (k3_t2 : Fin k3_t2_loop.trips) : Fin 1 → Nat :=
  let c2_i32_17 : BitVec 32 := 2#32
  let c0_i32_13 : BitVec 32 := 0#32
  let c1_i32_14 : BitVec 32 := 1#32
  let arg17 : BitVec 32 := Scf.iv c0_i32_13 c1_i32_14 k3_t2
  let v19 : BitVec 32 := Scalar.muli c2_i32_17 arg17
  let c1_i32_18 : BitVec 32 := 1#32
  let v20 : BitVec 32 := Scalar.addi v19 c1_i32_18
  let c8000_i32 : BitVec 32 := 8000#32
  let v21 : BitVec 32 := Scalar.muli v20 c8000_i32
  ![v21.toNat]
def k3_off7 (k3_t2 : Fin k3_t2_loop.trips) : Fin 1 → Nat :=
  let c2_i32_16 : BitVec 32 := 2#32
  let c0_i32_13 : BitVec 32 := 0#32
  let c1_i32_14 : BitVec 32 := 1#32
  let arg17 : BitVec 32 := Scf.iv c0_i32_13 c1_i32_14 k3_t2
  let v18 : BitVec 32 := Scalar.muli c2_i32_16 arg17
  let c8000_i32_20 : BitVec 32 := 8000#32
  let v27 : BitVec 32 := Scalar.muli v18 c8000_i32_20
  ![v27.toNat]
@[reducible] def k3_t3_loop : Scf.Loop 32 :=
  let c0_i32_22 : BitVec 32 := 0#32
  let c500_i32 : BitVec 32 := 500#32
  let v33 : BitVec 32 := Scalar.addi c0_i32_22 c500_i32
  let c1_i32_23 : BitVec 32 := 1#32
  ⟨c0_i32_22, v33, c1_i32_23⟩
def k3_off8 (k3_t3 : Fin k3_t3_loop.trips) : Fin 1 → Nat :=
  let c0_i32_34 : BitVec 32 := 0#32
  let c0_i32_22 : BitVec 32 := 0#32
  let c1_i32_23 : BitVec 32 := 1#32
  let arg18 : BitVec 32 := Scf.iv c0_i32_22 c1_i32_23 k3_t3
  let c1_i32_33 : BitVec 32 := 1#32
  let v45 : BitVec 32 := Scalar.muli arg18 c1_i32_33
  let v46 : BitVec 32 := Scalar.addi c0_i32_34 v45
  let c16_i32 : BitVec 32 := 16#32
  let v47 : BitVec 32 := Scalar.muli v46 c16_i32
  let v48 : Index := Scalar.indexCast v47
  ![v48.toNat]

def k3_chk1 (v13 : IVec S16 32) (v14 : IVec S16 32) (v15 : IVec S16 32) (v16 : IVec S16 32) (v49 : IVec S16 32) : Prop :=
  (∀ a x, ((![v13, v49] : Fin 2 → IVec S16 32) a x).toNat < S4x10240.size a) ∧
  (∀ a x, ((![v14, v49] : Fin 2 → IVec S16 32) a x).toNat < S4x10240.size a) ∧
  (∀ a x, ((![v15, v49] : Fin 2 → IVec S16 32) a x).toNat < S4x10240.size a) ∧
  (∀ a x, ((![v16, v49] : Fin 2 → IVec S16 32) a x).toNat < S4x10240.size a)
theorem k3_idx1_inb : ∀ (v13 : IVec S16 32) (v14 : IVec S16 32) (v15 : IVec S16 32) (v16 : IVec S16 32) (v49 : IVec S16 32) (k3_hw1 : k3_chk1 v13 v14 v15 v16 v49), ∀ a x, ((![v13, v49] : Fin 2 → IVec S16 32) a x).toNat < S4x10240.size a := fun v13 v14 v15 v16 v49 k3_hw1 => k3_hw1.1
theorem k3_idx3_inb : ∀ (v13 : IVec S16 32) (v14 : IVec S16 32) (v15 : IVec S16 32) (v16 : IVec S16 32) (v49 : IVec S16 32) (k3_hw1 : k3_chk1 v13 v14 v15 v16 v49), ∀ a x, ((![v14, v49] : Fin 2 → IVec S16 32) a x).toNat < S4x10240.size a := fun v13 v14 v15 v16 v49 k3_hw1 => k3_hw1.2.1
theorem k3_idx5_inb : ∀ (v13 : IVec S16 32) (v14 : IVec S16 32) (v15 : IVec S16 32) (v16 : IVec S16 32) (v49 : IVec S16 32) (k3_hw1 : k3_chk1 v13 v14 v15 v16 v49), ∀ a x, ((![v15, v49] : Fin 2 → IVec S16 32) a x).toNat < S4x10240.size a := fun v13 v14 v15 v16 v49 k3_hw1 => k3_hw1.2.2.1
theorem k3_idx7_inb : ∀ (v13 : IVec S16 32) (v14 : IVec S16 32) (v15 : IVec S16 32) (v16 : IVec S16 32) (v49 : IVec S16 32) (k3_hw1 : k3_chk1 v13 v14 v15 v16 v49), ∀ a x, ((![v16, v49] : Fin 2 → IVec S16 32) a x).toNat < S4x10240.size a := fun v13 v14 v15 v16 v49 k3_hw1 => k3_hw1.2.2.2

def k3_chk2 (v13 : IVec S16 32) (v14 : IVec S16 32) (v15 : IVec S16 32) (v16 : IVec S16 32) (v52 : IVec S16 32) : Prop :=
  (∀ a x, ((![v13, v52] : Fin 2 → IVec S16 32) a x).toNat < S4x10240.size a) ∧
  (∀ a x, ((![v14, v52] : Fin 2 → IVec S16 32) a x).toNat < S4x10240.size a) ∧
  (∀ a x, ((![v15, v52] : Fin 2 → IVec S16 32) a x).toNat < S4x10240.size a) ∧
  (∀ a x, ((![v16, v52] : Fin 2 → IVec S16 32) a x).toNat < S4x10240.size a)
theorem k3_idx2_inb : ∀ (v13 : IVec S16 32) (v14 : IVec S16 32) (v15 : IVec S16 32) (v16 : IVec S16 32) (v52 : IVec S16 32) (k3_hw2 : k3_chk2 v13 v14 v15 v16 v52), ∀ a x, ((![v13, v52] : Fin 2 → IVec S16 32) a x).toNat < S4x10240.size a := fun v13 v14 v15 v16 v52 k3_hw2 => k3_hw2.1
theorem k3_idx4_inb : ∀ (v13 : IVec S16 32) (v14 : IVec S16 32) (v15 : IVec S16 32) (v16 : IVec S16 32) (v52 : IVec S16 32) (k3_hw2 : k3_chk2 v13 v14 v15 v16 v52), ∀ a x, ((![v14, v52] : Fin 2 → IVec S16 32) a x).toNat < S4x10240.size a := fun v13 v14 v15 v16 v52 k3_hw2 => k3_hw2.2.1
theorem k3_idx6_inb : ∀ (v13 : IVec S16 32) (v14 : IVec S16 32) (v15 : IVec S16 32) (v16 : IVec S16 32) (v52 : IVec S16 32) (k3_hw2 : k3_chk2 v13 v14 v15 v16 v52), ∀ a x, ((![v15, v52] : Fin 2 → IVec S16 32) a x).toNat < S4x10240.size a := fun v13 v14 v15 v16 v52 k3_hw2 => k3_hw2.2.2.1
theorem k3_idx8_inb : ∀ (v13 : IVec S16 32) (v14 : IVec S16 32) (v15 : IVec S16 32) (v16 : IVec S16 32) (v52 : IVec S16 32) (k3_hw2 : k3_chk2 v13 v14 v15 v16 v52), ∀ a x, ((![v16, v52] : Fin 2 → IVec S16 32) a x).toNat < S4x10240.size a := fun v13 v14 v15 v16 v52 k3_hw2 => k3_hw2.2.2.2
def k3_cond1 (k3_t2 : Fin k3_t2_loop.trips) : BitVec 1 :=
  let c2_i32_16 : BitVec 32 := 2#32
  let c0_i32_13 : BitVec 32 := 0#32
  let c1_i32_14 : BitVec 32 := 1#32
  let arg17 : BitVec 32 := Scf.iv c0_i32_13 c1_i32_14 k3_t2
  let v18 : BitVec 32 := Scalar.muli c2_i32_16 arg17
  let c2_i32_25 : BitVec 32 := 2#32
  let v34 : BitVec 32 := Scalar.addi v18 c2_i32_25
  let c40_i32 : BitVec 32 := 40#32
  let v35 : BitVec 1 := Scalar.cmpi .slt v34 c40_i32
  let v36 : BitVec 32 := Scalar.extui v35
  let c0_i32_26 : BitVec 32 := 0#32
  let v37 : BitVec 1 := Scalar.cmpi .ne v36 c0_i32_26
  v37

def k3_off9 (k3_t2 : Fin k3_t2_loop.trips) : Fin 1 → Nat :=
  let c2_i32_16 : BitVec 32 := 2#32
  let c0_i32_13 : BitVec 32 := 0#32
  let c1_i32_14 : BitVec 32 := 1#32
  let arg17 : BitVec 32 := Scf.iv c0_i32_13 c1_i32_14 k3_t2
  let v18 : BitVec 32 := Scalar.muli c2_i32_16 arg17
  let c2_i32_25 : BitVec 32 := 2#32
  let v34 : BitVec 32 := Scalar.addi v18 c2_i32_25
  let c8000_i32_33 : BitVec 32 := 8000#32
  let v45 : BitVec 32 := Scalar.muli v34 c8000_i32_33
  ![v45.toNat]
def k3_off10 (k3_t2 : Fin k3_t2_loop.trips) : Fin 1 → Nat :=
  let c2_i32_17 : BitVec 32 := 2#32
  let c0_i32_13 : BitVec 32 := 0#32
  let c1_i32_14 : BitVec 32 := 1#32
  let arg17 : BitVec 32 := Scf.iv c0_i32_13 c1_i32_14 k3_t2
  let v19 : BitVec 32 := Scalar.muli c2_i32_17 arg17
  let c1_i32_18 : BitVec 32 := 1#32
  let v20 : BitVec 32 := Scalar.addi v19 c1_i32_18
  let c8000_i32_27 : BitVec 32 := 8000#32
  let v38 : BitVec 32 := Scalar.muli v20 c8000_i32_27
  ![v38.toNat]
@[reducible] def k3_t4_loop : Scf.Loop 32 :=
  let c0_i32_29 : BitVec 32 := 0#32
  let c500_i32_30 : BitVec 32 := 500#32
  let v44 : BitVec 32 := Scalar.addi c0_i32_29 c500_i32_30
  let c1_i32_31 : BitVec 32 := 1#32
  ⟨c0_i32_29, v44, c1_i32_31⟩
def k3_off11 (k3_t4 : Fin k3_t4_loop.trips) : Fin 1 → Nat :=
  let c0_i32_34 : BitVec 32 := 0#32
  let c0_i32_29 : BitVec 32 := 0#32
  let c1_i32_31 : BitVec 32 := 1#32
  let arg18 : BitVec 32 := Scf.iv c0_i32_29 c1_i32_31 k3_t4
  let c1_i32_33 : BitVec 32 := 1#32
  let v45 : BitVec 32 := Scalar.muli arg18 c1_i32_33
  let v46 : BitVec 32 := Scalar.addi c0_i32_34 v45
  let c16_i32 : BitVec 32 := 16#32
  let v47 : BitVec 32 := Scalar.muli v46 c16_i32
  let v48 : Index := Scalar.indexCast v47
  ![v48.toNat]

def k3_chk3 (v13 : IVec S16 32) (v14 : IVec S16 32) (v15 : IVec S16 32) (v16 : IVec S16 32) (v49 : IVec S16 32) : Prop :=
  (∀ a x, ((![v13, v49] : Fin 2 → IVec S16 32) a x).toNat < S4x10240.size a) ∧
  (∀ a x, ((![v14, v49] : Fin 2 → IVec S16 32) a x).toNat < S4x10240.size a) ∧
  (∀ a x, ((![v15, v49] : Fin 2 → IVec S16 32) a x).toNat < S4x10240.size a) ∧
  (∀ a x, ((![v16, v49] : Fin 2 → IVec S16 32) a x).toNat < S4x10240.size a)
theorem k3_idx9_inb : ∀ (v13 : IVec S16 32) (v14 : IVec S16 32) (v15 : IVec S16 32) (v16 : IVec S16 32) (v49 : IVec S16 32) (k3_hw3 : k3_chk3 v13 v14 v15 v16 v49), ∀ a x, ((![v13, v49] : Fin 2 → IVec S16 32) a x).toNat < S4x10240.size a := fun v13 v14 v15 v16 v49 k3_hw3 => k3_hw3.1
theorem k3_idx11_inb : ∀ (v13 : IVec S16 32) (v14 : IVec S16 32) (v15 : IVec S16 32) (v16 : IVec S16 32) (v49 : IVec S16 32) (k3_hw3 : k3_chk3 v13 v14 v15 v16 v49), ∀ a x, ((![v14, v49] : Fin 2 → IVec S16 32) a x).toNat < S4x10240.size a := fun v13 v14 v15 v16 v49 k3_hw3 => k3_hw3.2.1
theorem k3_idx13_inb : ∀ (v13 : IVec S16 32) (v14 : IVec S16 32) (v15 : IVec S16 32) (v16 : IVec S16 32) (v49 : IVec S16 32) (k3_hw3 : k3_chk3 v13 v14 v15 v16 v49), ∀ a x, ((![v15, v49] : Fin 2 → IVec S16 32) a x).toNat < S4x10240.size a := fun v13 v14 v15 v16 v49 k3_hw3 => k3_hw3.2.2.1
theorem k3_idx15_inb : ∀ (v13 : IVec S16 32) (v14 : IVec S16 32) (v15 : IVec S16 32) (v16 : IVec S16 32) (v49 : IVec S16 32) (k3_hw3 : k3_chk3 v13 v14 v15 v16 v49), ∀ a x, ((![v16, v49] : Fin 2 → IVec S16 32) a x).toNat < S4x10240.size a := fun v13 v14 v15 v16 v49 k3_hw3 => k3_hw3.2.2.2

def k3_chk4 (v13 : IVec S16 32) (v14 : IVec S16 32) (v15 : IVec S16 32) (v16 : IVec S16 32) (v52 : IVec S16 32) : Prop :=
  (∀ a x, ((![v13, v52] : Fin 2 → IVec S16 32) a x).toNat < S4x10240.size a) ∧
  (∀ a x, ((![v14, v52] : Fin 2 → IVec S16 32) a x).toNat < S4x10240.size a) ∧
  (∀ a x, ((![v15, v52] : Fin 2 → IVec S16 32) a x).toNat < S4x10240.size a) ∧
  (∀ a x, ((![v16, v52] : Fin 2 → IVec S16 32) a x).toNat < S4x10240.size a)
theorem k3_idx10_inb : ∀ (v13 : IVec S16 32) (v14 : IVec S16 32) (v15 : IVec S16 32) (v16 : IVec S16 32) (v52 : IVec S16 32) (k3_hw4 : k3_chk4 v13 v14 v15 v16 v52), ∀ a x, ((![v13, v52] : Fin 2 → IVec S16 32) a x).toNat < S4x10240.size a := fun v13 v14 v15 v16 v52 k3_hw4 => k3_hw4.1
theorem k3_idx12_inb : ∀ (v13 : IVec S16 32) (v14 : IVec S16 32) (v15 : IVec S16 32) (v16 : IVec S16 32) (v52 : IVec S16 32) (k3_hw4 : k3_chk4 v13 v14 v15 v16 v52), ∀ a x, ((![v14, v52] : Fin 2 → IVec S16 32) a x).toNat < S4x10240.size a := fun v13 v14 v15 v16 v52 k3_hw4 => k3_hw4.2.1
theorem k3_idx14_inb : ∀ (v13 : IVec S16 32) (v14 : IVec S16 32) (v15 : IVec S16 32) (v16 : IVec S16 32) (v52 : IVec S16 32) (k3_hw4 : k3_chk4 v13 v14 v15 v16 v52), ∀ a x, ((![v15, v52] : Fin 2 → IVec S16 32) a x).toNat < S4x10240.size a := fun v13 v14 v15 v16 v52 k3_hw4 => k3_hw4.2.2.1
theorem k3_idx16_inb : ∀ (v13 : IVec S16 32) (v14 : IVec S16 32) (v15 : IVec S16 32) (v16 : IVec S16 32) (v52 : IVec S16 32) (k3_hw4 : k3_chk4 v13 v14 v15 v16 v52), ∀ a x, ((![v16, v52] : Fin 2 → IVec S16 32) a x).toNat < S4x10240.size a := fun v13 v14 v15 v16 v52 k3_hw4 => k3_hw4.2.2.2
def k3_off12 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_16_r0 : BitVec 32 := 0#32
  ![v2.toNat, 0]
abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S128x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S128x2048 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨2, ![2, 16], ![false, false]⟩

def k5_off1 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  ![v2.toNat, 0]
@[reducible] def k5_t1_loop : Scf.Loop 32 :=
  let c0_i32_5 : BitVec 32 := 0#32
  let c640_i32 : BitVec 32 := 640#32
  let v10 : BitVec 32 := Scalar.addi c0_i32_5 c640_i32
  let c1_i32 : BitVec 32 := 1#32
  ⟨c0_i32_5, v10, c1_i32⟩
def k5_off2 (k5_t1 : Fin k5_t1_loop.trips) : Fin 2 → Nat :=
  let c0_i32_18 : BitVec 32 := 0#32
  let v21 : Index := Scalar.indexCast c0_i32_18
  let c0_i32_17 : BitVec 32 := 0#32
  let c0_i32_5 : BitVec 32 := 0#32
  let c1_i32 : BitVec 32 := 1#32
  let arg17 : BitVec 32 := Scf.iv c0_i32_5 c1_i32 k5_t1
  let c1_i32_16 : BitVec 32 := 1#32
  let v18 : BitVec 32 := Scalar.muli arg17 c1_i32_16
  let v19 : BitVec 32 := Scalar.addi c0_i32_17 v18
  let c16_i32 : BitVec 32 := 16#32
  let v20 : BitVec 32 := Scalar.muli v19 c16_i32
  let v22 : Index := Scalar.indexCast v20
  ![0, v22.toNat]
def k5_off3 (k5_t1 : Fin k5_t1_loop.trips) : Fin 2 → Nat :=
  let c1_i32_20 : BitVec 32 := 1#32
  let v25 : Index := Scalar.indexCast c1_i32_20
  let c0_i32_17 : BitVec 32 := 0#32
  let c0_i32_5 : BitVec 32 := 0#32
  let c1_i32 : BitVec 32 := 1#32
  let arg17 : BitVec 32 := Scf.iv c0_i32_5 c1_i32 k5_t1
  let c1_i32_16 : BitVec 32 := 1#32
  let v18 : BitVec 32 := Scalar.muli arg17 c1_i32_16
  let v19 : BitVec 32 := Scalar.addi c0_i32_17 v18
  let c16_i32_19 : BitVec 32 := 16#32
  let v24 : BitVec 32 := Scalar.muli v19 c16_i32_19
  let v26 : Index := Scalar.indexCast v24
  ![1, v26.toNat]
def k5_off4 (k5_t1 : Fin k5_t1_loop.trips) : Fin 2 → Nat :=
  let c2_i32_22 : BitVec 32 := 2#32
  let v29 : Index := Scalar.indexCast c2_i32_22
  let c0_i32_17 : BitVec 32 := 0#32
  let c0_i32_5 : BitVec 32 := 0#32
  let c1_i32 : BitVec 32 := 1#32
  let arg17 : BitVec 32 := Scf.iv c0_i32_5 c1_i32 k5_t1
  let c1_i32_16 : BitVec 32 := 1#32
  let v18 : BitVec 32 := Scalar.muli arg17 c1_i32_16
  let v19 : BitVec 32 := Scalar.addi c0_i32_17 v18
  let c16_i32_21 : BitVec 32 := 16#32
  let v28 : BitVec 32 := Scalar.muli v19 c16_i32_21
  let v30 : Index := Scalar.indexCast v28
  ![2, v30.toNat]
def k5_off5 (k5_t1 : Fin k5_t1_loop.trips) : Fin 2 → Nat :=
  let c3_i32_24 : BitVec 32 := 3#32
  let v33 : Index := Scalar.indexCast c3_i32_24
  let c0_i32_17 : BitVec 32 := 0#32
  let c0_i32_5 : BitVec 32 := 0#32
  let c1_i32 : BitVec 32 := 1#32
  let arg17 : BitVec 32 := Scf.iv c0_i32_5 c1_i32 k5_t1
  let c1_i32_16 : BitVec 32 := 1#32
  let v18 : BitVec 32 := Scalar.muli arg17 c1_i32_16
  let v19 : BitVec 32 := Scalar.addi c0_i32_17 v18
  let c16_i32_23 : BitVec 32 := 16#32
  let v32 : BitVec 32 := Scalar.muli v19 c16_i32_23
  let v34 : Index := Scalar.indexCast v32
  ![3, v34.toNat]
@[reducible] def k5_t2_loop : Scf.Loop 32 :=
  let c0_i32_13 : BitVec 32 := 0#32
  let c20_i32 : BitVec 32 := 20#32
  let v17 : BitVec 32 := Scalar.addi c0_i32_13 c20_i32
  let c1_i32_14 : BitVec 32 := 1#32
  ⟨c0_i32_13, v17, c1_i32_14⟩
def k5_off6 (k5_t2 : Fin k5_t2_loop.trips) : Fin 1 → Nat :=
  let c2_i32_17 : BitVec 32 := 2#32
  let c0_i32_13 : BitVec 32 := 0#32
  let c1_i32_14 : BitVec 32 := 1#32
  let arg17 : BitVec 32 := Scf.iv c0_i32_13 c1_i32_14 k5_t2
  let v19 : BitVec 32 := Scalar.muli c2_i32_17 arg17
  let c1_i32_18 : BitVec 32 := 1#32
  let v20 : BitVec 32 := Scalar.addi v19 c1_i32_18
  let c8000_i32 : BitVec 32 := 8000#32
  let v21 : BitVec 32 := Scalar.muli v20 c8000_i32
  ![v21.toNat]
def k5_off7 (k5_t2 : Fin k5_t2_loop.trips) : Fin 1 → Nat :=
  let c2_i32_16 : BitVec 32 := 2#32
  let c0_i32_13 : BitVec 32 := 0#32
  let c1_i32_14 : BitVec 32 := 1#32
  let arg17 : BitVec 32 := Scf.iv c0_i32_13 c1_i32_14 k5_t2
  let v18 : BitVec 32 := Scalar.muli c2_i32_16 arg17
  let c8000_i32_20 : BitVec 32 := 8000#32
  let v27 : BitVec 32 := Scalar.muli v18 c8000_i32_20
  ![v27.toNat]
@[reducible] def k5_t3_loop : Scf.Loop 32 :=
  let c0_i32_22 : BitVec 32 := 0#32
  let c500_i32 : BitVec 32 := 500#32
  let v33 : BitVec 32 := Scalar.addi c0_i32_22 c500_i32
  let c1_i32_23 : BitVec 32 := 1#32
  ⟨c0_i32_22, v33, c1_i32_23⟩
def k5_off8 (k5_t3 : Fin k5_t3_loop.trips) : Fin 1 → Nat :=
  let c0_i32_34 : BitVec 32 := 0#32
  let c0_i32_22 : BitVec 32 := 0#32
  let c1_i32_23 : BitVec 32 := 1#32
  let arg18 : BitVec 32 := Scf.iv c0_i32_22 c1_i32_23 k5_t3
  let c1_i32_33 : BitVec 32 := 1#32
  let v45 : BitVec 32 := Scalar.muli arg18 c1_i32_33
  let v46 : BitVec 32 := Scalar.addi c0_i32_34 v45
  let c16_i32 : BitVec 32 := 16#32
  let v47 : BitVec 32 := Scalar.muli v46 c16_i32
  let v48 : Index := Scalar.indexCast v47
  ![v48.toNat]

def k5_chk1 (v13 : IVec S16 32) (v14 : IVec S16 32) (v15 : IVec S16 32) (v16 : IVec S16 32) (v49 : IVec S16 32) : Prop :=
  (∀ a x, ((![v13, v49] : Fin 2 → IVec S16 32) a x).toNat < S4x10240.size a) ∧
  (∀ a x, ((![v14, v49] : Fin 2 → IVec S16 32) a x).toNat < S4x10240.size a) ∧
  (∀ a x, ((![v15, v49] : Fin 2 → IVec S16 32) a x).toNat < S4x10240.size a) ∧
  (∀ a x, ((![v16, v49] : Fin 2 → IVec S16 32) a x).toNat < S4x10240.size a)
theorem k5_idx1_inb : ∀ (v13 : IVec S16 32) (v14 : IVec S16 32) (v15 : IVec S16 32) (v16 : IVec S16 32) (v49 : IVec S16 32) (k5_hw1 : k5_chk1 v13 v14 v15 v16 v49), ∀ a x, ((![v13, v49] : Fin 2 → IVec S16 32) a x).toNat < S4x10240.size a := fun v13 v14 v15 v16 v49 k5_hw1 => k5_hw1.1
theorem k5_idx3_inb : ∀ (v13 : IVec S16 32) (v14 : IVec S16 32) (v15 : IVec S16 32) (v16 : IVec S16 32) (v49 : IVec S16 32) (k5_hw1 : k5_chk1 v13 v14 v15 v16 v49), ∀ a x, ((![v14, v49] : Fin 2 → IVec S16 32) a x).toNat < S4x10240.size a := fun v13 v14 v15 v16 v49 k5_hw1 => k5_hw1.2.1
theorem k5_idx5_inb : ∀ (v13 : IVec S16 32) (v14 : IVec S16 32) (v15 : IVec S16 32) (v16 : IVec S16 32) (v49 : IVec S16 32) (k5_hw1 : k5_chk1 v13 v14 v15 v16 v49), ∀ a x, ((![v15, v49] : Fin 2 → IVec S16 32) a x).toNat < S4x10240.size a := fun v13 v14 v15 v16 v49 k5_hw1 => k5_hw1.2.2.1
theorem k5_idx7_inb : ∀ (v13 : IVec S16 32) (v14 : IVec S16 32) (v15 : IVec S16 32) (v16 : IVec S16 32) (v49 : IVec S16 32) (k5_hw1 : k5_chk1 v13 v14 v15 v16 v49), ∀ a x, ((![v16, v49] : Fin 2 → IVec S16 32) a x).toNat < S4x10240.size a := fun v13 v14 v15 v16 v49 k5_hw1 => k5_hw1.2.2.2

def k5_chk2 (v13 : IVec S16 32) (v14 : IVec S16 32) (v15 : IVec S16 32) (v16 : IVec S16 32) (v52 : IVec S16 32) : Prop :=
  (∀ a x, ((![v13, v52] : Fin 2 → IVec S16 32) a x).toNat < S4x10240.size a) ∧
  (∀ a x, ((![v14, v52] : Fin 2 → IVec S16 32) a x).toNat < S4x10240.size a) ∧
  (∀ a x, ((![v15, v52] : Fin 2 → IVec S16 32) a x).toNat < S4x10240.size a) ∧
  (∀ a x, ((![v16, v52] : Fin 2 → IVec S16 32) a x).toNat < S4x10240.size a)
theorem k5_idx2_inb : ∀ (v13 : IVec S16 32) (v14 : IVec S16 32) (v15 : IVec S16 32) (v16 : IVec S16 32) (v52 : IVec S16 32) (k5_hw2 : k5_chk2 v13 v14 v15 v16 v52), ∀ a x, ((![v13, v52] : Fin 2 → IVec S16 32) a x).toNat < S4x10240.size a := fun v13 v14 v15 v16 v52 k5_hw2 => k5_hw2.1
theorem k5_idx4_inb : ∀ (v13 : IVec S16 32) (v14 : IVec S16 32) (v15 : IVec S16 32) (v16 : IVec S16 32) (v52 : IVec S16 32) (k5_hw2 : k5_chk2 v13 v14 v15 v16 v52), ∀ a x, ((![v14, v52] : Fin 2 → IVec S16 32) a x).toNat < S4x10240.size a := fun v13 v14 v15 v16 v52 k5_hw2 => k5_hw2.2.1
theorem k5_idx6_inb : ∀ (v13 : IVec S16 32) (v14 : IVec S16 32) (v15 : IVec S16 32) (v16 : IVec S16 32) (v52 : IVec S16 32) (k5_hw2 : k5_chk2 v13 v14 v15 v16 v52), ∀ a x, ((![v15, v52] : Fin 2 → IVec S16 32) a x).toNat < S4x10240.size a := fun v13 v14 v15 v16 v52 k5_hw2 => k5_hw2.2.2.1
theorem k5_idx8_inb : ∀ (v13 : IVec S16 32) (v14 : IVec S16 32) (v15 : IVec S16 32) (v16 : IVec S16 32) (v52 : IVec S16 32) (k5_hw2 : k5_chk2 v13 v14 v15 v16 v52), ∀ a x, ((![v16, v52] : Fin 2 → IVec S16 32) a x).toNat < S4x10240.size a := fun v13 v14 v15 v16 v52 k5_hw2 => k5_hw2.2.2.2
def k5_cond1 (k5_t2 : Fin k5_t2_loop.trips) : BitVec 1 :=
  let c2_i32_16 : BitVec 32 := 2#32
  let c0_i32_13 : BitVec 32 := 0#32
  let c1_i32_14 : BitVec 32 := 1#32
  let arg17 : BitVec 32 := Scf.iv c0_i32_13 c1_i32_14 k5_t2
  let v18 : BitVec 32 := Scalar.muli c2_i32_16 arg17
  let c2_i32_25 : BitVec 32 := 2#32
  let v34 : BitVec 32 := Scalar.addi v18 c2_i32_25
  let c40_i32 : BitVec 32 := 40#32
  let v35 : BitVec 1 := Scalar.cmpi .slt v34 c40_i32
  let v36 : BitVec 32 := Scalar.extui v35
  let c0_i32_26 : BitVec 32 := 0#32
  let v37 : BitVec 1 := Scalar.cmpi .ne v36 c0_i32_26
  v37

def k5_off9 (k5_t2 : Fin k5_t2_loop.trips) : Fin 1 → Nat :=
  let c2_i32_16 : BitVec 32 := 2#32
  let c0_i32_13 : BitVec 32 := 0#32
  let c1_i32_14 : BitVec 32 := 1#32
  let arg17 : BitVec 32 := Scf.iv c0_i32_13 c1_i32_14 k5_t2
  let v18 : BitVec 32 := Scalar.muli c2_i32_16 arg17
  let c2_i32_25 : BitVec 32 := 2#32
  let v34 : BitVec 32 := Scalar.addi v18 c2_i32_25
  let c8000_i32_33 : BitVec 32 := 8000#32
  let v45 : BitVec 32 := Scalar.muli v34 c8000_i32_33
  ![v45.toNat]
def k5_off10 (k5_t2 : Fin k5_t2_loop.trips) : Fin 1 → Nat :=
  let c2_i32_17 : BitVec 32 := 2#32
  let c0_i32_13 : BitVec 32 := 0#32
  let c1_i32_14 : BitVec 32 := 1#32
  let arg17 : BitVec 32 := Scf.iv c0_i32_13 c1_i32_14 k5_t2
  let v19 : BitVec 32 := Scalar.muli c2_i32_17 arg17
  let c1_i32_18 : BitVec 32 := 1#32
  let v20 : BitVec 32 := Scalar.addi v19 c1_i32_18
  let c8000_i32_27 : BitVec 32 := 8000#32
  let v38 : BitVec 32 := Scalar.muli v20 c8000_i32_27
  ![v38.toNat]
@[reducible] def k5_t4_loop : Scf.Loop 32 :=
  let c0_i32_29 : BitVec 32 := 0#32
  let c500_i32_30 : BitVec 32 := 500#32
  let v44 : BitVec 32 := Scalar.addi c0_i32_29 c500_i32_30
  let c1_i32_31 : BitVec 32 := 1#32
  ⟨c0_i32_29, v44, c1_i32_31⟩
def k5_off11 (k5_t4 : Fin k5_t4_loop.trips) : Fin 1 → Nat :=
  let c0_i32_34 : BitVec 32 := 0#32
  let c0_i32_29 : BitVec 32 := 0#32
  let c1_i32_31 : BitVec 32 := 1#32
  let arg18 : BitVec 32 := Scf.iv c0_i32_29 c1_i32_31 k5_t4
  let c1_i32_33 : BitVec 32 := 1#32
  let v45 : BitVec 32 := Scalar.muli arg18 c1_i32_33
  let v46 : BitVec 32 := Scalar.addi c0_i32_34 v45
  let c16_i32 : BitVec 32 := 16#32
  let v47 : BitVec 32 := Scalar.muli v46 c16_i32
  let v48 : Index := Scalar.indexCast v47
  ![v48.toNat]

def k5_chk3 (v13 : IVec S16 32) (v14 : IVec S16 32) (v15 : IVec S16 32) (v16 : IVec S16 32) (v49 : IVec S16 32) : Prop :=
  (∀ a x, ((![v13, v49] : Fin 2 → IVec S16 32) a x).toNat < S4x10240.size a) ∧
  (∀ a x, ((![v14, v49] : Fin 2 → IVec S16 32) a x).toNat < S4x10240.size a) ∧
  (∀ a x, ((![v15, v49] : Fin 2 → IVec S16 32) a x).toNat < S4x10240.size a) ∧
  (∀ a x, ((![v16, v49] : Fin 2 → IVec S16 32) a x).toNat < S4x10240.size a)
theorem k5_idx9_inb : ∀ (v13 : IVec S16 32) (v14 : IVec S16 32) (v15 : IVec S16 32) (v16 : IVec S16 32) (v49 : IVec S16 32) (k5_hw3 : k5_chk3 v13 v14 v15 v16 v49), ∀ a x, ((![v13, v49] : Fin 2 → IVec S16 32) a x).toNat < S4x10240.size a := fun v13 v14 v15 v16 v49 k5_hw3 => k5_hw3.1
theorem k5_idx11_inb : ∀ (v13 : IVec S16 32) (v14 : IVec S16 32) (v15 : IVec S16 32) (v16 : IVec S16 32) (v49 : IVec S16 32) (k5_hw3 : k5_chk3 v13 v14 v15 v16 v49), ∀ a x, ((![v14, v49] : Fin 2 → IVec S16 32) a x).toNat < S4x10240.size a := fun v13 v14 v15 v16 v49 k5_hw3 => k5_hw3.2.1
theorem k5_idx13_inb : ∀ (v13 : IVec S16 32) (v14 : IVec S16 32) (v15 : IVec S16 32) (v16 : IVec S16 32) (v49 : IVec S16 32) (k5_hw3 : k5_chk3 v13 v14 v15 v16 v49), ∀ a x, ((![v15, v49] : Fin 2 → IVec S16 32) a x).toNat < S4x10240.size a := fun v13 v14 v15 v16 v49 k5_hw3 => k5_hw3.2.2.1
theorem k5_idx15_inb : ∀ (v13 : IVec S16 32) (v14 : IVec S16 32) (v15 : IVec S16 32) (v16 : IVec S16 32) (v49 : IVec S16 32) (k5_hw3 : k5_chk3 v13 v14 v15 v16 v49), ∀ a x, ((![v16, v49] : Fin 2 → IVec S16 32) a x).toNat < S4x10240.size a := fun v13 v14 v15 v16 v49 k5_hw3 => k5_hw3.2.2.2

def k5_chk4 (v13 : IVec S16 32) (v14 : IVec S16 32) (v15 : IVec S16 32) (v16 : IVec S16 32) (v52 : IVec S16 32) : Prop :=
  (∀ a x, ((![v13, v52] : Fin 2 → IVec S16 32) a x).toNat < S4x10240.size a) ∧
  (∀ a x, ((![v14, v52] : Fin 2 → IVec S16 32) a x).toNat < S4x10240.size a) ∧
  (∀ a x, ((![v15, v52] : Fin 2 → IVec S16 32) a x).toNat < S4x10240.size a) ∧
  (∀ a x, ((![v16, v52] : Fin 2 → IVec S16 32) a x).toNat < S4x10240.size a)
theorem k5_idx10_inb : ∀ (v13 : IVec S16 32) (v14 : IVec S16 32) (v15 : IVec S16 32) (v16 : IVec S16 32) (v52 : IVec S16 32) (k5_hw4 : k5_chk4 v13 v14 v15 v16 v52), ∀ a x, ((![v13, v52] : Fin 2 → IVec S16 32) a x).toNat < S4x10240.size a := fun v13 v14 v15 v16 v52 k5_hw4 => k5_hw4.1
theorem k5_idx12_inb : ∀ (v13 : IVec S16 32) (v14 : IVec S16 32) (v15 : IVec S16 32) (v16 : IVec S16 32) (v52 : IVec S16 32) (k5_hw4 : k5_chk4 v13 v14 v15 v16 v52), ∀ a x, ((![v14, v52] : Fin 2 → IVec S16 32) a x).toNat < S4x10240.size a := fun v13 v14 v15 v16 v52 k5_hw4 => k5_hw4.2.1
theorem k5_idx14_inb : ∀ (v13 : IVec S16 32) (v14 : IVec S16 32) (v15 : IVec S16 32) (v16 : IVec S16 32) (v52 : IVec S16 32) (k5_hw4 : k5_chk4 v13 v14 v15 v16 v52), ∀ a x, ((![v15, v52] : Fin 2 → IVec S16 32) a x).toNat < S4x10240.size a := fun v13 v14 v15 v16 v52 k5_hw4 => k5_hw4.2.2.1
theorem k5_idx16_inb : ∀ (v13 : IVec S16 32) (v14 : IVec S16 32) (v15 : IVec S16 32) (v16 : IVec S16 32) (v52 : IVec S16 32) (k5_hw4 : k5_chk4 v13 v14 v15 v16 v52), ∀ a x, ((![v16, v52] : Fin 2 → IVec S16 32) a x).toNat < S4x10240.size a := fun v13 v14 v15 v16 v52 k5_hw4 => k5_hw4.2.2.2
def k5_off12 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_16_r0 : BitVec 32 := 0#32
  ![v2.toNat, 0]
abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S128x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S2x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2x2048 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![2, 16], ![false, false]⟩

def k7_off1 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k7_t1_loop : Scf.Loop 32 :=
  let c0_i32 : BitVec 32 := 0#32
  let c640_i32 : BitVec 32 := 640#32
  let v4 : BitVec 32 := Scalar.addi c0_i32 c640_i32
  let c1_i32 : BitVec 32 := 1#32
  ⟨c0_i32, v4, c1_i32⟩
def k7_off2 (k7_t1 : Fin k7_t1_loop.trips) : Fin 1 → Nat :=
  let c0_i32_5 : BitVec 32 := 0#32
  let c0_i32 : BitVec 32 := 0#32
  let c1_i32 : BitVec 32 := 1#32
  let arg10 : BitVec 32 := Scf.iv c0_i32 c1_i32 k7_t1
  let c1_i32_4 : BitVec 32 := 1#32
  let v6 : BitVec 32 := Scalar.muli arg10 c1_i32_4
  let v7 : BitVec 32 := Scalar.addi c0_i32_5 v6
  let c16_i32 : BitVec 32 := 16#32
  let v8 : BitVec 32 := Scalar.muli v7 c16_i32
  let v9 : Index := Scalar.indexCast v8
  ![v9.toNat]
@[reducible] def k7_t2_loop : Scf.Loop 32 :=
  let c0_i32_1 : BitVec 32 := 0#32
  let c625_i32 : BitVec 32 := 625#32
  let v5 : BitVec 32 := Scalar.addi c0_i32_1 c625_i32
  let c1_i32_2 : BitVec 32 := 1#32
  ⟨c0_i32_1, v5, c1_i32_2⟩
def k7_off3 (k7_t2 : Fin k7_t2_loop.trips) : Fin 1 → Nat :=
  let c0_i32_5 : BitVec 32 := 0#32
  let c0_i32_1 : BitVec 32 := 0#32
  let c1_i32_2 : BitVec 32 := 1#32
  let arg10 : BitVec 32 := Scf.iv c0_i32_1 c1_i32_2 k7_t2
  let c1_i32_4 : BitVec 32 := 1#32
  let v6 : BitVec 32 := Scalar.muli arg10 c1_i32_4
  let v7 : BitVec 32 := Scalar.addi c0_i32_5 v6
  let c16_i32 : BitVec 32 := 16#32
  let v8 : BitVec 32 := Scalar.muli v7 c16_i32
  let v9 : Index := Scalar.indexCast v8
  ![v9.toNat]

def k7_chk1 (v10 : IVec S16 32) : Prop :=
  (∀ a x, ((![v10] : Fin 1 → IVec S16 32) a x).toNat < S10240.size a)
theorem k7_idx1_inb : ∀ (v10 : IVec S16 32) (k7_hw1 : k7_chk1 v10), ∀ a x, ((![v10] : Fin 1 → IVec S16 32) a x).toNat < S10240.size a := fun v10 k7_hw1 => k7_hw1

def k7_chk2 (v13 : IVec S16 32) : Prop :=
  (∀ a x, ((![v13] : Fin 1 → IVec S16 32) a x).toNat < S10240.size a)
theorem k7_idx2_inb : ∀ (v13 : IVec S16 32) (k7_hw2 : k7_chk2 v13), ∀ a x, ((![v13] : Fin 1 → IVec S16 32) a x).toNat < S10240.size a := fun v13 k7_hw2 => k7_hw2
def k7_off4 (i : grid7.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r3 : BitVec 32 := 0#32
  ![v1.toNat, 0]
abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S32x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x2048 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x64 : Shape := ⟨2, ![1, 64]⟩
abbrev S1 : Shape := ⟨1, ![1]⟩
abbrev S1x320000 : Shape := ⟨2, ![1, 320000]⟩
abbrev S320000 : Shape := ⟨1, ![320000]⟩
abbrev S320000x1 : Shape := ⟨2, ![320000, 1]⟩
abbrev S1x1 : Shape := ⟨2, ![1, 1]⟩
abbrev S320000x128 : Shape := ⟨2, ![320000, 128]⟩
abbrev S10000 : Shape := ⟨1, ![10000]⟩
abbrev S10000x1 : Shape := ⟨2, ![10000, 1]⟩
abbrev S1x128 : Shape := ⟨2, ![1, 128]⟩
abbrev S128x64 : Shape := ⟨2, ![128, 64]⟩
abbrev S10000x64 : Shape := ⟨2, ![10000, 64]⟩
abbrev S64x1 : Shape := ⟨2, ![64, 1]⟩

abbrev nBuf : Space → Nat
  | .hbm => 177
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S_, .f32⟩
  | 12 => ⟨S1x64, .f32⟩
  | 13 => ⟨S1, .f32⟩
  | 14 => ⟨S1x320000, .i32⟩
  | 15 => ⟨S320000, .i32⟩
  | 16 => ⟨S1x320000, .i32⟩
  | 17 => ⟨S320000, .i32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S1, .i32⟩
  | 27 => ⟨S_, .i32⟩
  | 28 => ⟨S320000x1, .i32⟩
  | 29 => ⟨S320000x1, .i1⟩
  | 30 => ⟨S1x1, .i32⟩
  | 31 => ⟨S320000x1, .i32⟩
  | 32 => ⟨S320000x1, .i1⟩
  | 33 => ⟨S320000x1, .i1⟩
  | 34 => ⟨S_, .i1⟩
  | 35 => ⟨S320000, .i1⟩
  | 36 => ⟨S320000x128, .f32⟩
  | 37 => ⟨S320000x128, .i1⟩
  | 38 => ⟨S_, .f32⟩
  | 39 => ⟨S320000x128, .f32⟩
  | 40 => ⟨S320000x128, .f32⟩
  | 41 => ⟨S_, .f32⟩
  | 42 => ⟨S10000x128, .f32⟩
  | 43 => ⟨S320000x1, .i32⟩
  | 44 => ⟨S10000x128, .f32⟩
  | 45 => ⟨S_, .f32⟩
  | 46 => ⟨S320000, .f32⟩
  | 47 => ⟨S_, .f32⟩
  | 48 => ⟨S10000, .f32⟩
  | 49 => ⟨S320000x1, .i32⟩
  | 50 => ⟨S10000, .f32⟩
  | 51 => ⟨S_, .f32⟩
  | 52 => ⟨S10000, .f32⟩
  | 53 => ⟨S10000, .f32⟩
  | 54 => ⟨S10000x1, .f32⟩
  | 55 => ⟨S10000x128, .f32⟩
  | 56 => ⟨S10000x128, .f32⟩
  | 57 => ⟨S128x128, .f32⟩
  | 58 => ⟨S10000x128, .f32⟩
  | 59 => ⟨S1x128, .f32⟩
  | 60 => ⟨S10000x128, .f32⟩
  | 61 => ⟨S10000x128, .f32⟩
  | 62 => ⟨S128x128, .f32⟩
  | 63 => ⟨S10000x128, .f32⟩
  | 64 => ⟨S10000x128, .f32⟩
  | 65 => ⟨S_, .f32⟩
  | 66 => ⟨S10000x128, .f32⟩
  | 67 => ⟨S10000x128, .i1⟩
  | 68 => ⟨S10000x128, .f32⟩
  | 69 => ⟨S10000x128, .f32⟩
  | 70 => ⟨S10000x128, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S1, .i32⟩
  | 80 => ⟨S_, .i32⟩
  | 81 => ⟨S320000x1, .i32⟩
  | 82 => ⟨S320000x1, .i1⟩
  | 83 => ⟨S1x1, .i32⟩
  | 84 => ⟨S320000x1, .i32⟩
  | 85 => ⟨S320000x1, .i1⟩
  | 86 => ⟨S320000x1, .i1⟩
  | 87 => ⟨S_, .i1⟩
  | 88 => ⟨S320000, .i1⟩
  | 89 => ⟨S320000x128, .f32⟩
  | 90 => ⟨S320000x128, .i1⟩
  | 91 => ⟨S_, .f32⟩
  | 92 => ⟨S320000x128, .f32⟩
  | 93 => ⟨S320000x128, .f32⟩
  | 94 => ⟨S_, .f32⟩
  | 95 => ⟨S10000x128, .f32⟩
  | 96 => ⟨S320000x1, .i32⟩
  | 97 => ⟨S10000x128, .f32⟩
  | 98 => ⟨S_, .f32⟩
  | 99 => ⟨S320000, .f32⟩
  | 100 => ⟨S_, .f32⟩
  | 101 => ⟨S10000, .f32⟩
  | 102 => ⟨S320000x1, .i32⟩
  | 103 => ⟨S10000, .f32⟩
  | 104 => ⟨S_, .f32⟩
  | 105 => ⟨S10000, .f32⟩
  | 106 => ⟨S10000, .f32⟩
  | 107 => ⟨S10000x1, .f32⟩
  | 108 => ⟨S10000x128, .f32⟩
  | 109 => ⟨S10000x128, .f32⟩
  | 110 => ⟨S128x128, .f32⟩
  | 111 => ⟨S10000x128, .f32⟩
  | 112 => ⟨S1x128, .f32⟩
  | 113 => ⟨S10000x128, .f32⟩
  | 114 => ⟨S10000x128, .f32⟩
  | 115 => ⟨S128x128, .f32⟩
  | 116 => ⟨S10000x128, .f32⟩
  | 117 => ⟨S10000x128, .f32⟩
  | 118 => ⟨S_, .f32⟩
  | 119 => ⟨S10000x128, .f32⟩
  | 120 => ⟨S10000x128, .i1⟩
  | 121 => ⟨S10000x128, .f32⟩
  | 122 => ⟨S10000x128, .f32⟩
  | 123 => ⟨S10000x128, .f32⟩
  | 124 => ⟨S_, .i32⟩
  | 125 => ⟨S320000, .i32⟩
  | 126 => ⟨S320000, .i1⟩
  | 127 => ⟨S_, .i32⟩
  | _ => ⟨S10000x128, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S1, .i32⟩
  | 5 => ⟨S_, .i32⟩
  | 6 => ⟨S320000x1, .i32⟩
  | 7 => ⟨S320000x1, .i1⟩
  | 8 => ⟨S1x1, .i32⟩
  | 9 => ⟨S320000x1, .i32⟩
  | 10 => ⟨S320000x1, .i1⟩
  | 11 => ⟨S320000x1, .i1⟩
  | 12 => ⟨S_, .i1⟩
  | 13 => ⟨S320000, .i1⟩
  | 14 => ⟨S320000x128, .f32⟩
  | 15 => ⟨S320000x128, .i1⟩
  | 16 => ⟨S_, .f32⟩
  | 17 => ⟨S320000x128, .f32⟩
  | 18 => ⟨S320000x128, .f32⟩
  | 19 => ⟨S_, .f32⟩
  | 20 => ⟨S10000x128, .f32⟩
  | 21 => ⟨S320000x1, .i32⟩
  | 22 => ⟨S10000x128, .f32⟩
  | 23 => ⟨S_, .f32⟩
  | 24 => ⟨S320000, .f32⟩
  | 25 => ⟨S_, .f32⟩
  | 26 => ⟨S10000, .f32⟩
  | 27 => ⟨S320000x1, .i32⟩
  | 28 => ⟨S10000, .f32⟩
  | 29 => ⟨S_, .f32⟩
  | 30 => ⟨S10000, .f32⟩
  | 31 => ⟨S10000, .f32⟩
  | 32 => ⟨S10000x1, .f32⟩
  | 33 => ⟨S10000x128, .f32⟩
  | 34 => ⟨S10000x128, .f32⟩
  | 35 => ⟨S128x64, .f32⟩
  | 36 => ⟨S10000x64, .f32⟩
  | 37 => ⟨S1x64, .f32⟩
  | 38 => ⟨S10000x64, .f32⟩
  | 39 => ⟨S10000x64, .f32⟩
  | 40 => ⟨S128x64, .f32⟩
  | 41 => ⟨S10000x64, .f32⟩
  | 42 => ⟨S10000x64, .f32⟩
  | 43 => ⟨S64x1, .f32⟩
  | 44 => ⟨S10000x1, .f32⟩
  | 45 => ⟨S1x1, .f32⟩
  | 46 => ⟨S10000x1, .f32⟩
  | 47 => ⟨S10000x1, .f32⟩
  | 48 => ⟨S10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v30 : Ref sig .tc := ⟨.hbm, 93, rfl⟩
abbrev main_cst_4 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_5 : Ref sig .tc := ⟨.hbm, 98, rfl⟩
abbrev main_v34 : Ref sig .tc := ⟨.hbm, 99, rfl⟩
abbrev main_cst_6 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_cst_7 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v56 : Ref sig .tc := ⟨.hbm, 146, rfl⟩
abbrev main_cst_9 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_cst_10 : Ref sig .tc := ⟨.hbm, 151, rfl⟩
abbrev main_v60 : Ref sig .tc := ⟨.hbm, 152, rfl⟩
abbrev main_cst_11 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_cst_12 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩

abbrev nD : Nat := 1
abbrev τ : Topo := Topo.v7x

variable {F : FTy → Type} [FloatOps F]
-- ==== Proof.Vals.lean ====
/- The values the SparseCore kernels compute, as functions of the tables and the edge lists: the running sum one element of an
   accumulator goes through (`segAcc`), and what one indexed add-store does to every element (`storeIdx_add_apply`). -/
module

public import proofs.«01_k».proof.Proof.Gen.Kernel
public import Idealize.ShloMosaic.Lib.ValueIdx
public import Idealize.ShloMosaic.Lib.WritesUnit

@[expose] public section

noncomputable section

namespace Cert.Kernel.Own

open Idealize.ShloMosaic

variable {F : FTy → Type} [FloatOps F]

/-- The running sum from `z` after the first `n` edges: edge `e` adds `v e` when `P e` holds, lowest edge first. -/
def segAcc (z : F .f32) (P : ℕ → Prop) [DecidablePred P] (v : ℕ → F .f32) : ℕ → F .f32
  | 0 => z
  | n + 1 => if P n then FloatOps.idxAddf (segAcc z P v n) (v n) else segAcc z P v n

/-- A fold over lanes whose conditions and values are those of edges `b, b+1, …` goes the running sum on by `n` edges. -/
theorem foldl_segAcc (z : F .f32) (P : ℕ → Prop) [DecidablePred P] (v : ℕ → F .f32) (b n : ℕ) :
    (List.finRange n).foldl (fun acc (k : Fin n) => if P (b + k.val) then FloatOps.idxAddf acc (v (b + k.val)) else acc) (segAcc z P v b)
      = segAcc z P v (b + n) := by
  induction n with
  | zero => simp
  | succ n ih =>
    rw [List.finRange_succ_last, List.foldl_append, List.foldl_map]
    simp only [Fin.val_castSucc, List.foldl_cons, List.foldl_nil, Fin.val_last]
    rw [ih]; rfl

theorem foldl_apply {ι α β : Type} (l : List ι) (step : (α → β) → ι → α → β) (g : α → β) (j : α) (op : β → ι → β)
    (h : ∀ g k, step g k j = op (g j) k) : (l.foldl step g) j = l.foldl op (g j) := by
  induction l generalizing g with
  | nil => rfl
  | cons k l ih => rw [List.foldl_cons, List.foldl_cons, ih, h]

/-- An unmasked indexed add-store of one vector, read at one element: the lanes naming it added on, lowest lane first. -/
theorem storeIdx_add_apply {s : Shape} {n : ℕ} (f : Vec F s .f32) (idxs : Fin s.rank → IVec ⟨1, ![n]⟩ 32) (v : Vec F ⟨1, ![n]⟩ .f32)
    (h : ∀ a x, (idxs a x).toNat < s.size a) (j : s.Idx) :
    storeIdx f idxs v (fun _ => 1#1) true h j
      = (List.finRange n).foldl (fun acc (k : Fin n) =>
          if ∀ a, (j a).val = (idxs a (Shape.ofLane (d := ![n]) k)).toNat then FloatOps.idxAddf acc (v (Shape.ofLane (d := ![n]) k)) else acc) (f j) := by
  unfold storeIdx
  refine foldl_apply _ _ _ _ _ fun g k => ?_
  rw [if_pos (show (1#1 : BitVec 1) = 1 from rfl)]
  by_cases hj : ∀ a, (j a).val = (idxAt idxs h (Shape.ofLane (d := ![n]) k) a).val
  · have e : idxAt idxs h (Shape.ofLane (d := ![n]) k) = j := funext fun a => Fin.ext (hj a).symm
    exact (if_pos hj).trans (((congrArg (fun i => FloatOps.idxAddf (g i) _) e).trans (if_pos hj).symm))
  · exact (if_neg hj).trans (if_neg hj).symm

/-- One trip of the accumulating loop: with the element at its running sum after `b` edges, and the lanes those of the next `n`
    edges (each names the element exactly when its edge does, and carries its edge's value), it is at its running sum after `b + n`. -/
theorem storeIdx_segAcc {s : Shape} {n : ℕ} (f : Vec F s .f32) (idxs : Fin s.rank → IVec ⟨1, ![n]⟩ 32) (v : Vec F ⟨1, ![n]⟩ .f32)
    (h : ∀ a x, (idxs a x).toNat < s.size a) (j : s.Idx) (z : F .f32) (P : ℕ → Prop) [DecidablePred P] (w : ℕ → F .f32) (b : ℕ)
    (hf : f j = segAcc z P w b)
    (hP : ∀ k : Fin n, (∀ a, (j a).val = (idxs a (Shape.ofLane (d := ![n]) k)).toNat) ↔ P (b + k.val))
    (hv : ∀ k : Fin n, v (Shape.ofLane (d := ![n]) k) = w (b + k.val)) :
    storeIdx f idxs v (fun _ => 1#1) true h j = segAcc z P w (b + n) := by
  rw [storeIdx_add_apply, hf, ← foldl_segAcc]
  congr 1
  funext acc k
  simp only [hP k, hv k]

/-- One indexed add-store into one row `r` of a table: an element of that row goes on by the lanes naming its column, any other stays. -/
theorem storeIdx_row {m c n : ℕ} (f : Vec F ⟨2, ![m, c]⟩ .f32) (idxs : Fin 2 → IVec ⟨1, ![n]⟩ 32) (v : Vec F ⟨1, ![n]⟩ .f32)
    (h : ∀ a x, (idxs a x).toNat < (⟨2, ![m, c]⟩ : Shape).size a) (j : (⟨2, ![m, c]⟩ : Shape).Idx) (r : ℕ) (z : F .f32) (P : ℕ → Prop) [DecidablePred P]
    (w : ℕ → F .f32) (b : ℕ) (hr : ∀ x, (idxs 0 x).toNat = r) (hf : (j 0).val = r → f j = segAcc z P w b)
    (hP : ∀ k : Fin n, (j 1).val = (idxs 1 (Shape.ofLane (d := ![n]) k)).toNat ↔ P (b + k.val))
    (hv : (j 0).val = r → ∀ k : Fin n, v (Shape.ofLane (d := ![n]) k) = w (b + k.val)) :
    storeIdx f idxs v (fun _ => 1#1) true h j = if (j 0).val = r then segAcc z P w (b + n) else f j := by
  by_cases hj : (j 0).val = r
  · rw [if_pos hj]
    refine storeIdx_segAcc f idxs v h j z P w b (hf hj) (fun k => ?_) (hv hj)
    constructor
    · intro h; exact (hP k).1 (h 1)
    · intro h a
      match a with
      | 0 => exact hj.trans (hr _).symm
      | 1 => exact (hP k).2 h
  · rw [if_neg hj, storeIdx_add_apply]
    have : ∀ (acc : F .f32) (k : Fin n), (if ∀ a, (j a).val = (idxs a (Shape.ofLane (d := ![n]) k)).toNat then FloatOps.idxAddf acc (v (Shape.ofLane (d := ![n]) k)) else acc) = acc :=
      fun acc k => if_neg fun h => hj ((h 0).trans (hr _))
    simp only [this]
    exact List.foldl_fixed _

/-- The running sum sees only the edges counted. -/
theorem segAcc_congr {z z' : F .f32} {P P' : ℕ → Prop} [DecidablePred P] [DecidablePred P'] {v v' : ℕ → F .f32} {n : ℕ} (hz : z = z')
    (hP : ∀ e < n, P e ↔ P' e) (hv : ∀ e < n, v e = v' e) : segAcc z P v n = segAcc z' P' v' n := by
  induction n with
  | zero => exact hz
  | succ n ih =>
    have := ih (fun e he => hP e (he.trans (Nat.lt_succ_self n))) (fun e he => hv e (he.trans (Nat.lt_succ_self n)))
    simp only [segAcc, this, hP n (Nat.lt_succ_self n), hv n (Nat.lt_succ_self n)]

/-- An edge list's entry `e` as a number (zero past the end). -/
def nodeAt {n : ℕ} (g : (⟨1, ![n]⟩ : Shape).Idx → BitVec 32) (e : ℕ) : ℕ :=
  if h : e < n then (g (ValueIdx.ix1 ⟨e, h⟩)).toNat else 0

/-- A vector's entry `t` (its zero word past the end). -/
def entAt {n : ℕ} (T : (⟨1, ![n]⟩ : Shape).Idx → F .f32) (t : ℕ) : F .f32 :=
  if h : t < n then T (ValueIdx.ix1 ⟨t, h⟩) else Scalar.ofBits .f32 0x00000000#32

/-- A table's entry in row `r`, column `t` (the zero word outside it). -/
def entAt2 {m n : ℕ} (T : (⟨2, ![m, n]⟩ : Shape).Idx → F .f32) (r t : ℕ) : F .f32 :=
  if h : r < m ∧ t < n then T (ValueIdx.ix2 ⟨r, h.1⟩ ⟨t, h.2⟩) else Scalar.ofBits .f32 0x00000000#32

theorem entAt_ix {n : ℕ} (T : (⟨1, ![n]⟩ : Shape).Idx → F .f32) (j : (⟨1, ![n]⟩ : Shape).Idx) : entAt T (j 0).val = T j := by
  unfold entAt; rw [dif_pos (show (j 0).val < n from (j 0).isLt)]
  congr 1; funext a; match a with | 0 => rfl

theorem entAt2_ix {m n : ℕ} (T : (⟨2, ![m, n]⟩ : Shape).Idx → F .f32) (j : (⟨2, ![m, n]⟩ : Shape).Idx) : entAt2 T (j 0).val (j 1).val = T j := by
  unfold entAt2; rw [dif_pos ⟨show (j 0).val < m from (j 0).isLt, show (j 1).val < n from (j 1).isLt⟩]
  congr 1; funext a; match a with | 0 => rfl | 1 => rfl

theorem nodeAt_lt {n : ℕ} {g : (⟨1, ![n]⟩ : Shape).Idx → BitVec 32} {M : ℕ} (h : ∀ j, (g j).toNat < M) (hM : 0 < M) (e : ℕ) : nodeAt g e < M := by
  unfold nodeAt; split
  · exact h _
  · exact hM

/-- A vector of indices loaded from a list, lane `x`, is the list's entry there. -/
theorem readAt_node {κ : Kind} {sp : Space} {n c : ℕ} (v : View sig κ sp ⟨1, ![n]⟩ .i32) (f : v.ty.Contents (Elt F)) (off : Fin 1 → ℕ)
    (inb : ∀ a, off a + (![c] : Fin 1 → ℕ) a ≤ (⟨1, ![n]⟩ : Shape).size a) (x : (⟨1, ![c]⟩ : Shape).Idx) :
    (v.readAt (Elt F) (Rect.unit (s := ⟨1, ![n]⟩) off ![c] inb).toLoadRect f x).toNat = nodeAt (v.read (Elt F) f) (off 0 + (x 0).val) := by
  have hx : off 0 + (x 0).val < n := by
    have h0 := inb 0
    have h1 : (x 0).val < c := (x 0).isLt
    have h2 : off 0 + c ≤ n := h0
    omega
  unfold nodeAt
  rw [dif_pos hx, View.readAt_apply]
  congr 2
  funext a
  obtain rfl : a = 0 := Subsingleton.elim _ _
  apply Fin.ext
  rw [LoadRect.idx_apply]
  show off 0 + 1 * (x 0).val = off 0 + (x 0).val
  rw [Nat.one_mul]

/-- A chunk of a list copied out, entry `e`, is the list's entry `off + e`. -/
theorem read_slice_node {κ : Kind} {sp : Space} {n c : ℕ} (v : View sig κ sp ⟨1, ![n]⟩ .i32) (f : v.ty.Contents (Elt F)) (off : Fin 1 → ℕ)
    (inb : ∀ a, off a + (![c] : Fin 1 → ℕ) a ≤ (⟨1, ![n]⟩ : Shape).size a) (e : ℕ) (he : e < c) :
    nodeAt (n := c) ((v.slice (Rect.unit (s := ⟨1, ![n]⟩) off ![c] inb)).read (Elt F) f) e = nodeAt (v.read (Elt F) f) (off 0 + e) := by
  refine Eq.trans ?_ (readAt_node v f off inb (ValueIdx.ix1 ⟨e, he⟩))
  rw [View.readAt_rect]
  unfold nodeAt; rw [dif_pos he]

/-- The whole-shape access of a memref goes through all of a whole buffer, … -/
theorem set_access_of_whole {κ : Kind} {sp : Space} {s : Shape} {e : EltTy} {m : Memref sig κ sp s e} (hw : m.IsWhole) :
    (m.access (.whole s)).set = Finset.univ := by
  obtain ⟨b, rfl, rfl, rfl, h⟩ := hw; cases h
  exact Memref.set_access_whole b

/-- … reads what the memref reads … -/
theorem read_access_of_whole {κ : Kind} {sp : Space} {s : Shape} {e : EltTy} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

/-- … and what is written through it is read back by the memref. -/
theorem read_write_access_whole {κ : Kind} {sp : Space} {s : Shape} {e : EltTy} (m : Memref sig κ sp s e) (f : m.view.ty.Contents (Elt F))
    (w : s.Idx → Elt F e) : m.view.read (Elt F) ((m.access (.whole s)).write (Elt F) f w Finset.univ) = w := by
  funext x
  have := View.read_slice_write_emb (v := m.view) (Val := Elt F) (Rect.whole s) f w (M := Finset.univ) (x := x) (Finset.mem_univ _)
  rw [Rect.emb_whole_apply] at this
  exact this

/-- A write of a view's whole shape is read back. -/
theorem read_writes_whole {κ : Kind} {sp : Space} {s : Shape} {e : EltTy} (v : View sig κ sp s e) (f : v.ty.Contents (Elt F))
    (w : s.Idx → Elt F e) : v.read (Elt F) (v.writes (Elt F) f [⟨Rect.whole s, w⟩]) = w := by
  funext x
  have := View.read_slice_write_emb (v := v) (Val := Elt F) (Rect.whole s) f w (M := Finset.univ) (x := x) (Finset.mem_univ _)
  rw [Rect.emb_whole_apply] at this
  exact this

/-- One store of a chunk into a vector, read at an entry inside the chunk, … -/
theorem read_store1_of_mem {κ : Kind} {sp : Space} {n c : ℕ} {e : EltTy} (v : View sig κ sp ⟨1, ![n]⟩ e) (f : v.ty.Contents (Elt F)) (off : Fin 1 → ℕ)
    (inb : ∀ a, off a + (![c] : Fin 1 → ℕ) a ≤ (⟨1, ![n]⟩ : Shape).size a) (w : (⟨1, ![c]⟩ : Shape).Idx → Elt F e) (j : (⟨1, ![n]⟩ : Shape).Idx)
    (x : Fin c) (hx : (j 0).val = off 0 + x.val) :
    v.read (Elt F) (v.writes (Elt F) f [⟨Rect.unit (s := ⟨1, ![n]⟩) off ![c] inb, w⟩]) j = w (ValueIdx.ix1 x) :=
  View.read_writes_cons_unit_of_mem v f inb w [] j (ValueIdx.ix1 x) rfl fun a => by
    obtain rfl : a = 0 := Subsingleton.elim _ _
    exact hx

/-- … and at one outside it. -/
theorem read_store1_of_not_mem {κ : Kind} {sp : Space} {n c : ℕ} {e : EltTy} (v : View sig κ sp ⟨1, ![n]⟩ e) (f : v.ty.Contents (Elt F)) (off : Fin 1 → ℕ)
    (inb : ∀ a, off a + (![c] : Fin 1 → ℕ) a ≤ (⟨1, ![n]⟩ : Shape).size a) (w : (⟨1, ![c]⟩ : Shape).Idx → Elt F e) (j : (⟨1, ![n]⟩ : Shape).Idx)
    (h : (j 0).val < off 0 ∨ off 0 + c ≤ (j 0).val) :
    v.read (Elt F) (v.writes (Elt F) f [⟨Rect.unit (s := ⟨1, ![n]⟩) off ![c] inb, w⟩]) j = v.read (Elt F) f j :=
  View.read_writes_cons_unit_of_not_mem v f inb w [] j rfl 0 h

end Cert.Kernel.Own

end
-- ==== Proof.Sc0.lean ====
/- The scalar segment-sum kernel's body on one tile, at any memrefs: what it leaves in its row of the result. -/
module

public import proofs.«01_k».proof.Proof.Vals
public import proofs.«01_k».proof.Proof.Gen.Kernel.Skeleton
public import Idealize.ShloMosaic.Lib.SparseCore.Quiescent
public import Idealize.ShloMosaic.Lib.SparseCore.Ops
public import Idealize.ShloMosaic.Lib.Pipeline.Kit
public import Idealize.ShloMosaic.Lib.Tactic
public import Idealize.ShloMosaic.Lib.Exec

@[expose] public section

noncomputable section

namespace Cert.Kernel.Own

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none

variable {U : Type} [URA U]

local notation "𝕄" => MT nD τ sig (HIx 4) (Elt F) ℕ U ℕ

section Tile0

variable (d : Dev nD) (i : grid0.Coords)
variable (arg2 : Memref sig .scVector .hbm S10240 .f32) (harg2 : arg2.IsWhole) (arg3 : Memref sig .scVector .hbm S320000 .i32) (harg3 : arg3.IsWhole)
variable (arg4 : Memref sig .scVector .hbm S320000 .i32) (harg4 : arg4.IsWhole) (arg5 : Memref sig .scVector .hbm S32x10240 .f32) (harg5 : arg5.IsWhole)
variable (arg6 : Memref sig .scVector .vmem S10240 .f32) (harg6 : arg6.IsWhole) (arg7 : Memref sig .scVector .vmem S10240 .f32) (harg7 : arg7.IsWhole)
variable (arg8 : Memref sig .scVector .vmem S10000 .i32) (harg8 : arg8.IsWhole) (arg9 : Memref sig .scVector .vmem S10000 .i32) (harg9 : arg9.IsWhole)
variable (v6_r0 v6_r1 v6_r2 v6_r3 : DmaSems sig S_)

/-- The tile's thread. -/
abbrev thr0 : Thread nD τ := V d ((i 0).castLE hcore0) ((i 1).castLE hsub0)

/-- The tile's number: its rows and edges are number `wid0 i`'s. -/
abbrev wid0 (i : grid0.Coords) : ℕ := 2 * (i 1).val + (i 0).val

/-- The tile's row of the result, as the write-out addresses it. -/
abbrev row0 : Memref sig .scVector .hbm S10240 .f32 :=
  (arg5.slice (Rect.unit (s := S32x10240) (k0_off4 i) S1x10240.size (k0_off4_inb i)) (fun _ => rfl)).squeeze S10240 squeezes_S1x10240_S10240

/-- The running sum of node `t` after `n` of the tile's edges. -/
def run0 (g2 : S10240.Idx → F .f32) (g3 g4 : S320000.Idx → BitVec 32) (w t n : ℕ) : F .f32 :=
  segAcc (Scalar.ofBits .f32 0x00000000#32) (fun e => nodeAt g4 (10000 * w + e) = t) (fun e => entAt g2 (nodeAt g3 (10000 * w + e))) n

/-- The zeroing loop's invariant: the accumulator's entries below `16 * k` are zero. -/
def zero0 (k : Nat) (_ : PUnit) : sProp 𝕄 :=
  iprop(∃ f, ⌜∀ j : S10240.Idx, (j 0).val < 16 * k → arg7.view.read (Elt F) f j = Scalar.ofBits .f32 0x00000000#32⌝ ∗ (arg7.view.loc (thr0 d i) ↦{fullShare} f))

/-- The accumulating loop's invariant: the fetched table and edges at what was fetched, each entry of the accumulator at its running sum. -/
def acc0 (g2 : S10240.Idx → F .f32) (g3 g4 : S320000.Idx → BitVec 32) (k : Nat) (_ : PUnit) : sProp 𝕄 :=
  iprop((∃ f, ⌜arg6.view.read (Elt F) f = g2⌝ ∗ (arg6.view.loc (thr0 d i) ↦{fullShare} f))
    ∗ (∃ f, ⌜∀ e < 10000, nodeAt (n := 10000) (arg8.view.read (Elt F) f) e = nodeAt (n := 320000) g3 (10000 * wid0 i + e)⌝ ∗ (arg8.view.loc (thr0 d i) ↦{fullShare} f))
    ∗ (∃ f, ⌜∀ e < 10000, nodeAt (n := 10000) (arg9.view.read (Elt F) f) e = nodeAt (n := 320000) g4 (10000 * wid0 i + e)⌝ ∗ (arg9.view.loc (thr0 d i) ↦{fullShare} f))
    ∗ ∃ f, ⌜∀ j : S10240.Idx, arg7.view.read (Elt F) f j = run0 g2 g3 g4 (wid0 i) (j 0).val (16 * k)⌝ ∗ (arg7.view.loc (thr0 d i) ↦{fullShare} f))

variable [CountersIn U]

set_option maxHeartbeats 4000000 in
theorem tile0 (q2 q3 q4 : PosShare TreeShare)
    (f2 : Buf (Elt F) (arg2.view.loc (thr0 d i))) (f3 : Buf (Elt F) (arg3.view.loc (thr0 d i))) (f4 : Buf (Elt F) (arg4.view.loc (thr0 d i)))
    (f5 : Buf (Elt F) (arg5.view.loc (thr0 d i))) (f6 : Buf (Elt F) (arg6.view.loc (thr0 d i))) (f7 : Buf (Elt F) (arg7.view.loc (thr0 d i)))
    (f8 : Buf (Elt F) (arg8.view.loc (thr0 d i))) (f9 : Buf (Elt F) (arg9.view.loc (thr0 d i)))
    (hr3 : ∀ j, (arg3.view.read (Elt F) f3 j).toNat < 10240) (hr4 : ∀ j, (arg4.view.read (Elt F) f4 j).toNat < 10240)
    (O : CellTallies nD τ sig (HIx 4)) (W : Waits sig (HIx 4)) :
    iprop(Transfers.MayWaits (thr0 d i) (none : HIx 4) O
        ∗ (arg2.view.loc (thr0 d i) ↦{q2} f2) ∗ (arg3.view.loc (thr0 d i) ↦{q3} f3)
        ∗ (arg4.view.loc (thr0 d i) ↦{q4} f4)
        ∗ ((row0 i arg5).view.loc (thr0 d i) ↦[(row0 i arg5).view.set]{fullShare} f5)
        ∗ (arg6.view.loc (thr0 d i) ↦{fullShare} f6) ∗ (arg7.view.loc (thr0 d i) ↦{fullShare} f7)
        ∗ (arg8.view.loc (thr0 d i) ↦{fullShare} f8) ∗ (arg9.view.loc (thr0 d i) ↦{fullShare} f9)
        ∗ semVal (thr0 d i, SemLoc.dma v6_r0.sem) 0 ∗ semVal (thr0 d i, SemLoc.dma v6_r1.sem) 0
        ∗ semVal (thr0 d i, SemLoc.dma v6_r2.sem) 0 ∗ semVal (thr0 d i, SemLoc.dma v6_r3.sem) 0
        ∗ owes (thr0 d i) O W)
      ⊢ wp frame (wpE (defs₀ (F := F)) 𝒱₀ (thr0 d i) none) Set.univ
          (cc0__scalar_segsum_body (F := F) i arg2 harg2 arg3 harg3 arg4 harg4 arg5 harg5 arg6 harg6 arg7 harg7 arg8 harg8 arg9 harg9 v6_r0 v6_r1 v6_r2 v6_r3)
          fun _ => (iprop((arg2.view.loc (thr0 d i) ↦{q2} f2) ∗ (arg3.view.loc (thr0 d i) ↦{q3} f3) ∗ (arg4.view.loc (thr0 d i) ↦{q4} f4)
            ∗ (∃ f, ⌜∀ j : S10240.Idx, (row0 i arg5).view.read (Elt F) f j
                  = run0 (arg2.view.read (Elt F) f2) (arg3.view.read (Elt F) f3) (arg4.view.read (Elt F) f4) (wid0 i) (j 0).val 10000⌝
                ∗ ((row0 i arg5).view.loc (thr0 d i) ↦[(row0 i arg5).view.set]{fullShare} f))
            ∗ (∃ f, arg6.view.loc (thr0 d i) ↦{fullShare} f) ∗ (∃ f, arg7.view.loc (thr0 d i) ↦{fullShare} f)
            ∗ (∃ f, arg8.view.loc (thr0 d i) ↦{fullShare} f) ∗ (∃ f, arg9.view.loc (thr0 d i) ↦{fullShare} f)
            ∗ semVal (thr0 d i, SemLoc.dma v6_r0.sem) 0 ∗ semVal (thr0 d i, SemLoc.dma v6_r1.sem) 0
            ∗ semVal (thr0 d i, SemLoc.dma v6_r2.sem) 0 ∗ semVal (thr0 d i, SemLoc.dma v6_r3.sem) 0
            ∗ ∃ W', ⌜∀ p ∈ W', p ∈ W ∨ p.2 = none⌝ ∗ owes (thr0 d i) O W') : sProp 𝕄) := by
  rw [cc0__scalar_segsum_body_eq_skeleton]; unfold cc0__scalar_segsum_body_skel
  iintro ⟨#Hmw, H2, H3, H4, H5, H6, H7, H8, H9, Hs0, Hs1, Hs2, Hs3, HO⟩
  sl_exec
  sl_for (zero0 (U := U) d i arg7) $$ [H7]
  case region =>
    intro k _
    unfold zero0
    iintro ⟨%f, %hf, H7⟩
    sl_exec
    sl_step
    iexists _; isplitr
    swap; · iexact H7
    ipureintro
    intro j hj
    by_cases hk : (j 0).val < 16 * k.val
    · rw [← hf j hk]
      exact read_store1_of_not_mem arg7.view f _ _ _ j (.inl (by rw [k0_off2_eq]; exact hk))
    · exact read_store1_of_mem arg7.view f _ _ _ j ⟨(j 0).val - 16 * k.val, by omega⟩ (by rw [k0_off2_eq]; show _ = 16 * k.val + ((j 0).val - 16 * k.val); omega)
  · unfold zero0
    iexists _; isplitr
    swap; · iexact H7
    ipureintro; intro j hj; omega
  iintro %_ HI
  unfold zero0
  icases HI with ⟨%f7z, %hf7z, H7⟩
  have hz : ∀ j : S10240.Idx, arg7.view.read (Elt F) f7z j = Scalar.ofBits .f32 0x00000000#32 := fun j => hf7z j (show (j 0).val < 10240 from (j 0).isLt)
  sl_for (acc0 (U := U) d i arg6 arg7 arg8 arg9 (arg2.view.read (Elt F) f2) (arg3.view.read (Elt F) f3) (arg4.view.read (Elt F) f4)) $$ [H6 H7 H8 H9]
  case region =>
    intro k _
    have hk : k.val < 625 := k.isLt
    unfold acc0
    iintro ⟨⟨%f6, %h6, H6⟩, ⟨%f8, %h8, H8⟩, ⟨%f9, %h9, H9⟩, %f, %hf, H7⟩
    have n8 : ∀ x : S16.Idx, (arg8.view.readAt (Elt F) (Rect.unit (s := S10000) (k0_off3 k) S16.size (k0_off3_inb k)).toLoadRect f8 x).toNat
        = nodeAt (n := 320000) (arg3.view.read (Elt F) f3) (10000 * wid0 i + (16 * k.val + (x 0).val)) := fun x => by
      have hx : (x 0).val < 16 := (x 0).isLt
      rw [← h8 _ (by omega)]
      refine (readAt_node arg8.view f8 _ _ x).trans ?_
      rw [k0_off3_eq]; rfl
    have n9 : ∀ x : S16.Idx, (arg9.view.readAt (Elt F) (Rect.unit (s := S10000) (k0_off3 k) S16.size (k0_off3_inb k)).toLoadRect f9 x).toNat
        = nodeAt (n := 320000) (arg4.view.read (Elt F) f4) (10000 * wid0 i + (16 * k.val + (x 0).val)) := fun x => by
      have hx : (x 0).val < 16 := (x 0).isLt
      rw [← h9 _ (by omega)]
      refine (readAt_node arg9.view f9 _ _ x).trans ?_
      rw [k0_off3_eq]; rfl
    sl_exec
    rw [wp_assume_of _ _ _ _ (show k0_chk1 _ from fun a x => by
      obtain rfl : a = 0 := Subsingleton.elim _ _
      exact (n8 x).trans_lt (nodeAt_lt hr3 (by decide) _))]
    sl_exec
    rw [wp_assume_of _ _ _ _ (show k0_chk2 _ from fun a x => by
      obtain rfl : a = 0 := Subsingleton.elim _ _
      exact (n9 x).trans_lt (nodeAt_lt hr4 (by decide) _))]
    iapply (SparseCore.wp_vectorLoadIdx 𝒱₀ (thr0 d i) none Set.univ (base := arg6) (S := Finset.univ) (Finset.subset_univ _)) $$ H6
    iintro H6
    ihave H7' := (Entails.of_eq (show (arg7.view.loc (thr0 d i) ↦{fullShare} f : sProp 𝕄)
      = ((arg7.access (.whole S10240)).loc (thr0 d i) ↦[(arg7.access (.whole S10240)).set]{fullShare} f) by rw [set_access_of_whole harg7])) $$ H7
    iapply (SparseCore.wp_vectorStoreIdx 𝒱₀ (thr0 d i) none Set.univ (base := arg7)) $$ H7'
    iintro H7
    sl_step
    isplitl [H6]
    · iexists _; isplitr
      swap; · iexact H6
      ipureintro; exact h6
    isplitl [H8]
    · iexists _; isplitr
      swap; · iexact H8
      ipureintro; exact h8
    isplitl [H9]
    · iexists _; isplitr
      swap; · iexact H9
      ipureintro; exact h9
    rw [set_access_of_whole harg7]
    iexists _; isplitr
    swap; · iexact H7
    ipureintro
    intro j
    rw [read_write_access_whole, read_access_of_whole, read_access_of_whole]
    refine storeIdx_segAcc (n := 16) _ _ _ _ j _ _ _ (16 * k.val) (hf j) (fun l => ?_) (fun l => ?_)
    · have e9 := n9 (Shape.ofLane (d := ![16]) l)
      constructor
      · intro h; exact e9.symm.trans (h 0).symm
      · intro h a
        obtain rfl : a = 0 := Subsingleton.elim _ _
        exact h.symm.trans e9.symm
    · have e8 := n8 (Shape.ofLane (d := ![16]) l)
      show arg6.view.read (Elt F) f6 _ = _
      rw [h6]
      exact (entAt_ix (n := 10240) _ _).symm.trans (congrArg (entAt (n := 10240) _) e8)
  · unfold acc0
    isplitl [H6]
    · iexists _; isplitr
      swap; · iexact H6
      ipureintro
      exact View.read_write_univ _ _
    isplitl [H8]
    · iexists _; isplitr
      swap; · iexact H8
      ipureintro
      intro e he
      rw [View.read_write_univ]
      refine (read_slice_node arg3.view f3 _ _ e he).trans ?_
      rw [k0_off1_eq]
      congr 1; show 20000 * (i 1).val + 10000 * (i 0).val + e = 10000 * (2 * (i 1).val + (i 0).val) + e; omega
    isplitl [H9]
    · iexists _; isplitr
      swap; · iexact H9
      ipureintro
      intro e he
      rw [View.read_write_univ]
      refine (read_slice_node arg4.view f4 _ _ e he).trans ?_
      rw [k0_off1_eq]
      congr 1; show 20000 * (i 1).val + 10000 * (i 0).val + e = 10000 * (2 * (i 1).val + (i 0).val) + e; omega
    iexists _; isplitr
    swap; · iexact H7
    ipureintro
    intro j
    rw [hz j]; rfl
  iintro %_ HI
  unfold acc0
  icases HI with ⟨⟨%f6', %h6, H6⟩, ⟨%f8', %h8, H8⟩, ⟨%f9', %h9, H9⟩, %f7', %hf, H7⟩
  sl_exec
  sl_step
  isplitl [H2]; · iexact H2
  isplitl [H3]; · iexact H3
  isplitl [H4]; · iexact H4
  isplitl [H5]
  · iexists _; isplitr
    swap; · iexact H5
    ipureintro
    intro j
    rw [read_writes_whole]
    exact hf j
  isplitl [H6]; · iexists _; iexact H6
  isplitl [H7]; · iexists _; iexact H7
  isplitl [H8]; · iexists _; iexact H8
  isplitl [H9]; · iexists _; iexact H9
  isplitl [Hs0]; · iexact Hs0
  isplitl [Hs1]; · iexact Hs1
  isplitl [Hs2]; · iexact Hs2
  isplitl [Hs3]; · iexact Hs3
  iexists _; isplitr
  swap; · iexact HO
  ipureintro
  intro p hp
  simp only [Finset.mem_insert] at hp
  rcases hp with rfl | rfl | rfl | rfl | hp
  · exact .inr rfl
  · exact .inr rfl
  · exact .inr rfl
  · exact .inr rfl
  · exact .inl hp

end Tile0

end Cert.Kernel.Own

end
-- ==== Proof.Sc3.lean ====
/- The feature segment-sum kernel's body on one tile, at any memrefs: what it leaves in its four rows of the result. -/
module

public import proofs.«01_k».proof.Proof.Sc0

@[expose] public section

noncomputable section

namespace Cert.Kernel.Own

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable {U : Type} [URA U]

local notation "𝕄" => MT nD τ sig (HIx 4) (Elt F) ℕ U ℕ

/-- A transfer in flight delivers, beside its delivery, whatever is set aside with it. -/
theorem flight_frame (EC : UEmb Counters 𝕄) {c : Thread nD τ} {sm : SemLoc sig} {ι : HIx 4} {N : ℕ} {D R : sProp 𝕄} :
    iprop(Transfers.Flight EC c sm ι N D ∗ R) ⊢ Transfers.Flight EC c sm ι N iprop(D ∗ R) := by
  unfold Transfers.Flight
  iintro ⟨⟨⟨%R', HR', %hcap, %hpeek⟩, Hcred⟩, HR⟩
  isplitl [HR HR']
  · iexists iprop(R' ∗ R)
    isplitl [HR HR']; · isplitl [HR'] <;> iassumption
    isplit
    · ipureintro
      intro K
      refine BIBase.Entails.trans ?_ (hcap K)
      iintro ⟨⟨HR', HR⟩, HK⟩
      isplitl [HR']; · iexact HR'
      iintro ⟨Hv, HD⟩
      iapply HK
      isplitl [Hv]; · iexact Hv
      isplitl [HD] <;> iassumption
    · ipureintro
      intro K
      refine BIBase.Entails.trans ?_ (hpeek K)
      iintro ⟨⟨HR', HR⟩, HK⟩
      isplitl [HR']; · iexact HR'
      iintro HR'
      iapply HK
      isplitl [HR'] <;> iassumption
  · iexact Hcred

/-- One row segment stored, read at an entry inside it, … -/
theorem read_store2_of_mem {κ : Kind} {sp : Space} {m n c : ℕ} {e : EltTy} (v : View sig κ sp ⟨2, ![m, n]⟩ e) (f : v.ty.Contents (Elt F)) (off : Fin 2 → ℕ)
    (inb : ∀ a, off a + (![1, c] : Fin 2 → ℕ) a ≤ (⟨2, ![m, n]⟩ : Shape).size a) (w : (⟨2, ![1, c]⟩ : Shape).Idx → Elt F e)
    (L : List (View.Piece (Elt F) ⟨2, ![m, n]⟩ e)) (j : (⟨2, ![m, n]⟩ : Shape).Idx)
    (x : Fin c) (h0 : (j 0).val = off 0) (hx : (j 1).val = off 1 + x.val) :
    v.read (Elt F) (v.writes (Elt F) f (⟨Rect.unit (s := ⟨2, ![m, n]⟩) off ![1, c] inb, w⟩ :: L)) j = w (ValueIdx.ix2 0 x) :=
  View.read_writes_cons_unit_of_mem v f inb w L j (ValueIdx.ix2 0 x) rfl fun a => by
    match a with
    | 0 => exact h0
    | 1 => exact hx

section Tile3

variable (d : Dev nD) (i : grid3.Coords)
variable (arg2 : Memref sig .scVector .hbm S128x10240 .f32) (harg2 : arg2.IsWhole) (arg3 : Memref sig .scVector .hbm S320000 .i32) (harg3 : arg3.IsWhole)
variable (arg4 : Memref sig .scVector .hbm S320000 .i32) (harg4 : arg4.IsWhole) (arg5 : Memref sig .scVector .hbm S128x10240 .f32) (harg5 : arg5.IsWhole)
variable (arg6 : Memref sig .scVector .vmem S4x10240 .f32) (harg6 : arg6.IsWhole) (arg7 : Memref sig .scVector .vmem S4x10240 .f32) (harg7 : arg7.IsWhole)
variable (arg8 : Memref sig .scVector .vmem S8000 .i32) (harg8 : arg8.IsWhole) (arg9 : Memref sig .scVector .vmem S8000 .i32) (harg9 : arg9.IsWhole)
variable (arg10 : Memref sig .scVector .vmem S8000 .i32) (harg10 : arg10.IsWhole) (arg11 : Memref sig .scVector .vmem S8000 .i32) (harg11 : arg11.IsWhole)
variable (arg12 arg13 arg14 arg15 arg16 v18_r0 : DmaSems sig S_)

/-- The tile's thread. -/
abbrev thr3 : Thread nD τ := V d ((i 0).castLE hcore3) ((i 1).castLE hsub3)

/-- The tile's four rows of the table, … -/
abbrev rowsIn3 : Memref sig .scVector .hbm S4x10240 .f32 :=
  arg2.slice (Rect.unit (s := S128x10240) (k3_off1 i) S4x10240.size (k3_off1_inb i)) (fun _ => rfl)

/-- … and of the result. -/
abbrev rowsOut3 : Memref sig .scVector .hbm S4x10240 .f32 :=
  arg5.slice (Rect.unit (s := S128x10240) (k3_off12 i) S4x10240.size (k3_off12_inb i)) (fun _ => rfl)

/-- The running sum of node `t` in the tile's row `r` after `n` edges. -/
def run3 (g2 : S4x10240.Idx → F .f32) (g3 g4 : S320000.Idx → BitVec 32) (r t n : ℕ) : F .f32 :=
  segAcc (Scalar.ofBits .f32 0x00000000#32) (fun e => nodeAt g4 e = t) (fun e => entAt2 g2 r (nodeAt g3 e)) n

/-- The zeroing loop's invariant: the accumulator's columns below `16 * k` are zero. -/
def zero3 (k : Nat) (_ : PUnit) : sProp 𝕄 :=
  iprop(∃ f, ⌜∀ j : S4x10240.Idx, (j 1).val < 16 * k → arg7.view.read (Elt F) f j = Scalar.ofBits .f32 0x00000000#32⌝ ∗ (arg7.view.loc (thr3 d i) ↦{fullShare} f))

/-- A chunk buffer of an edge list, holding the list's entries from `off` on. -/
def chunkAt (dst : Memref sig .scVector .vmem S8000 .i32) (g : S320000.Idx → BitVec 32) (off : ℕ) : sProp 𝕄 :=
  iprop(∃ f, ⌜∀ e < 8000, nodeAt (n := 8000) (dst.view.read (Elt F) f) e = nodeAt (n := 320000) g (off + e)⌝ ∗ (dst.view.loc (thr3 d i) ↦{fullShare} f))

/-- What a chunk's transfer delivers: the chunk buffer, and the share of the list it was read through. -/
def fetched (dst : Memref sig .scVector .vmem S8000 .i32) (src : Memref sig .scVector .hbm S320000 .i32) (q : PosShare TreeShare)
    (f : Buf (Elt F) (src.view.loc (thr3 d i))) (off : ℕ) : sProp 𝕄 :=
  iprop(chunkAt d i dst (src.view.read (Elt F) f) off ∗ (src.view.loc (thr3 d i) ↦{q} f))

/-- The table held in the tile's memory. -/
def tabAt (g2 : S4x10240.Idx → F .f32) : sProp 𝕄 :=
  iprop(∃ f, ⌜arg6.view.read (Elt F) f = g2⌝ ∗ (arg6.view.loc (thr3 d i) ↦{fullShare} f))

/-- The accumulator after `n` edges. -/
def accAt (g2 : S4x10240.Idx → F .f32) (g3 g4 : S320000.Idx → BitVec 32) (n : ℕ) : sProp 𝕄 :=
  iprop(∃ f, ⌜∀ j : S4x10240.Idx, arg7.view.read (Elt F) f j = run3 g2 g3 g4 (j 0).val (j 1).val n⌝ ∗ (arg7.view.loc (thr3 d i) ↦{fullShare} f))

/-- The accumulating loop's invariant over one chunk, starting at edge `b`. -/
def acc3 (g2 : S4x10240.Idx → F .f32) (g3 g4 : S320000.Idx → BitVec 32) (b k : Nat) (_ : PUnit) : sProp 𝕄 :=
  iprop(tabAt d i arg6 g2 ∗ chunkAt d i arg8 g3 b ∗ chunkAt d i arg9 g4 b ∗ accAt d i arg7 g2 g3 g4 (b + 16 * k))

variable [CountersIn U]

/-- A chunk's transfer with the rest of the share it reads through set aside delivers the chunk and the share whole. -/
theorem flight_fetched (dst : Memref sig .scVector .vmem S8000 .i32) (src : Memref sig .scVector .hbm S320000 .i32) (q : PosShare TreeShare)
    (f : Buf (Elt F) (src.view.loc (thr3 d i))) (fd : Buf (Elt F) (dst.view.loc (thr3 d i))) (off : Fin 1 → ℕ)
    (inb : ∀ a, off a + S8000.size a ≤ S320000.size a) (h : ∀ a, (Rect.unit (s := S320000) off S8000.size inb).size a = S8000.size a) (n : ℕ) (hn : off 0 = n)
    (sm : SemLoc sig) (ι : HIx 4) (N : ℕ) (w : S8000.Idx → BitVec 32)
    (hw : w = (src.slice (Rect.unit (s := S320000) off S8000.size inb) (fun _ => rfl)).view.read (Elt F) f) :
    iprop(Transfers.Flight (countersEmb (U := U)) (thr3 d i) sm ι N
          (iprop((dst.view.loc (thr3 d i) ↦{fullShare} dst.view.write (Elt F) fd w Finset.univ)
            ∗ (src.view.loc (thr3 d i) ↦[(src.slice (Rect.unit (s := S320000) off S8000.size inb) (fun _ => rfl)).view.set]{q} f)))
        ∗ (src.view.loc (thr3 d i) ↦[Finset.univ \ (src.slice (Rect.unit (s := S320000) off S8000.size inb) (fun _ => rfl)).view.set]{q} f))
      ⊢ (Transfers.Flight (countersEmb (U := U)) (thr3 d i) sm ι N (fetched d i dst src q f n) : sProp 𝕄) := by
  subst hw
  refine (flight_frame _).trans (Transfers.Flight_mono _ _ ?_)
  unfold fetched chunkAt
  iintro ⟨⟨Hd, Hs⟩, Hr⟩
  isplitl [Hd]
  · iexists _; isplitr
    swap; · iexact Hd
    ipureintro
    intro e he
    rw [View.read_write_univ, ← hn]
    exact read_slice_node src.view f off inb e he
  · iapply (pointsTo_split_subset (Finset.subset_univ _)).2 $$ [Hs Hr]
    isplitl [Hs] <;> iassumption

set_option maxHeartbeats 4000000 in
theorem step3 (g2 : S4x10240.Idx → F .f32) (g3 g4 : S320000.Idx → BitVec 32) (hr3 : ∀ j, (g3 j).toNat < 10240) (hr4 : ∀ j, (g4 j).toNat < 10240) (b : ℕ)
    (k : Fin k3_t3_loop.trips) :
    acc3 (U := U) d i arg6 arg7 arg8 arg9 g2 g3 g4 b k.val ⟨⟩
      ⊢ wp frame (wpE (defs₀ (F := F)) 𝒱₀ (thr3 d i) none) Set.univ
          (k3_t3_body i arg2 harg2 arg3 harg3 arg4 harg4 arg5 harg5 arg6 harg6 arg7 harg7 arg8 harg8 arg9 harg9 arg10 harg10 arg11 harg11 arg12 arg13 arg14 arg15 arg16 v18_r0
            (broadcast S16 0#32) (broadcast S16 1#32) (broadcast S16 2#32) (broadcast S16 3#32) k ⟨⟩)
          fun c => acc3 d i arg6 arg7 arg8 arg9 g2 g3 g4 b (k.val + 1) c := by
  have hk : k.val < 500 := k.isLt
  unfold acc3 tabAt chunkAt accAt k3_t3_body
  iintro ⟨⟨%f6, %h6, H6⟩, ⟨%f8, %h8, H8⟩, ⟨%f9, %h9, H9⟩, %f, %hf, H7⟩
  have n8 : ∀ x : S16.Idx, (arg8.view.readAt (Elt F) (Rect.unit (s := S8000) (k3_off8 k) S16.size (k3_off8_inb k)).toLoadRect f8 x).toNat
      = nodeAt (n := 320000) g3 (b + 16 * k.val + (x 0).val) := fun x => by
    have hx : (x 0).val < 16 := (x 0).isLt
    rw [Nat.add_assoc, ← h8 _ (by omega)]
    refine (readAt_node arg8.view f8 _ _ x).trans ?_
    rw [k3_off8_eq]; rfl
  have n9 : ∀ x : S16.Idx, (arg9.view.readAt (Elt F) (Rect.unit (s := S8000) (k3_off8 k) S16.size (k3_off8_inb k)).toLoadRect f9 x).toNat
      = nodeAt (n := 320000) g4 (b + 16 * k.val + (x 0).val) := fun x => by
    have hx : (x 0).val < 16 := (x 0).isLt
    rw [Nat.add_assoc, ← h9 _ (by omega)]
    refine (readAt_node arg9.view f9 _ _ x).trans ?_
    rw [k3_off8_eq]; rfl
  have inb : ∀ (w : ℕ) (hw : w < 4) (v : IVec S16 32), (∀ x, (v x).toNat < 10240) →
      ∀ a x, ((![broadcast S16 (BitVec.ofNat 32 w), v] : Fin 2 → IVec S16 32) a x).toNat < S4x10240.size a := fun w hw v hv a x => by
    match a with
    | 0 => show (BitVec.ofNat 32 w).toNat < 4; rw [BitVec.toNat_ofNat]; omega
    | 1 => exact hv x
  sl_exec
  have i8 : ∀ x, (arg8.view.readAt (Elt F) (Rect.unit (s := S8000) (k3_off8 k) S16.size (k3_off8_inb k)).toLoadRect f8 x).toNat < 10240 :=
    fun x => (n8 x).trans_lt (nodeAt_lt hr3 (by decide) _)
  have i9 : ∀ x, (arg9.view.readAt (Elt F) (Rect.unit (s := S8000) (k3_off8 k) S16.size (k3_off8_inb k)).toLoadRect f9 x).toNat < 10240 :=
    fun x => (n9 x).trans_lt (nodeAt_lt hr4 (by decide) _)
  rw [wp_assume_of _ _ _ _ (show k3_chk1 _ _ _ _ _ from ⟨inb 0 (by decide) _ i8, inb 1 (by decide) _ i8, inb 2 (by decide) _ i8, inb 3 (by decide) _ i8⟩)]
  sl_exec
  rw [wp_assume_of _ _ _ _ (show k3_chk2 _ _ _ _ _ from ⟨inb 0 (by decide) _ i9, inb 1 (by decide) _ i9, inb 2 (by decide) _ i9, inb 3 (by decide) _ i9⟩)]
  ihave H7 := (Entails.of_eq (show (arg7.view.loc (thr3 d i) ↦{fullShare} f : sProp 𝕄)
    = ((arg7.access (.whole S4x10240)).loc (thr3 d i) ↦[(arg7.access (.whole S4x10240)).set]{fullShare} f) by rw [set_access_of_whole harg7])) $$ H7
  iapply (SparseCore.wp_vectorLoadIdx 𝒱₀ (thr3 d i) none Set.univ (base := arg6) (S := Finset.univ) (Finset.subset_univ _)) $$ H6
  iintro H6
  iapply (SparseCore.wp_vectorStoreIdx 𝒱₀ (thr3 d i) none Set.univ (base := arg7)) $$ H7
  iintro H7
  iapply (SparseCore.wp_vectorLoadIdx 𝒱₀ (thr3 d i) none Set.univ (base := arg6) (S := Finset.univ) (Finset.subset_univ _)) $$ H6
  iintro H6
  iapply (SparseCore.wp_vectorStoreIdx 𝒱₀ (thr3 d i) none Set.univ (base := arg7)) $$ H7
  iintro H7
  iapply (SparseCore.wp_vectorLoadIdx 𝒱₀ (thr3 d i) none Set.univ (base := arg6) (S := Finset.univ) (Finset.subset_univ _)) $$ H6
  iintro H6
  iapply (SparseCore.wp_vectorStoreIdx 𝒱₀ (thr3 d i) none Set.univ (base := arg7)) $$ H7
  iintro H7
  iapply (SparseCore.wp_vectorLoadIdx 𝒱₀ (thr3 d i) none Set.univ (base := arg6) (S := Finset.univ) (Finset.subset_univ _)) $$ H6
  iintro H6
  iapply (SparseCore.wp_vectorStoreIdx 𝒱₀ (thr3 d i) none Set.univ (base := arg7)) $$ H7
  iintro H7
  sl_step
  isplitl [H6]
  · iexists _; isplitr
    swap; · iexact H6
    ipureintro; exact h6
  isplitl [H8]
  · iexists _; isplitr
    swap; · iexact H8
    ipureintro; exact h8
  isplitl [H9]
  · iexists _; isplitr
    swap; · iexact H9
    ipureintro; exact h9
  rw [set_access_of_whole harg7]
  iexists _; isplitr
  swap; · iexact H7
  ipureintro
  intro j
  simp only [read_write_access_whole, read_access_of_whole]
  have key : ∀ (g : Vec F S4x10240 .f32) (r : ℕ) (hr : r < 4) (w : Vec F S16 .f32) (h),
      ((j 0).val = r → g j = run3 g2 g3 g4 (j 0).val (j 1).val (b + 16 * k.val)) →
      (∀ l : Fin 16, w (Shape.ofLane (d := ![16]) l) = entAt2 (m := 4) (n := 10240) g2 r (nodeAt (n := 320000) g3 (b + 16 * k.val + l.val))) →
      storeIdx (s := S4x10240) g ![broadcast S16 (BitVec.ofNat 32 r), arg9.view.readAt (Elt F) (Rect.unit (s := S8000) (k3_off8 k) S16.size (k3_off8_inb k)).toLoadRect f9] w (fun _ => 1#1) true h j
        = if (j 0).val = r then run3 g2 g3 g4 (j 0).val (j 1).val (b + 16 * k.val + 16) else g j := by
    intro g r hr w h hg hw
    refine storeIdx_row (m := 4) (c := 10240) (n := 16) g _ w h j r _ _ _ _ (fun x => ?_) hg (fun l => ?_) (fun e l => ?_)
    · show (BitVec.ofNat 32 r).toNat = r
      rw [BitVec.toNat_ofNat]; omega
    · exact ⟨fun h => (n9 (Shape.ofLane (d := ![16]) l)).symm.trans h.symm, fun h => h.symm.trans (n9 (Shape.ofLane (d := ![16]) l)).symm⟩
    · exact (hw l).trans (by rw [← e])
  have load : ∀ (r : ℕ) (hr : r < 4) (h) (l : Fin 16),
      arg6.view.read (Elt F) f6 (idxAt (s := S4x10240) ![broadcast S16 (BitVec.ofNat 32 r), arg8.view.readAt (Elt F) (Rect.unit (s := S8000) (k3_off8 k) S16.size (k3_off8_inb k)).toLoadRect f8] h (Shape.ofLane (d := ![16]) l))
        = entAt2 (m := 4) (n := 10240) g2 r (nodeAt (n := 320000) g3 (b + 16 * k.val + l.val)) := by
    intro r hr h l
    rw [h6]
    refine (entAt2_ix (m := 4) (n := 10240) _ _).symm.trans ?_
    have e8 := n8 (Shape.ofLane (d := ![16]) l)
    refine congr (congrArg (entAt2 (m := 4) (n := 10240) g2) ?_) e8
    show (BitVec.ofNat 32 r).toNat = r
    rw [BitVec.toNat_ofNat]; omega
  have hj : (j 0).val < 4 := (j 0).isLt
  have hn : b + 16 * (k.val + 1) = b + 16 * k.val + 16 := by omega
  rw [hn]
  refine (key _ 3 (by decide) _ _ (fun e3 => ?_) (load 3 (by decide) _)).trans ?_
  · refine (key _ 2 (by decide) _ _ (fun e => absurd (e3.symm.trans e) (by decide)) (load 2 (by decide) _)).trans ?_
    rw [if_neg (by omega)]
    refine (key _ 1 (by decide) _ _ (fun e => absurd (e3.symm.trans e) (by decide)) (load 1 (by decide) _)).trans ?_
    rw [if_neg (by omega)]
    refine (key _ 0 (by decide) _ _ (fun e => absurd (e3.symm.trans e) (by decide)) (load 0 (by decide) _)).trans ?_
    rw [if_neg (by omega)]
    exact hf j
  split
  · rfl
  refine (key _ 2 (by decide) _ _ (fun e3 => ?_) (load 2 (by decide) _)).trans ?_
  · refine (key _ 1 (by decide) _ _ (fun e => absurd (e3.symm.trans e) (by decide)) (load 1 (by decide) _)).trans ?_
    rw [if_neg (by omega)]
    refine (key _ 0 (by decide) _ _ (fun e => absurd (e3.symm.trans e) (by decide)) (load 0 (by decide) _)).trans ?_
    rw [if_neg (by omega)]
    exact hf j
  split
  · rfl
  refine (key _ 1 (by decide) _ _ (fun e3 => ?_) (load 1 (by decide) _)).trans ?_
  · refine (key _ 0 (by decide) _ _ (fun e => absurd (e3.symm.trans e) (by decide)) (load 0 (by decide) _)).trans ?_
    rw [if_neg (by omega)]
    exact hf j
  split
  · rfl
  refine (key _ 0 (by decide) _ _ (fun _ => hf j) (load 0 (by decide) _)).trans ?_
  rw [if_pos (by omega)]

/-- One trip over the second pair of chunk buffers is one over the first with the buffers exchanged. -/
theorem step3' (g2 : S4x10240.Idx → F .f32) (g3 g4 : S320000.Idx → BitVec 32) (hr3 : ∀ j, (g3 j).toNat < 10240) (hr4 : ∀ j, (g4 j).toNat < 10240) (b : ℕ)
    (k : Fin k3_t4_loop.trips) :
    acc3 (U := U) d i arg6 arg7 arg10 arg11 g2 g3 g4 b k.val ⟨⟩
      ⊢ wp frame (wpE (defs₀ (F := F)) 𝒱₀ (thr3 d i) none) Set.univ
          (k3_t4_body i arg2 harg2 arg3 harg3 arg4 harg4 arg5 harg5 arg6 harg6 arg7 harg7 arg8 harg8 arg9 harg9 arg10 harg10 arg11 harg11 arg12 arg13 arg14 arg15 arg16 v18_r0
            (broadcast S16 0#32) (broadcast S16 1#32) (broadcast S16 2#32) (broadcast S16 3#32) k ⟨⟩)
          fun c => acc3 d i arg6 arg7 arg10 arg11 g2 g3 g4 b (k.val + 1) c :=
  step3 d i arg2 harg2 arg3 harg3 arg4 harg4 arg5 harg5 arg6 harg6 arg7 harg7 arg10 harg10 arg11 harg11 arg8 harg8 arg9 harg9 arg12 arg13 arg14 arg15 arg16 v18_r0
    g2 g3 g4 hr3 hr4 b k

/-- One trip of the zeroing loop: the next sixteen columns of the four rows. -/
theorem zstep3 (k : Fin k3_t1_loop.trips) :
    zero3 (U := U) d i arg7 k.val ⟨⟩
      ⊢ wp frame (wpE (defs₀ (F := F)) 𝒱₀ (thr3 d i) none) Set.univ
          (k3_t1_body i arg2 harg2 arg3 harg3 arg4 harg4 arg5 harg5 arg6 harg6 arg7 harg7 arg8 harg8 arg9 harg9 arg10 harg10 arg11 harg11 arg12 arg13 arg14 arg15 arg16 v18_r0 k ⟨⟩)
          fun c => zero3 d i arg7 (k.val + 1) c := by
  unfold zero3 k3_t1_body
  iintro ⟨%f, %hf, H7⟩
  sl_exec
  sl_step
  iexists _; isplitr
  swap; · iexact H7
  ipureintro
  intro j hj
  by_cases hk : (j 1).val < 16 * k.val
  · rw [← hf j hk]
    refine (View.read_writes_cons_unit_of_not_mem arg7.view f _ _ _ j (k3_off5_eq k) 1 (.inl hk)).trans ?_
    refine (View.read_writes_cons_unit_of_not_mem arg7.view f _ _ _ j (k3_off4_eq k) 1 (.inl hk)).trans ?_
    refine (View.read_writes_cons_unit_of_not_mem arg7.view f _ _ _ j (k3_off3_eq k) 1 (.inl hk)).trans ?_
    exact (View.read_writes_cons_unit_of_not_mem arg7.view f _ _ _ j (k3_off2_eq k) 1 (.inl hk)).trans rfl
  have hj4 : (j 0).val < 4 := (j 0).isLt
  have hx : (j 1).val - 16 * k.val < 16 := by omega
  have hx' : (j 1).val = 16 * k.val + ((j 1).val - 16 * k.val) := by omega
  by_cases h3 : (j 0).val = 3
  · exact read_store2_of_mem arg7.view f _ _ _ _ j ⟨_, hx⟩ (by rw [k3_off5_eq]; exact h3) (by rw [k3_off5_eq]; exact hx')
  refine (View.read_writes_cons_unit_of_not_mem arg7.view f _ _ _ j (k3_off5_eq k) 0 (.inl (show (j 0).val < 3 by omega))).trans ?_
  by_cases h2 : (j 0).val = 2
  · exact read_store2_of_mem arg7.view f _ _ _ _ j ⟨_, hx⟩ (by rw [k3_off4_eq]; exact h2) (by rw [k3_off4_eq]; exact hx')
  refine (View.read_writes_cons_unit_of_not_mem arg7.view f _ _ _ j (k3_off4_eq k) 0 (.inl (show (j 0).val < 2 by omega))).trans ?_
  by_cases h1 : (j 0).val = 1
  · exact read_store2_of_mem arg7.view f _ _ _ _ j ⟨_, hx⟩ (by rw [k3_off3_eq]; exact h1) (by rw [k3_off3_eq]; exact hx')
  refine (View.read_writes_cons_unit_of_not_mem arg7.view f _ _ _ j (k3_off3_eq k) 0 (.inl (show (j 0).val < 1 by omega))).trans ?_
  exact read_store2_of_mem arg7.view f _ _ _ _ j ⟨_, hx⟩ (by rw [k3_off2_eq]; show (j 0).val = 0; omega) (by rw [k3_off2_eq]; exact hx')

end Tile3

end Cert.Kernel.Own

end
-- ==== Proof.Tile3.lean ====
/- The feature segment-sum kernel on one tile: the transfers of its edge chunks, two pairs of buffers in turn, and the result. -/
module

public import proofs.«01_k».proof.Proof.Sc3

@[expose] public section

noncomputable section

namespace Cert.Kernel.Own

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable {U : Type} [URA U]

local notation "𝕄" => MT nD τ sig (HIx 4) (Elt F) ℕ U ℕ

section Tile3

variable (d : Dev nD) (i : grid3.Coords)
variable (arg2 : Memref sig .scVector .hbm S128x10240 .f32) (harg2 : arg2.IsWhole) (arg3 : Memref sig .scVector .hbm S320000 .i32) (harg3 : arg3.IsWhole)
variable (arg4 : Memref sig .scVector .hbm S320000 .i32) (harg4 : arg4.IsWhole) (arg5 : Memref sig .scVector .hbm S128x10240 .f32) (harg5 : arg5.IsWhole)
variable (arg6 : Memref sig .scVector .vmem S4x10240 .f32) (harg6 : arg6.IsWhole) (arg7 : Memref sig .scVector .vmem S4x10240 .f32) (harg7 : arg7.IsWhole)
variable (arg8 : Memref sig .scVector .vmem S8000 .i32) (harg8 : arg8.IsWhole) (arg9 : Memref sig .scVector .vmem S8000 .i32) (harg9 : arg9.IsWhole)
variable (arg10 : Memref sig .scVector .vmem S8000 .i32) (harg10 : arg10.IsWhole) (arg11 : Memref sig .scVector .vmem S8000 .i32) (harg11 : arg11.IsWhole)
variable (arg12 arg13 arg14 arg15 arg16 v18_r0 : DmaSems sig S_)

/-- The first pair of chunk buffers before trip `k` of the outer loop: chunk `2 k` on its way into them, or, after the last trip, at rest. -/
def pairA (q3 q4 : PosShare TreeShare) (f3 : Buf (Elt F) (arg3.view.loc (thr3 d i))) (f4 : Buf (Elt F) (arg4.view.loc (thr3 d i))) [CountersIn U] (k : ℕ) : sProp 𝕄 :=
  if k < 20 then
    iprop(Transfers.Flight (countersEmb (U := U)) (thr3 d i) (.dma arg13.sem) default 256000 (fetched d i arg8 arg3 q3 f3 (16000 * k))
      ∗ Transfers.Flight (countersEmb (U := U)) (thr3 d i) (.dma arg14.sem) default 256000 (fetched d i arg9 arg4 q4 f4 (16000 * k)))
  else
    iprop((∃ f, arg8.view.loc (thr3 d i) ↦{fullShare} f) ∗ (∃ f, arg9.view.loc (thr3 d i) ↦{fullShare} f)
      ∗ (arg3.view.loc (thr3 d i) ↦{q3} f3) ∗ (arg4.view.loc (thr3 d i) ↦{q4} f4)
      ∗ semVal (thr3 d i, SemLoc.dma arg13.sem) 0 ∗ semVal (thr3 d i, SemLoc.dma arg14.sem) 0)

/-- The outer loop's invariant: two chunks a trip. -/
def outer3 (q3 q4 : PosShare TreeShare) (f3 : Buf (Elt F) (arg3.view.loc (thr3 d i))) (f4 : Buf (Elt F) (arg4.view.loc (thr3 d i)))
    (g2 : S4x10240.Idx → F .f32) (O : CellTallies nD τ sig (HIx 4)) (W : Waits sig (HIx 4)) [CountersIn U] (k : ℕ) (_ : PUnit) : sProp 𝕄 :=
  iprop(pairA d i arg3 arg4 arg8 arg9 arg13 arg14 q3.left q4.left f3 f4 k
    ∗ (arg3.view.loc (thr3 d i) ↦{q3.right} f3) ∗ (arg4.view.loc (thr3 d i) ↦{q4.right} f4)
    ∗ (∃ f, arg10.view.loc (thr3 d i) ↦{fullShare} f) ∗ (∃ f, arg11.view.loc (thr3 d i) ↦{fullShare} f)
    ∗ semVal (thr3 d i, SemLoc.dma arg15.sem) 0 ∗ semVal (thr3 d i, SemLoc.dma arg16.sem) 0
    ∗ tabAt d i arg6 g2 ∗ accAt d i arg7 g2 (arg3.view.read (Elt F) f3) (arg4.view.read (Elt F) f4) (16000 * k)
    ∗ ∃ W', ⌜∀ p ∈ W', p ∈ W ∨ p.2 = none⌝ ∗ owes (thr3 d i) O W')

theorem chunkAt_open (dst : Memref sig .scVector .vmem S8000 .i32) (g : S320000.Idx → BitVec 32) (off : ℕ) :
    chunkAt (F := F) (U := U) d i dst g off ⊢ iprop(∃ f : Buf (Elt F) (dst.view.loc (thr3 d i)), dst.view.loc (thr3 d i) ↦{fullShare} f) := by
  unfold chunkAt
  iintro ⟨%f, -, H⟩
  iexists f
  iexact H

theorem cond3_true : ∀ k : Fin k3_t2_loop.trips, k.val < 19 → k3_cond1 k = 1#1 := by decide +kernel
theorem cond3_false : ∀ k : Fin k3_t2_loop.trips, ¬ k.val < 19 → ¬ k3_cond1 k = 1#1 := by decide +kernel

variable [CountersIn U]

set_option maxHeartbeats 8000000 in
theorem ostep3 (q3 q4 : PosShare TreeShare) (f3 : Buf (Elt F) (arg3.view.loc (thr3 d i))) (f4 : Buf (Elt F) (arg4.view.loc (thr3 d i)))
    (g2 : S4x10240.Idx → F .f32) (O : CellTallies nD τ sig (HIx 4)) (W : Waits sig (HIx 4))
    (hr3 : ∀ j, (arg3.view.read (Elt F) f3 j).toNat < 10240) (hr4 : ∀ j, (arg4.view.read (Elt F) f4 j).toNat < 10240)
    (k : Fin k3_t2_loop.trips) :
    iprop(Transfers.MayWaits (thr3 d i) (none : HIx 4) O ∗ outer3 (U := U) d i arg3 arg4 arg6 arg7 arg8 arg9 arg10 arg11 arg13 arg14 arg15 arg16 q3 q4 f3 f4 g2 O W k.val ⟨⟩)
      ⊢ wp frame (wpE (defs₀ (F := F)) 𝒱₀ (thr3 d i) none) Set.univ
          (k3_t2_body i arg2 harg2 arg3 harg3 arg4 harg4 arg5 harg5 arg6 harg6 arg7 harg7 arg8 harg8 arg9 harg9 arg10 harg10 arg11 harg11 arg12 arg13 arg14 arg15 arg16 v18_r0
            (broadcast S16 0#32) (broadcast S16 1#32) (broadcast S16 2#32) (broadcast S16 3#32) k ⟨⟩)
          fun c => outer3 d i arg3 arg4 arg6 arg7 arg8 arg9 arg10 arg11 arg13 arg14 arg15 arg16 q3 q4 f3 f4 g2 O W (k.val + 1) c := by
  have hk : k.val < 20 := k.isLt
  unfold outer3 pairA k3_t2_body
  rw [if_pos hk]
  iintro ⟨#Hmw, ⟨Hs13, Hs14⟩, H3, H4, ⟨%f10, H10⟩, ⟨%f11, H11⟩, Hs15, Hs16, H6, H7, %W', %hW', HO⟩
  sl_exec
  ihave Hs15 := (flight_fetched d i arg10 arg3 q3.right f3 f10 (k3_off6 k) (k3_off6_inb k) (fun _ => rfl) (16000 * k.val + 8000) (by rw [k3_off6_eq]; rfl) _ _ _ _ rfl) $$ [Hs15 H3]
  · isplitl [Hs15]; · iexact Hs15
    iexact H3
  ihave Hs16 := (flight_fetched d i arg11 arg4 q4.right f4 f11 (k3_off6 k) (k3_off6_inb k) (fun _ => rfl) (16000 * k.val + 8000) (by rw [k3_off6_eq]; rfl) _ _ _ _ rfl) $$ [Hs16 H4]
  · isplitl [Hs16]; · iexact Hs16
    iexact H4
  unfold fetched
  sl_exec
  sl_for (acc3 (U := U) d i arg6 arg7 arg8 arg9 g2 (arg3.view.read (Elt F) f3) (arg4.view.read (Elt F) f4) (16000 * k.val)) $$ [H6 H7 Hs13_dst Hs14_dst]
  case region =>
    intro k' c
    exact step3 d i arg2 harg2 arg3 harg3 arg4 harg4 arg5 harg5 arg6 harg6 arg7 harg7 arg8 harg8 arg9 harg9 arg10 harg10 arg11 harg11 arg12 arg13 arg14 arg15 arg16 v18_r0
      g2 _ _ hr3 hr4 _ k'
  · unfold acc3
    isplitl [H6]; · iexact H6
    isplitl [Hs13_dst]; · iexact Hs13_dst
    isplitl [Hs14_dst]; · iexact Hs14_dst
    iexact H7
  iintro %_ HI
  unfold acc3
  icases HI with ⟨H6, H8, H9, H7⟩
  ihave H8 := (chunkAt_open (F := F) d i arg8 _ _) $$ H8
  ihave H9 := (chunkAt_open (F := F) d i arg9 _ _) $$ H9
  icases H8 with ⟨%f8, H8⟩
  icases H9 with ⟨%f9, H9⟩
  by_cases hc : k.val < 19
  · have hc' := cond3_true k hc
    rw [if_pos (show k.val + 1 < 20 by omega)]
    sl_exec
    ihave Hs13 := (flight_fetched d i arg8 arg3 q3.left f3 f8 (k3_off9 k) (k3_off9_inb k hc') (fun _ => rfl) (16000 * (k.val + 1)) (by rw [k3_off9_eq]; show 16000 * k.val + 16000 = _; omega) _ _ _ _ rfl) $$ [Hs13 Hs13_src]
    · isplitl [Hs13]; · iexact Hs13
      iexact Hs13_src
    ihave Hs14 := (flight_fetched d i arg9 arg4 q4.left f4 f9 (k3_off9 k) (k3_off9_inb k hc') (fun _ => rfl) (16000 * (k.val + 1)) (by rw [k3_off9_eq]; show 16000 * k.val + 16000 = _; omega) _ _ _ _ rfl) $$ [Hs14 Hs14_src]
    · isplitl [Hs14]; · iexact Hs14
      iexact Hs14_src
    sl_for (acc3 (U := U) d i arg6 arg7 arg10 arg11 g2 (arg3.view.read (Elt F) f3) (arg4.view.read (Elt F) f4) (16000 * k.val + 8000)) $$ [H6 H7 Hs15_dst Hs16_dst]
    case region =>
      intro k' c
      exact step3' d i arg2 harg2 arg3 harg3 arg4 harg4 arg5 harg5 arg6 harg6 arg7 harg7 arg8 harg8 arg9 harg9 arg10 harg10 arg11 harg11 arg12 arg13 arg14 arg15 arg16 v18_r0
        g2 _ _ hr3 hr4 _ k'
    · unfold acc3
      isplitl [H6]; · iexact H6
      isplitl [Hs15_dst]; · iexact Hs15_dst
      isplitl [Hs16_dst]; · iexact Hs16_dst
      iexact H7
    iintro %_ HI
    unfold acc3
    icases HI with ⟨H6, H10, H11, H7⟩
    ihave H10 := (chunkAt_open (F := F) d i arg10 _ _) $$ H10
    ihave H11 := (chunkAt_open (F := F) d i arg11 _ _) $$ H11
    sl_exec
    sl_step
    isplitl [Hs13 Hs14]
    · isplitl [Hs13]; · iexact Hs13
      iexact Hs14
    isplitl [Hs15_src]; · iexact Hs15_src
    isplitl [Hs16_src]; · iexact Hs16_src
    isplitl [H10]; · iexact H10
    isplitl [H11]; · iexact H11
    isplitl [Hs15]; · iexact Hs15
    isplitl [Hs16]; · iexact Hs16
    isplitl [H6]; · iexact H6
    isplitl [H7]; · iexact H7
    iexists _; isplitr
    swap; · iexact HO
    ipureintro
    intro p hp
    simp only [Finset.mem_insert] at hp
    rcases hp with rfl | rfl | rfl | rfl | hp
    · exact .inr rfl
    · exact .inr rfl
    · exact .inr rfl
    · exact .inr rfl
    · exact hW' p hp
  · have hc' := cond3_false k hc
    rw [if_neg (show ¬ k.val + 1 < 20 by omega)]
    sl_exec
    sl_for (acc3 (U := U) d i arg6 arg7 arg10 arg11 g2 (arg3.view.read (Elt F) f3) (arg4.view.read (Elt F) f4) (16000 * k.val + 8000)) $$ [H6 H7 Hs15_dst Hs16_dst]
    case region =>
      intro k' c
      exact step3' d i arg2 harg2 arg3 harg3 arg4 harg4 arg5 harg5 arg6 harg6 arg7 harg7 arg8 harg8 arg9 harg9 arg10 harg10 arg11 harg11 arg12 arg13 arg14 arg15 arg16 v18_r0
        g2 _ _ hr3 hr4 _ k'
    · unfold acc3
      isplitl [H6]; · iexact H6
      isplitl [Hs15_dst]; · iexact Hs15_dst
      isplitl [Hs16_dst]; · iexact Hs16_dst
      iexact H7
    iintro %_ HI
    unfold acc3
    icases HI with ⟨H6, H10, H11, H7⟩
    ihave H10 := (chunkAt_open (F := F) d i arg10 _ _) $$ H10
    ihave H11 := (chunkAt_open (F := F) d i arg11 _ _) $$ H11
    sl_exec
    sl_step
    isplitl [H8 H9 Hs13_src Hs14_src Hs13 Hs14]
    · isplitl [H8]; · iexists _; iexact H8
      isplitl [H9]; · iexists _; iexact H9
      isplitl [Hs13_src]; · iexact Hs13_src
      isplitl [Hs14_src]; · iexact Hs14_src
      isplitl [Hs13]; · iexact Hs13
      iexact Hs14
    isplitl [Hs15_src]; · iexact Hs15_src
    isplitl [Hs16_src]; · iexact Hs16_src
    isplitl [H10]; · iexact H10
    isplitl [H11]; · iexact H11
    isplitl [Hs15]; · iexact Hs15
    isplitl [Hs16]; · iexact Hs16
    isplitl [H6]; · iexact H6
    isplitl [H7]; · iexact H7
    iexists _; isplitr
    swap; · iexact HO
    ipureintro
    intro p hp
    simp only [Finset.mem_insert] at hp
    rcases hp with rfl | rfl | rfl | rfl | hp
    · exact .inr rfl
    · exact .inr rfl
    · exact .inr rfl
    · exact .inr rfl
    · exact hW' p hp

/-- The write-out: the accumulator copied to the tile's four rows of the result. -/
theorem out3 (f5 : Buf (Elt F) (arg5.view.loc (thr3 d i))) (f7 : Buf (Elt F) (arg7.view.loc (thr3 d i)))
    (O : CellTallies nD τ sig (HIx 4)) (W : Waits sig (HIx 4)) :
    iprop(Transfers.MayWaits (thr3 d i) (none : HIx 4) O
        ∗ ((rowsOut3 i arg5).view.loc (thr3 d i) ↦[(rowsOut3 i arg5).view.set]{fullShare} f5)
        ∗ (arg7.view.loc (thr3 d i) ↦{fullShare} f7)
        ∗ semVal (thr3 d i, SemLoc.dma v18_r0.sem) 0 ∗ owes (thr3 d i) O W)
      ⊢ wp frame (wpE (defs₀ (F := F)) 𝒱₀ (thr3 d i) none) Set.univ ((do
          let v20_r0 : Memref sig .scVector .hbm S4x10240 .f32 := arg5.slice (Rect.unit (s := S128x10240) (k3_off12 i) S4x10240.size (k3_off12_inb i)) (fun _ => rfl)
          Prog.lift (.enqueueDma arg7 (.here v20_r0) (.dma v18_r0.sem) harg7.wordExact (View.wordExact_bits rfl) ⟨Or.inl rfl, trivial⟩)
          let v22_r0 : Memref sig .scVector .hbm S4x10240 .f32 := arg5.slice (Rect.unit (s := S128x10240) (k3_off12 i) S4x10240.size (k3_off12_inb i)) (fun _ => rfl)
          Prog.lift (.waitDma2 v18_r0.sem arg7 v22_r0 harg7.wordExact (View.wordExact_bits rfl))
          pure ⟨⟩) : Prog (TpuEff nD τ sig (Elt F) Λ₀ (.scVector ((i 0).castLE hcore3) ((i 1).castLE hsub3))) PUnit)
          fun _ => (iprop((∃ f, ⌜∀ j : S4x10240.Idx, (rowsOut3 i arg5).view.read (Elt F) f j = arg7.view.read (Elt F) f7 j⌝
                ∗ ((rowsOut3 i arg5).view.loc (thr3 d i) ↦[(rowsOut3 i arg5).view.set]{fullShare} f))
            ∗ (arg7.view.loc (thr3 d i) ↦{fullShare} f7)
            ∗ semVal (thr3 d i, SemLoc.dma v18_r0.sem) 0
            ∗ ∃ W', ⌜∀ p ∈ W', p ∈ W ∨ p.2 = none⌝ ∗ owes (thr3 d i) O W') : sProp 𝕄) := by
  have hc : 0 < (rowsOut3 i arg5).view.amount (SemLoc.dma v18_r0.sem) := View.amount_pos _ _ (by decide)
  have hset : arg7.view.set = Finset.univ := harg7.set_eq_univ
  iintro ⟨#Hmw, H5, H7, Hs0, HO⟩
  rw [← hset]
  iapply (Transfers.wp_dmaLocal countersEmb 𝒱₀ (thr3 d i) none (none : HIx 4) _ rfl hc (Finset.Subset.refl _)) $$ [H5 H7 Hs0]
  · isplitl [H7]; · iexact H7
    isplitl [H5]; · iexact H5
    iexact Hs0
  iintro Hf
  iapply (Transfers.wp_waitLocalO countersEmb 𝒱₀ (thr3 d i) none (none : HIx 4) rfl) $$ [Hf HO]
  · isplitl [Hf]; · iexact Hf
    isplitl [HO]; · iexact HO
    iapply (Transfers.MayWaits.elim (SemLoc.dma v18_r0.sem)) $$ Hmw
  iintro ⟨⟨H5, H7⟩, Hs0, HO⟩
  rw [show ((Prog.ret PUnit.unit : Prog (TpuEff nD τ sig (Elt F) Λ₀ (.scVector ((i 0).castLE hcore3) ((i 1).castLE hsub3))) PUnit).bind fun __r => pure PUnit.unit) = .ret PUnit.unit from rfl]
  sl_step
  isplitl [H5]
  · iexists _; isplitr
    swap; · iexact H5
    ipureintro
    intro j
    rw [View.read_write_univ]
  isplitl [H7]; · iexact H7
  isplitl [Hs0]; · iexact Hs0
  iexists _; isplitr
  swap; · iexact HO
  ipureintro
  intro p hp
  simp only [Finset.mem_insert] at hp
  rcases hp with rfl | hp
  · exact .inr rfl
  · exact .inl hp

set_option maxHeartbeats 8000000 in
/-- One tile's run of the feature segment-sum kernel: it leaves, in its four rows of the result, the sums over all edges of its four rows of the table. -/
theorem tile3 (q2 q3 q4 : PosShare TreeShare)
    (f2 : Buf (Elt F) (arg2.view.loc (thr3 d i))) (f3 : Buf (Elt F) (arg3.view.loc (thr3 d i))) (f4 : Buf (Elt F) (arg4.view.loc (thr3 d i)))
    (f5 : Buf (Elt F) (arg5.view.loc (thr3 d i))) (f6 : Buf (Elt F) (arg6.view.loc (thr3 d i))) (f7 : Buf (Elt F) (arg7.view.loc (thr3 d i)))
    (f8 : Buf (Elt F) (arg8.view.loc (thr3 d i))) (f9 : Buf (Elt F) (arg9.view.loc (thr3 d i)))
    (f10 : Buf (Elt F) (arg10.view.loc (thr3 d i))) (f11 : Buf (Elt F) (arg11.view.loc (thr3 d i)))
    (hr3 : ∀ j, (arg3.view.read (Elt F) f3 j).toNat < 10240) (hr4 : ∀ j, (arg4.view.read (Elt F) f4 j).toNat < 10240)
    (O : CellTallies nD τ sig (HIx 4)) (W : Waits sig (HIx 4)) :
    iprop(Transfers.MayWaits (thr3 d i) (none : HIx 4) O
        ∗ (arg2.view.loc (thr3 d i) ↦{q2} f2) ∗ (arg3.view.loc (thr3 d i) ↦{q3} f3)
        ∗ (arg4.view.loc (thr3 d i) ↦{q4} f4)
        ∗ ((rowsOut3 i arg5).view.loc (thr3 d i) ↦[(rowsOut3 i arg5).view.set]{fullShare} f5)
        ∗ (arg6.view.loc (thr3 d i) ↦{fullShare} f6) ∗ (arg7.view.loc (thr3 d i) ↦{fullShare} f7)
        ∗ (arg8.view.loc (thr3 d i) ↦{fullShare} f8) ∗ (arg9.view.loc (thr3 d i) ↦{fullShare} f9)
        ∗ (arg10.view.loc (thr3 d i) ↦{fullShare} f10) ∗ (arg11.view.loc (thr3 d i) ↦{fullShare} f11)
        ∗ semVal (thr3 d i, SemLoc.dma arg12.sem) 0 ∗ semVal (thr3 d i, SemLoc.dma arg13.sem) 0
        ∗ semVal (thr3 d i, SemLoc.dma arg14.sem) 0 ∗ semVal (thr3 d i, SemLoc.dma arg15.sem) 0
        ∗ semVal (thr3 d i, SemLoc.dma arg16.sem) 0 ∗ semVal (thr3 d i, SemLoc.dma v18_r0.sem) 0
        ∗ owes (thr3 d i) O W)
      ⊢ wp frame (wpE (defs₀ (F := F)) 𝒱₀ (thr3 d i) none) Set.univ
          (cc3__feat_segsum_body (F := F) i arg2 harg2 arg3 harg3 arg4 harg4 arg5 harg5 arg6 harg6 arg7 harg7 arg8 harg8 arg9 harg9 arg10 harg10 arg11 harg11 arg12 arg13 arg14 arg15 arg16 v18_r0)
          fun _ => (iprop((arg2.view.loc (thr3 d i) ↦{q2} f2) ∗ (arg3.view.loc (thr3 d i) ↦{q3} f3) ∗ (arg4.view.loc (thr3 d i) ↦{q4} f4)
            ∗ (∃ f, ⌜∀ j : S4x10240.Idx, (rowsOut3 i arg5).view.read (Elt F) f j
                  = run3 ((rowsIn3 i arg2).view.read (Elt F) f2) (arg3.view.read (Elt F) f3) (arg4.view.read (Elt F) f4) (j 0).val (j 1).val 320000⌝
                ∗ ((rowsOut3 i arg5).view.loc (thr3 d i) ↦[(rowsOut3 i arg5).view.set]{fullShare} f))
            ∗ (∃ f, arg6.view.loc (thr3 d i) ↦{fullShare} f) ∗ (∃ f, arg7.view.loc (thr3 d i) ↦{fullShare} f)
            ∗ (∃ f, arg8.view.loc (thr3 d i) ↦{fullShare} f) ∗ (∃ f, arg9.view.loc (thr3 d i) ↦{fullShare} f)
            ∗ (∃ f, arg10.view.loc (thr3 d i) ↦{fullShare} f) ∗ (∃ f, arg11.view.loc (thr3 d i) ↦{fullShare} f)
            ∗ semVal (thr3 d i, SemLoc.dma arg12.sem) 0 ∗ semVal (thr3 d i, SemLoc.dma arg13.sem) 0
            ∗ semVal (thr3 d i, SemLoc.dma arg14.sem) 0 ∗ semVal (thr3 d i, SemLoc.dma arg15.sem) 0
            ∗ semVal (thr3 d i, SemLoc.dma arg16.sem) 0 ∗ semVal (thr3 d i, SemLoc.dma v18_r0.sem) 0
            ∗ ∃ W', ⌜∀ p ∈ W', p ∈ W ∨ p.2 = none⌝ ∗ owes (thr3 d i) O W') : sProp 𝕄) := by
  rw [cc3__feat_segsum_body_eq_skeleton]; unfold cc3__feat_segsum_body_skel
  rw [k3_part1_eq_skeleton]; unfold k3_part1_skel
  iintro ⟨#Hmw, H2, H3, H4, H5, H6, H7, H8, H9, H10, H11, Hs12, Hs13, Hs14, Hs15, Hs16, Hs0, HO⟩
  ihave H3 := (pointsTo_share (PosShare.mem_left_op_right q3)).1 $$ H3
  icases H3 with ⟨H3l, H3r⟩
  ihave H4 := (pointsTo_share (PosShare.mem_left_op_right q4)).1 $$ H4
  icases H4 with ⟨H4l, H4r⟩
  sl_exec
  ihave Hs13 := (flight_fetched d i arg8 arg3 q3.left f3 f8 ![0] inb_S320000_S8000_0 (fun _ => rfl) 0 rfl _ _ _ _ rfl) $$ [Hs13 H3l]
  · isplitl [Hs13]; · iexact Hs13
    iexact H3l
  ihave Hs14 := (flight_fetched d i arg9 arg4 q4.left f4 f9 ![0] inb_S320000_S8000_0 (fun _ => rfl) 0 rfl _ _ _ _ rfl) $$ [Hs14 H4l]
  · isplitl [Hs14]; · iexact Hs14
    iexact H4l
  rw [bind_assoc]
  sl_for (zero3 (U := U) d i arg7) $$ [H7]
  case region =>
    intro k c
    exact zstep3 d i arg2 harg2 arg3 harg3 arg4 harg4 arg5 harg5 arg6 harg6 arg7 harg7 arg8 harg8 arg9 harg9 arg10 harg10 arg11 harg11 arg12 arg13 arg14 arg15 arg16 v18_r0 k
  · unfold zero3
    iexists _; isplitr
    swap; · iexact H7
    ipureintro; intro j hj; omega
  iintro %_ HI
  unfold zero3
  icases HI with ⟨%f7z, %hf7z, H7⟩
  have hz : ∀ j : S4x10240.Idx, arg7.view.read (Elt F) f7z j = Scalar.ofBits .f32 0x00000000#32 := fun j => hf7z j (show (j 1).val < 10240 from (j 1).isLt)
  sl_exec
  rw [bind_assoc]
  sl_for (fun k c => iprop(Transfers.MayWaits (thr3 d i) (none : HIx 4) O ∗ outer3 (U := U) d i arg3 arg4 arg6 arg7 arg8 arg9 arg10 arg11 arg13 arg14 arg15 arg16 q3 q4 f3 f4 ((rowsIn3 i arg2).view.read (Elt F) f2) O W k c)) $$ [Hs13 Hs14 H3r H4r H10 H11 Hs15 Hs16 H6 H7 HO]
  case region =>
    intro k c
    iintro ⟨#Hmw, HI⟩
    ihave Hw := (ostep3 d i arg2 harg2 arg3 harg3 arg4 harg4 arg5 harg5 arg6 harg6 arg7 harg7 arg8 harg8 arg9 harg9 arg10 harg10 arg11 harg11 arg12 arg13 arg14 arg15 arg16 v18_r0 q3 q4 f3 f4 _ O W hr3 hr4 k) $$ [HI]
    · isplitr [HI]; · iexact Hmw
      iexact HI
    iapply (wp_frame_l) $$ [Hw]
    isplitr [Hw]; · iexact Hmw
    iexact Hw
  · isplitr [Hs13 Hs14 H3r H4r H10 H11 Hs15 Hs16 H6 H7 HO]; · iexact Hmw
    unfold outer3 pairA
    rw [if_pos (by decide)]
    isplitl [Hs13 Hs14]
    · isplitl [Hs13]; · iexact Hs13
      iexact Hs14
    isplitl [H3r]; · iexact H3r
    isplitl [H4r]; · iexact H4r
    isplitl [H10]; · iexists _; iexact H10
    isplitl [H11]; · iexists _; iexact H11
    isplitl [Hs15]; · iexact Hs15
    isplitl [Hs16]; · iexact Hs16
    isplitl [H6]
    · unfold tabAt
      iexists _; isplitr
      swap; · iexact H6
      ipureintro
      exact View.read_write_univ _ _
    isplitl [H7]
    · unfold accAt
      iexists _; isplitr
      swap; · iexact H7
      ipureintro
      exact hz
    iexists _; isplitr
    swap; · iexact HO
    ipureintro
    intro p hp
    simp only [Finset.mem_insert] at hp
    rcases hp with rfl | hp
    · exact .inr rfl
    · exact .inl hp
  iintro %_ ⟨-, HI⟩
  unfold outer3 pairA
  rw [if_neg (by decide)]
  icases HI with ⟨⟨H8, H9, H3l, H4l, Hs13, Hs14⟩, H3r, H4r, H10, H11, Hs15, Hs16, H6, H7, %W', %hW', HO⟩
  ihave H3 := (pointsTo_share (PosShare.mem_left_op_right q3)).2 $$ [H3l H3r]
  · isplitl [H3l]; · iexact H3l
    iexact H3r
  ihave H4 := (pointsTo_share (PosShare.mem_left_op_right q4)).2 $$ [H4l H4r]
  · isplitl [H4l]; · iexact H4l
    iexact H4r
  unfold tabAt accAt
  icases H6 with ⟨%f6', -, H6⟩
  icases H7 with ⟨%f7', %hf7', H7⟩
  ihave Hw := (out3 d i arg5 arg7 harg7 v18_r0 f5 f7' O W') $$ [H5 H7 Hs0 HO]
  · isplitr [H5 H7 Hs0 HO]; · iexact Hmw
    isplitl [H5]; · iexact H5
    isplitl [H7]; · iexact H7
    isplitl [Hs0]; · iexact Hs0
    iexact HO
  iapply (wp_wand _ _ _) $$ Hw
  iintro %_ ⟨⟨%f5', %hf5', H5⟩, H7, Hs0, %W'', %hW'', HO⟩
  isplitl [H2]; · iexact H2
  isplitl [H3]; · iexact H3
  isplitl [H4]; · iexact H4
  isplitl [H5]
  · iexists _; isplitr
    swap; · iexact H5
    ipureintro
    intro j
    exact (hf5' j).trans ((hf7' j).trans (congrArg (run3 _ _ _ _ _) (show 16000 * Scf.trips k3_t2_loop.lb k3_t2_loop.ub k3_t2_loop.st = 320000 by decide)))
  isplitl [H6]; · iexists _; iexact H6
  isplitl [H7]; · iexists _; iexact H7
  isplitl [H8]; · iexact H8
  isplitl [H9]; · iexact H9
  isplitl [H10]; · iexact H10
  isplitl [H11]; · iexact H11
  isplitl [Hs12]; · iexact Hs12
  isplitl [Hs13]; · iexact Hs13
  isplitl [Hs14]; · iexact Hs14
  isplitl [Hs15]; · iexact Hs15
  isplitl [Hs16]; · iexact Hs16
  isplitl [Hs0]; · iexact Hs0
  iexists _; isplitr
  swap; · iexact HO
  ipureintro
  intro p hp
  rcases hW'' p hp with h | h
  · exact hW' p h
  · exact .inr h

end Tile3

end Cert.Kernel.Own

end
-- ==== Proof.Base.lean ====
/- The whole run's vocabulary: the launch's configuration, the four calls' results, and the pieces each tile takes and
   brings back. -/
module

public import proofs.«01_k».proof.Proof.Sc0
public import proofs.«01_k».proof.Proof.Tile3
public import Idealize.ShloMosaic.Lib.ShareLeaves
public import Idealize.ShloMosaic.Lib.StableHlo.Run
public import Idealize.ShloMosaic.Lib.SparseCore.Quiescent

@[expose] public section

noncomputable section

namespace Cert.Kernel.Own

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL

/-- The pipelines' rounds library, in the middle. -/
def EP : Emb UP (MT nD τ sig (HIx 4) (Elt F) ℕ UU ℕ) :=
  ((Emb.inl : Emb UP (UP × Counters)).trans (Emb.inr : Emb (UP × Counters) UU)).trans
    (uEmb (nD := nD) (τ := τ) (sig := sig) (Ix := HIx 4) (Val := Elt F) (Name := ℕ) (U := UU) (Lvl := ℕ)).toEmb

instance : (EP (F := F)).LandsIn (upEmb : UEmb _ 𝕄) := by unfold EP; infer_instance

/-! ## What the calls compute -/

/-- A scalar call's result: row `w`, column `t` sums the table over tile `w`'s own edges into node `t`. -/
def res0 (tab : S10240.Idx → F .f32) (src dst : S320000.Idx → BitVec 32) : S32x10240.Idx → F .f32 :=
  fun x => run0 tab src dst (x 0).val (x 1).val 10000

/-- A feature call's result: row `r`, column `t` sums row `r` of the table over all edges into node `t`. -/
def res3 (tab : S128x10240.Idx → F .f32) (src dst : S320000.Idx → BitVec 32) : S128x10240.Idx → F .f32 :=
  fun x => segAcc (Scalar.ofBits .f32 0x00000000#32) (fun e => nodeAt dst e = (x 1).val) (fun e => entAt2 tab (x 0).val (nodeAt src e)) 320000

/-- Row `w` of a scalar call's result; -/
def rows0 (w : Fin 32) : Finset S32x10240.Idx := Finset.univ.filter fun x => (x 0).val = w.val

/-- the four rows from `4 * w` of a feature call's. -/
def rows3 (w : Fin 32) : Finset S128x10240.Idx := Finset.univ.filter fun x => (x 0).val / 4 = w.val

/-- A tile's number. -/
def wid (c : Fin 2) (i : Fin 16) : Fin 32 := ⟨2 * i.val + c.val, by omega⟩

def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

/-! ## The pieces -/

/-- What one tile takes: a share of the table and of the two edge lists, its rows of the result. -/
def pay (ℓt ℓs ℓe ℓo : Loc nD τ sig) (ft : Buf (Elt F) ℓt) (fs : Buf (Elt F) ℓs) (fe : Buf (Elt F) ℓe) (I : Fin 32 → Finset (Idx ℓo))
    (fo : Buf (Elt F) ℓo) (w : Fin 32) : sProp 𝕄 :=
  iprop((ℓt ↦{leaf 5 fullShare w} ft) ∗ (ℓs ↦{leaf 5 fullShare w} fs) ∗ (ℓe ↦{leaf 5 fullShare w} fe) ∗ (ℓo ↦[I w]{fullShare} fo))

instance pay_storable (ℓt ℓs ℓe ℓo : Loc nD τ sig) (ft : Buf (Elt F) ℓt) (fs : Buf (Elt F) ℓs) (fe : Buf (Elt F) ℓe) (I : Fin 32 → Finset (Idx ℓo))
    (fo : Buf (Elt F) ℓo) (w : Fin 32) : BI.Storable (upEmb : UEmb _ 𝕄) (pay ℓt ℓs ℓe ℓo ft fs fe I fo w) := by
  unfold pay; infer_instance

theorem bigSep_tiles (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod]; rfl

/-- Four whole buffers are the tiles' pieces. -/
theorem pay_split (ℓt ℓs ℓe ℓo : Loc nD τ sig) (ft : Buf (Elt F) ℓt) (fs : Buf (Elt F) ℓs) (fe : Buf (Elt F) ℓe) (I : Fin 32 → Finset (Idx ℓo))
    (hd : ∀ w ∈ (Finset.univ : Finset (Fin 32)), ∀ w' ∈ (Finset.univ : Finset (Fin 32)), w ≠ w' → Disjoint (I w) (I w'))
    (hc : (Finset.univ : Finset (Fin 32)).biUnion I = Finset.univ) (fo : Buf (Elt F) ℓo) :
    (bigSep Finset.univ fun c : Fin 2 => bigSep Finset.univ fun i : Fin 16 => pay ℓt ℓs ℓe ℓo ft fs fe I fo (wid c i))
      = (iprop((ℓt ↦{fullShare} ft) ∗ (ℓs ↦{fullShare} fs) ∗ (ℓe ↦{fullShare} fe) ∗ (ℓo ↦{fullShare} fo)) : sProp 𝕄) := by
  rw [bigSep_tiles (fun w => pay ℓt ℓs ℓe ℓo ft fs fe I fo w)]
  unfold pay
  rw [bigSep_sep', bigSep_sep', bigSep_sep', ← pointsTo_biUnion Finset.univ I hd, hc]
  congr 1
  · exact (pointsTo_leaves Finset.univ ft 5 fullShare).symm
  congr 1
  · exact (pointsTo_leaves Finset.univ fs 5 fullShare).symm
  congr 1
  exact (pointsTo_leaves Finset.univ fe 5 fullShare).symm

theorem rows0_disjoint : ∀ w ∈ (Finset.univ : Finset (Fin 32)), ∀ w' ∈ (Finset.univ : Finset (Fin 32)), w ≠ w' → Disjoint (rows0 w) (rows0 w') := by
  intro w _ w' _ hne
  refine Finset.disjoint_left.mpr fun x h h' => hne (Fin.ext ?_)
  exact ((Finset.mem_filter.mp h).2).symm.trans (Finset.mem_filter.mp h').2
theorem rows0_cover : (Finset.univ : Finset (Fin 32)).biUnion rows0 = Finset.univ :=
  Finset.eq_univ_iff_forall.mpr fun x => Finset.mem_biUnion.mpr ⟨⟨(x 0).val, (x 0).isLt⟩, Finset.mem_univ _, Finset.mem_filter.mpr ⟨Finset.mem_univ _, rfl⟩⟩
theorem rows3_disjoint : ∀ w ∈ (Finset.univ : Finset (Fin 32)), ∀ w' ∈ (Finset.univ : Finset (Fin 32)), w ≠ w' → Disjoint (rows3 w) (rows3 w') := by
  intro w _ w' _ hne
  refine Finset.disjoint_left.mpr fun x h h' => hne (Fin.ext ?_)
  exact ((Finset.mem_filter.mp h).2).symm.trans (Finset.mem_filter.mp h').2
theorem rows3_cover : (Finset.univ : Finset (Fin 32)).biUnion rows3 = Finset.univ :=
  Finset.eq_univ_iff_forall.mpr fun x => Finset.mem_biUnion.mpr ⟨⟨(x 0).val / 4, by have := (x 0).isLt; have h : S128x10240.size 0 = 128 := rfl; omega⟩,
    Finset.mem_univ _, Finset.mem_filter.mpr ⟨Finset.mem_univ _, rfl⟩⟩

/-! ## What the handshakes carry -/

abbrev ref (b : Ref sig .tc) : DevRef τ sig := Proc.devRef .tc b

/-- Call `q`'s piece for tile `w`, the result's rows at `fo`. -/
def pay0 (d : Dev nD) (W : Valuation τ sig (Elt F)) (fo : S32x10240.Idx → F .f32) (w : Fin 32) : sProp 𝕄 :=
  pay (d, ref main_v5) (d, ref main_v1) (d, ref main_v3) (d, ref main_v15) (W (ref main_v5)) (W (ref main_v1)) (W (ref main_v3)) rows0 fo w
def pay1 (d : Dev nD) (W : Valuation τ sig (Elt F)) (fo : S128x10240.Idx → F .f32) (w : Fin 32) : sProp 𝕄 :=
  pay (d, ref main_v17_0) (d, ref main_v1) (d, ref main_v3) (d, ref main_v18) (W (ref main_v17_0)) (W (ref main_v1)) (W (ref main_v3)) rows3 fo w
def pay2 (d : Dev nD) (W : Valuation τ sig (Elt F)) (fo : S128x10240.Idx → F .f32) (w : Fin 32) : sProp 𝕄 :=
  pay (d, ref main_v19_0) (d, ref main_v1) (d, ref main_v3) (d, ref main_v20) (W (ref main_v19_0)) (W (ref main_v1)) (W (ref main_v3)) rows3 fo w
def pay3 (d : Dev nD) (W : Valuation τ sig (Elt F)) (fo : S32x10240.Idx → F .f32) (w : Fin 32) : sProp 𝕄 :=
  pay (d, ref main_v23) (d, ref main_v1) (d, ref main_v3) (d, ref main_v24) (W (ref main_v23)) (W (ref main_v1)) (W (ref main_v3)) rows0 fo w

/-- What each call leaves in its result, from the buffers at its start. -/
def ret0 (W : Valuation τ sig (Elt F)) : S32x10240.Idx → F .f32 := res0 (W (ref main_v5)) (W (ref main_v1)) (W (ref main_v3))
def ret1 (W : Valuation τ sig (Elt F)) : S128x10240.Idx → F .f32 := res3 (W (ref main_v17_0)) (W (ref main_v1)) (W (ref main_v3))
def ret2 (W : Valuation τ sig (Elt F)) : S128x10240.Idx → F .f32 := res3 (W (ref main_v19_0)) (W (ref main_v1)) (W (ref main_v3))
def ret3 (W : Valuation τ sig (Elt F)) : S32x10240.Idx → F .f32 := res0 (W (ref main_v23)) (W (ref main_v1)) (W (ref main_v3))

variable (Vv : Fin 4 → Dev nD → Valuation τ sig (Elt F))

def goAt (q : Fin 4) (d : Dev nD) (w : Fin 32) : sProp 𝕄 :=
  match q with
  | 0 => pay0 d (Vv 0 d) (Vv 0 d (ref main_v15)) w
  | 1 => pay1 d (Vv 1 d) (Vv 1 d (ref main_v18)) w
  | 2 => pay2 d (Vv 2 d) (Vv 2 d (ref main_v20)) w
  | 3 => pay3 d (Vv 3 d) (Vv 3 d (ref main_v24)) w
def tdAt (q : Fin 4) (d : Dev nD) (w : Fin 32) : sProp 𝕄 :=
  match q with
  | 0 => pay0 d (Vv 0 d) (ret0 (Vv 0 d)) w
  | 1 => pay1 d (Vv 1 d) (ret1 (Vv 1 d)) w
  | 2 => pay2 d (Vv 2 d) (ret2 (Vv 2 d)) w
  | 3 => pay3 d (Vv 3 d) (ret3 (Vv 3 d)) w

instance goAt_storable (q : Fin 4) (d : Dev nD) (w : Fin 32) : BI.Storable (upEmb : UEmb _ 𝕄) (goAt Vv q d w) := by
  unfold goAt pay0 pay1 pay2 pay3; split <;> infer_instance
instance tdAt_storable (q : Fin 4) (d : Dev nD) (w : Fin 32) : BI.Storable (upEmb : UEmb _ 𝕄) (tdAt Vv q d w) := by
  unfold tdAt pay0 pay1 pay2 pay3; split <;> infer_instance

theorem nCore_eq (q : Fin 4) : (K (F := F)).nCore q = 2 := by fin_cases q <;> rfl
theorem nSub_eq (q : Fin 4) : (K (F := F)).nSub q = 16 := by fin_cases q <;> rfl

/-- Tile `(c, i)` of call `q`. -/
def widq (q : Fin 4) (c : Fin ((K (F := F)).nCore q)) (i : Fin ((K (F := F)).nSub q)) : Fin 32 :=
  wid (c.cast (nCore_eq q)) (i.cast (nSub_eq q))

/-- Each call hands every SparseCore its sixteen tiles' pieces and takes them back with the result's rows written. -/
def P : (K (F := F)).Pay (nD := nD) (Val := Elt F) (Name := ℕ) (U := UU) where
  st := fun q d c => bigSep Finset.univ fun i => goAt Vv q d (widq q c i)
  dn := fun q d c => bigSep Finset.univ fun i => tdAt Vv q d (widq q c i)
  go := fun q d c i => goAt Vv q d (widq q c i)
  td := fun q d c i => tdAt Vv q d (widq q c i)
  x := fun _ _ => iprop(emp)

instance P_storable : (P Vv).IsStorable where
  st _ _ _ := by unfold P; infer_instance
  dn _ _ _ := by unfold P; infer_instance
  go _ _ _ _ := by unfold P; infer_instance
  td _ _ _ _ := by unfold P; infer_instance

theorem vecSplit (q : Fin 4) : (K (F := F)).VecSplit' (P Vv) q := by
  intro d c
  show (bigSep Finset.univ fun i => goAt Vv q d (widq q c i)) ⊢ |={Set.univ}=> iprop((bigSep Finset.univ fun i => goAt Vv q d (widq q c i))
    ∗ ((bigSep Finset.univ fun i => tdAt Vv q d (widq q c i)) -∗ bigSep Finset.univ fun i => tdAt Vv q d (widq q c i)))
  iintro H; imodintro
  isplitl [H]; · iexact H
  iintro H; iexact H

end Cert.Kernel.Own

end

end
-- ==== Proof.Tc1.lean ====
/- The TensorCore kernel of call 1 (the reciprocal degrees): its body's run on any staging buffers, what each grid point leaves in the
   output windows, the pipeline's proof data and the body obligation — for any index type, level type, algebra, variants,
   entry contents and owed tally. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
  (B : Dev nD → Set (SemLoc sig × Ix))

/-- The region's invariant on core `c`: `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`).
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 1, through which its contents are stated (`View.read_writes_of_cover`: the
    choice does not matter). -/
abbrev VO1_1 : View sig .tc .vmem S1x2048 .f32 := (Memref.whole cc1_stg1_0 : Memref sig .tc .vmem S1x2048 .f32).view
/-- Each window's current staging memref at point `t`, spelled as the pipeline passes it (`bodyAt1`), and its wholeness. -/
abbrev ms1_0 (t : Fin cfg1.N) : Memref sig .tc .vmem S32x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S32x2048 .f32) (harg1 : arg1.IsWhole) (arg2 : Memref sig .tc .vmem S1x2048 .f32) (harg2 : arg2.IsWhole)
    (x0 : Vec F S32x2048 .f32) :
    { L1 : List (View.Piece (Elt F) S1x2048 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) 𝒱₀ c none) E (cc1__dinv_body i arg1 harg1 arg2 harg2) K } := by
  refine ⟨?_, fun E K => ?run⟩
  case run =>
    simp only [cc1__dinv_body_eq_skeleton]; unfold cc1__dinv_body_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-- The run's pieces for output 1 tile its block (1 store of `S1x2048`, by `Piece.tiledL`), so they cover it. -/
theorem cover1_A_1 (c : Dev nD) (i : grid1.Coords) (arg1 : Memref sig .tc .vmem S32x2048 .f32) (harg1 : arg1.IsWhole) (arg2 : Memref sig .tc .vmem S1x2048 .f32) (harg2 : arg2.IsWhole)
    (x0 : Vec F S32x2048 .f32) (y : S1x2048.Idx) :
    ∃ pc ∈ (kernelRun1_A (Ix := Ix) (U := U) (Lvl := Lvl) 𝒱₀ c i arg1 harg1 arg2 harg2 x0).1, y ∈ pc.1.set :=
  View.cover_of_tiledL (kernelRun1_A (Ix := Ix) (U := U) (Lvl := Lvl) 𝒱₀ c i arg1 harg1 arg2 harg2 x0).1 S1x2048.size (by sl_kernel_rfl) y

/-- What the run leaves in output 1's staging buffer: its pieces read back over junk. -/
def out1_A_1 (c : Dev nD) (i : grid1.Coords) (arg1 : Memref sig .tc .vmem S32x2048 .f32) (harg1 : arg1.IsWhole) (arg2 : Memref sig .tc .vmem S1x2048 .f32) (harg2 : arg2.IsWhole)
    (x0 : Vec F S32x2048 .f32) : Vec F S1x2048 .f32 :=
  VO1_1.read (Elt F) (VO1_1.writes (Elt F) VO1_1.junk (kernelRun1_A (Ix := Ix) (U := U) (Lvl := Lvl) 𝒱₀ c i arg1 harg1 arg2 harg2 x0).1)

/-! ## What the outputs hold after each point -/

/-- What the outputs' staging buffers hold after the body at point `t`: the run's contents at
    the point's memrefs and input blocks. -/
def outsAt1 (c : Dev nD) (t : Fin cfg1.N) : Vec F S1x2048 .f32 :=
  out1_A_1 (Ix := Ix) (U := U) (Lvl := Lvl) 𝒱₀ c (grid1.coords t) (ms1_0 t) (hs1_0 t) (ms1_1 t) (hs1_1 t) (iblk V c 0 t)

/-! ## The pipeline's proof data -/

/-- The proof data of pipeline 0 on core `c`: the arrays as the region finds them (`V`); after the body at
    point `t` each input's buffer at its block and the outputs' at `outsAt1`; the invariant the class's
    (`ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => (outsAt1 (Ix := Ix) (U := U) (Lvl := Lvl) 𝒱₀ V c t)
  Φ _ := ΦK (F := F) (Ix := Ix) (U := U) (Lvl := Lvl) c
  q _ := fullShare
  owed _ := D c
  recorded _ := B c

variable (ι : Ix)

local notation "𝕕" => dat (Ix := Ix) (U := U) (Lvl := Lvl) 𝒱₀ V D B

/-- The proof data's arrays are the region-entry contents `V`: the proof data's definition projected (`dsimp`). -/
theorem A_eq (c : Dev nD) (w : Fin cfg1.W) : (𝕕 c).A w = V c (Pipeline.arrRef spec1 w) := by
  dsimp only [dat]

/-- What the body leaves, window by window (the proof data's `match` reduced by `dsimp`). -/
theorem after1_0 (c : Dev nD) (t : Fin cfg1.N) : (𝕕 c).after 0 t = iblk V c 0 t := by dsimp only [dat]
theorem after1_1 (c : Dev nD) (t : Fin cfg1.N) : (𝕕 c).after 1 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (𝕕 c).before 0 t d = iblk V c 0 t :=
  before1_0_of V (𝕕 c) (A_eq 𝒱₀ V D B c 0) (after1_0 𝒱₀ V D B c) t d

/-! ## The body obligation, at a generic point -/

/-- What the body is called with at point `t` (`BodyObligation`'s precondition, the windows one by one), -/
def bodyPre (c : Dev nD) (t : Fin cfg1.N) : sProp 𝕄 :=
  iprop((𝕕 c).Φ t.castSucc ∗ (𝕕 c).owesAt ι t.castSucc
    ∗ (∃ d, owns (c : Thread nD τ) (ms1_0 t) fullShare ((𝕕 c).before 0 t d))
    ∗ (∃ d, owns (c : Thread nD τ) (ms1_1 t) fullShare ((𝕕 c).before 1 t d)))

/-- and what it returns. -/
def bodyPost (c : Dev nD) (t : Fin cfg1.N) : sProp 𝕄 :=
  iprop((𝕕 c).Φ t.succ ∗ (𝕕 c).owesAt ι t.succ
    ∗ owns (c : Thread nD τ) (ms1_0 t) fullShare ((𝕕 c).after 0 t)
    ∗ owns (c : Thread nD τ) (ms1_1 t) fullShare ((𝕕 c).after 1 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D B ι c t ⊢ wp frame (wpE (defs₀ (F := F)) 𝒱₀ c none) Set.univ (bodyAt1 t) (fun _ => bodyPost (U := U) (Lvl := Lvl) 𝒱₀ V D B ι c t) := by
  unfold bodyPre bodyPost bodyAt1
  simp only [before1_0]
  rw [show (𝕕 c).Φ t.succ = (𝕕 c).Φ t.castSucc from rfl,
    show (𝕕 c).owesAt ι t.succ = (𝕕 c).owesAt ι t.castSucc from rfl,
    after1_0, after1_1]
  unfold outsAt1
  unfold out1_A_1
  iintro ⟨HΦ, Ho, ⟨%d0, H0⟩, ⟨%d1, H1⟩⟩
  iapply ((kernelRun1_A (Ix := Ix) (U := U) (Lvl := Lvl) 𝒱₀ c (grid1.coords t) _ _ _ _ (iblk V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_A_1 (Ix := Ix) (U := U) (Lvl := Lvl) 𝒱₀ c _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := rfl

/-- The body obligation, at every point: the body's triple restated (`triple_restated`). -/
theorem body_obligation (c : Dev nD) : BodyObligation (𝕕 c) (defs₀ (F := F)) 𝒱₀ ι Set.univ := fun t => by
  rw [bigSep_W1, bigSep_W1, defs₀_row]
  exact triple_restated (sound_body (U := U) (Lvl := Lvl) 𝒱₀ V D B ι c t) rfl .rfl fun _ => .rfl

end Cert.Kernel.Own.K1

end
-- ==== Proof.Tc2.lean ====
/- The TensorCore kernel of call 2 (the first layer's two linear maps): its body's run on any staging buffers, what each grid point leaves in the
   output windows, the pipeline's proof data and the body obligation — for any index type, level type, algebra, variants,
   entry contents and owed tally. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
  (B : Dev nD → Set (SemLoc sig × Ix))

/-- The region's invariant on core `c`: `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`).
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`).
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`).
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`).
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO2_4 : View sig .tc .vmem S128x2048 .f32 := (Memref.whole cc2_stg4_0 : Memref sig .tc .vmem S128x2048 .f32).view
/-- One staging buffer of output window 5, through which its contents are stated (`View.read_writes_of_cover`: the
    choice does not matter). -/
abbrev VO2_5 : View sig .tc .vmem S128x2048 .f32 := (Memref.whole cc2_stg5_0 : Memref sig .tc .vmem S128x2048 .f32).view
/-- Each window's current staging memref at point `t`, spelled as the pipeline passes it (`bodyAt2`), and its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x2048 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun2_A (c : Dev nD) (i : grid2.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x2048 .f32) (harg5 : arg5.IsWhole) (arg6 : Memref sig .tc .vmem S128x2048 .f32) (harg6 : arg6.IsWhole)
    (x0 : Vec F S2048x128 .f32) (x1 : Vec F S128x128 .f32) (x2 : Vec F S128x128 .f32) (x3 : Vec F S128x1 .f32) :
    Σ' (L4 : List (View.Piece (Elt F) S128x2048 .f32)), { L5 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) 𝒱₀ c none) E (cc2__l1_body i arg1 harg1 arg2 harg2 arg3 harg3 arg4 harg4 arg5 harg5 arg6 harg6) K } := by
  refine ⟨?_, ?_, fun E K => ?run⟩
  case run =>
    simp only [cc2__l1_body_eq_skeleton]; unfold cc2__l1_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- The run's pieces for output 4 tile its block (1 store of `S128x2048`, by `Piece.tiledL`), so they cover it. -/
theorem cover2_A_4 (c : Dev nD) (i : grid2.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x2048 .f32) (harg5 : arg5.IsWhole) (arg6 : Memref sig .tc .vmem S128x2048 .f32) (harg6 : arg6.IsWhole)
    (x0 : Vec F S2048x128 .f32) (x1 : Vec F S128x128 .f32) (x2 : Vec F S128x128 .f32) (x3 : Vec F S128x1 .f32) (y : S128x2048.Idx) :
    ∃ pc ∈ (kernelRun2_A (Ix := Ix) (U := U) (Lvl := Lvl) 𝒱₀ c i arg1 harg1 arg2 harg2 arg3 harg3 arg4 harg4 arg5 harg5 arg6 harg6 x0 x1 x2 x3).1, y ∈ pc.1.set :=
  View.cover_of_tiledL (kernelRun2_A (Ix := Ix) (U := U) (Lvl := Lvl) 𝒱₀ c i arg1 harg1 arg2 harg2 arg3 harg3 arg4 harg4 arg5 harg5 arg6 harg6 x0 x1 x2 x3).1 S128x2048.size (by sl_kernel_rfl) y

/-- What the run leaves in output 4's staging buffer: its pieces read back over junk. -/
def out2_A_4 (c : Dev nD) (i : grid2.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x2048 .f32) (harg5 : arg5.IsWhole) (arg6 : Memref sig .tc .vmem S128x2048 .f32) (harg6 : arg6.IsWhole)
    (x0 : Vec F S2048x128 .f32) (x1 : Vec F S128x128 .f32) (x2 : Vec F S128x128 .f32) (x3 : Vec F S128x1 .f32) : Vec F S128x2048 .f32 :=
  VO2_4.read (Elt F) (VO2_4.writes (Elt F) VO2_4.junk (kernelRun2_A (Ix := Ix) (U := U) (Lvl := Lvl) 𝒱₀ c i arg1 harg1 arg2 harg2 arg3 harg3 arg4 harg4 arg5 harg5 arg6 harg6 x0 x1 x2 x3).1)

/-- The run's pieces for output 5 tile its block (1 store of `S128x2048`, by `Piece.tiledL`), so they cover it. -/
theorem cover2_A_5 (c : Dev nD) (i : grid2.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x2048 .f32) (harg5 : arg5.IsWhole) (arg6 : Memref sig .tc .vmem S128x2048 .f32) (harg6 : arg6.IsWhole)
    (x0 : Vec F S2048x128 .f32) (x1 : Vec F S128x128 .f32) (x2 : Vec F S128x128 .f32) (x3 : Vec F S128x1 .f32) (y : S128x2048.Idx) :
    ∃ pc ∈ (kernelRun2_A (Ix := Ix) (U := U) (Lvl := Lvl) 𝒱₀ c i arg1 harg1 arg2 harg2 arg3 harg3 arg4 harg4 arg5 harg5 arg6 harg6 x0 x1 x2 x3).2.1, y ∈ pc.1.set :=
  View.cover_of_tiledL (kernelRun2_A (Ix := Ix) (U := U) (Lvl := Lvl) 𝒱₀ c i arg1 harg1 arg2 harg2 arg3 harg3 arg4 harg4 arg5 harg5 arg6 harg6 x0 x1 x2 x3).2.1 S128x2048.size (by sl_kernel_rfl) y

/-- What the run leaves in output 5's staging buffer: its pieces read back over junk. -/
def out2_A_5 (c : Dev nD) (i : grid2.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x2048 .f32) (harg5 : arg5.IsWhole) (arg6 : Memref sig .tc .vmem S128x2048 .f32) (harg6 : arg6.IsWhole)
    (x0 : Vec F S2048x128 .f32) (x1 : Vec F S128x128 .f32) (x2 : Vec F S128x128 .f32) (x3 : Vec F S128x1 .f32) : Vec F S128x2048 .f32 :=
  VO2_5.read (Elt F) (VO2_5.writes (Elt F) VO2_5.junk (kernelRun2_A (Ix := Ix) (U := U) (Lvl := Lvl) 𝒱₀ c i arg1 harg1 arg2 harg2 arg3 harg3 arg4 harg4 arg5 harg5 arg6 harg6 x0 x1 x2 x3).2.1)

/-! ## What the outputs hold after each point -/

/-- What the outputs' staging buffers hold after the body at point `t` (as a tuple, in window order): the run's contents at
    the point's memrefs and input blocks. -/
def outsAt2 (c : Dev nD) (t : Fin cfg2.N) : Vec F S128x2048 .f32 × Vec F S128x2048 .f32 :=
  (out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t), out2_A_5 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t))

/-! ## The pipeline's proof data -/

/-- The proof data of pipeline 1 on core `c`: the arrays as the region finds them (`V`); after the body at
    point `t` each input's buffer at its block and the outputs' at `outsAt2`; the invariant the class's
    (`ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 (Ix := Ix) (U := U) (Lvl := Lvl) 𝒱₀ V c t).1
    | ⟨5, _⟩ => (outsAt2 (Ix := Ix) (U := U) (Lvl := Lvl) 𝒱₀ V c t).2
  Φ _ := ΦK (F := F) (Ix := Ix) (U := U) (Lvl := Lvl) c
  q _ := fullShare
  owed _ := D c
  recorded _ := B c

variable (ι : Ix)

local notation "𝕕" => dat (Ix := Ix) (U := U) (Lvl := Lvl) 𝒱₀ V D B

/-- The proof data's arrays are the region-entry contents `V`: the proof data's definition projected (`dsimp`). -/
theorem A_eq (c : Dev nD) (w : Fin cfg2.W) : (𝕕 c).A w = V c (Pipeline.arrRef spec2 w) := by
  dsimp only [dat]

/-- What the body leaves, window by window (the proof data's `match` reduced by `dsimp`). -/
theorem after2_0 (c : Dev nD) (t : Fin cfg2.N) : (𝕕 c).after 0 t = iblk V c 0 t := by dsimp only [dat]
theorem after2_1 (c : Dev nD) (t : Fin cfg2.N) : (𝕕 c).after 1 t = iblk V c 1 t := by dsimp only [dat]
theorem after2_2 (c : Dev nD) (t : Fin cfg2.N) : (𝕕 c).after 2 t = iblk V c 2 t := by dsimp only [dat]
theorem after2_3 (c : Dev nD) (t : Fin cfg2.N) : (𝕕 c).after 3 t = iblk V c 3 t := by dsimp only [dat]
theorem after2_4 (c : Dev nD) (t : Fin cfg2.N) : (𝕕 c).after 4 t = (outsAt2 (Ix := Ix) (U := U) (Lvl := Lvl) 𝒱₀ V c t).1 := by dsimp only [dat]
theorem after2_5 (c : Dev nD) (t : Fin cfg2.N) : (𝕕 c).after 5 t = (outsAt2 (Ix := Ix) (U := U) (Lvl := Lvl) 𝒱₀ V c t).2 := by dsimp only [dat]

/-- Each input's current staging buffer holds its block at every point, fetched there or not (`beforeK_W_of`). -/
theorem before2_0 (c : Dev nD) (t : Fin cfg2.N) (d) : (𝕕 c).before 0 t d = iblk V c 0 t :=
  before2_0_of V (𝕕 c) (A_eq 𝒱₀ V D B c 0) (after2_0 𝒱₀ V D B c) t d
theorem before2_1 (c : Dev nD) (t : Fin cfg2.N) (d) : (𝕕 c).before 1 t d = iblk V c 1 t :=
  before2_1_of V (𝕕 c) (A_eq 𝒱₀ V D B c 1) (after2_1 𝒱₀ V D B c) t d
theorem before2_2 (c : Dev nD) (t : Fin cfg2.N) (d) : (𝕕 c).before 2 t d = iblk V c 2 t :=
  before2_2_of V (𝕕 c) (A_eq 𝒱₀ V D B c 2) (after2_2 𝒱₀ V D B c) t d
theorem before2_3 (c : Dev nD) (t : Fin cfg2.N) (d) : (𝕕 c).before 3 t d = iblk V c 3 t :=
  before2_3_of V (𝕕 c) (A_eq 𝒱₀ V D B c 3) (after2_3 𝒱₀ V D B c) t d

/-! ## The body obligation, at a generic point -/

/-- What the body is called with at point `t` (`BodyObligation`'s precondition, the windows one by one), -/
def bodyPre (c : Dev nD) (t : Fin cfg2.N) : sProp 𝕄 :=
  iprop((𝕕 c).Φ t.castSucc ∗ (𝕕 c).owesAt ι t.castSucc
    ∗ (∃ d, owns (c : Thread nD τ) (ms2_0 t) fullShare ((𝕕 c).before 0 t d))
    ∗ (∃ d, owns (c : Thread nD τ) (ms2_1 t) fullShare ((𝕕 c).before 1 t d))
    ∗ (∃ d, owns (c : Thread nD τ) (ms2_2 t) fullShare ((𝕕 c).before 2 t d))
    ∗ (∃ d, owns (c : Thread nD τ) (ms2_3 t) fullShare ((𝕕 c).before 3 t d))
    ∗ (∃ d, owns (c : Thread nD τ) (ms2_4 t) fullShare ((𝕕 c).before 4 t d))
    ∗ (∃ d, owns (c : Thread nD τ) (ms2_5 t) fullShare ((𝕕 c).before 5 t d)))

/-- and what it returns. -/
def bodyPost (c : Dev nD) (t : Fin cfg2.N) : sProp 𝕄 :=
  iprop((𝕕 c).Φ t.succ ∗ (𝕕 c).owesAt ι t.succ
    ∗ owns (c : Thread nD τ) (ms2_0 t) fullShare ((𝕕 c).after 0 t)
    ∗ owns (c : Thread nD τ) (ms2_1 t) fullShare ((𝕕 c).after 1 t)
    ∗ owns (c : Thread nD τ) (ms2_2 t) fullShare ((𝕕 c).after 2 t)
    ∗ owns (c : Thread nD τ) (ms2_3 t) fullShare ((𝕕 c).after 3 t)
    ∗ owns (c : Thread nD τ) (ms2_4 t) fullShare ((𝕕 c).after 4 t)
    ∗ owns (c : Thread nD τ) (ms2_5 t) fullShare ((𝕕 c).after 5 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D B ι c t ⊢ wp frame (wpE (defs₀ (F := F)) 𝒱₀ c none) Set.univ (bodyAt2 t) (fun _ => bodyPost (U := U) (Lvl := Lvl) 𝒱₀ V D B ι c t) := by
  unfold bodyPre bodyPost bodyAt2
  simp only [before2_0, before2_1, before2_2, before2_3]
  rw [show (𝕕 c).Φ t.succ = (𝕕 c).Φ t.castSucc from rfl,
    show (𝕕 c).owesAt ι t.succ = (𝕕 c).owesAt ι t.castSucc from rfl,
    after2_0, after2_1, after2_2, after2_3, after2_4, after2_5]
  unfold outsAt2
  unfold out2_A_4 out2_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun2_A (Ix := Ix) (U := U) (Lvl := Lvl) 𝒱₀ c (grid2.coords t) _ _ _ _ _ _ _ _ _ _ _ _ (iblk V c 0 t) (iblk V c 1 t) (iblk V c 2 t) (iblk V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_A_4 (Ix := Ix) (U := U) (Lvl := Lvl) 𝒱₀ c _ _ _ _ _ _ _ _ _ _ _ _ _ _ _ _ _)
  unfold owns; iexists _; isplitr
  swap; · iexact H5
  ipureintro; exact View.read_writes_of_cover _ _ _ _ _ (cover2_A_5 (Ix := Ix) (U := U) (Lvl := Lvl) 𝒱₀ c _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := rfl

/-- The body obligation, at every point: the body's triple restated (`triple_restated`). -/
theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D B ι c t) rfl .rfl fun _ => .rfl

end Cert.Kernel.Own.K2

end
-- ==== Proof.Tc4.lean ====
/- The TensorCore kernel of call 4 (the middle layer): its body's run on any staging buffers, what each grid point leaves in the
   output windows, the pipeline's proof data and the body obligation — for any index type, level type, algebra, variants,
   entry contents and owed tally. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
  (B : Dev nD → Set (SemLoc sig × Ix))

/-- The region's invariant on core `c`: `Pipeline.ΦA spec4 c` at any index and level type. -/
def ΦK (c : Dev nD) : sProp 𝕄 :=
  iprop(Pipeline.scopedRest (Ix := Ix) (Name := ℕ) (U := U) (Lvl := Lvl) (Val := Elt F) spec4 c ∗ ∃ r, prngReg c r)

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`).
    `Dat.before_in_eq_fetched` (unfetched, the index has not moved), the window uncut and never idle. -/
theorem before4_0_of {c : Dev nD} (dat : Dat τ (Elt F) Ix ℕ U Lvl cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`).
    `Dat.before_in_eq_fetched` (unfetched, the index has not moved), the window uncut and never idle. -/
theorem before4_1_of {c : Dev nD} (dat : Dat τ (Elt F) Ix ℕ U Lvl cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`).
    `Dat.before_in_eq_fetched` (unfetched, the index has not moved), the window uncut and never idle. -/
theorem before4_2_of {c : Dev nD} (dat : Dat τ (Elt F) Ix ℕ U Lvl cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`).
    `Dat.before_in_eq_fetched` (unfetched, the index has not moved), the window uncut and never idle. -/
theorem before4_3_of {c : Dev nD} (dat : Dat τ (Elt F) Ix ℕ U Lvl cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`).
    `Dat.before_in_eq_fetched` (unfetched, the index has not moved), the window uncut and never idle. -/
theorem before4_4_of {c : Dev nD} (dat : Dat τ (Elt F) Ix ℕ U Lvl cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`).
    `Dat.before_in_eq_fetched` (unfetched, the index has not moved), the window uncut and never idle. -/
theorem before4_5_of {c : Dev nD} (dat : Dat τ (Elt F) Ix ℕ U Lvl cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`).
    `Dat.before_in_eq_fetched` (unfetched, the index has not moved), the window uncut and never idle. -/
theorem before4_6_of {c : Dev nD} (dat : Dat τ (Elt F) Ix ℕ U Lvl cfg4 c) (hA : dat.A 6 = V c (Pipeline.arrRef spec4 6))
    (hafter : ∀ t, dat.after 6 t = iblk V c 6 t) (t : Fin cfg4.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 7, through which its contents are stated (`View.read_writes_of_cover`: the
    choice does not matter). -/
abbrev VO4_7 : View sig .tc .vmem S128x2048 .f32 := (Memref.whole cc4_stg7_0 : Memref sig .tc .vmem S128x2048 .f32).view
/-- One staging buffer of output window 8, through which its contents are stated (`View.read_writes_of_cover`: the
    choice does not matter). -/
abbrev VO4_8 : View sig .tc .vmem S128x2048 .f32 := (Memref.whole cc4_stg8_0 : Memref sig .tc .vmem S128x2048 .f32).view
/-- Each window's current staging memref at point `t`, spelled as the pipeline passes it (`bodyAt4`), and its wholeness. -/
abbrev ms4_0 (t : Fin cfg4.N) : Memref sig .tc .vmem S128x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S128x1 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S128x2048 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S128x2048 .f32 := win4_8.stage (cfg4.slots t 8)
abbrev hs4_8 (t : Fin cfg4.N) : (ms4_8 t).IsWhole := hstage4_8 ((cfg4.slots t 8).cast nbuf4_8)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun4_A (c : Dev nD) (i : grid4.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole)
    (x0 : Vec F S128x2048 .f32) (x1 : Vec F S128x2048 .f32) (x2 : Vec F S1x2048 .f32) (x3 : Vec F S1x1 .f32) (x4 : Vec F S128x128 .f32) (x5 : Vec F S128x128 .f32) (x6 : Vec F S128x1 .f32) :
    Σ' (L7 : List (View.Piece (Elt F) S128x2048 .f32)), { L8 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) 𝒱₀ c none) E (cc4__mid_body i arg1 harg1 arg2 harg2 arg3 harg3 arg4 harg4 arg5 harg5 arg6 harg6 arg7 harg7 arg8 harg8 arg9 harg9) K } := by
  refine ⟨?_, ?_, fun E K => ?run⟩
  case run =>
    simp only [cc4__mid_body_eq_skeleton]; unfold cc4__mid_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

/-- The run's pieces for output 7 tile its block (1 store of `S128x2048`, by `Piece.tiledL`), so they cover it. -/
theorem cover4_A_7 (c : Dev nD) (i : grid4.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole)
    (x0 : Vec F S128x2048 .f32) (x1 : Vec F S128x2048 .f32) (x2 : Vec F S1x2048 .f32) (x3 : Vec F S1x1 .f32) (x4 : Vec F S128x128 .f32) (x5 : Vec F S128x128 .f32) (x6 : Vec F S128x1 .f32) (y : S128x2048.Idx) :
    ∃ pc ∈ (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).1 S128x2048.size (by sl_kernel_rfl) y

/-- What the run leaves in output 7's staging buffer: its pieces read back over junk. -/
def out4_A_7 (c : Dev nD) (i : grid4.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole)
    (x0 : Vec F S128x2048 .f32) (x1 : Vec F S128x2048 .f32) (x2 : Vec F S1x2048 .f32) (x3 : Vec F S1x1 .f32) (x4 : Vec F S128x128 .f32) (x5 : Vec F S128x128 .f32) (x6 : Vec F S128x1 .f32) : Vec F S128x2048 .f32 :=
  VO4_7.read (Elt F) (VO4_7.writes (Elt F) VO4_7.junk (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).1)

/-- The run's pieces for output 8 tile its block (1 store of `S128x2048`, by `Piece.tiledL`), so they cover it. -/
theorem cover4_A_8 (c : Dev nD) (i : grid4.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole)
    (x0 : Vec F S128x2048 .f32) (x1 : Vec F S128x2048 .f32) (x2 : Vec F S1x2048 .f32) (x3 : Vec F S1x1 .f32) (x4 : Vec F S128x128 .f32) (x5 : Vec F S128x128 .f32) (x6 : Vec F S128x1 .f32) (y : S128x2048.Idx) :
    ∃ pc ∈ (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).2.1 S128x2048.size (by sl_kernel_rfl) y

/-- What the run leaves in output 8's staging buffer: its pieces read back over junk. -/
def out4_A_8 (c : Dev nD) (i : grid4.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole)
    (x0 : Vec F S128x2048 .f32) (x1 : Vec F S128x2048 .f32) (x2 : Vec F S1x2048 .f32) (x3 : Vec F S1x1 .f32) (x4 : Vec F S128x128 .f32) (x5 : Vec F S128x128 .f32) (x6 : Vec F S128x1 .f32) : Vec F S128x2048 .f32 :=
  VO4_8.read (Elt F) (VO4_8.writes (Elt F) VO4_8.junk (kernelRun4_A (Ix := Ix) (U := U) (Lvl := Lvl) 𝒱₀ c i arg1 harg1 arg2 harg2 arg3 harg3 arg4 harg4 arg5 harg5 arg6 harg6 arg7 harg7 arg8 harg8 arg9 harg9 x0 x1 x2 x3 x4 x5 x6).2.1)

/-! ## What the outputs hold after each point -/

/-- What the outputs' staging buffers hold after the body at point `t` (as a tuple, in window order): the run's contents at
    the point's memrefs and input blocks. -/
def outsAt4 (c : Dev nD) (t : Fin cfg4.N) : Vec F S128x2048 .f32 × Vec F S128x2048 .f32 :=
  (out4_A_7 (Ix := Ix) (U := U) (Lvl := Lvl) 𝒱₀ c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk V c 0 t) (iblk V c 1 t) (iblk V c 2 t) (iblk V c 3 t) (iblk V c 4 t) (iblk V c 5 t) (iblk V c 6 t), out4_A_8 (Ix := Ix) (U := U) (Lvl := Lvl) 𝒱₀ c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk V c 0 t) (iblk V c 1 t) (iblk V c 2 t) (iblk V c 3 t) (iblk V c 4 t) (iblk V c 5 t) (iblk V c 6 t))

/-! ## The pipeline's proof data -/

/-- The proof data of pipeline 2 on core `c`: the arrays as the region finds them (`V`); after the body at
    point `t` each input's buffer at its block and the outputs' at `outsAt4`; the invariant the class's
    (`ΦA`: the scoped rest and the generator register); the core owing `D c` throughout; full shares. -/
def dat (c : Dev nD) : Dat τ (Elt F) Ix ℕ U Lvl cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt4 (Ix := Ix) (U := U) (Lvl := Lvl) 𝒱₀ V c t).1
    | ⟨8, _⟩ => (outsAt4 (Ix := Ix) (U := U) (Lvl := Lvl) 𝒱₀ V c t).2
  Φ _ := ΦK (F := F) (Ix := Ix) (U := U) (Lvl := Lvl) c
  q _ := fullShare
  owed _ := D c
  recorded _ := B c

variable (ι : Ix)

local notation "𝕕" => dat (Ix := Ix) (U := U) (Lvl := Lvl) 𝒱₀ V D B

/-- The proof data's arrays are the region-entry contents `V`: the proof data's definition projected (`dsimp`). -/
theorem A_eq (c : Dev nD) (w : Fin cfg4.W) : (𝕕 c).A w = V c (Pipeline.arrRef spec4 w) := by
  dsimp only [dat]

/-- What the body leaves, window by window (the proof data's `match` reduced by `dsimp`). -/
theorem after4_0 (c : Dev nD) (t : Fin cfg4.N) : (𝕕 c).after 0 t = iblk V c 0 t := by dsimp only [dat]
theorem after4_1 (c : Dev nD) (t : Fin cfg4.N) : (𝕕 c).after 1 t = iblk V c 1 t := by dsimp only [dat]
theorem after4_2 (c : Dev nD) (t : Fin cfg4.N) : (𝕕 c).after 2 t = iblk V c 2 t := by dsimp only [dat]
theorem after4_3 (c : Dev nD) (t : Fin cfg4.N) : (𝕕 c).after 3 t = iblk V c 3 t := by dsimp only [dat]
theorem after4_4 (c : Dev nD) (t : Fin cfg4.N) : (𝕕 c).after 4 t = iblk V c 4 t := by dsimp only [dat]
theorem after4_5 (c : Dev nD) (t : Fin cfg4.N) : (𝕕 c).after 5 t = iblk V c 5 t := by dsimp only [dat]
theorem after4_6 (c : Dev nD) (t : Fin cfg4.N) : (𝕕 c).after 6 t = iblk V c 6 t := by dsimp only [dat]
theorem after4_7 (c : Dev nD) (t : Fin cfg4.N) : (𝕕 c).after 7 t = (outsAt4 (Ix := Ix) (U := U) (Lvl := Lvl) 𝒱₀ V c t).1 := by dsimp only [dat]
theorem after4_8 (c : Dev nD) (t : Fin cfg4.N) : (𝕕 c).after 8 t = (outsAt4 (Ix := Ix) (U := U) (Lvl := Lvl) 𝒱₀ V c t).2 := by dsimp only [dat]

/-- Each input's current staging buffer holds its block at every point, fetched there or not (`beforeK_W_of`). -/
theorem before4_0 (c : Dev nD) (t : Fin cfg4.N) (d) : (𝕕 c).before 0 t d = iblk V c 0 t :=
  before4_0_of V (𝕕 c) (A_eq 𝒱₀ V D B c 0) (after4_0 𝒱₀ V D B c) t d
theorem before4_1 (c : Dev nD) (t : Fin cfg4.N) (d) : (𝕕 c).before 1 t d = iblk V c 1 t :=
  before4_1_of V (𝕕 c) (A_eq 𝒱₀ V D B c 1) (after4_1 𝒱₀ V D B c) t d
theorem before4_2 (c : Dev nD) (t : Fin cfg4.N) (d) : (𝕕 c).before 2 t d = iblk V c 2 t :=
  before4_2_of V (𝕕 c) (A_eq 𝒱₀ V D B c 2) (after4_2 𝒱₀ V D B c) t d
theorem before4_3 (c : Dev nD) (t : Fin cfg4.N) (d) : (𝕕 c).before 3 t d = iblk V c 3 t :=
  before4_3_of V (𝕕 c) (A_eq 𝒱₀ V D B c 3) (after4_3 𝒱₀ V D B c) t d
theorem before4_4 (c : Dev nD) (t : Fin cfg4.N) (d) : (𝕕 c).before 4 t d = iblk V c 4 t :=
  before4_4_of V (𝕕 c) (A_eq 𝒱₀ V D B c 4) (after4_4 𝒱₀ V D B c) t d
theorem before4_5 (c : Dev nD) (t : Fin cfg4.N) (d) : (𝕕 c).before 5 t d = iblk V c 5 t :=
  before4_5_of V (𝕕 c) (A_eq 𝒱₀ V D B c 5) (after4_5 𝒱₀ V D B c) t d
theorem before4_6 (c : Dev nD) (t : Fin cfg4.N) (d) : (𝕕 c).before 6 t d = iblk V c 6 t :=
  before4_6_of V (𝕕 c) (A_eq 𝒱₀ V D B c 6) (after4_6 𝒱₀ V D B c) t d

/-! ## The body obligation, at a generic point -/

/-- What the body is called with at point `t` (`BodyObligation`'s precondition, the windows one by one), -/
def bodyPre (c : Dev nD) (t : Fin cfg4.N) : sProp 𝕄 :=
  iprop((𝕕 c).Φ t.castSucc ∗ (𝕕 c).owesAt ι t.castSucc
    ∗ (∃ d, owns (c : Thread nD τ) (ms4_0 t) fullShare ((𝕕 c).before 0 t d))
    ∗ (∃ d, owns (c : Thread nD τ) (ms4_1 t) fullShare ((𝕕 c).before 1 t d))
    ∗ (∃ d, owns (c : Thread nD τ) (ms4_2 t) fullShare ((𝕕 c).before 2 t d))
    ∗ (∃ d, owns (c : Thread nD τ) (ms4_3 t) fullShare ((𝕕 c).before 3 t d))
    ∗ (∃ d, owns (c : Thread nD τ) (ms4_4 t) fullShare ((𝕕 c).before 4 t d))
    ∗ (∃ d, owns (c : Thread nD τ) (ms4_5 t) fullShare ((𝕕 c).before 5 t d))
    ∗ (∃ d, owns (c : Thread nD τ) (ms4_6 t) fullShare ((𝕕 c).before 6 t d))
    ∗ (∃ d, owns (c : Thread nD τ) (ms4_7 t) fullShare ((𝕕 c).before 7 t d))
    ∗ (∃ d, owns (c : Thread nD τ) (ms4_8 t) fullShare ((𝕕 c).before 8 t d)))

/-- and what it returns. -/
def bodyPost (c : Dev nD) (t : Fin cfg4.N) : sProp 𝕄 :=
  iprop((𝕕 c).Φ t.succ ∗ (𝕕 c).owesAt ι t.succ
    ∗ owns (c : Thread nD τ) (ms4_0 t) fullShare ((𝕕 c).after 0 t)
    ∗ owns (c : Thread nD τ) (ms4_1 t) fullShare ((𝕕 c).after 1 t)
    ∗ owns (c : Thread nD τ) (ms4_2 t) fullShare ((𝕕 c).after 2 t)
    ∗ owns (c : Thread nD τ) (ms4_3 t) fullShare ((𝕕 c).after 3 t)
    ∗ owns (c : Thread nD τ) (ms4_4 t) fullShare ((𝕕 c).after 4 t)
    ∗ owns (c : Thread nD τ) (ms4_5 t) fullShare ((𝕕 c).after 5 t)
    ∗ owns (c : Thread nD τ) (ms4_6 t) fullShare ((𝕕 c).after 6 t)
    ∗ owns (c : Thread nD τ) (ms4_7 t) fullShare ((𝕕 c).after 7 t)
    ∗ owns (c : Thread nD τ) (ms4_8 t) fullShare ((𝕕 c).after 8 t))

set_option maxHeartbeats 800000 in
/-- The body at any point: the inputs' memrefs hold their blocks (`before4_W`); so the
    run applies; the invariant passes through unread; the core owes `D c` throughout. -/
theorem sound_body (c : Dev nD) (t : Fin cfg4.N) :
    bodyPre (U := U) (Lvl := Lvl) 𝒱₀ V D B ι c t ⊢ wp frame (wpE (defs₀ (F := F)) 𝒱₀ c none) Set.univ (bodyAt4 t) (fun _ => bodyPost (U := U) (Lvl := Lvl) 𝒱₀ V D B ι c t) := by
  unfold bodyPre bodyPost bodyAt4
  simp only [before4_0, before4_1, before4_2, before4_3, before4_4, before4_5, before4_6]
  rw [show (𝕕 c).Φ t.succ = (𝕕 c).Φ t.castSucc from rfl,
    show (𝕕 c).owesAt ι t.succ = (𝕕 c).owesAt ι t.castSucc from rfl,
    after4_0, after4_1, after4_2, after4_3, after4_4, after4_5, after4_6, after4_7, after4_8]
  unfold outsAt4
  unfold out4_A_7 out4_A_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun4_A (Ix := Ix) (U := U) (Lvl := Lvl) 𝒱₀ c (grid4.coords t) _ _ _ _ _ _ _ _ _ _ _ _ _ _ _ _ _ _ (iblk V c 0 t) (iblk V c 1 t) (iblk V c 2 t) (iblk V c 3 t) (iblk V c 4 t) (iblk V c 5 t) (iblk V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover4_A_7 (Ix := Ix) (U := U) (Lvl := Lvl) 𝒱₀ c _ _ _ _ _ _ _ _ _ _ _ _ _ _ _ _ _ _ _ _ _ _ _ _ _ _)
  unfold owns; iexists _; isplitr
  swap; · iexact H8
  ipureintro; exact View.read_writes_of_cover _ _ _ _ _ (cover4_A_8 (Ix := Ix) (U := U) (Lvl := Lvl) 𝒱₀ c _ _ _ _ _ _ _ _ _ _ _ _ _ _ _ _ _ _ _ _ _ _ _ _ _ _)

/-- The body table's row at point `t`'s slots is the body as `bodyAt4` spells it. -/
theorem defs₀_row (t : Fin cfg4.N) :
    defs₀ (F := F) .tc cfg4.body (cfg4.bodyArgs t (cfg4.slots t)) = bodyAt4 t := rfl

/-- The body obligation, at every point: the body's triple restated (`triple_restated`). -/
theorem body_obligation (c : Dev nD) : BodyObligation (𝕕 c) (defs₀ (F := F)) 𝒱₀ ι Set.univ := fun t => by
  rw [bigSep_W4, bigSep_W4, defs₀_row]
  exact triple_restated (sound_body (U := U) (Lvl := Lvl) 𝒱₀ V D B ι c t) rfl .rfl fun _ => .rfl

end Cert.Kernel.Own.K4

end
-- ==== Proof.Tc6.lean ====
/- The TensorCore kernel of call 6 (the folded last layer): its body's run on any staging buffers, what each grid point leaves in the
   output windows, the pipeline's proof data and the body obligation — for any index type, level type, algebra, variants,
   entry contents and owed tally. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
  (B : Dev nD → Set (SemLoc sig × Ix))

/-- The region's invariant on core `c`: `Pipeline.ΦA spec6 c` at any index and level type. -/
def ΦK (c : Dev nD) : sProp 𝕄 :=
  iprop(Pipeline.scopedRest (Ix := Ix) (Name := ℕ) (U := U) (Lvl := Lvl) (Val := Elt F) spec6 c ∗ ∃ r, prngReg c r)

/-! ## The windows' blocks -/

/-- Window `w`'s block at point `t`, read off its array as the region finds it (`V`). -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`).
    `Dat.before_in_eq_fetched` (unfetched, the index has not moved), the window uncut and never idle. -/
theorem before6_0_of {c : Dev nD} (dat : Dat τ (Elt F) Ix ℕ U Lvl cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`).
    `Dat.before_in_eq_fetched` (unfetched, the index has not moved), the window uncut and never idle. -/
theorem before6_1_of {c : Dev nD} (dat : Dat τ (Elt F) Ix ℕ U Lvl cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`).
    `Dat.before_in_eq_fetched` (unfetched, the index has not moved), the window uncut and never idle. -/
theorem before6_2_of {c : Dev nD} (dat : Dat τ (Elt F) Ix ℕ U Lvl cfg6 c) (hA : dat.A 2 = V c (Pipeline.arrRef spec6 2))
    (hafter : ∀ t, dat.after 2 t = iblk V c 2 t) (t : Fin cfg6.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`).
    `Dat.before_in_eq_fetched` (unfetched, the index has not moved), the window uncut and never idle. -/
theorem before6_3_of {c : Dev nD} (dat : Dat τ (Elt F) Ix ℕ U Lvl cfg6 c) (hA : dat.A 3 = V c (Pipeline.arrRef spec6 3))
    (hafter : ∀ t, dat.after 3 t = iblk V c 3 t) (t : Fin cfg6.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`).
    `Dat.before_in_eq_fetched` (unfetched, the index has not moved), the window uncut and never idle. -/
theorem before6_4_of {c : Dev nD} (dat : Dat τ (Elt F) Ix ℕ U Lvl cfg6 c) (hA : dat.A 4 = V c (Pipeline.arrRef spec6 4))
    (hafter : ∀ t, dat.after 4 t = iblk V c 4 t) (t : Fin cfg6.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated (`View.read_writes_of_cover`: the
    choice does not matter). -/
abbrev VO6_5 : View sig .tc .vmem S2x2048 .f32 := (Memref.whole cc6_stg5_0 : Memref sig .tc .vmem S2x2048 .f32).view
/-- Each window's current staging memref at point `t`, spelled as the pipeline passes it (`bodyAt6`), and its wholeness. -/
abbrev ms6_0 (t : Fin cfg6.N) : Memref sig .tc .vmem S128x2048 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x2048 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x2048 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S2x2048 .f32 := win6_5.stage (cfg6.slots t 5)
abbrev hs6_5 (t : Fin cfg6.N) : (ms6_5 t).IsWhole := hstage6_5 ((cfg6.slots t 5).cast nbuf6_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun6_A (c : Dev nD) (i : grid6.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S2x128 .f32) (harg5 : arg5.IsWhole) (arg6 : Memref sig .tc .vmem S2x2048 .f32) (harg6 : arg6.IsWhole)
    (x0 : Vec F S128x2048 .f32) (x1 : Vec F S128x2048 .f32) (x2 : Vec F S1x2048 .f32) (x3 : Vec F S1x1 .f32) (x4 : Vec F S2x128 .f32) :
    { L5 : List (View.Piece (Elt F) S2x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) 𝒱₀ c none) E (cc6__head_body i arg1 harg1 arg2 harg2 arg3 harg3 arg4 harg4 arg5 harg5 arg6 harg6) K } := by
  refine ⟨?_, fun E K => ?run⟩
  case run =>
    simp only [cc6__head_body_eq_skeleton]; unfold cc6__head_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for output 5 tile its block (1 store of `S2x2048`, by `Piece.tiledL`), so they cover it. -/
theorem cover6_A_5 (c : Dev nD) (i : grid6.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S2x128 .f32) (harg5 : arg5.IsWhole) (arg6 : Memref sig .tc .vmem S2x2048 .f32) (harg6 : arg6.IsWhole)
    (x0 : Vec F S128x2048 .f32) (x1 : Vec F S128x2048 .f32) (x2 : Vec F S1x2048 .f32) (x3 : Vec F S1x1 .f32) (x4 : Vec F S2x128 .f32) (y : S2x2048.Idx) :
    ∃ pc ∈ (kernelRun6_A (Ix := Ix) (U := U) (Lvl := Lvl) 𝒱₀ c i arg1 harg1 arg2 harg2 arg3 harg3 arg4 harg4 arg5 harg5 arg6 harg6 x0 x1 x2 x3 x4).1, y ∈ pc.1.set :=
  View.cover_of_tiledL (kernelRun6_A (Ix := Ix) (U := U) (Lvl := Lvl) 𝒱₀ c i arg1 harg1 arg2 harg2 arg3 harg3 arg4 harg4 arg5 harg5 arg6 harg6 x0 x1 x2 x3 x4).1 S2x2048.size (by sl_kernel_rfl) y

/-- What the run leaves in output 5's staging buffer: its pieces read back over junk. -/
def out6_A_5 (c : Dev nD) (i : grid6.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S2x128 .f32) (harg5 : arg5.IsWhole) (arg6 : Memref sig .tc .vmem S2x2048 .f32) (harg6 : arg6.IsWhole)
    (x0 : Vec F S128x2048 .f32) (x1 : Vec F S128x2048 .f32) (x2 : Vec F S1x2048 .f32) (x3 : Vec F S1x1 .f32) (x4 : Vec F S2x128 .f32) : Vec F S2x2048 .f32 :=
  VO6_5.read (Elt F) (VO6_5.writes (Elt F) VO6_5.junk (kernelRun6_A (Ix := Ix) (U := U) (Lvl := Lvl) 𝒱₀ c i arg1 harg1 arg2 harg2 arg3 harg3 arg4 harg4 arg5 harg5 arg6 harg6 x0 x1 x2 x3 x4).1)

/-! ## What the outputs hold after each point -/

/-- What the outputs' staging buffers hold after the body at point `t`: the run's contents at
    the point's memrefs and input blocks. -/
def outsAt6 (c : Dev nD) (t : Fin cfg6.N) : Vec F S2x2048 .f32 :=
  out6_A_5 (Ix := Ix) (U := U) (Lvl := Lvl) 𝒱₀ c (grid6.coords t) (ms6_0 t) (hs6_0 t) (ms6_1 t) (hs6_1 t) (ms6_2 t) (hs6_2 t) (ms6_3 t) (hs6_3 t) (ms6_4 t) (hs6_4 t) (ms6_5 t) (hs6_5 t) (iblk V c 0 t) (iblk V c 1 t) (iblk V c 2 t) (iblk V c 3 t) (iblk V c 4 t)

/-! ## The pipeline's proof data -/

/-- The proof data of pipeline 3 on core `c`: the arrays as the region finds them (`V`); after the body at
    point `t` each input's buffer at its block and the outputs' at `outsAt6`; the invariant the class's
    (`ΦA`: the scoped rest and the generator register); the core owing `D c` throughout; full shares. -/
def dat (c : Dev nD) : Dat τ (Elt F) Ix ℕ U Lvl cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt6 (Ix := Ix) (U := U) (Lvl := Lvl) 𝒱₀ V c t)
  Φ _ := ΦK (F := F) (Ix := Ix) (U := U) (Lvl := Lvl) c
  q _ := fullShare
  owed _ := D c
  recorded _ := B c

variable (ι : Ix)

local notation "𝕕" => dat (Ix := Ix) (U := U) (Lvl := Lvl) 𝒱₀ V D B

/-- The proof data's arrays are the region-entry contents `V`: the proof data's definition projected (`dsimp`). -/
theorem A_eq (c : Dev nD) (w : Fin cfg6.W) : (𝕕 c).A w = V c (Pipeline.arrRef spec6 w) := by
  dsimp only [dat]

/-- What the body leaves, window by window (the proof data's `match` reduced by `dsimp`). -/
theorem after6_0 (c : Dev nD) (t : Fin cfg6.N) : (𝕕 c).after 0 t = iblk V c 0 t := by dsimp only [dat]
theorem after6_1 (c : Dev nD) (t : Fin cfg6.N) : (𝕕 c).after 1 t = iblk V c 1 t := by dsimp only [dat]
theorem after6_2 (c : Dev nD) (t : Fin cfg6.N) : (𝕕 c).after 2 t = iblk V c 2 t := by dsimp only [dat]
theorem after6_3 (c : Dev nD) (t : Fin cfg6.N) : (𝕕 c).after 3 t = iblk V c 3 t := by dsimp only [dat]
theorem after6_4 (c : Dev nD) (t : Fin cfg6.N) : (𝕕 c).after 4 t = iblk V c 4 t := by dsimp only [dat]
theorem after6_5 (c : Dev nD) (t : Fin cfg6.N) : (𝕕 c).after 5 t = (outsAt6 (Ix := Ix) (U := U) (Lvl := Lvl) 𝒱₀ V c t) := by dsimp only [dat]

/-- Each input's current staging buffer holds its block at every point, fetched there or not (`beforeK_W_of`). -/
theorem before6_0 (c : Dev nD) (t : Fin cfg6.N) (d) : (𝕕 c).before 0 t d = iblk V c 0 t :=
  before6_0_of V (𝕕 c) (A_eq 𝒱₀ V D B c 0) (after6_0 𝒱₀ V D B c) t d
theorem before6_1 (c : Dev nD) (t : Fin cfg6.N) (d) : (𝕕 c).before 1 t d = iblk V c 1 t :=
  before6_1_of V (𝕕 c) (A_eq 𝒱₀ V D B c 1) (after6_1 𝒱₀ V D B c) t d
theorem before6_2 (c : Dev nD) (t : Fin cfg6.N) (d) : (𝕕 c).before 2 t d = iblk V c 2 t :=
  before6_2_of V (𝕕 c) (A_eq 𝒱₀ V D B c 2) (after6_2 𝒱₀ V D B c) t d
theorem before6_3 (c : Dev nD) (t : Fin cfg6.N) (d) : (𝕕 c).before 3 t d = iblk V c 3 t :=
  before6_3_of V (𝕕 c) (A_eq 𝒱₀ V D B c 3) (after6_3 𝒱₀ V D B c) t d
theorem before6_4 (c : Dev nD) (t : Fin cfg6.N) (d) : (𝕕 c).before 4 t d = iblk V c 4 t :=
  before6_4_of V (𝕕 c) (A_eq 𝒱₀ V D B c 4) (after6_4 𝒱₀ V D B c) t d

/-! ## The body obligation, at a generic point -/

/-- What the body is called with at point `t` (`BodyObligation`'s precondition, the windows one by one), -/
def bodyPre (c : Dev nD) (t : Fin cfg6.N) : sProp 𝕄 :=
  iprop((𝕕 c).Φ t.castSucc ∗ (𝕕 c).owesAt ι t.castSucc
    ∗ (∃ d, owns (c : Thread nD τ) (ms6_0 t) fullShare ((𝕕 c).before 0 t d))
    ∗ (∃ d, owns (c : Thread nD τ) (ms6_1 t) fullShare ((𝕕 c).before 1 t d))
    ∗ (∃ d, owns (c : Thread nD τ) (ms6_2 t) fullShare ((𝕕 c).before 2 t d))
    ∗ (∃ d, owns (c : Thread nD τ) (ms6_3 t) fullShare ((𝕕 c).before 3 t d))
    ∗ (∃ d, owns (c : Thread nD τ) (ms6_4 t) fullShare ((𝕕 c).before 4 t d))
    ∗ (∃ d, owns (c : Thread nD τ) (ms6_5 t) fullShare ((𝕕 c).before 5 t d)))

/-- and what it returns. -/
def bodyPost (c : Dev nD) (t : Fin cfg6.N) : sProp 𝕄 :=
  iprop((𝕕 c).Φ t.succ ∗ (𝕕 c).owesAt ι t.succ
    ∗ owns (c : Thread nD τ) (ms6_0 t) fullShare ((𝕕 c).after 0 t)
    ∗ owns (c : Thread nD τ) (ms6_1 t) fullShare ((𝕕 c).after 1 t)
    ∗ owns (c : Thread nD τ) (ms6_2 t) fullShare ((𝕕 c).after 2 t)
    ∗ owns (c : Thread nD τ) (ms6_3 t) fullShare ((𝕕 c).after 3 t)
    ∗ owns (c : Thread nD τ) (ms6_4 t) fullShare ((𝕕 c).after 4 t)
    ∗ owns (c : Thread nD τ) (ms6_5 t) fullShare ((𝕕 c).after 5 t))

/-- The body at any point: the inputs' memrefs hold their blocks (`before6_W`); so the
    run applies; the invariant passes through unread; the core owes `D c` throughout. -/
theorem sound_body (c : Dev nD) (t : Fin cfg6.N) :
    bodyPre (U := U) (Lvl := Lvl) 𝒱₀ V D B ι c t ⊢ wp frame (wpE (defs₀ (F := F)) 𝒱₀ c none) Set.univ (bodyAt6 t) (fun _ => bodyPost (U := U) (Lvl := Lvl) 𝒱₀ V D B ι c t) := by
  unfold bodyPre bodyPost bodyAt6
  simp only [before6_0, before6_1, before6_2, before6_3, before6_4]
  rw [show (𝕕 c).Φ t.succ = (𝕕 c).Φ t.castSucc from rfl,
    show (𝕕 c).owesAt ι t.succ = (𝕕 c).owesAt ι t.castSucc from rfl,
    after6_0, after6_1, after6_2, after6_3, after6_4, after6_5]
  unfold outsAt6
  unfold out6_A_5
  iintro ⟨HΦ, Ho, ⟨%d0, H0⟩, ⟨%d1, H1⟩, ⟨%d2, H2⟩, ⟨%d3, H3⟩, ⟨%d4, H4⟩, ⟨%d5, H5⟩⟩
  iapply ((kernelRun6_A (Ix := Ix) (U := U) (Lvl := Lvl) 𝒱₀ c (grid6.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover6_A_5 (Ix := Ix) (U := U) (Lvl := Lvl) 𝒱₀ c _ _ _ _ _ _ _ _ _ _ _ _ _ _ _ _ _ _)

/-- The body table's row at point `t`'s slots is the body as `bodyAt6` spells it. -/
theorem defs₀_row (t : Fin cfg6.N) :
    defs₀ (F := F) .tc cfg6.body (cfg6.bodyArgs t (cfg6.slots t)) = bodyAt6 t := rfl

/-- The body obligation, at every point: the body's triple restated (`triple_restated`). -/
theorem body_obligation (c : Dev nD) : BodyObligation (𝕕 c) (defs₀ (F := F)) 𝒱₀ ι Set.univ := fun t => by
  rw [bigSep_W6, bigSep_W6, defs₀_row]
  exact triple_restated (sound_body (U := U) (Lvl := Lvl) 𝒱₀ V D B ι c t) rfl .rfl fun _ => .rfl

end Cert.Kernel.Own.K6

end
-- ==== Proof.Tc8.lean ====
/- The TensorCore kernel of call 8 (the final combination): its body's run on any staging buffers, what each grid point leaves in the
   output windows, the pipeline's proof data and the body obligation — for any index type, level type, algebra, variants,
   entry contents and owed tally. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)
  (B : Dev nD → Set (SemLoc sig × Ix))

/-- The region's invariant on core `c`: `Pipeline.ΦA spec8 c` at any index and level type. -/
def ΦK (c : Dev nD) : sProp 𝕄 :=
  iprop(Pipeline.scopedRest (Ix := Ix) (Name := ℕ) (U := U) (Lvl := Lvl) (Val := Elt F) spec8 c ∗ ∃ r, prngReg c r)

/-! ## The windows' blocks -/

/-- Window `w`'s block at point `t`, read off its array as the region finds it (`V`). -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`).
    `Dat.before_in_eq_fetched` (unfetched, the index has not moved), the window uncut and never idle. -/
theorem before8_0_of {c : Dev nD} (dat : Dat τ (Elt F) Ix ℕ U Lvl cfg8 c) (hA : dat.A 0 = V c (Pipeline.arrRef spec8 0))
    (hafter : ∀ t, dat.after 0 t = iblk V c 0 t) (t : Fin cfg8.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`).
    `Dat.before_in_eq_fetched` (unfetched, the index has not moved), the window uncut and never idle. -/
theorem before8_1_of {c : Dev nD} (dat : Dat τ (Elt F) Ix ℕ U Lvl cfg8 c) (hA : dat.A 1 = V c (Pipeline.arrRef spec8 1))
    (hafter : ∀ t, dat.after 1 t = iblk V c 1 t) (t : Fin cfg8.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`).
    `Dat.before_in_eq_fetched` (unfetched, the index has not moved), the window uncut and never idle. -/
theorem before8_2_of {c : Dev nD} (dat : Dat τ (Elt F) Ix ℕ U Lvl cfg8 c) (hA : dat.A 2 = V c (Pipeline.arrRef spec8 2))
    (hafter : ∀ t, dat.after 2 t = iblk V c 2 t) (t : Fin cfg8.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`).
    `Dat.before_in_eq_fetched` (unfetched, the index has not moved), the window uncut and never idle. -/
theorem before8_3_of {c : Dev nD} (dat : Dat τ (Elt F) Ix ℕ U Lvl cfg8 c) (hA : dat.A 3 = V c (Pipeline.arrRef spec8 3))
    (hafter : ∀ t, dat.after 3 t = iblk V c 3 t) (t : Fin cfg8.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO8_4 : View sig .tc .vmem S1x2048 .f32 := (Memref.whole cc8_stg4_0 : Memref sig .tc .vmem S1x2048 .f32).view
/-- Each window's current staging memref at point `t`, spelled as the pipeline passes it (`bodyAt8`), and its wholeness. -/
abbrev ms8_0 (t : Fin cfg8.N) : Memref sig .tc .vmem S32x2048 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2x2048 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x2048 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x1 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x2048 .f32 := win8_4.stage (cfg8.slots t 4)
abbrev hs8_4 (t : Fin cfg8.N) : (ms8_4 t).IsWhole := hstage8_4 ((cfg8.slots t 4).cast nbuf8_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun8_A (c : Dev nD) (i : grid8.Coords) (arg1 : Memref sig .tc .vmem S32x2048 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x2048 .f32) (harg5 : arg5.IsWhole)
    (x0 : Vec F S32x2048 .f32) (x1 : Vec F S2x2048 .f32) (x2 : Vec F S1x2048 .f32) (x3 : Vec F S1x1 .f32) :
    { L4 : List (View.Piece (Elt F) S1x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) 𝒱₀ c none) E (cc8__final_body i arg1 harg1 arg2 harg2 arg3 harg3 arg4 harg4 arg5 harg5) K } := by
  refine ⟨?_, fun E K => ?run⟩
  case run =>
    simp only [cc8__final_body_eq_skeleton]; unfold cc8__final_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (1 store of `S1x2048`, by `Piece.tiledL`), so they cover it. -/
theorem cover8_A_4 (c : Dev nD) (i : grid8.Coords) (arg1 : Memref sig .tc .vmem S32x2048 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x2048 .f32) (harg5 : arg5.IsWhole)
    (x0 : Vec F S32x2048 .f32) (x1 : Vec F S2x2048 .f32) (x2 : Vec F S1x2048 .f32) (x3 : Vec F S1x1 .f32) (y : S1x2048.Idx) :
    ∃ pc ∈ (kernelRun8_A (Ix := Ix) (U := U) (Lvl := Lvl) 𝒱₀ c i arg1 harg1 arg2 harg2 arg3 harg3 arg4 harg4 arg5 harg5 x0 x1 x2 x3).1, y ∈ pc.1.set :=
  View.cover_of_tiledL (kernelRun8_A (Ix := Ix) (U := U) (Lvl := Lvl) 𝒱₀ c i arg1 harg1 arg2 harg2 arg3 harg3 arg4 harg4 arg5 harg5 x0 x1 x2 x3).1 S1x2048.size (by sl_kernel_rfl) y

/-- What the run leaves in output 4's staging buffer: its pieces read back over junk. -/
def out8_A_4 (c : Dev nD) (i : grid8.Coords) (arg1 : Memref sig .tc .vmem S32x2048 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x2048 .f32) (harg5 : arg5.IsWhole)
    (x0 : Vec F S32x2048 .f32) (x1 : Vec F S2x2048 .f32) (x2 : Vec F S1x2048 .f32) (x3 : Vec F S1x1 .f32) : Vec F S1x2048 .f32 :=
  VO8_4.read (Elt F) (VO8_4.writes (Elt F) VO8_4.junk (kernelRun8_A (Ix := Ix) (U := U) (Lvl := Lvl) 𝒱₀ c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt8 (c : Dev nD) (t : Fin cfg8.N) : Vec F S1x2048 .f32 :=
  out8_A_4 (Ix := Ix) (U := U) (Lvl := Lvl) 𝒱₀ c (grid8.coords t) (ms8_0 t) (hs8_0 t) (ms8_1 t) (hs8_1 t) (ms8_2 t) (hs8_2 t) (ms8_3 t) (hs8_3 t) (ms8_4 t) (hs8_4 t) (iblk V c 0 t) (iblk V c 1 t) (iblk V c 2 t) (iblk V c 3 t)

/-! ## The pipeline's proof data -/

/-- The proof data of pipeline 4 on core `c`: the arrays as the region finds them (`V`); after the body at
    point `t` each input's buffer at its block and the outputs' at `outsAt8`; the invariant the class's
    (`ΦA`: the scoped rest and the generator register); the core owing `D c` throughout; full shares. -/
def dat (c : Dev nD) : Dat τ (Elt F) Ix ℕ U Lvl cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt8 (Ix := Ix) (U := U) (Lvl := Lvl) 𝒱₀ V c t)
  Φ _ := ΦK (F := F) (Ix := Ix) (U := U) (Lvl := Lvl) c
  q _ := fullShare
  owed _ := D c
  recorded _ := B c

variable (ι : Ix)

local notation "𝕕" => dat (Ix := Ix) (U := U) (Lvl := Lvl) 𝒱₀ V D B

/-- The proof data's arrays are the region-entry contents `V`: the proof data's definition projected (`dsimp`). -/
theorem A_eq (c : Dev nD) (w : Fin cfg8.W) : (𝕕 c).A w = V c (Pipeline.arrRef spec8 w) := by
  dsimp only [dat]

/-- What the body leaves, window by window (the proof data's `match` reduced by `dsimp`). -/
theorem after8_0 (c : Dev nD) (t : Fin cfg8.N) : (𝕕 c).after 0 t = iblk V c 0 t := by dsimp only [dat]
theorem after8_1 (c : Dev nD) (t : Fin cfg8.N) : (𝕕 c).after 1 t = iblk V c 1 t := by dsimp only [dat]
theorem after8_2 (c : Dev nD) (t : Fin cfg8.N) : (𝕕 c).after 2 t = iblk V c 2 t := by dsimp only [dat]
theorem after8_3 (c : Dev nD) (t : Fin cfg8.N) : (𝕕 c).after 3 t = iblk V c 3 t := by dsimp only [dat]
theorem after8_4 (c : Dev nD) (t : Fin cfg8.N) : (𝕕 c).after 4 t = (outsAt8 (Ix := Ix) (U := U) (Lvl := Lvl) 𝒱₀ V c t) := by dsimp only [dat]

/-- Each input's current staging buffer holds its block at every point, fetched there or not (`beforeK_W_of`). -/
theorem before8_0 (c : Dev nD) (t : Fin cfg8.N) (d) : (𝕕 c).before 0 t d = iblk V c 0 t :=
  before8_0_of V (𝕕 c) (A_eq 𝒱₀ V D B c 0) (after8_0 𝒱₀ V D B c) t d
theorem before8_1 (c : Dev nD) (t : Fin cfg8.N) (d) : (𝕕 c).before 1 t d = iblk V c 1 t :=
  before8_1_of V (𝕕 c) (A_eq 𝒱₀ V D B c 1) (after8_1 𝒱₀ V D B c) t d
theorem before8_2 (c : Dev nD) (t : Fin cfg8.N) (d) : (𝕕 c).before 2 t d = iblk V c 2 t :=
  before8_2_of V (𝕕 c) (A_eq 𝒱₀ V D B c 2) (after8_2 𝒱₀ V D B c) t d
theorem before8_3 (c : Dev nD) (t : Fin cfg8.N) (d) : (𝕕 c).before 3 t d = iblk V c 3 t :=
  before8_3_of V (𝕕 c) (A_eq 𝒱₀ V D B c 3) (after8_3 𝒱₀ V D B c) t d

/-! ## The body obligation, at a generic point -/

/-- What the body is called with at point `t` (`BodyObligation`'s precondition, the windows one by one), -/
def bodyPre (c : Dev nD) (t : Fin cfg8.N) : sProp 𝕄 :=
  iprop((𝕕 c).Φ t.castSucc ∗ (𝕕 c).owesAt ι t.castSucc
    ∗ (∃ d, owns (c : Thread nD τ) (ms8_0 t) fullShare ((𝕕 c).before 0 t d))
    ∗ (∃ d, owns (c : Thread nD τ) (ms8_1 t) fullShare ((𝕕 c).before 1 t d))
    ∗ (∃ d, owns (c : Thread nD τ) (ms8_2 t) fullShare ((𝕕 c).before 2 t d))
    ∗ (∃ d, owns (c : Thread nD τ) (ms8_3 t) fullShare ((𝕕 c).before 3 t d))
    ∗ (∃ d, owns (c : Thread nD τ) (ms8_4 t) fullShare ((𝕕 c).before 4 t d)))

/-- and what it returns. -/
def bodyPost (c : Dev nD) (t : Fin cfg8.N) : sProp 𝕄 :=
  iprop((𝕕 c).Φ t.succ ∗ (𝕕 c).owesAt ι t.succ
    ∗ owns (c : Thread nD τ) (ms8_0 t) fullShare ((𝕕 c).after 0 t)
    ∗ owns (c : Thread nD τ) (ms8_1 t) fullShare ((𝕕 c).after 1 t)
    ∗ owns (c : Thread nD τ) (ms8_2 t) fullShare ((𝕕 c).after 2 t)
    ∗ owns (c : Thread nD τ) (ms8_3 t) fullShare ((𝕕 c).after 3 t)
    ∗ owns (c : Thread nD τ) (ms8_4 t) fullShare ((𝕕 c).after 4 t))

/-- The body at any point: the inputs' memrefs hold their blocks (`before8_W`); so the
    run applies; the invariant passes through unread; the core owes `D c` throughout. -/
theorem sound_body (c : Dev nD) (t : Fin cfg8.N) :
    bodyPre (U := U) (Lvl := Lvl) 𝒱₀ V D B ι c t ⊢ wp frame (wpE (defs₀ (F := F)) 𝒱₀ c none) Set.univ (bodyAt8 t) (fun _ => bodyPost (U := U) (Lvl := Lvl) 𝒱₀ V D B ι c t) := by
  unfold bodyPre bodyPost bodyAt8
  simp only [before8_0, before8_1, before8_2, before8_3]
  rw [show (𝕕 c).Φ t.succ = (𝕕 c).Φ t.castSucc from rfl,
    show (𝕕 c).owesAt ι t.succ = (𝕕 c).owesAt ι t.castSucc from rfl,
    after8_0, after8_1, after8_2, after8_3, after8_4]
  unfold outsAt8
  unfold out8_A_4
  iintro ⟨HΦ, Ho, ⟨%d0, H0⟩, ⟨%d1, H1⟩, ⟨%d2, H2⟩, ⟨%d3, H3⟩, ⟨%d4, H4⟩⟩
  iapply ((kernelRun8_A (Ix := Ix) (U := U) (Lvl := Lvl) 𝒱₀ c (grid8.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover8_A_4 (Ix := Ix) (U := U) (Lvl := Lvl) 𝒱₀ c _ _ _ _ _ _ _ _ _ _ _ _ _ _ _)

/-- The body table's row at point `t`'s slots is the body as `bodyAt8` spells it. -/
theorem defs₀_row (t : Fin cfg8.N) :
    defs₀ (F := F) .tc cfg8.body (cfg8.bodyArgs t (cfg8.slots t)) = bodyAt8 t := rfl

/-- The body obligation, at every point: the body's triple restated (`triple_restated`). -/
theorem body_obligation (c : Dev nD) : BodyObligation (𝕕 c) (defs₀ (F := F)) 𝒱₀ ι Set.univ := fun t => by
  rw [bigSep_W8, bigSep_W8, defs₀_row]
  exact triple_restated (sound_body (U := U) (Lvl := Lvl) 𝒱₀ V D B ι c t) rfl .rfl fun _ => .rfl

end Cert.Kernel.Own.K8

end
-- ==== Proof.Regions.lean ====
/- One TensorCore kernel inside the run: the state @main holds between its operations, and what a pipeline's region does to it. -/
module

public import proofs.«01_k».proof.Proof.Base
public import proofs.«01_k».proof.Proof.Tc1
public import proofs.«01_k».proof.Proof.Tc2
public import proofs.«01_k».proof.Proof.Tc4
public import proofs.«01_k».proof.Proof.Tc6
public import proofs.«01_k».proof.Proof.Tc8
public import Idealize.ShloMosaic.Lib.Pipeline.RegionArraysS

@[expose] public section

set_option Elab.async false

noncomputable section

namespace Cert.Kernel.Own

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat afterRegion arrRef arrRefs ucRefs cellsGhost toksInit)
open Idealize.ShloMosaic.StableHlo (held)

variable {F : FTy → Type} [FloatOps F]

local notation "𝕄" => MT nD τ sig (HIx 4) (Elt F) ℕ UU ℕ

abbrev adm : (p : Fin 5) → (pcfgs (F := F) p).Adm := fun p => (cfgs p).toPCfg_adm
abbrev Cp : Fin 5 → Pipeline.Cfg sig Λ₀ := Pipeline.pin (pcfgs (F := F)) adm

/-- The pairs a core may have recorded before call `n`. -/
def recs (n : ℕ) (c : Dev nD) : Set (SemLoc sig × HIx 4) := {x | (K (F := F)).lev (T c, x.1) x.2 ≤ 8 * SparseCore.Cfg.Blocks.fst (Q := 4) (N := 4) n}

theorem Otc_none (d : Dev nD) (n : ℕ) (g : GSem nD τ sig) : (K (F := F)).Otc (N := 4) d n g none = 0 := by
  by_contra h
  have := (K (F := F)).lev_of_Otc_pos (Nat.pos_of_ne_zero h)
  rw [SparseCore.Cfg.lev_none] at this
  omega

variable (pdats : (p : Fin 5) → (c : Dev nD) → Dat τ (Elt F) (HIx 4) ℕ UU ℕ (Cp (F := F) p) c)

/-- What @main holds besides its buffers before call `n`, at pipeline `p`'s region: what the core owes and the generator. -/
def owesTc (n : ℕ) (c : Dev nD) : sProp 𝕄 :=
  iprop(∃ W, ⌜(K (F := F)).WBelow (T c) W (8 * SparseCore.Cfg.Blocks.fst (Q := 4) (N := 4) n)⌝ ∗ owes (T c) ((K (F := F)).Otc c n) W)

/-- Pipeline `p`'s region before call `n`, entered with every unscoped buffer at `W c`. -/
def reg (p : Fin 5) (n : ℕ) (W : Dev nD → Valuation τ sig (Elt F)) (kit : Pipeline.LaunchFacts (nD := nD) (τ := τ) cfgs p)
    (hbody : ∀ c, Pipeline.BodyObligationLoose (pdats p c) defs₀ 𝒱₀ none Set.univ)
    (howed : ∀ c t, (pdats p c).owed t = (K (F := F)).Otc c n) (hrec : ∀ c t, (pdats p c).recorded t = recs (F := F) n c)
    (hshare : ∀ c w, (pdats p c).share w = fullShare)
    (hin : ∀ c, iprop(Pipeline.scopedRest (Cp (F := F) p).spec c ∗ ∃ r, prngReg c r) ⊢ (pdats p c).Φ 0)
    (hout : ∀ c, (pdats p c).Φ (Fin.last (Cp (F := F) p).N) ⊢ iprop(Pipeline.scopedRest (Cp (F := F) p).spec c ∗ ∃ r, prngReg c r))
    (hA : ∀ c w, (pdats p c).arrAt w 0 = W c (Proc.devRef .tc (arrRef (Cp (F := F) p).spec w))) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro (Cp (F := F)) pdats none p c fun w s t => by
    rw [howed c t]
    exact (K (F := F)).mayWait_none _ (Otc_none c n)
  pre c := iprop(held (T c) (ucRefs τ sig) (W c) ∗ (∃ r, prngReg c r) ∗ owesTc n c)
  post c := iprop(held (T c) (ucRefs τ sig) (afterRegion (pdats p c) (W c)) ∗ (∃ r, prngReg c r) ∗ owesTc n c)
  X c := iprop(∃ r, prngReg c r)
  Y c := iprop(∃ r, prngReg c r)
  Z c := held (T c) (ucRefs τ sig \ arrRefs (Cp (F := F) p).spec) (W c)
  hentry c := by
    rw [Pipeline.ownSems0_none, Pipeline.prefHeld_of_none _ rfl,
      Pipeline.arrays_held (pcfgs (F := F)) adm pdats p kit.toP c (hshare c) ((pdats p c).arrAt · 0) (W c) (hA c),
      StableHlo.held_sub_split (T c) (Pipeline.arrRefs_sub_ucRefs _ kit.win.arr_unscoped) (W c)]
    iintro ⟨⟨⟨Ha, Hr⟩, HX, HO⟩, -, -⟩
    imodintro
    isplitl [Ha]; · iexact Ha
    isplitr; · iempintro
    isplitl [HO]
    · unfold Pipeline.Dat.owesAt Pipeline.owesWithin Pipeline.Dat.bound owesTc
      rw [howed c 0, hrec c]
      icases HO with ⟨%Wd, %hW, HO⟩; iexists Wd; isplitr
      · ipureintro; exact fun x hx => Or.inl (hW x hx)
      iexact HO
    isplitl [HX]; · iexact HX
    iexact Hr
  hin c := (show _ ⊢ iprop(Pipeline.scopedRest (Cp (F := F) p).spec c ∗ ∃ r, prngReg c r) from by
    iintro ⟨HX, -, Hr⟩
    isplitl [Hr]; · iexact Hr
    iexact HX).trans (hin c)
  hout c := (hout c).trans (by
    rw [Pipeline.ownSems0_none]
    iintro ⟨Hr, HY⟩
    isplitl [HY]; · iexact HY
    isplitr; · iempintro
    iexact Hr)
  hexit c := by
    rw [Pipeline.arrays_held (pcfgs (F := F)) adm pdats p kit.toP c (hshare c) ((pdats p c).arrAt · (Cp (F := F) p).N) (afterRegion (pdats p c) (W c))
        (fun w => (Pipeline.afterRegion_arr (pdats p c) (W c) kit.win.arr_inj w).symm),
      StableHlo.held_sub_split (T c) (Pipeline.arrRefs_sub_ucRefs _ kit.win.arr_unscoped) (afterRegion (pdats p c) (W c)),
      StableHlo.held_congr (T c) (S := ucRefs τ sig \ arrRefs (Cp (F := F) p).spec) (V := afterRegion (pdats p c) (W c)) (V' := W c)
        (Pipeline.afterRegion_off (pdats p c) (W c) _)]
    iintro ⟨Ha, HO, HY, Hr⟩
    imodintro
    isplitl [Ha Hr]
    · isplitl [Ha]; · iexact Ha
      iexact Hr
    isplitl [HY]; · iexact HY
    unfold Pipeline.Dat.owesAt Pipeline.owesWithin Pipeline.Dat.bound owesTc
    rw [howed c (Fin.last _), hrec c]
    icases HO with ⟨%Wd, %hW, HO⟩; iexists Wd; isplitr
    · ipureintro
      intro x hx
      rcases hW hx with h | ⟨w, s, rfl⟩
      · exact h
      · rw [SparseCore.Cfg.lev_none]; exact Nat.zero_le _
    iexact HO

/-- The state between @main's operations: the boundary, every unscoped buffer at `W`, the handshakes' state before call `n`, the generator. -/
def St (n : ℕ) (d : Dev nD) (W : Valuation τ sig (Elt F)) : sProp 𝕄 :=
  iprop(boundary (T d) ∗ held (T d) (ucRefs τ sig) W ∗ (K (F := F)).tcSt EH d n ∗ ∃ r, prngReg d r)

variable (Vv : Fin 4 → Dev nD → Valuation τ sig (Elt F)) [∀ e, Nonempty (Elt F e)]

omit [∀ e, Nonempty (Elt F e)] in
theorem lift_eq (p : Fin 5) : (Prog.lift (.customCall (SparseCore.inner (Pipeline.entry p)) ()) : Prog (TpuEff nD τ sig (Elt F) (SparseCore.Sig (ΛP (F := F)) 4) .tc) PUnit)
    = SparseCore.liftProg (.op (.customCall (Pipeline.entry p) ()) fun _ => .ret ⟨⟩) := rfl

omit [∀ e, Nonempty (Elt F e)] in
theorem lift_call (p : Fin 5) (d : Dev nD) (Φ : PUnit → sProp 𝕄) :
    wp frame (wpE (D (F := F)) 𝒱 (T d) none) Set.univ (.op (.customCall (Pipeline.entry p) ()) fun _ => .ret ⟨⟩) Φ
      ⊢ wp frame (wpE ((K (F := F)).defs (D (F := F))) 𝒱 (T d) none) Set.univ
          (Prog.lift (.customCall (SparseCore.inner (Pipeline.entry p)) ())) Φ := by
  rw [lift_eq]
  have h := (K (F := F)).wp_liftProg (nD := nD) (Name := ℕ) (U := UU) (D (F := F)) 𝒱 (T d) Set.univ none (.op (.customCall (Pipeline.entry p) ()) fun _ => .ret ⟨⟩) Φ
  exact h

theorem reg_wp (p : Fin 5) (R : Pipeline.RegionSeg (pcfgs (F := F)) adm pdats none defs₀ 𝒱₀ (K (F := F)).L (K (F := F)).lev p) (d : Dev nD)
    (Φ : PUnit → sProp 𝕄) :
    iprop((iprop(boundary (T d) ∗ R.post d) -∗ wp frame (wpE (D (F := F)) 𝒱 (T d) none) Set.univ (.ret ⟨⟩) Φ)
        ∗ boundary (T d) ∗ R.pre d ∗ levAts (K (F := F)).L (K (F := F)).lev
        ∗ cellsGhost (Cp (F := F)) EP p d ∗ toksInit (Cp (F := F)) EP p d)
      ⊢ wp frame (wpE (D (F := F)) 𝒱 (T d) none) Set.univ (.op (.customCall (Pipeline.entry p) ()) fun _ => .ret ⟨⟩) Φ := by
  have h := Pipeline.RegionSeg.wp (pcfgs (F := F)) adm pdats none cellOf_inj EP defs₀ 𝒱₀ (K (F := F)).L (K (F := F)).lev R d none (fun _ h => nomatch h)
    (fun _ => .ret ⟨⟩) Φ
  exact h

set_option maxRecDepth 16384 in
set_option maxHeartbeats 400000 in
/-- Pipeline `p`'s region as a step of @main. -/
theorem reg_step (κ : GSem nD τ sig → ℕ) (p : Fin 5) (n : ℕ) (W : Dev nD → Valuation τ sig (Elt F)) (kit : Pipeline.LaunchFacts (nD := nD) (τ := τ) cfgs p)
    (hbody : ∀ c, Pipeline.BodyObligationLoose (pdats p c) defs₀ 𝒱₀ none Set.univ)
    (howed : ∀ c t, (pdats p c).owed t = (K (F := F)).Otc c n) (hrec : ∀ c t, (pdats p c).recorded t = recs (F := F) n c)
    (hshare : ∀ c w, (pdats p c).share w = fullShare)
    (hin : ∀ c, iprop(Pipeline.scopedRest (Cp (F := F) p).spec c ∗ ∃ r, prngReg c r) ⊢ (pdats p c).Φ 0)
    (hout : ∀ c, (pdats p c).Φ (Fin.last (Cp (F := F) p).N) ⊢ iprop(Pipeline.scopedRest (Cp (F := F) p).spec c ∗ ∃ r, prngReg c r))
    (hA : ∀ c w, (pdats p c).arrAt w 0 = W c (Proc.devRef .tc (arrRef (Cp (F := F) p).spec w))) (d : Dev nD) (Φ : PUnit → sProp 𝕄) :
    iprop((K (F := F)).ctx EH (P Vv) κ ∗ St n d (W d) ∗ cellsGhost (Cp (F := F)) EP p d ∗ toksInit (Cp (F := F)) EP p d
        ∗ (St n d (afterRegion (pdats p d) (W d)) -∗ Φ ⟨⟩))
      ⊢ wp frame (wpE ((K (F := F)).defs (D (F := F))) 𝒱 (T d) none) Set.univ
          (Prog.lift (.customCall (SparseCore.inner (Pipeline.entry p)) ())) Φ := by
  refine BIBase.Entails.trans ?_ (lift_call p d Φ)
  refine BIBase.Entails.trans ?_ (reg_wp pdats p (reg pdats p n W kit hbody howed hrec hshare hin hout hA) d Φ)
  show _ ⊢ iprop((iprop(boundary (T d) ∗ held (T d) (ucRefs τ sig) (afterRegion (pdats p d) (W d)) ∗ (∃ r, prngReg d r) ∗ owesTc n d)
      -∗ wp frame (wpE (D (F := F)) 𝒱 (T d) none) Set.univ (.ret ⟨⟩) Φ)
    ∗ boundary (T d) ∗ (held (T d) (ucRefs τ sig) (W d) ∗ (∃ r, prngReg d r) ∗ owesTc n d) ∗ levAts (K (F := F)).L (K (F := F)).lev
    ∗ cellsGhost (Cp (F := F)) EP p d ∗ toksInit (Cp (F := F)) EP p d)
  unfold St SparseCore.Cfg.tcSt owesTc
  iintro ⟨#Hctx, ⟨Hb, Hh, ⟨HO, Hat, Hrest⟩, Hr⟩, Hg, Ht, Hk⟩
  ihave Hlev := (SparseCore.Cfg.ctx_levAts κ) $$ Hctx
  isplitl [Hat Hrest Hk]
  · iintro ⟨Hb, Hh, Hr, HO⟩
    rw [wp_ret]; imodintro
    iapply Hk
    isplitl [Hb]; · iexact Hb
    isplitl [Hh]; · iexact Hh
    isplitl [HO Hat Hrest]
    · isplitl [HO]; · iexact HO
      isplitl [Hat]; · iexact Hat
      iexact Hrest
    iexact Hr
  isplitl [Hb]; · iexact Hb
  isplitl [Hh Hr HO]
  · isplitl [Hh]; · iexact Hh
    isplitl [Hr]; · iexact Hr
    iexact HO
  isplitl [Hlev]; · iexact Hlev
  isplitl [Hg]; · iexact Hg
  iexact Ht

end Cert.Kernel.Own

end

end
-- ==== Proof.Calls.lean ====
/- The four SparseCore calls as steps of @main: four buffers handed to the tiles, brought back with the result written. -/
module

public import proofs.«01_k».proof.Proof.Regions
public import Idealize.ShloMosaic.Lib.Pipeline.RegionArraysS

@[expose] public section

noncomputable section

namespace Cert.Kernel.Own

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat afterRegion arrRef arrRefs ucRefs cellsGhost toksInit)
open Idealize.ShloMosaic.StableHlo (held)

variable {F : FTy → Type} [FloatOps F]

local notation "𝕄" => MT nD τ sig (HIx 4) (Elt F) ℕ UU ℕ

/-! ## The four SparseCore calls as steps of @main -/

theorem held4 {t s e o : DevRef τ sig} (h1 : t ∉ ({s, e, o} : Finset (DevRef τ sig))) (h2 : s ∉ ({e, o} : Finset (DevRef τ sig))) (h3 : e ∉ ({o} : Finset (DevRef τ sig)))
    (d : Dev nD) (W : Valuation τ sig (Elt F)) :
    (held (T d) {t, s, e, o} W : sProp 𝕄)
      = iprop((((d, t) : Loc nD τ sig) ↦{fullShare} W t) ∗ (((d, s) : Loc nD τ sig) ↦{fullShare} W s) ∗ (((d, e) : Loc nD τ sig) ↦{fullShare} W e)
          ∗ (((d, o) : Loc nD τ sig) ↦{fullShare} W o)) := by
  unfold held
  rw [SparseCore.bigSep_insert' h1, SparseCore.bigSep_insert' h2, SparseCore.bigSep_insert' h3, bigSep_singleton]

variable (Vv : Fin 4 → Dev nD → Valuation τ sig (Elt F))

/-- Call `q` reads `t`, `s`, `e` and writes `o`: the buffers at `V` become `V` with `o` at the call's result `fo`. -/
theorem call_step (κ : GSem nD τ sig → ℕ) (q : Fin 4) (d : Dev nD) {t s e o : DevRef τ sig} (h1 : t ∉ ({s, e, o} : Finset (DevRef τ sig)))
    (h2 : s ∉ ({e, o} : Finset (DevRef τ sig))) (h3 : e ∉ ({o} : Finset (DevRef τ sig))) (hS : ({t, s, e, o} : Finset (DevRef τ sig)) ⊆ ucRefs τ sig)
    (V : Valuation τ sig (Elt F)) (fo : Buf (Elt F) ((d, o) : Loc nD τ sig))
    (hst : (bigSep Finset.univ fun c : Fin ((K (F := F)).nCore q) => (P Vv).st q d c)
      = (iprop((((d, t) : Loc nD τ sig) ↦{fullShare} V t) ∗ (((d, s) : Loc nD τ sig) ↦{fullShare} V s) ∗ (((d, e) : Loc nD τ sig) ↦{fullShare} V e)
          ∗ (((d, o) : Loc nD τ sig) ↦{fullShare} V o)) : sProp 𝕄))
    (hdn : (bigSep Finset.univ fun c : Fin ((K (F := F)).nCore q) => (P Vv).dn q d c)
      = (iprop((((d, t) : Loc nD τ sig) ↦{fullShare} V t) ∗ (((d, s) : Loc nD τ sig) ↦{fullShare} V s) ∗ (((d, e) : Loc nD τ sig) ↦{fullShare} V e)
          ∗ (((d, o) : Loc nD τ sig) ↦{fullShare} fo)) : sProp 𝕄)) (Φ : PUnit → sProp 𝕄) :
    iprop((K (F := F)).ctx EH (P Vv) κ ∗ St q.val d V ∗ (St (q.val + 1) d (Function.update V o fo) -∗ Φ ⟨⟩))
      ⊢ wp frame (wpE ((K (F := F)).defs (D (F := F))) 𝒱 (T d) none) Set.univ ((K (F := F)).run d q) Φ := by
  have ht : Function.update V o fo t = V t := Function.update_of_ne (by rintro rfl; simp at h1) _ _
  have hs : Function.update V o fo s = V s := Function.update_of_ne (by rintro rfl; simp at h2) _ _
  have he : Function.update V o fo e = V e := Function.update_of_ne (by rintro rfl; simp at h3) _ _
  unfold St
  rw [StableHlo.held_sub_split (T d) hS V, StableHlo.held_sub_split (T d) hS (Function.update V o fo), held4 h1 h2 h3, held4 h1 h2 h3, ht, hs, he,
    Function.update_self, ← hst, ← hdn,
    StableHlo.held_congr (T d) (S := ucRefs τ sig \ {t, s, e, o}) (V := Function.update V o fo) (V' := V) (fun b hb => Function.update_of_ne (by
      rintro rfl; simp at hb) _ _)]
  iintro ⟨#Hctx, ⟨Hb, ⟨H4, Hrest⟩, Hst, Hr⟩, Hk⟩
  iapply ((K (F := F)).wp_run (D (F := F)) 𝒱 (EH := EH) (P := P Vv) κ d q) $$ [Hst H4 Hb Hrest Hr Hk]
  isplitr; · iexact Hctx
  isplitl [Hst]; · iexact Hst
  isplitl [H4]; · iexact H4
  iintro ⟨Hst, H4⟩
  iapply Hk
  isplitl [Hb]; · iexact Hb
  isplitl [H4 Hrest]
  · isplitl [H4]; · iexact H4
    iexact Hrest
  isplitl [Hst]; · iexact Hst
  iexact Hr

theorem st_0 (d : Dev nD) : (bigSep Finset.univ fun c : Fin ((K (F := F)).nCore 0) => (P Vv).st 0 d c)
    = (iprop((((d, ref main_v5) : Loc nD τ sig) ↦{fullShare} Vv 0 d (ref main_v5)) ∗ (((d, ref main_v1) : Loc nD τ sig) ↦{fullShare} Vv 0 d (ref main_v1))
        ∗ (((d, ref main_v3) : Loc nD τ sig) ↦{fullShare} Vv 0 d (ref main_v3)) ∗ (((d, ref main_v15) : Loc nD τ sig) ↦{fullShare} Vv 0 d (ref main_v15))) : sProp 𝕄) :=
  pay_split (d, ref main_v5) (d, ref main_v1) (d, ref main_v3) (d, ref main_v15) (Vv 0 d (ref main_v5)) (Vv 0 d (ref main_v1)) (Vv 0 d (ref main_v3)) rows0
    rows0_disjoint rows0_cover (Vv 0 d (ref main_v15))
theorem dn_0 (d : Dev nD) : (bigSep Finset.univ fun c : Fin ((K (F := F)).nCore 0) => (P Vv).dn 0 d c)
    = (iprop((((d, ref main_v5) : Loc nD τ sig) ↦{fullShare} Vv 0 d (ref main_v5)) ∗ (((d, ref main_v1) : Loc nD τ sig) ↦{fullShare} Vv 0 d (ref main_v1))
        ∗ (((d, ref main_v3) : Loc nD τ sig) ↦{fullShare} Vv 0 d (ref main_v3))
        ∗ (((d, ref main_v15) : Loc nD τ sig) ↦{fullShare} (ret0 (Vv 0 d) : Buf (Elt F) ((d, ref main_v15) : Loc nD τ sig)))) : sProp 𝕄) :=
  pay_split (d, ref main_v5) (d, ref main_v1) (d, ref main_v3) (d, ref main_v15) (Vv 0 d (ref main_v5)) (Vv 0 d (ref main_v1)) (Vv 0 d (ref main_v3)) rows0
    rows0_disjoint rows0_cover (ret0 (Vv 0 d))
theorem call_0 (κ : GSem nD τ sig → ℕ) (d : Dev nD) (Φ : PUnit → sProp 𝕄) :
    iprop((K (F := F)).ctx EH (P Vv) κ ∗ St 0 d (Vv 0 d)
        ∗ (St 1 d (Function.update (Vv 0 d) (ref main_v15) (ret0 (Vv 0 d))) -∗ Φ ⟨⟩))
      ⊢ wp frame (wpE ((K (F := F)).defs (D (F := F))) 𝒱 (T d) none) Set.univ ((K (F := F)).run d 0) Φ :=
  call_step Vv κ 0 d (t := ref main_v5) (s := ref main_v1) (e := ref main_v3) (o := ref main_v15) (by decide) (by decide) (by decide) (by decide)
    (Vv 0 d) (ret0 (Vv 0 d)) (st_0 Vv d) (dn_0 Vv d) Φ

theorem st_1 (d : Dev nD) : (bigSep Finset.univ fun c : Fin ((K (F := F)).nCore 1) => (P Vv).st 1 d c)
    = (iprop((((d, ref main_v17_0) : Loc nD τ sig) ↦{fullShare} Vv 1 d (ref main_v17_0)) ∗ (((d, ref main_v1) : Loc nD τ sig) ↦{fullShare} Vv 1 d (ref main_v1))
        ∗ (((d, ref main_v3) : Loc nD τ sig) ↦{fullShare} Vv 1 d (ref main_v3)) ∗ (((d, ref main_v18) : Loc nD τ sig) ↦{fullShare} Vv 1 d (ref main_v18))) : sProp 𝕄) :=
  pay_split (d, ref main_v17_0) (d, ref main_v1) (d, ref main_v3) (d, ref main_v18) (Vv 1 d (ref main_v17_0)) (Vv 1 d (ref main_v1)) (Vv 1 d (ref main_v3)) rows3
    rows3_disjoint rows3_cover (Vv 1 d (ref main_v18))
theorem dn_1 (d : Dev nD) : (bigSep Finset.univ fun c : Fin ((K (F := F)).nCore 1) => (P Vv).dn 1 d c)
    = (iprop((((d, ref main_v17_0) : Loc nD τ sig) ↦{fullShare} Vv 1 d (ref main_v17_0)) ∗ (((d, ref main_v1) : Loc nD τ sig) ↦{fullShare} Vv 1 d (ref main_v1))
        ∗ (((d, ref main_v3) : Loc nD τ sig) ↦{fullShare} Vv 1 d (ref main_v3))
        ∗ (((d, ref main_v18) : Loc nD τ sig) ↦{fullShare} (ret1 (Vv 1 d) : Buf (Elt F) ((d, ref main_v18) : Loc nD τ sig)))) : sProp 𝕄) :=
  pay_split (d, ref main_v17_0) (d, ref main_v1) (d, ref main_v3) (d, ref main_v18) (Vv 1 d (ref main_v17_0)) (Vv 1 d (ref main_v1)) (Vv 1 d (ref main_v3)) rows3
    rows3_disjoint rows3_cover (ret1 (Vv 1 d))
theorem call_1 (κ : GSem nD τ sig → ℕ) (d : Dev nD) (Φ : PUnit → sProp 𝕄) :
    iprop((K (F := F)).ctx EH (P Vv) κ ∗ St 1 d (Vv 1 d)
        ∗ (St 2 d (Function.update (Vv 1 d) (ref main_v18) (ret1 (Vv 1 d))) -∗ Φ ⟨⟩))
      ⊢ wp frame (wpE ((K (F := F)).defs (D (F := F))) 𝒱 (T d) none) Set.univ ((K (F := F)).run d 1) Φ :=
  call_step Vv κ 1 d (t := ref main_v17_0) (s := ref main_v1) (e := ref main_v3) (o := ref main_v18) (by decide) (by decide) (by decide) (by decide)
    (Vv 1 d) (ret1 (Vv 1 d)) (st_1 Vv d) (dn_1 Vv d) Φ

theorem st_2 (d : Dev nD) : (bigSep Finset.univ fun c : Fin ((K (F := F)).nCore 2) => (P Vv).st 2 d c)
    = (iprop((((d, ref main_v19_0) : Loc nD τ sig) ↦{fullShare} Vv 2 d (ref main_v19_0)) ∗ (((d, ref main_v1) : Loc nD τ sig) ↦{fullShare} Vv 2 d (ref main_v1))
        ∗ (((d, ref main_v3) : Loc nD τ sig) ↦{fullShare} Vv 2 d (ref main_v3)) ∗ (((d, ref main_v20) : Loc nD τ sig) ↦{fullShare} Vv 2 d (ref main_v20))) : sProp 𝕄) :=
  pay_split (d, ref main_v19_0) (d, ref main_v1) (d, ref main_v3) (d, ref main_v20) (Vv 2 d (ref main_v19_0)) (Vv 2 d (ref main_v1)) (Vv 2 d (ref main_v3)) rows3
    rows3_disjoint rows3_cover (Vv 2 d (ref main_v20))
theorem dn_2 (d : Dev nD) : (bigSep Finset.univ fun c : Fin ((K (F := F)).nCore 2) => (P Vv).dn 2 d c)
    = (iprop((((d, ref main_v19_0) : Loc nD τ sig) ↦{fullShare} Vv 2 d (ref main_v19_0)) ∗ (((d, ref main_v1) : Loc nD τ sig) ↦{fullShare} Vv 2 d (ref main_v1))
        ∗ (((d, ref main_v3) : Loc nD τ sig) ↦{fullShare} Vv 2 d (ref main_v3))
        ∗ (((d, ref main_v20) : Loc nD τ sig) ↦{fullShare} (ret2 (Vv 2 d) : Buf (Elt F) ((d, ref main_v20) : Loc nD τ sig)))) : sProp 𝕄) :=
  pay_split (d, ref main_v19_0) (d, ref main_v1) (d, ref main_v3) (d, ref main_v20) (Vv 2 d (ref main_v19_0)) (Vv 2 d (ref main_v1)) (Vv 2 d (ref main_v3)) rows3
    rows3_disjoint rows3_cover (ret2 (Vv 2 d))
theorem call_2 (κ : GSem nD τ sig → ℕ) (d : Dev nD) (Φ : PUnit → sProp 𝕄) :
    iprop((K (F := F)).ctx EH (P Vv) κ ∗ St 2 d (Vv 2 d)
        ∗ (St 3 d (Function.update (Vv 2 d) (ref main_v20) (ret2 (Vv 2 d))) -∗ Φ ⟨⟩))
      ⊢ wp frame (wpE ((K (F := F)).defs (D (F := F))) 𝒱 (T d) none) Set.univ ((K (F := F)).run d 2) Φ :=
  call_step Vv κ 2 d (t := ref main_v19_0) (s := ref main_v1) (e := ref main_v3) (o := ref main_v20) (by decide) (by decide) (by decide) (by decide)
    (Vv 2 d) (ret2 (Vv 2 d)) (st_2 Vv d) (dn_2 Vv d) Φ

theorem st_3 (d : Dev nD) : (bigSep Finset.univ fun c : Fin ((K (F := F)).nCore 3) => (P Vv).st 3 d c)
    = (iprop((((d, ref main_v23) : Loc nD τ sig) ↦{fullShare} Vv 3 d (ref main_v23)) ∗ (((d, ref main_v1) : Loc nD τ sig) ↦{fullShare} Vv 3 d (ref main_v1))
        ∗ (((d, ref main_v3) : Loc nD τ sig) ↦{fullShare} Vv 3 d (ref main_v3)) ∗ (((d, ref main_v24) : Loc nD τ sig) ↦{fullShare} Vv 3 d (ref main_v24))) : sProp 𝕄) :=
  pay_split (d, ref main_v23) (d, ref main_v1) (d, ref main_v3) (d, ref main_v24) (Vv 3 d (ref main_v23)) (Vv 3 d (ref main_v1)) (Vv 3 d (ref main_v3)) rows0
    rows0_disjoint rows0_cover (Vv 3 d (ref main_v24))
theorem dn_3 (d : Dev nD) : (bigSep Finset.univ fun c : Fin ((K (F := F)).nCore 3) => (P Vv).dn 3 d c)
    = (iprop((((d, ref main_v23) : Loc nD τ sig) ↦{fullShare} Vv 3 d (ref main_v23)) ∗ (((d, ref main_v1) : Loc nD τ sig) ↦{fullShare} Vv 3 d (ref main_v1))
        ∗ (((d, ref main_v3) : Loc nD τ sig) ↦{fullShare} Vv 3 d (ref main_v3))
        ∗ (((d, ref main_v24) : Loc nD τ sig) ↦{fullShare} (ret3 (Vv 3 d) : Buf (Elt F) ((d, ref main_v24) : Loc nD τ sig)))) : sProp 𝕄) :=
  pay_split (d, ref main_v23) (d, ref main_v1) (d, ref main_v3) (d, ref main_v24) (Vv 3 d (ref main_v23)) (Vv 3 d (ref main_v1)) (Vv 3 d (ref main_v3)) rows0
    rows0_disjoint rows0_cover (ret3 (Vv 3 d))
theorem call_3 (κ : GSem nD τ sig → ℕ) (d : Dev nD) (Φ : PUnit → sProp 𝕄) :
    iprop((K (F := F)).ctx EH (P Vv) κ ∗ St 3 d (Vv 3 d)
        ∗ (St 4 d (Function.update (Vv 3 d) (ref main_v24) (ret3 (Vv 3 d))) -∗ Φ ⟨⟩))
      ⊢ wp frame (wpE ((K (F := F)).defs (D (F := F))) 𝒱 (T d) none) Set.univ ((K (F := F)).run d 3) Φ :=
  call_step Vv κ 3 d (t := ref main_v23) (s := ref main_v1) (e := ref main_v3) (o := ref main_v24) (by decide) (by decide) (by decide) (by decide)
    (Vv 3 d) (ret3 (Vv 3 d)) (st_3 Vv d) (dn_3 Vv d) Φ

end Cert.Kernel.Own

end

end
-- ==== Proof.Rows.lean ====
/- The tiles' rows of the results, and what each call leaves on them. -/
module
public import proofs.«01_k».proof.Proof.Base
public import Idealize.ShloMosaic.Lib.Pointwise
@[expose] public section
noncomputable section
namespace Cert.Kernel.Own
open Cert.Kernel Cert.Kernel.Gen
open Idealize.ShloMosaic
open Idealize.SL
variable {F : FTy → Type} [FloatOps F]

/-- A tile's row of a scalar call's result, as a rectangle. -/
abbrev rect0 (L : grid0.Coords) : Rect S32x10240 := Rect.unit (s := S32x10240) (k0_off4 L) S1x10240.size (k0_off4_inb L)

/-- A tile's four rows of a feature call's arrays, as a rectangle. -/
abbrev rect3 (L : grid0.Coords) : Rect S128x10240 := Rect.unit (s := S128x10240) (k3_off12 L) S4x10240.size (k3_off12_inb L)

theorem coords_lt (L : grid0.Coords) : (L 0).val < 2 ∧ (L 1).val < 16 := ⟨(L 0).isLt, (L 1).isLt⟩

/-- Tile `L`'s number, below 32. -/
def widL (L : grid0.Coords) : Fin 32 := ⟨wid0 L, by have := coords_lt L; unfold wid0; omega⟩

theorem ix2_eq {m n : ℕ} (x : (⟨2, ![m, n]⟩ : Shape).Idx) (a : Fin m) (b : Fin n) (h0 : a.val = (x 0).val) (h1 : b.val = (x 1).val) :
    ValueIdx.ix2 a b = x := by
  funext k
  match k with
  | 0 => exact Fin.ext h0
  | 1 => exact Fin.ext h1

theorem rect0_idx (L : grid0.Coords) (y : S1x10240.Idx) :
    (rect0 L).emb y = ValueIdx.ix2 (widL L) (y 1 : Fin 10240) := by
  have h0 : (y 0).val < 1 := (y 0).isLt
  funext a; apply Fin.ext
  match a with
  | 0 =>
    show k0_off4 L 0 + 1 * (y 0).val = wid0 L
    rw [k0_off4_eq]; show 2 * (L 1).val + (L 0).val + 1 * (y 0).val = wid0 L; unfold wid0; omega
  | 1 =>
    show k0_off4 L 1 + 1 * (y 1).val = (y 1).val
    rw [k0_off4_eq]; show 0 + 1 * (y 1).val = (y 1).val; omega

theorem rect0_set (L : grid0.Coords) : (rect0 L).set = rows0 (widL L) := by
  ext x
  rw [← Rect.map_emb_univ, Finset.mem_map]
  constructor
  · rintro ⟨y, -, rfl⟩
    rw [rect0_idx]; exact Finset.mem_filter.mpr ⟨Finset.mem_univ _, rfl⟩
  · intro h
    refine ⟨ValueIdx.ix2 (0 : Fin 1) (x 1 : Fin 10240), Finset.mem_univ _, ?_⟩
    rw [rect0_idx]
    funext a
    match a with
    | 0 => exact Fin.ext ((Finset.mem_filter.mp h).2).symm
    | 1 => rfl

theorem row_reshape {n : ℕ} (h : (⟨1, ![n]⟩ : Shape).numel = (⟨2, ![1, n]⟩ : Shape).numel) (t : Fin n) :
    Shape.reshapeEquiv h (ValueIdx.ix1 t) = ValueIdx.ix2 (0 : Fin 1) t := by
  refine Shape.reshapeEquiv_eq_of_vals _ _ _ t.val t.val ?_ ?_ rfl
  · rw [Shape.rowMajor_val_two]; show 0 * n + t.val = _; omega
  · rw [Shape.rowMajor_val_one]; rfl

/-- Contents whose reading through tile `L`'s row is the tile's running sums are the call's result on that row. -/
theorem res0_of_read (L : grid0.Coords) (tab : S10240.Idx → F .f32) (src dst : S320000.Idx → BitVec 32) (f : S32x10240.Idx → F .f32)
    (h : S10240.numel = S1x10240.numel)
    (hf : ∀ j : S10240.Idx, f ((rect0 L).emb (Shape.reshapeEquiv h j)) = run0 tab src dst (wid0 L) (j 0).val 10000) :
    ∀ x ∈ rows0 (widL L), f x = res0 tab src dst x := by
  intro x hx
  have hx0 : (x 0).val = wid0 L := (Finset.mem_filter.mp hx).2
  have hx1 : x = (rect0 L).emb (Shape.reshapeEquiv h (ValueIdx.ix1 (show Fin 10240 from x 1))) := by
    refine Eq.trans ?_ (congrArg (rect0 L).emb (row_reshape (n := 10240) h (show Fin 10240 from x 1)).symm)
    refine Eq.trans ?_ (rect0_idx L (ValueIdx.ix2 (0 : Fin 1) (show Fin 10240 from x 1))).symm
    funext a
    match a with
    | 0 => exact Fin.ext hx0
    | 1 => rfl
  refine (congrArg f hx1).trans ((hf _).trans ?_)
  unfold res0; rw [hx0]

theorem rect3_idx (L : grid0.Coords) (y : S4x10240.Idx) :
    (rect3 L).emb y = ValueIdx.ix2 (⟨4 * wid0 L + (y 0).val, by have := coords_lt L; have h0 : (y 0).val < 4 := (y 0).isLt; unfold wid0; omega⟩ : Fin 128) (y 1 : Fin 10240) := by
  funext a; apply Fin.ext
  match a with
  | 0 =>
    show k3_off12 L 0 + 1 * (y 0).val = 4 * wid0 L + (y 0).val
    rw [k3_off12_eq]; show 8 * (L 1).val + 4 * (L 0).val + 1 * (y 0).val = 4 * wid0 L + (y 0).val; unfold wid0; omega
  | 1 =>
    show k3_off12 L 1 + 1 * (y 1).val = (y 1).val
    rw [k3_off12_eq]; show 0 + 1 * (y 1).val = (y 1).val; omega

set_option maxRecDepth 4096 in
theorem rect3_set (L : grid0.Coords) : (rect3 L).set = rows3 (widL L) := by
  ext x
  rw [← Rect.map_emb_univ, Finset.mem_map]
  constructor
  · rintro ⟨y, -, rfl⟩
    have h0 : (y 0).val < 4 := (y 0).isLt
    rw [rect3_idx]; refine Finset.mem_filter.mpr ⟨Finset.mem_univ _, ?_⟩
    show (4 * wid0 L + (y 0).val) / 4 = wid0 L; omega
  · intro h
    have h' : (x 0).val / 4 = wid0 L := (Finset.mem_filter.mp h).2
    refine ⟨ValueIdx.ix2 (⟨(x 0).val % 4, by omega⟩ : Fin 4) (x 1 : Fin 10240), Finset.mem_univ _, ?_⟩
    rw [rect3_idx]
    refine ix2_eq (m := 128) (n := 10240) x _ _ ?_ rfl
    show 4 * wid0 L + (x 0).val % 4 = (x 0).val; omega

/-- A tile's four rows of the table, read at row `r`: row `4 w + r` of the table. -/
theorem entAt2_rows (L : grid0.Coords) (tab : S128x10240.Idx → F .f32) (g : S4x10240.Idx → F .f32)
    (hg : ∀ y, g y = tab ((rect3 L).emb y)) (r t : ℕ) (hr : r < 4) : entAt2 g r t = entAt2 tab (4 * wid0 L + r) t := by
  have hL := coords_lt L
  have hw : 4 * wid0 L + r < 128 := by unfold wid0; omega
  unfold entAt2
  by_cases ht : t < 10240
  · rw [dif_pos ⟨hr, ht⟩, dif_pos ⟨hw, ht⟩, hg, rect3_idx]; rfl
  · rw [dif_neg fun h => ht h.2, dif_neg fun h => ht h.2]

/-- Contents whose reading through tile `L`'s rows is the tile's running sums are the call's result on those rows. -/
theorem res3_of_read (L : grid0.Coords) (tab : S128x10240.Idx → F .f32) (g : S4x10240.Idx → F .f32) (src dst : S320000.Idx → BitVec 32)
    (f : S128x10240.Idx → F .f32) (hg : ∀ y, g y = tab ((rect3 L).emb y))
    (hf : ∀ j : S4x10240.Idx, f ((rect3 L).emb j) = run3 g src dst (j 0).val (j 1).val 320000) :
    ∀ x ∈ rows3 (widL L), f x = res3 tab src dst x := by
  intro x hx
  have hx0 : (x 0).val / 4 = wid0 L := (Finset.mem_filter.mp hx).2
  have hlt : (x 0).val % 4 < 4 := Nat.mod_lt _ (by decide)
  have hsum : 4 * wid0 L + (x 0).val % 4 = (x 0).val := by omega
  have := hf (ValueIdx.ix2 (⟨(x 0).val % 4, hlt⟩ : Fin 4) (x 1 : Fin 10240))
  have he : (rect3 L).emb (ValueIdx.ix2 (⟨(x 0).val % 4, hlt⟩ : Fin 4) (x 1 : Fin 10240)) = x := by
    rw [rect3_idx]
    exact ix2_eq (m := 128) (n := 10240) x _ _ hsum rfl
  rw [he] at this
  rw [this]
  unfold run3 res3
  show segAcc _ (fun e => nodeAt dst e = (x 1).val) (fun e => entAt2 g ((x 0).val % 4) (nodeAt src e)) 320000 = _
  simp only [entAt2_rows L tab g hg _ _ hlt, hsum]

end Cert.Kernel.Own
end
end
-- ==== Proof.Obl.lean ====
/- Each SparseCore call's task on one tile meets what the launch asks of it. -/
module

public import proofs.«01_k».proof.Proof.Rows

@[expose] public section

noncomputable section

namespace Cert.Kernel.Own

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 4) (Elt F) ℕ UU ℕ

/-- The coordinates of the tile on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem obl_post {thr : Thread nD τ} {A B C : sProp 𝕄} {O : CellTallies nD τ sig (HIx 4)} {W : Waits sig (HIx 4)} (R : HIx 4 → Prop) :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Call0

variable (d : Dev nD) (L : grid0.Coords)

/-- The call's scratch among the tile's own buffers, … -/
theorem ownBufs_0 :
    (ownBufs (thr0 d L) : sProp 𝕄)
      = iprop((∃ f, (thr0 d L).loc cc0_scratch0 ↦{fullShare} f) ∗ (∃ f, (thr0 d L).loc cc0_scratch1 ↦{fullShare} f) ∗ (∃ f, (thr0 d L).loc cc0_scratch2 ↦{fullShare} f) ∗ (∃ f, (thr0 d L).loc cc0_scratch3 ↦{fullShare} f) ∗ bigSep (((((ownRefs (τ := τ) (sig := sig) (Proc.scVector ((L 0).castLE hcore0) ((L 1).castLE hsub0))).erase ((Proc.scVector ((L 0).castLE hcore0) ((L 1).castLE hsub0)).devRef cc0_scratch0)).erase ((Proc.scVector ((L 0).castLE hcore0) ((L 1).castLE hsub0)).devRef cc0_scratch1)).erase ((Proc.scVector ((L 0).castLE hcore0) ((L 1).castLE hsub0)).devRef cc0_scratch2)).erase ((Proc.scVector ((L 0).castLE hcore0) ((L 1).castLE hsub0)).devRef cc0_scratch3))
          fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((L 0).castLE hcore0) ((L 1).castLE hsub0))) (b := (Proc.scVector ((L 0).castLE hcore0) ((L 1).castLE hsub0)).devRef cc0_scratch3) rfl⟩⟩⟩)]

/-- … and its semaphores among the tile's own. -/
theorem ownSems_0 :
    (ownSems0 (thr0 d L) : sProp 𝕄)
      = iprop(semVal (thr0 d L, SemLoc.dma cc0_scoped0.sem) 0 ∗ semVal (thr0 d L, SemLoc.dma cc0_scoped1.sem) 0 ∗ semVal (thr0 d L, SemLoc.dma cc0_scoped2.sem) 0 ∗ semVal (thr0 d L, SemLoc.dma cc0_scoped3.sem) 0 ∗ bigSep (((((ownCells (thr0 d L)).erase (((thr0 d L, SemLoc.dma cc0_scoped0.sem) : GSem nD τ sig))).erase (((thr0 d L, SemLoc.dma cc0_scoped1.sem) : GSem nD τ sig))).erase (((thr0 d L, SemLoc.dma cc0_scoped2.sem) : GSem nD τ sig))).erase (((thr0 d L, SemLoc.dma cc0_scoped3.sem) : GSem nD τ sig))) fun g => semVal g 0) := by
  unfold SparseCore.Cfg.ownSems0
  rw [SparseCore.bigSep_erase' ((mem_ownCells (g := ((thr0 d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := ((thr0 d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := ((thr0 d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), (mem_ownCells (g := ((thr0 d L, SemLoc.dma cc0_scoped3.sem) : GSem nD τ sig))).mpr ⟨rfl, by show (SemLoc.dma cc0_scoped3.sem : SemLoc sig).isScoped .scVector = true; decide⟩⟩⟩⟩)]

set_option maxRecDepth 16384 in
set_option maxHeartbeats 2000000 in
/-- The task: from its pieces, its scratch and its semaphores, the pieces back with its rows of the result written. -/
theorem body_0 (W : Valuation τ sig (Elt F)) (fo : S32x10240.Idx → F .f32)
    (hr3 : ∀ j : S320000.Idx, (show BitVec 32 from W (ref main_v1) j).toNat < 10240) (hr4 : ∀ j : S320000.Idx, (show BitVec 32 from W (ref main_v3) j).toNat < 10240)
    (O : CellTallies nD τ sig (HIx 4)) (Wt : Waits sig (HIx 4)) (hO : ∀ g, O g none = 0) :
    iprop(levAts (K (F := F)).L (K (F := F)).lev ∗ emp ∗ pay0 d W fo (widL L) ∗ scopedBufs (thr0 d L) ∗ scopedSems0 (thr0 d L) ∗ owes (thr0 d L) O Wt)
      ⊢ wp frame (wpE (defs₀ (F := F)) 𝒱₀ (thr0 d L) none) Set.univ
          (cc0__scalar_segsum_body (F := F) L (Memref.whole main_v5_scv) (Memref.isWhole_whole _) (Memref.whole main_v1_scv) (Memref.isWhole_whole _) (Memref.whole main_v3_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3)
          fun _ => (iprop(pay0 d W (ret0 W) (widL L) ∗ scopedBufs (thr0 d L) ∗ scopedSems0 (thr0 d L)
            ∗ ∃ W', ⌜∀ p ∈ W', p ∈ Wt ∨ p.2 = none⌝ ∗ owes (thr0 d L) O W') : sProp 𝕄) := by
  rw [(K (F := F)).scopedBufs_V facts d ((L 0).castLE hcore0) ((L 1).castLE hsub0), SparseCore.Cfg.scopedSems0_V (Val := Elt F) d ((L 0).castLE hcore0) ((L 1).castLE hsub0),
    ownSems_0, ownBufs_0]
  unfold pay0 pay
  iintro ⟨#Hlv, -, ⟨H2, H3, H4, H5⟩, ⟨⟨%f6, B0⟩, ⟨%f7, B1⟩, ⟨%f8, B2⟩, ⟨%f9, B3⟩, Hbufs⟩, ⟨S0, S1, S2, S3, Hsems⟩, HO⟩
  ihave Hmw := (show levAts (K (F := F)).L (K (F := F)).lev ⊢ Transfers.MayWaits (thr0 d L) (none : HIx 4) O from
    (K (F := F)).mayWaits_none (thr := thr0 d L) hO) $$ Hlv
  have hset : (row0 L (Memref.whole main_v15_scv)).view.set = rows0 (widL L) := by
    show (((View.whole main_v15_scv).slice (rect0 L)).reshape S10240 squeezes_S1x10240_S10240.numel_eq).set = _
    rw [View.set_reshape, View.set_slice]; exact Finset.map_refl.trans (rect0_set L)
  iapply (wp_wand _ _ _) $$ [Hmw H2 H3 H4 H5 B0 B1 B2 B3 S0 S1 S2 S3 HO]
  · iapply ((tile0 (U := UU) d L (Memref.whole main_v5_scv) (Memref.isWhole_whole _) (Memref.whole main_v1_scv) (Memref.isWhole_whole _) (Memref.whole main_v3_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 (leaf 5 fullShare (widL L)) (leaf 5 fullShare (widL L)) (leaf 5 fullShare (widL L))
      (W (ref main_v5)) (W (ref main_v1)) (W (ref main_v3)) fo f6 f7 f8 f9 hr3 hr4 O Wt))
    isplitl [Hmw]; · iexact Hmw
    isplitl [H2]; · iexact H2
    isplitl [H3]; · iexact H3
    isplitl [H4]; · iexact H4
    isplitl [H5]; · rw [hset]; iexact H5
    isplitl [B0]; · iexact B0
    isplitl [B1]; · iexact B1
    isplitl [B2]; · iexact B2
    isplitl [B3]; · iexact B3
    isplitl [S0]; · iexact S0
    isplitl [S1]; · iexact S1
    isplitl [S2]; · iexact S2
    isplitl [S3]; · iexact S3
    iexact HO
  · iintro %_ ⟨H2, H3, H4, ⟨%f, %hf, H5⟩, B0, B1, B2, B3, S0, S1, S2, S3, HO⟩
    isplitl [H2 H3 H4 H5]
    · isplitl [H2]; · iexact H2
      isplitl [H3]; · iexact H3
      isplitl [H4]; · iexact H4
      rw [hset]
      iapply (Entails.of_eq (pointsTo_congr (show ∀ x ∈ rows0 (widL L), (show S32x10240.Idx → F .f32 from f) x = ret0 W x from
        res0_of_read L _ _ _ f _ hf)))
      iexact H5
    isplitl [B0 B1 B2 B3 Hbufs]
    · isplitl [B0]; · iexact B0
      isplitl [B1]; · iexact B1
      isplitl [B2]; · iexact B2
      isplitl [B3]; · iexact B3
      iexact Hbufs
    isplitl [S0 S1 S2 S3 Hsems]
    · isplitl [S0]; · iexact S0
      isplitl [S1]; · iexact S1
      isplitl [S2]; · iexact S2
      isplitl [S3]; · iexact S3
      iexact Hsems
    iexact HO

theorem defs₀_vector_0 (c : Fin τ.nSC) (s : Fin τ.nSub) :
    defs₀ (F := F) (.scVector c s) 0 ()
      = SparseCore.onTile hcore0 hsub0 (fun c s => cc0__scalar_segsum_body (F := F) (coordsV c s) (Memref.whole main_v5_scv) (Memref.isWhole_whole _) (Memref.whole main_v1_scv) (Memref.isWhole_whole _) (Memref.whole main_v3_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3) ⟨⟩ c s := rfl

end Call0

set_option maxRecDepth 16384 in
set_option maxHeartbeats 2000000 in
theorem tileObl_0 (Vv : Fin 4 → Dev nD → Valuation τ sig (Elt F))
    (hr3 : ∀ (d : Dev nD) (j : S320000.Idx), (show BitVec 32 from Vv 0 d (ref main_v1) j).toNat < 10240)
    (hr4 : ∀ (d : Dev nD) (j : S320000.Idx), (show BitVec 32 from Vv 0 d (ref main_v3) j).toNat < 10240) :
    (K (F := F)).TileObl (D (F := F)) 𝒱 (P Vv) v₀ 0 := by
  intro d c i O W hO _ _
  simp only [show (P Vv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector_0]; simp only [SparseCore.onTile, hci, _root_.and_self, ↓reduceDIte]
  exact (body_0 d (coordsV ⟨_, hci.1⟩ ⟨_, hci.2⟩) (Vv 0 d) _ (hr3 d) (hr4 d) O W hO).trans (wp_mono frame _ _ fun _ => obl_post _)

section Call1

variable (d : Dev nD) (L : grid3.Coords)

/-- The call's scratch among the tile's own buffers, … -/
theorem ownBufs_1 :
    (ownBufs (thr3 d L) : sProp 𝕄)
      = iprop((∃ f, (thr3 d L).loc cc3_scratch0 ↦{fullShare} f) ∗ (∃ f, (thr3 d L).loc cc3_scratch1 ↦{fullShare} f) ∗ (∃ f, (thr3 d L).loc cc3_scratch2 ↦{fullShare} f) ∗ (∃ f, (thr3 d L).loc cc3_scratch3 ↦{fullShare} f) ∗ (∃ f, (thr3 d L).loc cc3_scratch4 ↦{fullShare} f) ∗ (∃ f, (thr3 d L).loc cc3_scratch5 ↦{fullShare} f) ∗ bigSep (((((((ownRefs (τ := τ) (sig := sig) (Proc.scVector ((L 0).castLE hcore3) ((L 1).castLE hsub3))).erase ((Proc.scVector ((L 0).castLE hcore3) ((L 1).castLE hsub3)).devRef cc3_scratch0)).erase ((Proc.scVector ((L 0).castLE hcore3) ((L 1).castLE hsub3)).devRef cc3_scratch1)).erase ((Proc.scVector ((L 0).castLE hcore3) ((L 1).castLE hsub3)).devRef cc3_scratch2)).erase ((Proc.scVector ((L 0).castLE hcore3) ((L 1).castLE hsub3)).devRef cc3_scratch3)).erase ((Proc.scVector ((L 0).castLE hcore3) ((L 1).castLE hsub3)).devRef cc3_scratch4)).erase ((Proc.scVector ((L 0).castLE hcore3) ((L 1).castLE hsub3)).devRef cc3_scratch5))
          fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore3) ((L 1).castLE hsub3))) (b := (Proc.scVector ((L 0).castLE hcore3) ((L 1).castLE hsub3)).devRef cc3_scratch0) rfl)).trans ?_
  rw [SparseCore.bigSep_erase' (Finset.mem_erase.mpr ⟨fun e => absurd (Proc.devRef_injective _ e) (show (cc3_scratch1 : Ref sig .scVector) ≠ cc3_scratch0 by decide), SparseCore.Cfg.mem_ownRefs_of_owner (p := (Proc.scVector ((L 0).castLE hcore3) ((L 1).castLE hsub3))) (b := (Proc.scVector ((L 0).castLE hcore3) ((L 1).castLE hsub3)).devRef cc3_scratch1) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := (Proc.scVector ((L 0).castLE hcore3) ((L 1).castLE hsub3))) (b := (Proc.scVector ((L 0).castLE hcore3) ((L 1).castLE hsub3)).devRef cc3_scratch2) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := (Proc.scVector ((L 0).castLE hcore3) ((L 1).castLE hsub3))) (b := (Proc.scVector ((L 0).castLE hcore3) ((L 1).castLE hsub3)).devRef cc3_scratch3) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := (Proc.scVector ((L 0).castLE hcore3) ((L 1).castLE hsub3))) (b := (Proc.scVector ((L 0).castLE hcore3) ((L 1).castLE hsub3)).devRef cc3_scratch4) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := (Proc.scVector ((L 0).castLE hcore3) ((L 1).castLE hsub3))) (b := (Proc.scVector ((L 0).castLE hcore3) ((L 1).castLE hsub3)).devRef cc3_scratch5) rfl⟩⟩⟩⟩⟩)]

/-- … and its semaphores among the tile's own. -/
theorem ownSems_1 :
    (ownSems0 (thr3 d L) : sProp 𝕄)
      = iprop(semVal (thr3 d L, SemLoc.dma cc3_scratch6.sem) 0 ∗ semVal (thr3 d L, SemLoc.dma cc3_scratch7.sem) 0 ∗ semVal (thr3 d L, SemLoc.dma cc3_scratch8.sem) 0 ∗ semVal (thr3 d L, SemLoc.dma cc3_scratch9.sem) 0 ∗ semVal (thr3 d L, SemLoc.dma cc3_scratch10.sem) 0 ∗ semVal (thr3 d L, SemLoc.dma cc3_scoped0.sem) 0 ∗ bigSep (((((((ownCells (thr3 d L)).erase (((thr3 d L, SemLoc.dma cc3_scratch6.sem) : GSem nD τ sig))).erase (((thr3 d L, SemLoc.dma cc3_scratch7.sem) : GSem nD τ sig))).erase (((thr3 d L, SemLoc.dma cc3_scratch8.sem) : GSem nD τ sig))).erase (((thr3 d L, SemLoc.dma cc3_scratch9.sem) : GSem nD τ sig))).erase (((thr3 d L, SemLoc.dma cc3_scratch10.sem) : GSem nD τ sig))).erase (((thr3 d L, SemLoc.dma cc3_scoped0.sem) : GSem nD τ sig))) fun g => semVal g 0) := by
  unfold SparseCore.Cfg.ownSems0
  rw [SparseCore.bigSep_erase' ((mem_ownCells (g := ((thr3 d L, SemLoc.dma cc3_scratch6.sem) : GSem nD τ sig))).mpr ⟨rfl, by show (SemLoc.dma cc3_scratch6.sem : SemLoc sig).isScoped .scVector = true; decide⟩),
    SparseCore.bigSep_erase' (Finset.mem_erase.mpr ⟨fun e => absurd (congrArg Prod.snd e) (show (SemLoc.dma cc3_scratch7.sem : SemLoc sig) ≠ SemLoc.dma cc3_scratch6.sem by decide), (mem_ownCells (g := ((thr3 d L, SemLoc.dma cc3_scratch7.sem) : GSem nD τ sig))).mpr ⟨rfl, by show (SemLoc.dma cc3_scratch7.sem : SemLoc sig).isScoped .scVector = true; decide⟩⟩),
    SparseCore.bigSep_erase' (Finset.mem_erase.mpr ⟨fun e => absurd (congrArg Prod.snd e) (show (SemLoc.dma cc3_scratch8.sem : SemLoc sig) ≠ SemLoc.dma cc3_scratch7.sem by decide), Finset.mem_erase.mpr ⟨fun e => absurd (congrArg Prod.snd e) (show (SemLoc.dma cc3_scratch8.sem : SemLoc sig) ≠ SemLoc.dma cc3_scratch6.sem by decide), (mem_ownCells (g := ((thr3 d L, SemLoc.dma cc3_scratch8.sem) : GSem nD τ sig))).mpr ⟨rfl, by show (SemLoc.dma cc3_scratch8.sem : SemLoc sig).isScoped .scVector = true; decide⟩⟩⟩),
    SparseCore.bigSep_erase' (Finset.mem_erase.mpr ⟨fun e => absurd (congrArg Prod.snd e) (show (SemLoc.dma cc3_scratch9.sem : SemLoc sig) ≠ SemLoc.dma cc3_scratch8.sem by decide), Finset.mem_erase.mpr ⟨fun e => absurd (congrArg Prod.snd e) (show (SemLoc.dma cc3_scratch9.sem : SemLoc sig) ≠ SemLoc.dma cc3_scratch7.sem by decide), Finset.mem_erase.mpr ⟨fun e => absurd (congrArg Prod.snd e) (show (SemLoc.dma cc3_scratch9.sem : SemLoc sig) ≠ SemLoc.dma cc3_scratch6.sem by decide), (mem_ownCells (g := ((thr3 d L, SemLoc.dma cc3_scratch9.sem) : GSem nD τ sig))).mpr ⟨rfl, by show (SemLoc.dma cc3_scratch9.sem : SemLoc sig).isScoped .scVector = true; decide⟩⟩⟩⟩),
    SparseCore.bigSep_erase' (Finset.mem_erase.mpr ⟨fun e => absurd (congrArg Prod.snd e) (show (SemLoc.dma cc3_scratch10.sem : SemLoc sig) ≠ SemLoc.dma cc3_scratch9.sem by decide), Finset.mem_erase.mpr ⟨fun e => absurd (congrArg Prod.snd e) (show (SemLoc.dma cc3_scratch10.sem : SemLoc sig) ≠ SemLoc.dma cc3_scratch8.sem by decide), Finset.mem_erase.mpr ⟨fun e => absurd (congrArg Prod.snd e) (show (SemLoc.dma cc3_scratch10.sem : SemLoc sig) ≠ SemLoc.dma cc3_scratch7.sem by decide), Finset.mem_erase.mpr ⟨fun e => absurd (congrArg Prod.snd e) (show (SemLoc.dma cc3_scratch10.sem : SemLoc sig) ≠ SemLoc.dma cc3_scratch6.sem by decide), (mem_ownCells (g := ((thr3 d L, SemLoc.dma cc3_scratch10.sem) : GSem nD τ sig))).mpr ⟨rfl, by show (SemLoc.dma cc3_scratch10.sem : SemLoc sig).isScoped .scVector = true; decide⟩⟩⟩⟩⟩),
    SparseCore.bigSep_erase' (Finset.mem_erase.mpr ⟨fun e => absurd (congrArg Prod.snd e) (show (SemLoc.dma cc3_scoped0.sem : SemLoc sig) ≠ SemLoc.dma cc3_scratch10.sem by decide), Finset.mem_erase.mpr ⟨fun e => absurd (congrArg Prod.snd e) (show (SemLoc.dma cc3_scoped0.sem : SemLoc sig) ≠ SemLoc.dma cc3_scratch9.sem by decide), Finset.mem_erase.mpr ⟨fun e => absurd (congrArg Prod.snd e) (show (SemLoc.dma cc3_scoped0.sem : SemLoc sig) ≠ SemLoc.dma cc3_scratch8.sem by decide), Finset.mem_erase.mpr ⟨fun e => absurd (congrArg Prod.snd e) (show (SemLoc.dma cc3_scoped0.sem : SemLoc sig) ≠ SemLoc.dma cc3_scratch7.sem by decide), Finset.mem_erase.mpr ⟨fun e => absurd (congrArg Prod.snd e) (show (SemLoc.dma cc3_scoped0.sem : SemLoc sig) ≠ SemLoc.dma cc3_scratch6.sem by decide), (mem_ownCells (g := ((thr3 d L, SemLoc.dma cc3_scoped0.sem) : GSem nD τ sig))).mpr ⟨rfl, by show (SemLoc.dma cc3_scoped0.sem : SemLoc sig).isScoped .scVector = true; decide⟩⟩⟩⟩⟩⟩)]

set_option maxRecDepth 16384 in
set_option maxHeartbeats 2000000 in
/-- The task: from its pieces, its scratch and its semaphores, the pieces back with its rows of the result written. -/
theorem body_1 (W : Valuation τ sig (Elt F)) (fo : S128x10240.Idx → F .f32)
    (hr3 : ∀ j : S320000.Idx, (show BitVec 32 from W (ref main_v1) j).toNat < 10240) (hr4 : ∀ j : S320000.Idx, (show BitVec 32 from W (ref main_v3) j).toNat < 10240)
    (O : CellTallies nD τ sig (HIx 4)) (Wt : Waits sig (HIx 4)) (hO : ∀ g, O g none = 0) :
    iprop(levAts (K (F := F)).L (K (F := F)).lev ∗ emp ∗ pay1 d W fo (widL L) ∗ scopedBufs (thr3 d L) ∗ scopedSems0 (thr3 d L) ∗ owes (thr3 d L) O Wt)
      ⊢ wp frame (wpE (defs₀ (F := F)) 𝒱₀ (thr3 d L) none) Set.univ
          (cc3__feat_segsum_body (F := F) L (Memref.whole main_v17_0_scv) (Memref.isWhole_whole _) (Memref.whole main_v1_scv) (Memref.isWhole_whole _) (Memref.whole main_v3_scv) (Memref.isWhole_whole _) (Memref.whole main_v18_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scratch10 cc3_scoped0)
          fun _ => (iprop(pay1 d W (ret1 W) (widL L) ∗ scopedBufs (thr3 d L) ∗ scopedSems0 (thr3 d L)
            ∗ ∃ W', ⌜∀ p ∈ W', p ∈ Wt ∨ p.2 = none⌝ ∗ owes (thr3 d L) O W') : sProp 𝕄) := by
  rw [(K (F := F)).scopedBufs_V facts d ((L 0).castLE hcore3) ((L 1).castLE hsub3), SparseCore.Cfg.scopedSems0_V (Val := Elt F) d ((L 0).castLE hcore3) ((L 1).castLE hsub3),
    ownSems_1, ownBufs_1]
  unfold pay1 pay
  iintro ⟨#Hlv, -, ⟨H2, H3, H4, H5⟩, ⟨⟨%f6, B0⟩, ⟨%f7, B1⟩, ⟨%f8, B2⟩, ⟨%f9, B3⟩, ⟨%f10, B4⟩, ⟨%f11, B5⟩, Hbufs⟩, ⟨S0, S1, S2, S3, S4, S5, Hsems⟩, HO⟩
  ihave Hmw := (show levAts (K (F := F)).L (K (F := F)).lev ⊢ Transfers.MayWaits (thr3 d L) (none : HIx 4) O from
    (K (F := F)).mayWaits_none (thr := thr3 d L) hO) $$ Hlv
  have hset : (rowsOut3 L (Memref.whole main_v18_scv)).view.set = rows3 (widL L) := by
    show ((View.whole main_v18_scv).slice (rect3 L)).set = _
    rw [View.set_slice]; exact Finset.map_refl.trans (rect3_set L)
  iapply (wp_wand _ _ _) $$ [Hmw H2 H3 H4 H5 B0 B1 B2 B3 B4 B5 S0 S1 S2 S3 S4 S5 HO]
  · iapply ((tile3 (U := UU) d L (Memref.whole main_v17_0_scv) (Memref.isWhole_whole _) (Memref.whole main_v1_scv) (Memref.isWhole_whole _) (Memref.whole main_v3_scv) (Memref.isWhole_whole _) (Memref.whole main_v18_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scratch10 cc3_scoped0 (leaf 5 fullShare (widL L)) (leaf 5 fullShare (widL L)) (leaf 5 fullShare (widL L))
      (W (ref main_v17_0)) (W (ref main_v1)) (W (ref main_v3)) fo f6 f7 f8 f9 f10 f11 hr3 hr4 O Wt))
    isplitl [Hmw]; · iexact Hmw
    isplitl [H2]; · iexact H2
    isplitl [H3]; · iexact H3
    isplitl [H4]; · iexact H4
    isplitl [H5]; · rw [hset]; iexact H5
    isplitl [B0]; · iexact B0
    isplitl [B1]; · iexact B1
    isplitl [B2]; · iexact B2
    isplitl [B3]; · iexact B3
    isplitl [B4]; · iexact B4
    isplitl [B5]; · iexact B5
    isplitl [S0]; · iexact S0
    isplitl [S1]; · iexact S1
    isplitl [S2]; · iexact S2
    isplitl [S3]; · iexact S3
    isplitl [S4]; · iexact S4
    isplitl [S5]; · iexact S5
    iexact HO
  · iintro %_ ⟨H2, H3, H4, ⟨%f, %hf, H5⟩, B0, B1, B2, B3, B4, B5, S0, S1, S2, S3, S4, S5, HO⟩
    isplitl [H2 H3 H4 H5]
    · isplitl [H2]; · iexact H2
      isplitl [H3]; · iexact H3
      isplitl [H4]; · iexact H4
      rw [hset]
      iapply (Entails.of_eq (pointsTo_congr (show ∀ x ∈ rows3 (widL L), (show S128x10240.Idx → F .f32 from f) x = ret1 W x from
        res3_of_read L _ _ _ _ f (fun y => (View.read_apply _ _).trans (cast_eq _ _)) hf)))
      iexact H5
    isplitl [B0 B1 B2 B3 B4 B5 Hbufs]
    · isplitl [B0]; · iexact B0
      isplitl [B1]; · iexact B1
      isplitl [B2]; · iexact B2
      isplitl [B3]; · iexact B3
      isplitl [B4]; · iexact B4
      isplitl [B5]; · iexact B5
      iexact Hbufs
    isplitl [S0 S1 S2 S3 S4 S5 Hsems]
    · isplitl [S0]; · iexact S0
      isplitl [S1]; · iexact S1
      isplitl [S2]; · iexact S2
      isplitl [S3]; · iexact S3
      isplitl [S4]; · iexact S4
      isplitl [S5]; · iexact S5
      iexact Hsems
    iexact HO

theorem defs₀_vector_1 (c : Fin τ.nSC) (s : Fin τ.nSub) :
    defs₀ (F := F) (.scVector c s) 3 ()
      = SparseCore.onTile hcore3 hsub3 (fun c s => cc3__feat_segsum_body (F := F) (coordsV c s) (Memref.whole main_v17_0_scv) (Memref.isWhole_whole _) (Memref.whole main_v1_scv) (Memref.isWhole_whole _) (Memref.whole main_v3_scv) (Memref.isWhole_whole _) (Memref.whole main_v18_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scratch10 cc3_scoped0) ⟨⟩ c s := rfl

end Call1

set_option maxRecDepth 16384 in
set_option maxHeartbeats 2000000 in
theorem tileObl_1 (Vv : Fin 4 → Dev nD → Valuation τ sig (Elt F))
    (hr3 : ∀ (d : Dev nD) (j : S320000.Idx), (show BitVec 32 from Vv 1 d (ref main_v1) j).toNat < 10240)
    (hr4 : ∀ (d : Dev nD) (j : S320000.Idx), (show BitVec 32 from Vv 1 d (ref main_v3) j).toNat < 10240) :
    (K (F := F)).TileObl (D (F := F)) 𝒱 (P Vv) v₀ 1 := by
  intro d c i O W hO _ _
  simp only [show (P Vv).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector_1]; simp only [SparseCore.onTile, hci, _root_.and_self, ↓reduceDIte]
  exact (body_1 d (coordsV ⟨_, hci.1⟩ ⟨_, hci.2⟩) (Vv 1 d) _ (hr3 d) (hr4 d) O W hO).trans (wp_mono frame _ _ fun _ => obl_post _)

section Call2

variable (d : Dev nD) (L : grid3.Coords)

/-- The call's scratch among the tile's own buffers, … -/
theorem ownBufs_2 :
    (ownBufs (thr3 d L) : sProp 𝕄)
      = iprop((∃ f, (thr3 d L).loc cc5_scratch0 ↦{fullShare} f) ∗ (∃ f, (thr3 d L).loc cc5_scratch1 ↦{fullShare} f) ∗ (∃ f, (thr3 d L).loc cc5_scratch2 ↦{fullShare} f) ∗ (∃ f, (thr3 d L).loc cc5_scratch3 ↦{fullShare} f) ∗ (∃ f, (thr3 d L).loc cc5_scratch4 ↦{fullShare} f) ∗ (∃ f, (thr3 d L).loc cc5_scratch5 ↦{fullShare} f) ∗ bigSep (((((((ownRefs (τ := τ) (sig := sig) (Proc.scVector ((L 0).castLE hcore3) ((L 1).castLE hsub3))).erase ((Proc.scVector ((L 0).castLE hcore3) ((L 1).castLE hsub3)).devRef cc5_scratch0)).erase ((Proc.scVector ((L 0).castLE hcore3) ((L 1).castLE hsub3)).devRef cc5_scratch1)).erase ((Proc.scVector ((L 0).castLE hcore3) ((L 1).castLE hsub3)).devRef cc5_scratch2)).erase ((Proc.scVector ((L 0).castLE hcore3) ((L 1).castLE hsub3)).devRef cc5_scratch3)).erase ((Proc.scVector ((L 0).castLE hcore3) ((L 1).castLE hsub3)).devRef cc5_scratch4)).erase ((Proc.scVector ((L 0).castLE hcore3) ((L 1).castLE hsub3)).devRef cc5_scratch5))
          fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore3) ((L 1).castLE hsub3))) (b := (Proc.scVector ((L 0).castLE hcore3) ((L 1).castLE hsub3)).devRef cc5_scratch0) rfl)).trans ?_
  rw [SparseCore.bigSep_erase' (Finset.mem_erase.mpr ⟨fun e => absurd (Proc.devRef_injective _ e) (show (cc5_scratch1 : Ref sig .scVector) ≠ cc5_scratch0 by decide), SparseCore.Cfg.mem_ownRefs_of_owner (p := (Proc.scVector ((L 0).castLE hcore3) ((L 1).castLE hsub3))) (b := (Proc.scVector ((L 0).castLE hcore3) ((L 1).castLE hsub3)).devRef cc5_scratch1) rfl⟩),
    SparseCore.bigSep_erase' (Finset.mem_erase.mpr ⟨fun e => absurd (Proc.devRef_injective _ e) (show (cc5_scratch2 : Ref sig .scVector) ≠ cc5_scratch1 by decide), Finset.mem_erase.mpr ⟨fun e => absurd (Proc.devRef_injective _ e) (show (cc5_scratch2 : Ref sig .scVector) ≠ cc5_scratch0 by decide), SparseCore.Cfg.mem_ownRefs_of_owner (p := (Proc.scVector ((L 0).castLE hcore3) ((L 1).castLE hsub3))) (b := (Proc.scVector ((L 0).castLE hcore3) ((L 1).castLE hsub3)).devRef cc5_scratch2) rfl⟩⟩),
    SparseCore.bigSep_erase' (Finset.mem_erase.mpr ⟨fun e => absurd (Proc.devRef_injective _ e) (show (cc5_scratch3 : Ref sig .scVector) ≠ cc5_scratch2 by decide), Finset.mem_erase.mpr ⟨fun e => absurd (Proc.devRef_injective _ e) (show (cc5_scratch3 : Ref sig .scVector) ≠ cc5_scratch1 by decide), Finset.mem_erase.mpr ⟨fun e => absurd (Proc.devRef_injective _ e) (show (cc5_scratch3 : Ref sig .scVector) ≠ cc5_scratch0 by decide), SparseCore.Cfg.mem_ownRefs_of_owner (p := (Proc.scVector ((L 0).castLE hcore3) ((L 1).castLE hsub3))) (b := (Proc.scVector ((L 0).castLE hcore3) ((L 1).castLE hsub3)).devRef cc5_scratch3) rfl⟩⟩⟩),
    SparseCore.bigSep_erase' (Finset.mem_erase.mpr ⟨fun e => absurd (Proc.devRef_injective _ e) (show (cc5_scratch4 : Ref sig .scVector) ≠ cc5_scratch3 by decide), Finset.mem_erase.mpr ⟨fun e => absurd (Proc.devRef_injective _ e) (show (cc5_scratch4 : Ref sig .scVector) ≠ cc5_scratch2 by decide), Finset.mem_erase.mpr ⟨fun e => absurd (Proc.devRef_injective _ e) (show (cc5_scratch4 : Ref sig .scVector) ≠ cc5_scratch1 by decide), Finset.mem_erase.mpr ⟨fun e => absurd (Proc.devRef_injective _ e) (show (cc5_scratch4 : Ref sig .scVector) ≠ cc5_scratch0 by decide), SparseCore.Cfg.mem_ownRefs_of_owner (p := (Proc.scVector ((L 0).castLE hcore3) ((L 1).castLE hsub3))) (b := (Proc.scVector ((L 0).castLE hcore3) ((L 1).castLE hsub3)).devRef cc5_scratch4) rfl⟩⟩⟩⟩),
    SparseCore.bigSep_erase' (Finset.mem_erase.mpr ⟨fun e => absurd (Proc.devRef_injective _ e) (show (cc5_scratch5 : Ref sig .scVector) ≠ cc5_scratch4 by decide), Finset.mem_erase.mpr ⟨fun e => absurd (Proc.devRef_injective _ e) (show (cc5_scratch5 : Ref sig .scVector) ≠ cc5_scratch3 by decide), Finset.mem_erase.mpr ⟨fun e => absurd (Proc.devRef_injective _ e) (show (cc5_scratch5 : Ref sig .scVector) ≠ cc5_scratch2 by decide), Finset.mem_erase.mpr ⟨fun e => absurd (Proc.devRef_injective _ e) (show (cc5_scratch5 : Ref sig .scVector) ≠ cc5_scratch1 by decide), Finset.mem_erase.mpr ⟨fun e => absurd (Proc.devRef_injective _ e) (show (cc5_scratch5 : Ref sig .scVector) ≠ cc5_scratch0 by decide), SparseCore.Cfg.mem_ownRefs_of_owner (p := (Proc.scVector ((L 0).castLE hcore3) ((L 1).castLE hsub3))) (b := (Proc.scVector ((L 0).castLE hcore3) ((L 1).castLE hsub3)).devRef cc5_scratch5) rfl⟩⟩⟩⟩⟩)]

/-- … and its semaphores among the tile's own. -/
theorem ownSems_2 :
    (ownSems0 (thr3 d L) : sProp 𝕄)
      = iprop(semVal (thr3 d L, SemLoc.dma cc5_scratch6.sem) 0 ∗ semVal (thr3 d L, SemLoc.dma cc5_scratch7.sem) 0 ∗ semVal (thr3 d L, SemLoc.dma cc5_scratch8.sem) 0 ∗ semVal (thr3 d L, SemLoc.dma cc5_scratch9.sem) 0 ∗ semVal (thr3 d L, SemLoc.dma cc5_scratch10.sem) 0 ∗ semVal (thr3 d L, SemLoc.dma cc5_scoped0.sem) 0 ∗ bigSep (((((((ownCells (thr3 d L)).erase (((thr3 d L, SemLoc.dma cc5_scratch6.sem) : GSem nD τ sig))).erase (((thr3 d L, SemLoc.dma cc5_scratch7.sem) : GSem nD τ sig))).erase (((thr3 d L, SemLoc.dma cc5_scratch8.sem) : GSem nD τ sig))).erase (((thr3 d L, SemLoc.dma cc5_scratch9.sem) : GSem nD τ sig))).erase (((thr3 d L, SemLoc.dma cc5_scratch10.sem) : GSem nD τ sig))).erase (((thr3 d L, SemLoc.dma cc5_scoped0.sem) : GSem nD τ sig))) fun g => semVal g 0) := by
  unfold SparseCore.Cfg.ownSems0
  rw [SparseCore.bigSep_erase' ((mem_ownCells (g := ((thr3 d L, SemLoc.dma cc5_scratch6.sem) : GSem nD τ sig))).mpr ⟨rfl, by show (SemLoc.dma cc5_scratch6.sem : SemLoc sig).isScoped .scVector = true; decide⟩),
    SparseCore.bigSep_erase' (Finset.mem_erase.mpr ⟨fun e => absurd (congrArg Prod.snd e) (show (SemLoc.dma cc5_scratch7.sem : SemLoc sig) ≠ SemLoc.dma cc5_scratch6.sem by decide), (mem_ownCells (g := ((thr3 d L, SemLoc.dma cc5_scratch7.sem) : GSem nD τ sig))).mpr ⟨rfl, by show (SemLoc.dma cc5_scratch7.sem : SemLoc sig).isScoped .scVector = true; decide⟩⟩),
    SparseCore.bigSep_erase' (Finset.mem_erase.mpr ⟨fun e => absurd (congrArg Prod.snd e) (show (SemLoc.dma cc5_scratch8.sem : SemLoc sig) ≠ SemLoc.dma cc5_scratch7.sem by decide), Finset.mem_erase.mpr ⟨fun e => absurd (congrArg Prod.snd e) (show (SemLoc.dma cc5_scratch8.sem : SemLoc sig) ≠ SemLoc.dma cc5_scratch6.sem by decide), (mem_ownCells (g := ((thr3 d L, SemLoc.dma cc5_scratch8.sem) : GSem nD τ sig))).mpr ⟨rfl, by show (SemLoc.dma cc5_scratch8.sem : SemLoc sig).isScoped .scVector = true; decide⟩⟩⟩),
    SparseCore.bigSep_erase' (Finset.mem_erase.mpr ⟨fun e => absurd (congrArg Prod.snd e) (show (SemLoc.dma cc5_scratch9.sem : SemLoc sig) ≠ SemLoc.dma cc5_scratch8.sem by decide), Finset.mem_erase.mpr ⟨fun e => absurd (congrArg Prod.snd e) (show (SemLoc.dma cc5_scratch9.sem : SemLoc sig) ≠ SemLoc.dma cc5_scratch7.sem by decide), Finset.mem_erase.mpr ⟨fun e => absurd (congrArg Prod.snd e) (show (SemLoc.dma cc5_scratch9.sem : SemLoc sig) ≠ SemLoc.dma cc5_scratch6.sem by decide), (mem_ownCells (g := ((thr3 d L, SemLoc.dma cc5_scratch9.sem) : GSem nD τ sig))).mpr ⟨rfl, by show (SemLoc.dma cc5_scratch9.sem : SemLoc sig).isScoped .scVector = true; decide⟩⟩⟩⟩),
    SparseCore.bigSep_erase' (Finset.mem_erase.mpr ⟨fun e => absurd (congrArg Prod.snd e) (show (SemLoc.dma cc5_scratch10.sem : SemLoc sig) ≠ SemLoc.dma cc5_scratch9.sem by decide), Finset.mem_erase.mpr ⟨fun e => absurd (congrArg Prod.snd e) (show (SemLoc.dma cc5_scratch10.sem : SemLoc sig) ≠ SemLoc.dma cc5_scratch8.sem by decide), Finset.mem_erase.mpr ⟨fun e => absurd (congrArg Prod.snd e) (show (SemLoc.dma cc5_scratch10.sem : SemLoc sig) ≠ SemLoc.dma cc5_scratch7.sem by decide), Finset.mem_erase.mpr ⟨fun e => absurd (congrArg Prod.snd e) (show (SemLoc.dma cc5_scratch10.sem : SemLoc sig) ≠ SemLoc.dma cc5_scratch6.sem by decide), (mem_ownCells (g := ((thr3 d L, SemLoc.dma cc5_scratch10.sem) : GSem nD τ sig))).mpr ⟨rfl, by show (SemLoc.dma cc5_scratch10.sem : SemLoc sig).isScoped .scVector = true; decide⟩⟩⟩⟩⟩),
    SparseCore.bigSep_erase' (Finset.mem_erase.mpr ⟨fun e => absurd (congrArg Prod.snd e) (show (SemLoc.dma cc5_scoped0.sem : SemLoc sig) ≠ SemLoc.dma cc5_scratch10.sem by decide), Finset.mem_erase.mpr ⟨fun e => absurd (congrArg Prod.snd e) (show (SemLoc.dma cc5_scoped0.sem : SemLoc sig) ≠ SemLoc.dma cc5_scratch9.sem by decide), Finset.mem_erase.mpr ⟨fun e => absurd (congrArg Prod.snd e) (show (SemLoc.dma cc5_scoped0.sem : SemLoc sig) ≠ SemLoc.dma cc5_scratch8.sem by decide), Finset.mem_erase.mpr ⟨fun e => absurd (congrArg Prod.snd e) (show (SemLoc.dma cc5_scoped0.sem : SemLoc sig) ≠ SemLoc.dma cc5_scratch7.sem by decide), Finset.mem_erase.mpr ⟨fun e => absurd (congrArg Prod.snd e) (show (SemLoc.dma cc5_scoped0.sem : SemLoc sig) ≠ SemLoc.dma cc5_scratch6.sem by decide), (mem_ownCells (g := ((thr3 d L, SemLoc.dma cc5_scoped0.sem) : GSem nD τ sig))).mpr ⟨rfl, by show (SemLoc.dma cc5_scoped0.sem : SemLoc sig).isScoped .scVector = true; decide⟩⟩⟩⟩⟩⟩)]

set_option maxRecDepth 16384 in
set_option maxHeartbeats 2000000 in
/-- The task: from its pieces, its scratch and its semaphores, the pieces back with its rows of the result written. -/
theorem body_2 (W : Valuation τ sig (Elt F)) (fo : S128x10240.Idx → F .f32)
    (hr3 : ∀ j : S320000.Idx, (show BitVec 32 from W (ref main_v1) j).toNat < 10240) (hr4 : ∀ j : S320000.Idx, (show BitVec 32 from W (ref main_v3) j).toNat < 10240)
    (O : CellTallies nD τ sig (HIx 4)) (Wt : Waits sig (HIx 4)) (hO : ∀ g, O g none = 0) :
    iprop(levAts (K (F := F)).L (K (F := F)).lev ∗ emp ∗ pay2 d W fo (widL L) ∗ scopedBufs (thr3 d L) ∗ scopedSems0 (thr3 d L) ∗ owes (thr3 d L) O Wt)
      ⊢ wp frame (wpE (defs₀ (F := F)) 𝒱₀ (thr3 d L) none) Set.univ
          (cc3__feat_segsum_body (F := F) L (Memref.whole main_v19_0_scv) (Memref.isWhole_whole _) (Memref.whole main_v1_scv) (Memref.isWhole_whole _) (Memref.whole main_v3_scv) (Memref.isWhole_whole _) (Memref.whole main_v20_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scratch10 cc5_scoped0)
          fun _ => (iprop(pay2 d W (ret2 W) (widL L) ∗ scopedBufs (thr3 d L) ∗ scopedSems0 (thr3 d L)
            ∗ ∃ W', ⌜∀ p ∈ W', p ∈ Wt ∨ p.2 = none⌝ ∗ owes (thr3 d L) O W') : sProp 𝕄) := by
  rw [(K (F := F)).scopedBufs_V facts d ((L 0).castLE hcore3) ((L 1).castLE hsub3), SparseCore.Cfg.scopedSems0_V (Val := Elt F) d ((L 0).castLE hcore3) ((L 1).castLE hsub3),
    ownSems_2, ownBufs_2]
  unfold pay2 pay
  iintro ⟨#Hlv, -, ⟨H2, H3, H4, H5⟩, ⟨⟨%f6, B0⟩, ⟨%f7, B1⟩, ⟨%f8, B2⟩, ⟨%f9, B3⟩, ⟨%f10, B4⟩, ⟨%f11, B5⟩, Hbufs⟩, ⟨S0, S1, S2, S3, S4, S5, Hsems⟩, HO⟩
  ihave Hmw := (show levAts (K (F := F)).L (K (F := F)).lev ⊢ Transfers.MayWaits (thr3 d L) (none : HIx 4) O from
    (K (F := F)).mayWaits_none (thr := thr3 d L) hO) $$ Hlv
  have hset : (rowsOut3 L (Memref.whole main_v20_scv)).view.set = rows3 (widL L) := by
    show ((View.whole main_v20_scv).slice (rect3 L)).set = _
    rw [View.set_slice]; exact Finset.map_refl.trans (rect3_set L)
  iapply (wp_wand _ _ _) $$ [Hmw H2 H3 H4 H5 B0 B1 B2 B3 B4 B5 S0 S1 S2 S3 S4 S5 HO]
  · iapply ((tile3 (U := UU) d L (Memref.whole main_v19_0_scv) (Memref.isWhole_whole _) (Memref.whole main_v1_scv) (Memref.isWhole_whole _) (Memref.whole main_v3_scv) (Memref.isWhole_whole _) (Memref.whole main_v20_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scratch10 cc5_scoped0 (leaf 5 fullShare (widL L)) (leaf 5 fullShare (widL L)) (leaf 5 fullShare (widL L))
      (W (ref main_v19_0)) (W (ref main_v1)) (W (ref main_v3)) fo f6 f7 f8 f9 f10 f11 hr3 hr4 O Wt))
    isplitl [Hmw]; · iexact Hmw
    isplitl [H2]; · iexact H2
    isplitl [H3]; · iexact H3
    isplitl [H4]; · iexact H4
    isplitl [H5]; · rw [hset]; iexact H5
    isplitl [B0]; · iexact B0
    isplitl [B1]; · iexact B1
    isplitl [B2]; · iexact B2
    isplitl [B3]; · iexact B3
    isplitl [B4]; · iexact B4
    isplitl [B5]; · iexact B5
    isplitl [S0]; · iexact S0
    isplitl [S1]; · iexact S1
    isplitl [S2]; · iexact S2
    isplitl [S3]; · iexact S3
    isplitl [S4]; · iexact S4
    isplitl [S5]; · iexact S5
    iexact HO
  · iintro %_ ⟨H2, H3, H4, ⟨%f, %hf, H5⟩, B0, B1, B2, B3, B4, B5, S0, S1, S2, S3, S4, S5, HO⟩
    isplitl [H2 H3 H4 H5]
    · isplitl [H2]; · iexact H2
      isplitl [H3]; · iexact H3
      isplitl [H4]; · iexact H4
      rw [hset]
      iapply (Entails.of_eq (pointsTo_congr (show ∀ x ∈ rows3 (widL L), (show S128x10240.Idx → F .f32 from f) x = ret2 W x from
        res3_of_read L _ _ _ _ f (fun y => (View.read_apply _ _).trans (cast_eq _ _)) hf)))
      iexact H5
    isplitl [B0 B1 B2 B3 B4 B5 Hbufs]
    · isplitl [B0]; · iexact B0
      isplitl [B1]; · iexact B1
      isplitl [B2]; · iexact B2
      isplitl [B3]; · iexact B3
      isplitl [B4]; · iexact B4
      isplitl [B5]; · iexact B5
      iexact Hbufs
    isplitl [S0 S1 S2 S3 S4 S5 Hsems]
    · isplitl [S0]; · iexact S0
      isplitl [S1]; · iexact S1
      isplitl [S2]; · iexact S2
      isplitl [S3]; · iexact S3
      isplitl [S4]; · iexact S4
      isplitl [S5]; · iexact S5
      iexact Hsems
    iexact HO

theorem defs₀_vector_2 (c : Fin τ.nSC) (s : Fin τ.nSub) :
    defs₀ (F := F) (.scVector c s) 5 ()
      = SparseCore.onTile hcore3 hsub3 (fun c s => cc3__feat_segsum_body (F := F) (coordsV c s) (Memref.whole main_v19_0_scv) (Memref.isWhole_whole _) (Memref.whole main_v1_scv) (Memref.isWhole_whole _) (Memref.whole main_v3_scv) (Memref.isWhole_whole _) (Memref.whole main_v20_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scratch10 cc5_scoped0) ⟨⟩ c s := rfl

end Call2

set_option maxRecDepth 16384 in
set_option maxHeartbeats 2000000 in
theorem tileObl_2 (Vv : Fin 4 → Dev nD → Valuation τ sig (Elt F))
    (hr3 : ∀ (d : Dev nD) (j : S320000.Idx), (show BitVec 32 from Vv 2 d (ref main_v1) j).toNat < 10240)
    (hr4 : ∀ (d : Dev nD) (j : S320000.Idx), (show BitVec 32 from Vv 2 d (ref main_v3) j).toNat < 10240) :
    (K (F := F)).TileObl (D (F := F)) 𝒱 (P Vv) v₀ 2 := by
  intro d c i O W hO _ _
  simp only [show (P Vv).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs₀_vector_2]; simp only [SparseCore.onTile, hci, _root_.and_self, ↓reduceDIte]
  exact (body_2 d (coordsV ⟨_, hci.1⟩ ⟨_, hci.2⟩) (Vv 2 d) _ (hr3 d) (hr4 d) O W hO).trans (wp_mono frame _ _ fun _ => obl_post _)

section Call3

variable (d : Dev nD) (L : grid0.Coords)

/-- The call's scratch among the tile's own buffers, … -/
theorem ownBufs_3 :
    (ownBufs (thr0 d L) : sProp 𝕄)
      = iprop((∃ f, (thr0 d L).loc cc7_scratch0 ↦{fullShare} f) ∗ (∃ f, (thr0 d L).loc cc7_scratch1 ↦{fullShare} f) ∗ (∃ f, (thr0 d L).loc cc7_scratch2 ↦{fullShare} f) ∗ (∃ f, (thr0 d L).loc cc7_scratch3 ↦{fullShare} f) ∗ bigSep (((((ownRefs (τ := τ) (sig := sig) (Proc.scVector ((L 0).castLE hcore0) ((L 1).castLE hsub0))).erase ((Proc.scVector ((L 0).castLE hcore0) ((L 1).castLE hsub0)).devRef cc7_scratch0)).erase ((Proc.scVector ((L 0).castLE hcore0) ((L 1).castLE hsub0)).devRef cc7_scratch1)).erase ((Proc.scVector ((L 0).castLE hcore0) ((L 1).castLE hsub0)).devRef cc7_scratch2)).erase ((Proc.scVector ((L 0).castLE hcore0) ((L 1).castLE hsub0)).devRef cc7_scratch3))
          fun b => iprop(∃ f, ((d, b) : Loc nD τ sig) ↦{fullShare} f)) := by
  unfold SparseCore.Cfg.ownBufs
  refine (SparseCore.bigSep_erase' (SparseCore.Cfg.mem_ownRefs_of_owner (p := (Proc.scVector ((L 0).castLE hcore0) ((L 1).castLE hsub0))) (b := (Proc.scVector ((L 0).castLE hcore0) ((L 1).castLE hsub0)).devRef cc7_scratch0) rfl)).trans ?_
  rw [SparseCore.bigSep_erase' (Finset.mem_erase.mpr ⟨fun e => absurd (Proc.devRef_injective _ e) (show (cc7_scratch1 : Ref sig .scVector) ≠ cc7_scratch0 by decide), SparseCore.Cfg.mem_ownRefs_of_owner (p := (Proc.scVector ((L 0).castLE hcore0) ((L 1).castLE hsub0))) (b := (Proc.scVector ((L 0).castLE hcore0) ((L 1).castLE hsub0)).devRef cc7_scratch1) rfl⟩),
    SparseCore.bigSep_erase' (Finset.mem_erase.mpr ⟨fun e => absurd (Proc.devRef_injective _ e) (show (cc7_scratch2 : Ref sig .scVector) ≠ cc7_scratch1 by decide), Finset.mem_erase.mpr ⟨fun e => absurd (Proc.devRef_injective _ e) (show (cc7_scratch2 : Ref sig .scVector) ≠ cc7_scratch0 by decide), SparseCore.Cfg.mem_ownRefs_of_owner (p := (Proc.scVector ((L 0).castLE hcore0) ((L 1).castLE hsub0))) (b := (Proc.scVector ((L 0).castLE hcore0) ((L 1).castLE hsub0)).devRef cc7_scratch2) rfl⟩⟩),
    SparseCore.bigSep_erase' (Finset.mem_erase.mpr ⟨fun e => absurd (Proc.devRef_injective _ e) (show (cc7_scratch3 : Ref sig .scVector) ≠ cc7_scratch2 by decide), Finset.mem_erase.mpr ⟨fun e => absurd (Proc.devRef_injective _ e) (show (cc7_scratch3 : Ref sig .scVector) ≠ cc7_scratch1 by decide), Finset.mem_erase.mpr ⟨fun e => absurd (Proc.devRef_injective _ e) (show (cc7_scratch3 : Ref sig .scVector) ≠ cc7_scratch0 by decide), SparseCore.Cfg.mem_ownRefs_of_owner (p := (Proc.scVector ((L 0).castLE hcore0) ((L 1).castLE hsub0))) (b := (Proc.scVector ((L 0).castLE hcore0) ((L 1).castLE hsub0)).devRef cc7_scratch3) rfl⟩⟩⟩)]

/-- … and its semaphores among the tile's own. -/
theorem ownSems_3 :
    (ownSems0 (thr0 d L) : sProp 𝕄)
      = iprop(semVal (thr0 d L, SemLoc.dma cc7_scoped0.sem) 0 ∗ semVal (thr0 d L, SemLoc.dma cc7_scoped1.sem) 0 ∗ semVal (thr0 d L, SemLoc.dma cc7_scoped2.sem) 0 ∗ semVal (thr0 d L, SemLoc.dma cc7_scoped3.sem) 0 ∗ bigSep (((((ownCells (thr0 d L)).erase (((thr0 d L, SemLoc.dma cc7_scoped0.sem) : GSem nD τ sig))).erase (((thr0 d L, SemLoc.dma cc7_scoped1.sem) : GSem nD τ sig))).erase (((thr0 d L, SemLoc.dma cc7_scoped2.sem) : GSem nD τ sig))).erase (((thr0 d L, SemLoc.dma cc7_scoped3.sem) : GSem nD τ sig))) fun g => semVal g 0) := by
  unfold SparseCore.Cfg.ownSems0
  rw [SparseCore.bigSep_erase' ((mem_ownCells (g := ((thr0 d L, SemLoc.dma cc7_scoped0.sem) : GSem nD τ sig))).mpr ⟨rfl, by show (SemLoc.dma cc7_scoped0.sem : SemLoc sig).isScoped .scVector = true; decide⟩),
    SparseCore.bigSep_erase' (Finset.mem_erase.mpr ⟨fun e => absurd (congrArg Prod.snd e) (show (SemLoc.dma cc7_scoped1.sem : SemLoc sig) ≠ SemLoc.dma cc7_scoped0.sem by decide), (mem_ownCells (g := ((thr0 d L, SemLoc.dma cc7_scoped1.sem) : GSem nD τ sig))).mpr ⟨rfl, by show (SemLoc.dma cc7_scoped1.sem : SemLoc sig).isScoped .scVector = true; decide⟩⟩),
    SparseCore.bigSep_erase' (Finset.mem_erase.mpr ⟨fun e => absurd (congrArg Prod.snd e) (show (SemLoc.dma cc7_scoped2.sem : SemLoc sig) ≠ SemLoc.dma cc7_scoped1.sem by decide), Finset.mem_erase.mpr ⟨fun e => absurd (congrArg Prod.snd e) (show (SemLoc.dma cc7_scoped2.sem : SemLoc sig) ≠ SemLoc.dma cc7_scoped0.sem by decide), (mem_ownCells (g := ((thr0 d L, SemLoc.dma cc7_scoped2.sem) : GSem nD τ sig))).mpr ⟨rfl, by show (SemLoc.dma cc7_scoped2.sem : SemLoc sig).isScoped .scVector = true; decide⟩⟩⟩),
    SparseCore.bigSep_erase' (Finset.mem_erase.mpr ⟨fun e => absurd (congrArg Prod.snd e) (show (SemLoc.dma cc7_scoped3.sem : SemLoc sig) ≠ SemLoc.dma cc7_scoped2.sem by decide), Finset.mem_erase.mpr ⟨fun e => absurd (congrArg Prod.snd e) (show (SemLoc.dma cc7_scoped3.sem : SemLoc sig) ≠ SemLoc.dma cc7_scoped1.sem by decide), Finset.mem_erase.mpr ⟨fun e => absurd (congrArg Prod.snd e) (show (SemLoc.dma cc7_scoped3.sem : SemLoc sig) ≠ SemLoc.dma cc7_scoped0.sem by decide), (mem_ownCells (g := ((thr0 d L, SemLoc.dma cc7_scoped3.sem) : GSem nD τ sig))).mpr ⟨rfl, by show (SemLoc.dma cc7_scoped3.sem : SemLoc sig).isScoped .scVector = true; decide⟩⟩⟩⟩)]

set_option maxRecDepth 16384 in
set_option maxHeartbeats 2000000 in
/-- The task: from its pieces, its scratch and its semaphores, the pieces back with its rows of the result written. -/
theorem body_3 (W : Valuation τ sig (Elt F)) (fo : S32x10240.Idx → F .f32)
    (hr3 : ∀ j : S320000.Idx, (show BitVec 32 from W (ref main_v1) j).toNat < 10240) (hr4 : ∀ j : S320000.Idx, (show BitVec 32 from W (ref main_v3) j).toNat < 10240)
    (O : CellTallies nD τ sig (HIx 4)) (Wt : Waits sig (HIx 4)) (hO : ∀ g, O g none = 0) :
    iprop(levAts (K (F := F)).L (K (F := F)).lev ∗ emp ∗ pay3 d W fo (widL L) ∗ scopedBufs (thr0 d L) ∗ scopedSems0 (thr0 d L) ∗ owes (thr0 d L) O Wt)
      ⊢ wp frame (wpE (defs₀ (F := F)) 𝒱₀ (thr0 d L) none) Set.univ
          (cc0__scalar_segsum_body (F := F) L (Memref.whole main_v23_scv) (Memref.isWhole_whole _) (Memref.whole main_v1_scv) (Memref.isWhole_whole _) (Memref.whole main_v3_scv) (Memref.isWhole_whole _) (Memref.whole main_v24_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scoped0 cc7_scoped1 cc7_scoped2 cc7_scoped3)
          fun _ => (iprop(pay3 d W (ret3 W) (widL L) ∗ scopedBufs (thr0 d L) ∗ scopedSems0 (thr0 d L)
            ∗ ∃ W', ⌜∀ p ∈ W', p ∈ Wt ∨ p.2 = none⌝ ∗ owes (thr0 d L) O W') : sProp 𝕄) := by
  rw [(K (F := F)).scopedBufs_V facts d ((L 0).castLE hcore0) ((L 1).castLE hsub0), SparseCore.Cfg.scopedSems0_V (Val := Elt F) d ((L 0).castLE hcore0) ((L 1).castLE hsub0),
    ownSems_3, ownBufs_3]
  unfold pay3 pay
  iintro ⟨#Hlv, -, ⟨H2, H3, H4, H5⟩, ⟨⟨%f6, B0⟩, ⟨%f7, B1⟩, ⟨%f8, B2⟩, ⟨%f9, B3⟩, Hbufs⟩, ⟨S0, S1, S2, S3, Hsems⟩, HO⟩
  ihave Hmw := (show levAts (K (F := F)).L (K (F := F)).lev ⊢ Transfers.MayWaits (thr0 d L) (none : HIx 4) O from
    (K (F := F)).mayWaits_none (thr := thr0 d L) hO) $$ Hlv
  have hset : (row0 L (Memref.whole main_v24_scv)).view.set = rows0 (widL L) := by
    show (((View.whole main_v24_scv).slice (rect0 L)).reshape S10240 squeezes_S1x10240_S10240.numel_eq).set = _
    rw [View.set_reshape, View.set_slice]; exact Finset.map_refl.trans (rect0_set L)
  iapply (wp_wand _ _ _) $$ [Hmw H2 H3 H4 H5 B0 B1 B2 B3 S0 S1 S2 S3 HO]
  · iapply ((tile0 (U := UU) d L (Memref.whole main_v23_scv) (Memref.isWhole_whole _) (Memref.whole main_v1_scv) (Memref.isWhole_whole _) (Memref.whole main_v3_scv) (Memref.isWhole_whole _) (Memref.whole main_v24_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scoped0 cc7_scoped1 cc7_scoped2 cc7_scoped3 (leaf 5 fullShare (widL L)) (leaf 5 fullShare (widL L)) (leaf 5 fullShare (widL L))
      (W (ref main_v23)) (W (ref main_v1)) (W (ref main_v3)) fo f6 f7 f8 f9 hr3 hr4 O Wt))
    isplitl [Hmw]; · iexact Hmw
    isplitl [H2]; · iexact H2
    isplitl [H3]; · iexact H3
    isplitl [H4]; · iexact H4
    isplitl [H5]; · rw [hset]; iexact H5
    isplitl [B0]; · iexact B0
    isplitl [B1]; · iexact B1
    isplitl [B2]; · iexact B2
    isplitl [B3]; · iexact B3
    isplitl [S0]; · iexact S0
    isplitl [S1]; · iexact S1
    isplitl [S2]; · iexact S2
    isplitl [S3]; · iexact S3
    iexact HO
  · iintro %_ ⟨H2, H3, H4, ⟨%f, %hf, H5⟩, B0, B1, B2, B3, S0, S1, S2, S3, HO⟩
    isplitl [H2 H3 H4 H5]
    · isplitl [H2]; · iexact H2
      isplitl [H3]; · iexact H3
      isplitl [H4]; · iexact H4
      rw [hset]
      iapply (Entails.of_eq (pointsTo_congr (show ∀ x ∈ rows0 (widL L), (show S32x10240.Idx → F .f32 from f) x = ret3 W x from
        res0_of_read L _ _ _ f _ hf)))
      iexact H5
    isplitl [B0 B1 B2 B3 Hbufs]
    · isplitl [B0]; · iexact B0
      isplitl [B1]; · iexact B1
      isplitl [B2]; · iexact B2
      isplitl [B3]; · iexact B3
      iexact Hbufs
    isplitl [S0 S1 S2 S3 Hsems]
    · isplitl [S0]; · iexact S0
      isplitl [S1]; · iexact S1
      isplitl [S2]; · iexact S2
      isplitl [S3]; · iexact S3
      iexact Hsems
    iexact HO

theorem defs₀_vector_3 (c : Fin τ.nSC) (s : Fin τ.nSub) :
    defs₀ (F := F) (.scVector c s) 7 ()
      = SparseCore.onTile hcore0 hsub0 (fun c s => cc0__scalar_segsum_body (F := F) (coordsV c s) (Memref.whole main_v23_scv) (Memref.isWhole_whole _) (Memref.whole main_v1_scv) (Memref.isWhole_whole _) (Memref.whole main_v3_scv) (Memref.isWhole_whole _) (Memref.whole main_v24_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) cc7_scoped0 cc7_scoped1 cc7_scoped2 cc7_scoped3) ⟨⟩ c s := rfl

end Call3

set_option maxRecDepth 16384 in
set_option maxHeartbeats 2000000 in
theorem tileObl_3 (Vv : Fin 4 → Dev nD → Valuation τ sig (Elt F))
    (hr3 : ∀ (d : Dev nD) (j : S320000.Idx), (show BitVec 32 from Vv 3 d (ref main_v1) j).toNat < 10240)
    (hr4 : ∀ (d : Dev nD) (j : S320000.Idx), (show BitVec 32 from Vv 3 d (ref main_v3) j).toNat < 10240) :
    (K (F := F)).TileObl (D (F := F)) 𝒱 (P Vv) v₀ 3 := by
  intro d c i O W hO _ _
  simp only [show (P Vv).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  rw [defs₀_vector_3]; simp only [SparseCore.onTile, hci, _root_.and_self, ↓reduceDIte]
  exact (body_3 d (coordsV ⟨_, hci.1⟩ ⟨_, hci.2⟩) (Vv 3 d) _ (hr3 d) (hr4 d) O W hO).trans (wp_mono frame _ _ fun _ => obl_post _)

end Cert.Kernel.Own

end

end
-- ==== Proof.Chain.lean ====
/- The whole run: the buffers' contents between @main's operations, and what every execution ends with. -/
module

public import proofs.«01_k».proof.Proof.Calls
public import proofs.«01_k».proof.Proof.Obl
public import Idealize.ShloMosaic.Lib.Pipeline.RegionArraysS

@[expose] public section

set_option Elab.async false

noncomputable section

namespace Cert.Kernel.Own

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat afterRegion arrRef arrRefs ucRefs cellsGhost toksInit)
open Idealize.ShloMosaic.StableHlo (held)

variable {F : FTy → Type} [FloatOps F]

local notation "𝕄" => MT nD τ sig (HIx 4) (Elt F) ℕ UU ℕ

/-! ## @main's host operations -/

/-- The host operations before the first call; -/
def ops0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
  , StableHlo.reshape main_v0 main_v1 (rfl : (.i32 : EltTy) = .i32) shapeCasts_S1x320000_S320000
  , StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
  , StableHlo.reshape main_v2 main_v3 (rfl : (.i32 : EltTy) = .i32) shapeCasts_S1x320000_S320000
  , StableHlo.nullary main_c (constantI S_ 32 0#32)
  , StableHlo.unary main_c main_call0_v0 (sitofp .f32 : (⟨S_, .i32⟩ : BufTy).Contents (Elt F) → (⟨S_, .f32⟩ : BufTy).Contents (Elt F))
  , StableHlo.binary main_arg0 main_call0_v0 main_v4 ((fun x v => pad S10240x128 ![0, 0] ![240, 0] ![0, 0] x v pads_S10000x128_S10240x128_02400_000 h_S_) : (⟨S10000x128, .f32⟩ : BufTy).Contents (Elt F) → (⟨S_, .f32⟩ : BufTy).Contents (Elt F) → (⟨S10240x128, .f32⟩ : BufTy).Contents (Elt F))
  , StableHlo.nullary main_cst (constant S_ .f32 0x3F800000#32)
  , StableHlo.unary main_cst main_v5 (broadcastInDim S10240 ![] bcast_S_S10240 : (⟨S_, .f32⟩ : BufTy).Contents (Elt F) → (⟨S10240, .f32⟩ : BufTy).Contents (Elt F))
  , StableHlo.reshape main_arg11 main_v6 (rfl : (.f32 : EltTy) = .f32) shapeCasts_S_S1x1
  , StableHlo.reshape main_arg3 main_v7 (rfl : (.f32 : EltTy) = .f32) shapeCasts_S128_S128x1
  , StableHlo.reshape main_arg6 main_v8 (rfl : (.f32 : EltTy) = .f32) shapeCasts_S128_S128x1
  , StableHlo.binary main_arg12 main_arg8 main_v9 ((fun l r => Host.dotGeneral dot_S1x64_S64x128_S1x128_1_0_0_1_n_n none l r) : (⟨S1x64, .f32⟩ : BufTy).Contents (Elt F) → (⟨S64x128, .f32⟩ : BufTy).Contents (Elt F) → (⟨S1x128, .f32⟩ : BufTy).Contents (Elt F))
  , StableHlo.binary main_arg12 main_arg10 main_v10 ((fun l r => Host.dotGeneral dot_S1x64_S64x128_S1x128_1_0_0_1_n_n none l r) : (⟨S1x64, .f32⟩ : BufTy).Contents (Elt F) → (⟨S64x128, .f32⟩ : BufTy).Contents (Elt F) → (⟨S1x128, .f32⟩ : BufTy).Contents (Elt F))
  , StableHlo.binary main_v9 main_v10 main_v11 ((fun a b => concatenate S2x128 0 [⟨S1x128, a⟩, ⟨S1x128, b⟩] concatenates_S1x128_S1x128_S2x128_d0) : (⟨S1x128, .f32⟩ : BufTy).Contents (Elt F) → (⟨S1x128, .f32⟩ : BufTy).Contents (Elt F) → (⟨S2x128, .f32⟩ : BufTy).Contents (Elt F))
  , StableHlo.binary main_arg12 main_arg9 main_v12 ((fun l r => Host.dotGeneral dot_S1x64_S64_S1_1_0_0_n_n_n none l r) : (⟨S1x64, .f32⟩ : BufTy).Contents (Elt F) → (⟨S64, .f32⟩ : BufTy).Contents (Elt F) → (⟨S1, .f32⟩ : BufTy).Contents (Elt F))
  , StableHlo.binary main_v12 main_arg13 main_v13 (addf : (⟨S1, .f32⟩ : BufTy).Contents (Elt F) → (⟨S1, .f32⟩ : BufTy).Contents (Elt F) → (⟨S1, .f32⟩ : BufTy).Contents (Elt F))
  , StableHlo.reshape main_v13 main_v14 (rfl : (.f32 : EltTy) = .f32) shapeCasts_S1_S1x1 ]

/-- between the third and the fourth; -/
def ops1 : List (HloOp τ sig (Elt F)) :=
  [ StableHlo.unary main_v21 main_v22 ((extractStridedSlice S1x10240 ![0, 0] · slices_S2x10240_S1x10240_0_0) : (⟨S2x10240, .f32⟩ : BufTy).Contents (Elt F) → (⟨S1x10240, .f32⟩ : BufTy).Contents (Elt F))
  , StableHlo.reshape main_v22 main_v23 (rfl : (.f32 : EltTy) = .f32) shapeCasts_S1x10240_S10240 ]

/-- after the last. -/
def ops2 : List (HloOp τ sig (Elt F)) :=
  [ StableHlo.unary main_v25 main_v26 ((extractStridedSlice S1x10000 ![0, 0] · slices_S1x10240_S1x10000_0_0) : (⟨S1x10240, .f32⟩ : BufTy).Contents (Elt F) → (⟨S1x10000, .f32⟩ : BufTy).Contents (Elt F))
  , StableHlo.reshape main_v26 main_v27 (rfl : (.f32 : EltTy) = .f32) shapeCasts_S1x10000_S10000 ]

set_option maxRecDepth 100000 in
set_option maxHeartbeats 4000000 in
theorem main_eq (d : Dev nD) : main (F := F) d = (StableHlo.seq ops0 >>= fun _ => (K (F := F)).run d 0 >>= fun _ =>
    Prog.lift (.customCall (SparseCore.inner (Pipeline.entry 0)) ()) >>= fun _ => Prog.lift (.customCall (SparseCore.inner (Pipeline.entry 1)) ()) >>= fun _ =>
    (K (F := F)).run d 1 >>= fun _ => Prog.lift (.customCall (SparseCore.inner (Pipeline.entry 2)) ()) >>= fun _ => (K (F := F)).run d 2 >>= fun _ =>
    Prog.lift (.customCall (SparseCore.inner (Pipeline.entry 3)) ()) >>= fun _ => StableHlo.seq ops1 >>= fun _ => (K (F := F)).run d 3 >>= fun _ =>
    Prog.lift (.customCall (SparseCore.inner (Pipeline.entry 4)) ()) >>= fun _ => StableHlo.seq ops2 >>= fun _ => pure ⟨⟩) := rfl

theorem ops0_tc : (ops0 (F := F)).Forall fun op => op.bufs ⊆ StableHlo.tcRefs τ sig :=
  ⟨StableHlo.unary_bufs_sub _ _ _ _ _ , StableHlo.reshape_bufs_sub _ _ _ _ _ _ , StableHlo.unary_bufs_sub _ _ _ _ _ , StableHlo.reshape_bufs_sub _ _ _ _ _ _ , StableHlo.nullary_bufs_sub _ _ _ , StableHlo.unary_bufs_sub _ _ _ _ _ , StableHlo.binary_bufs_sub _ _ _ _ _ _ _ , StableHlo.nullary_bufs_sub _ _ _ , StableHlo.unary_bufs_sub _ _ _ _ _ , StableHlo.reshape_bufs_sub _ _ _ _ _ _ , StableHlo.reshape_bufs_sub _ _ _ _ _ _ , StableHlo.reshape_bufs_sub _ _ _ _ _ _ , StableHlo.binary_bufs_sub _ _ _ _ _ _ _ , StableHlo.binary_bufs_sub _ _ _ _ _ _ _ , StableHlo.binary_bufs_sub _ _ _ _ _ _ _ , StableHlo.binary_bufs_sub _ _ _ _ _ _ _ , StableHlo.binary_bufs_sub _ _ _ _ _ _ _ , StableHlo.reshape_bufs_sub _ _ _ _ _ _ ⟩
theorem ops0_fresh : ∀ op ∈ ops0 (F := F), op.fresh = ∅ :=
  List.forall_iff_forall_mem.mp (show (ops0 (F := F)).Forall fun op => op.fresh = ∅ from ⟨rfl, rfl, rfl, rfl, rfl, rfl, rfl, rfl, rfl, rfl, rfl, rfl, rfl, rfl, rfl, rfl, rfl, rfl⟩)
theorem ops0_sub : ∀ op ∈ ops0 (F := F), op.bufs ⊆ ucRefs τ sig := fun op h => Pipeline.sub_ucRefs op (List.forall_iff_forall_mem.mp ops0_tc op h)
theorem ops1_tc : (ops1 (F := F)).Forall fun op => op.bufs ⊆ StableHlo.tcRefs τ sig :=
  ⟨StableHlo.unary_bufs_sub _ _ _ _ _ , StableHlo.reshape_bufs_sub _ _ _ _ _ _ ⟩
theorem ops1_fresh : ∀ op ∈ ops1 (F := F), op.fresh = ∅ :=
  List.forall_iff_forall_mem.mp (show (ops1 (F := F)).Forall fun op => op.fresh = ∅ from ⟨rfl, rfl⟩)
theorem ops1_sub : ∀ op ∈ ops1 (F := F), op.bufs ⊆ ucRefs τ sig := fun op h => Pipeline.sub_ucRefs op (List.forall_iff_forall_mem.mp ops1_tc op h)
theorem ops2_tc : (ops2 (F := F)).Forall fun op => op.bufs ⊆ StableHlo.tcRefs τ sig :=
  ⟨StableHlo.unary_bufs_sub _ _ _ _ _ , StableHlo.reshape_bufs_sub _ _ _ _ _ _ ⟩
theorem ops2_fresh : ∀ op ∈ ops2 (F := F), op.fresh = ∅ :=
  List.forall_iff_forall_mem.mp (show (ops2 (F := F)).Forall fun op => op.fresh = ∅ from ⟨rfl, rfl⟩)
theorem ops2_sub : ∀ op ∈ ops2 (F := F), op.bufs ⊆ ucRefs τ sig := fun op h => Pipeline.sub_ucRefs op (List.forall_iff_forall_mem.mp ops2_tc op h)

/-! ## The buffers' contents, operation by operation -/

variable (m : (ℓ : Loc nD τ sig) → Buf (Elt F) ℓ)

/-- After the first host operations. -/
def V0 (d : Dev nD) : Valuation τ sig (Elt F) := StableHlo.after ops0 (StableHlo.launchContents m d)
/-- After SparseCore call 0. -/
def V1 (d : Dev nD) : Valuation τ sig (Elt F) := Function.update (V0 m d) (ref main_v15) (ret0 (V0 m d))
def dat0 (c : Dev nD) : Dat τ (Elt F) (HIx 4) ℕ UU ℕ (Cp (F := F) 0) c :=
  K1.dat 𝒱₀ (fun c b => V1 m c (ref b)) (fun c => (K (F := F)).Otc c 1) (recs (F := F) 1) c
/-- After TensorCore kernel 0. -/
def V2 (d : Dev nD) : Valuation τ sig (Elt F) := afterRegion (dat0 m d) (V1 m d)
def dat1 (c : Dev nD) : Dat τ (Elt F) (HIx 4) ℕ UU ℕ (Cp (F := F) 1) c :=
  K2.dat 𝒱₀ (fun c b => V2 m c (ref b)) (fun c => (K (F := F)).Otc c 1) (recs (F := F) 1) c
/-- After TensorCore kernel 1. -/
def V3 (d : Dev nD) : Valuation τ sig (Elt F) := afterRegion (dat1 m d) (V2 m d)
/-- After SparseCore call 1. -/
def V4 (d : Dev nD) : Valuation τ sig (Elt F) := Function.update (V3 m d) (ref main_v18) (ret1 (V3 m d))
def dat2 (c : Dev nD) : Dat τ (Elt F) (HIx 4) ℕ UU ℕ (Cp (F := F) 2) c :=
  K4.dat 𝒱₀ (fun c b => V4 m c (ref b)) (fun c => (K (F := F)).Otc c 2) (recs (F := F) 2) c
/-- After TensorCore kernel 2. -/
def V5 (d : Dev nD) : Valuation τ sig (Elt F) := afterRegion (dat2 m d) (V4 m d)
/-- After SparseCore call 2. -/
def V6 (d : Dev nD) : Valuation τ sig (Elt F) := Function.update (V5 m d) (ref main_v20) (ret2 (V5 m d))
def dat3 (c : Dev nD) : Dat τ (Elt F) (HIx 4) ℕ UU ℕ (Cp (F := F) 3) c :=
  K6.dat 𝒱₀ (fun c b => V6 m c (ref b)) (fun c => (K (F := F)).Otc c 3) (recs (F := F) 3) c
/-- After TensorCore kernel 3. -/
def V7 (d : Dev nD) : Valuation τ sig (Elt F) := afterRegion (dat3 m d) (V6 m d)
/-- After the slice between the calls. -/
def V8 (d : Dev nD) : Valuation τ sig (Elt F) := StableHlo.after ops1 (V7 m d)
/-- After SparseCore call 3. -/
def V9 (d : Dev nD) : Valuation τ sig (Elt F) := Function.update (V8 m d) (ref main_v24) (ret3 (V8 m d))
def dat4 (c : Dev nD) : Dat τ (Elt F) (HIx 4) ℕ UU ℕ (Cp (F := F) 4) c :=
  K8.dat 𝒱₀ (fun c b => V9 m c (ref b)) (fun c => (K (F := F)).Otc c 4) (recs (F := F) 4) c
/-- After TensorCore kernel 4. -/
def V10 (d : Dev nD) : Valuation τ sig (Elt F) := afterRegion (dat4 m d) (V9 m d)
/-- At the end. -/
def V11 (d : Dev nD) : Valuation τ sig (Elt F) := StableHlo.after ops2 (V10 m d)

/-- The contents at each SparseCore call. -/
def Vv : Fin 4 → Dev nD → Valuation τ sig (Elt F)
  | 0 => V0 m | 1 => V3 m | 2 => V5 m | 3 => V8 m

def pdats : (p : Fin 5) → (c : Dev nD) → Dat τ (Elt F) (HIx 4) ℕ UU ℕ (Cp (F := F) p) c
  | 0 => dat0 m | 1 => dat1 m | 2 => dat2 m | 3 => dat3 m | 4 => dat4 m

variable [∀ e, Nonempty (Elt F e)]

theorem share_full {p : Fin 5} {c : Dev nD} (dat : Dat τ (Elt F) (HIx 4) ℕ UU ℕ (Cp (F := F) p) c) (h : ∀ w, dat.q w = fullShare) (w) :
    dat.share w = fullShare := by
  unfold Dat.share; split
  · rfl
  · exact h w

theorem reg_0 (κ : GSem nD τ sig → ℕ) (d : Dev nD) (Φ : PUnit → sProp 𝕄) :
    iprop((K (F := F)).ctx EH (P (Vv m)) κ ∗ St 1 d (V1 m d) ∗ cellsGhost (Cp (F := F)) EP 0 d ∗ toksInit (Cp (F := F)) EP 0 d
        ∗ (St 1 d (V2 m d) -∗ Φ ⟨⟩))
      ⊢ wp frame (wpE ((K (F := F)).defs (D (F := F))) 𝒱 (T d) none) Set.univ
          (Prog.lift (.customCall (SparseCore.inner (Pipeline.entry 0)) ())) Φ :=
  reg_step (pdats m) (Vv m) κ 0 1 (V1 m) launch1 (fun c => (K1.body_obligation 𝒱₀ (fun c b => V1 m c (ref b)) (fun c => (K (F := F)).Otc c 1) (recs (F := F) 1) none c).loose)
    (fun _ _ => rfl) (fun _ _ => rfl) (fun c w => share_full _ (fun _ => rfl) w) (fun _ => .rfl) (fun _ => .rfl) (fun _ _ => rfl) d Φ

theorem reg_1 (κ : GSem nD τ sig → ℕ) (d : Dev nD) (Φ : PUnit → sProp 𝕄) :
    iprop((K (F := F)).ctx EH (P (Vv m)) κ ∗ St 1 d (V2 m d) ∗ cellsGhost (Cp (F := F)) EP 1 d ∗ toksInit (Cp (F := F)) EP 1 d
        ∗ (St 1 d (V3 m d) -∗ Φ ⟨⟩))
      ⊢ wp frame (wpE ((K (F := F)).defs (D (F := F))) 𝒱 (T d) none) Set.univ
          (Prog.lift (.customCall (SparseCore.inner (Pipeline.entry 1)) ())) Φ :=
  reg_step (pdats m) (Vv m) κ 1 1 (V2 m) launch2 (fun c => (K2.body_obligation 𝒱₀ (fun c b => V2 m c (ref b)) (fun c => (K (F := F)).Otc c 1) (recs (F := F) 1) none c).loose)
    (fun _ _ => rfl) (fun _ _ => rfl) (fun c w => share_full _ (fun _ => rfl) w) (fun _ => .rfl) (fun _ => .rfl) (fun _ _ => rfl) d Φ

theorem reg_2 (κ : GSem nD τ sig → ℕ) (d : Dev nD) (Φ : PUnit → sProp 𝕄) :
    iprop((K (F := F)).ctx EH (P (Vv m)) κ ∗ St 2 d (V4 m d) ∗ cellsGhost (Cp (F := F)) EP 2 d ∗ toksInit (Cp (F := F)) EP 2 d
        ∗ (St 2 d (V5 m d) -∗ Φ ⟨⟩))
      ⊢ wp frame (wpE ((K (F := F)).defs (D (F := F))) 𝒱 (T d) none) Set.univ
          (Prog.lift (.customCall (SparseCore.inner (Pipeline.entry 2)) ())) Φ :=
  reg_step (pdats m) (Vv m) κ 2 2 (V4 m) launch4 (fun c => (K4.body_obligation 𝒱₀ (fun c b => V4 m c (ref b)) (fun c => (K (F := F)).Otc c 2) (recs (F := F) 2) none c).loose)
    (fun _ _ => rfl) (fun _ _ => rfl) (fun c w => share_full _ (fun _ => rfl) w) (fun _ => .rfl) (fun _ => .rfl) (fun _ _ => rfl) d Φ

theorem reg_3 (κ : GSem nD τ sig → ℕ) (d : Dev nD) (Φ : PUnit → sProp 𝕄) :
    iprop((K (F := F)).ctx EH (P (Vv m)) κ ∗ St 3 d (V6 m d) ∗ cellsGhost (Cp (F := F)) EP 3 d ∗ toksInit (Cp (F := F)) EP 3 d
        ∗ (St 3 d (V7 m d) -∗ Φ ⟨⟩))
      ⊢ wp frame (wpE ((K (F := F)).defs (D (F := F))) 𝒱 (T d) none) Set.univ
          (Prog.lift (.customCall (SparseCore.inner (Pipeline.entry 3)) ())) Φ :=
  reg_step (pdats m) (Vv m) κ 3 3 (V6 m) launch6 (fun c => (K6.body_obligation 𝒱₀ (fun c b => V6 m c (ref b)) (fun c => (K (F := F)).Otc c 3) (recs (F := F) 3) none c).loose)
    (fun _ _ => rfl) (fun _ _ => rfl) (fun c w => share_full _ (fun _ => rfl) w) (fun _ => .rfl) (fun _ => .rfl) (fun _ _ => rfl) d Φ

theorem reg_4 (κ : GSem nD τ sig → ℕ) (d : Dev nD) (Φ : PUnit → sProp 𝕄) :
    iprop((K (F := F)).ctx EH (P (Vv m)) κ ∗ St 4 d (V9 m d) ∗ cellsGhost (Cp (F := F)) EP 4 d ∗ toksInit (Cp (F := F)) EP 4 d
        ∗ (St 4 d (V10 m d) -∗ Φ ⟨⟩))
      ⊢ wp frame (wpE ((K (F := F)).defs (D (F := F))) 𝒱 (T d) none) Set.univ
          (Prog.lift (.customCall (SparseCore.inner (Pipeline.entry 4)) ())) Φ :=
  reg_step (pdats m) (Vv m) κ 4 4 (V9 m) launch8 (fun c => (K8.body_obligation 𝒱₀ (fun c b => V9 m c (ref b)) (fun c => (K (F := F)).Otc c 4) (recs (F := F) 4) none c).loose)
    (fun _ _ => rfl) (fun _ _ => rfl) (fun c w => share_full _ (fun _ => rfl) w) (fun _ => .rfl) (fun _ => .rfl) (fun _ _ => rfl) d Φ

end Cert.Kernel.Own

end

end
-- ==== Proof.Whole.lean ====
/- Every execution of the whole program: it ends, with every unscoped buffer of the TensorCore at the chain's last contents. -/
module

public import proofs.«01_k».proof.Proof.Chain
public import Idealize.ShloMosaic.Lib.Pipeline.RegionArraysS

@[expose] public section

set_option Elab.async false

noncomputable section

namespace Cert.Kernel.Own

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat afterRegion arrRef arrRefs ucRefs cellsGhost toksInit)
open Idealize.ShloMosaic.StableHlo (held)

variable {F : FTy → Type} [FloatOps F]

local notation "𝕄" => MT nD τ sig (HIx 4) (Elt F) ℕ UU ℕ

variable (m : (ℓ : Loc nD τ sig) → Buf (Elt F) ℓ) (ρ : Dev nD → PrngReg)

/-- A straight line of host operations, from the state between operations to the state between operations. -/
theorem seq_step (ops : List (HloOp τ sig (Elt F))) (hS : ∀ op ∈ ops, op.bufs ⊆ ucRefs τ sig) (hf : ∀ op ∈ ops, op.fresh = ∅)
    (n : ℕ) (d : Dev nD) (W : Valuation τ sig (Elt F)) (k : PUnit → Prog (TpuEff nD τ sig (Elt F) (SparseCore.Sig ΛP 4) .tc) PUnit) (Q : PUnit → sProp 𝕄) :
    iprop(St n d W ∗ (St n d (StableHlo.after ops W) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  unfold St
  iintro ⟨⟨Hb, Hh, Hst, Hp⟩, Hk⟩
  have h := StableHlo.wp_seq (defs := (K (F := F)).defs (D (F := F))) (𝒱 := 𝒱) (bd := none) (E := Set.univ) d (ucRefs τ sig) k (K := Q) ops hS hf W
  ihave H := h $$ [Hb Hh]
  · isplitl [Hb]; · iexact Hb
    iexact Hh
  iapply H
  iintro ⟨Hb, Hh⟩
  iapply Hk
  isplitl [Hb]; · iexact Hb
  isplitl [Hh]; · iexact Hh
  isplitl [Hst]; · iexact Hst
  iexact Hp

/-- A call at the head of a program. -/
theorem bind_step {A : sProp 𝕄} (d : Dev nD) (p : Prog (TpuEff nD τ sig (Elt F) (SparseCore.Sig ΛP 4) .tc) PUnit)
    (k : PUnit → Prog (TpuEff nD τ sig (Elt F) (SparseCore.Sig ΛP 4) .tc) PUnit) (Q : PUnit → sProp 𝕄)
    (h : A ⊢ wp frame (wpE ((K (F := F)).defs (D (F := F))) 𝒱 (T d) none) Set.univ p
      fun x => wp frame (wpE ((K (F := F)).defs (D (F := F))) 𝒱 (T d) none) Set.univ (k x) Q) :
    A ⊢ wp frame (wpE ((K (F := F)).defs (D (F := F))) 𝒱 (T d) none) Set.univ (p >>= k) Q := by
  rw [wp_bind]; exact h

/-- What device `d`'s TensorCore is dealt beside the launch's own: the ghost state of the five pipelines. -/
def G (d : Dev nD) : sProp 𝕄 :=
  iprop((bigSep Finset.univ fun p : Fin 5 => cellsGhost (Cp (F := F)) EP p d) ∗ bigSep Finset.univ fun p : Fin 5 => toksInit (Cp (F := F)) EP p d)
def FIN (d : Dev nD) : sProp 𝕄 := held (T d) (ucRefs τ sig) (V11 m d)

theorem five (f : Fin 5 → sProp 𝕄) : bigSep Finset.univ f = iprop(f 0 ∗ f 1 ∗ f 2 ∗ f 3 ∗ f 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

variable [∀ e, Nonempty (Elt F e)]

theorem steps (κ : GSem nD τ sig → ℕ) (d : Dev nD) (Q : PUnit → sProp 𝕄) :
    iprop((K (F := F)).ctx EH (P (Vv m)) κ ∗ St 0 d (StableHlo.launchContents m d) ∗ G d ∗ (St 4 d (V11 m d) -∗ Q ⟨⟩))
      ⊢ wp frame (wpE ((K (F := F)).defs (D (F := F))) 𝒱 (T d) none) Set.univ (main d) Q := by
  rw [main_eq]
  unfold G
  rw [five, five]
  iintro ⟨#Hctx, Hst, ⟨⟨C0, C1, C2, C3, C4⟩, T0, T1, T2, T3, T4⟩, Hk⟩
  iapply (seq_step ops0 ops0_sub ops0_fresh 0 d (StableHlo.launchContents m d) _ Q)
  isplitl [Hst]; · iexact Hst
  iintro Hst
  iapply (bind_step d _ _ Q (call_0 (Vv m) κ d _))
  isplitr; · iexact Hctx
  isplitl [Hst]; · iexact Hst
  iintro Hst
  iapply (bind_step d _ _ Q (reg_0 m κ d _))
  isplitr; · iexact Hctx
  isplitl [Hst]; · iexact Hst
  isplitl [C0]; · iexact C0
  isplitl [T0]; · iexact T0
  iintro Hst
  iapply (bind_step d _ _ Q (reg_1 m κ d _))
  isplitr; · iexact Hctx
  isplitl [Hst]; · iexact Hst
  isplitl [C1]; · iexact C1
  isplitl [T1]; · iexact T1
  iintro Hst
  iapply (bind_step d _ _ Q (call_1 (Vv m) κ d _))
  isplitr; · iexact Hctx
  isplitl [Hst]; · iexact Hst
  iintro Hst
  iapply (bind_step d _ _ Q (reg_2 m κ d _))
  isplitr; · iexact Hctx
  isplitl [Hst]; · iexact Hst
  isplitl [C2]; · iexact C2
  isplitl [T2]; · iexact T2
  iintro Hst
  iapply (bind_step d _ _ Q (call_2 (Vv m) κ d _))
  isplitr; · iexact Hctx
  isplitl [Hst]; · iexact Hst
  iintro Hst
  iapply (bind_step d _ _ Q (reg_3 m κ d _))
  isplitr; · iexact Hctx
  isplitl [Hst]; · iexact Hst
  isplitl [C3]; · iexact C3
  isplitl [T3]; · iexact T3
  iintro Hst
  iapply (seq_step ops1 ops1_sub ops1_fresh 3 d (V7 m d) _ Q)
  isplitl [Hst]; · iexact Hst
  iintro Hst
  iapply (bind_step d _ _ Q (call_3 (Vv m) κ d _))
  isplitr; · iexact Hctx
  isplitl [Hst]; · iexact Hst
  iintro Hst
  iapply (bind_step d _ _ Q (reg_4 m κ d _))
  isplitr; · iexact Hctx
  isplitl [Hst]; · iexact Hst
  isplitl [C4]; · iexact C4
  isplitl [T4]; · iexact T4
  iintro Hst
  iapply (seq_step ops2 ops2_sub ops2_fresh 4 d (V10 m d) _ Q)
  isplitl [Hst]; · iexact Hst
  iintro Hst
  rw [wp_pure]; imodintro
  iapply Hk; iexact Hst

theorem hmain (κ : GSem nD τ sig → ℕ) (d : Dev nD) :
    iprop((K (F := F)).ctx EH (P (Vv m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 4 ∗ FIN m d ∗ (K (F := F)).tcEnd d) := by
  unfold SparseCore.Cfg.tcRes SparseCore.Cfg.tcEnd
  iintro ⟨#Hctx, Hst, ⟨Hb, Hheld, Hts, Hp⟩, HG⟩
  iapply (steps m κ d _)
  isplitr; · iexact Hctx
  isplitl [Hst Hb Hheld Hp]
  · unfold St
    isplitl [Hb]; · iexact Hb
    isplitl [Hheld]
    · iapply (Entails.of_eq (Pipeline.unscopedBufs_held d (StableHlo.launchContents m d))); iexact Hheld
    isplitl [Hst]; · iexact Hst
    iexists _; iexact Hp
  isplitl [HG]; · iexact HG
  unfold St FIN
  iintro ⟨Hb, Hh, Hst, -⟩
  isplitl [Hst]; · iexact Hst
  isplitl [Hh]; · iexact Hh
  isplitl [Hb]; · iexact Hb
  iexact Hts

def fq (d : Dev nD) (s' : Phys nD τ sig (Elt F)) : Prop := ∀ b ∈ ucRefs τ sig, s'.mem.mem (d, b) = V11 m d b

theorem hfin (d : Dev nD) (s' : Phys nD τ sig (Elt F)) : iprop(FIN m d ∗ SI s') ⊢ (⌜fq m d s'⌝ : sProp 𝕄) := by
  have h : ∀ b ∈ ucRefs τ sig, iprop(FIN m d ∗ SI s') ⊢ (⌜s'.mem.mem (d, b) = V11 m d b⌝ : sProp 𝕄) := fun b hb => by
    unfold FIN held
    refine (sep_mono_left (bigSep_elim hb)).trans ?_
    iintro ⟨Hx, HSI⟩
    ihave H := (SI_pointsTo_agree (st := s') (ℓ := (d, b)) (I := Finset.univ) (q := fullShare) (f := V11 m d b)) $$ [HSI Hx]
    · isplitl [HSI] <;> iassumption
    icases H with %hx
    ipureintro; exact funext fun i => hx i (Finset.mem_univ i)
  exact fun x hx b hb => h b hb x hx

theorem cp_eq : Cp (F := F) = cfgs := by
  funext p
  match p with
  | 0 => rfl
  | 1 => rfl
  | 2 => rfl
  | 3 => rfl
  | 4 => rfl
theorem injC : Function.Injective (Pipeline.cellOf (nD := nD) (τ := τ) (Cp (F := F))) := by
  rw [cp_eq]; exact cellOf_inj
/-- The launch's ghost state of the pipelines. -/
def uP : UP := initOf (Pipeline.cells (nD := nD) (τ := τ) (Cp (F := F)) injC) (Pipeline.launchToks (nD := nD) (τ := τ) (Cp (F := F)) injC)
theorem fundP : (BI.own (EP (uP (F := F))) : sProp 𝕄)
    ⊢ iprop(|==> ((bigSep Finset.univ fun c : Dev nD => bigSep Finset.univ fun p => cellsGhost (Cp (F := F)) EP p c)
        ∗ (bigSep Finset.univ fun c : Dev nD => bigSep Finset.univ fun p => (toksInit (Cp (F := F)) EP p c : sProp 𝕄)))) :=
  Pipeline.fund_ghost (Cp (F := F)) EP injC

/-- The launch's ghost state: the handshakes' and the pipelines'. -/
def u₀ : UU := (initOf (K (F := F)).hsCells (K (F := F)).hsToks, (uP (F := F), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 4) (Val := Elt F) (Name := ℕ) (U := UU) (Lvl := ℕ)).toEmb.op_of_mem
    (Prod.mk_mem_op (URA.mem_op_one a) (URA.mem_one_op (b, (1 : Counters)))))

theorem emp_big {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 4 => (P (Vv m)).x q thr) := by
  unfold u₀ G
  rw [bigSep_sep']
  iintro Hu
  ihave H := (ownU_split _ _) $$ Hu
  icases H with ⟨HH, HP⟩
  have hf := fundP (F := F)
  imod (hf) $$ HP with ⟨HC, HT⟩
  imodintro
  isplitl [HH]; · iexact HH
  isplitl [HC HT]
  · isplitl [HC]; · iexact HC
    iexact HT
  unfold P; dsimp only
  rw [show (bigSep Finset.univ fun _ : Thread nD τ => bigSep Finset.univ fun _ : Fin 4 => (iprop(emp) : sProp 𝕄)) = iprop(emp) from by
    rw [bigSep_congr fun _ _ => emp_big _, emp_big]]
  iempintro

/-- THE RUN: from any memory whose edge list names only nodes of the padded graph, every execution ends with every unscoped TensorCore
    buffer at the chain's last contents, and every semaphore at zero. -/
theorem run (h1 : ∀ q d (j : S320000.Idx), (show BitVec 32 from Vv m q d (ref main_v1) j).toNat < 10240)
    (h3 : ∀ q d (j : S320000.Idx), (show BitVec 32 from Vv m q d (ref main_v3) j).toNat < 10240) :
    θ_run (Cert.Kernel.defs (F := F)) (Cert.Kernel.threads (F := F)) ⟨m, fun _ => 0, ρ⟩
      (fun r => (∀ d, ∀ b ∈ ucRefs τ sig, r.2.mem (d, b) = V11 m d b) ∧ r.2.sem = fun _ => 0) :=
  SparseCore.Cfg.θ_run_sc_quiescent (K := K (F := F)) (D := D (F := F)) (𝒱 := 𝒱) (EH := EH) (P := P (Vv m)) (A := ∅) facts v₀
    (fun q hq => match q with | 0 => nomatch hq | 1 => nomatch hq | 2 => nomatch hq | 3 => nomatch hq)
    (fun q _ => match q with
      | 0 => tileObl_0 (Vv m) (h1 0) (h3 0) | 1 => tileObl_1 (Vv m) (h1 1) (h3 1)
      | 2 => tileObl_2 (Vv m) (h1 2) (h3 2) | 3 => tileObl_3 (Vv m) (h1 3) (h3 3))
    (fun q _ => SparseCore.Cfg.VecSplit.of_plain (vecSplit (Vv m) q))
    m ρ main G (FIN m) (u₀ (F := F)) (sep_elim_left.trans (hu₀ m)) (hmain m ρ) (fq m) (hfin m) _ (fun _ h hz => ⟨h, hz⟩)

end Cert.Kernel.Own

end

end
-- ==== Proof.Keep.lean ====
/- What the run leaves alone: a buffer no call and no late operation writes keeps what the first operations left in it. -/
module

public import proofs.«01_k».proof.Proof.Whole
public import Idealize.ShloMosaic.Lib.ValueLayout
public import Idealize.ShloMosaic.Lib.ReduceAll
public import Idealize.ShloMosaic.Lib.Pipeline.RegionArraysS

@[expose] public section

set_option Elab.async false

noncomputable section

namespace Cert.Kernel.Own

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat afterRegion arrRef arrRefs ucRefs cellsGhost toksInit)
open Idealize.ShloMosaic.StableHlo (held)

variable {F : FTy → Type} [FloatOps F]

local notation "𝕄" => MT nD τ sig (HIx 4) (Elt F) ℕ UU ℕ

variable (m : (ℓ : Loc nD τ sig) → Buf (Elt F) ℓ)

/-- The buffers written after the first host operations. -/
def outs : List (Ref sig .tc) := [main_v15, main_v16, main_v17_0, main_v17_1, main_v18, main_v19_0, main_v19_1, main_v20, main_v21, main_v22, main_v23, main_v24, main_v25, main_v26, main_v27]

theorem mem_uc (r : Ref sig .tc) (h : r.isScoped = false) : ref r ∈ ucRefs τ sig := Pipeline.devRef_mem_ucRefs h

theorem r_ne {r o : Ref sig .tc} (h : r ∉ outs) (ho : o ∈ outs) : r ≠ o := fun e => h (e ▸ ho)
theorem ne_of_not_out {r o : Ref sig .tc} (h : r ∉ outs) (ho : o ∈ outs) : ref r ≠ ref o :=
  StableHlo.devRef_ne_of_ne fun e => h (e ▸ ho)

theorem outs1 : ∀ w : Fin 2, (win1 w).isOut = true → arrRef spec1 w ∈ outs := by decide
theorem keep2 (d : Dev nD) (r : Ref sig .tc) (h : r ∉ outs) : V2 m d (ref r) = V1 m d (ref r) :=
  Pipeline.afterRegion_keeps (dat0 m d) (V1 m d) launch1.win.arr_inj (fun _ => rfl) r fun w hw => by
    cases ho : (win1 w).isOut with
    | false => rfl
    | true => exact absurd (hw ▸ outs1 w ho) h
theorem outs2 : ∀ w : Fin 6, (win2 w).isOut = true → arrRef spec2 w ∈ outs := by decide
theorem keep3 (d : Dev nD) (r : Ref sig .tc) (h : r ∉ outs) : V3 m d (ref r) = V2 m d (ref r) :=
  Pipeline.afterRegion_keeps (dat1 m d) (V2 m d) launch2.win.arr_inj (fun _ => rfl) r fun w hw => by
    cases ho : (win2 w).isOut with
    | false => rfl
    | true => exact absurd (hw ▸ outs2 w ho) h
theorem outs4 : ∀ w : Fin 9, (win4 w).isOut = true → arrRef spec4 w ∈ outs := by decide
theorem keep5 (d : Dev nD) (r : Ref sig .tc) (h : r ∉ outs) : V5 m d (ref r) = V4 m d (ref r) :=
  Pipeline.afterRegion_keeps (dat2 m d) (V4 m d) launch4.win.arr_inj (fun _ => rfl) r fun w hw => by
    cases ho : (win4 w).isOut with
    | false => rfl
    | true => exact absurd (hw ▸ outs4 w ho) h
theorem outs6 : ∀ w : Fin 6, (win6 w).isOut = true → arrRef spec6 w ∈ outs := by decide
theorem keep7 (d : Dev nD) (r : Ref sig .tc) (h : r ∉ outs) : V7 m d (ref r) = V6 m d (ref r) :=
  Pipeline.afterRegion_keeps (dat3 m d) (V6 m d) launch6.win.arr_inj (fun _ => rfl) r fun w hw => by
    cases ho : (win6 w).isOut with
    | false => rfl
    | true => exact absurd (hw ▸ outs6 w ho) h
theorem outs8 : ∀ w : Fin 5, (win8 w).isOut = true → arrRef spec8 w ∈ outs := by decide
theorem keep10 (d : Dev nD) (r : Ref sig .tc) (h : r ∉ outs) : V10 m d (ref r) = V9 m d (ref r) :=
  Pipeline.afterRegion_keeps (dat4 m d) (V9 m d) launch8.win.arr_inj (fun _ => rfl) r fun w hw => by
    cases ho : (win8 w).isOut with
    | false => rfl
    | true => exact absurd (hw ▸ outs8 w ho) h
theorem keep1 (d : Dev nD) (r : Ref sig .tc) (h : r ∉ outs) : V1 m d (ref r) = V0 m d (ref r) := by
  unfold V1; exact Function.update_of_ne (ne_of_not_out h (by decide)) _ _
theorem keep4 (d : Dev nD) (r : Ref sig .tc) (h : r ∉ outs) : V4 m d (ref r) = V3 m d (ref r) := by
  unfold V4; exact Function.update_of_ne (ne_of_not_out h (by decide)) _ _
theorem keep6 (d : Dev nD) (r : Ref sig .tc) (h : r ∉ outs) : V6 m d (ref r) = V5 m d (ref r) := by
  unfold V6; exact Function.update_of_ne (ne_of_not_out h (by decide)) _ _
theorem keep9 (d : Dev nD) (r : Ref sig .tc) (h : r ∉ outs) : V9 m d (ref r) = V8 m d (ref r) := by
  unfold V9; exact Function.update_of_ne (ne_of_not_out h (by decide)) _ _
theorem keep8 (d : Dev nD) (r : Ref sig .tc) (h : r ∉ outs) : V8 m d (ref r) = V7 m d (ref r) := by
  unfold V8 ops1
  rw [StableHlo.after_cons, StableHlo.after_cons, StableHlo.after_nil,
    StableHlo.reshape_result_ne (h := r_ne h (by decide)), StableHlo.unary_result_ne (h := r_ne h (by decide))]
theorem keep11 (d : Dev nD) (r : Ref sig .tc) (h : r ∉ outs) : V11 m d (ref r) = V10 m d (ref r) := by
  unfold V11 ops2
  rw [StableHlo.after_cons, StableHlo.after_cons, StableHlo.after_nil,
    StableHlo.reshape_result_ne (h := r_ne h (by decide)), StableHlo.unary_result_ne (h := r_ne h (by decide))]
theorem keeps (d : Dev nD) (r : Ref sig .tc) (h : r ∉ outs) : V11 m d (ref r) = V0 m d (ref r) := by
  rw [keep11 m d r h, keep10 m d r h, keep9 m d r h, keep8 m d r h, keep7 m d r h, keep6 m d r h, keep5 m d r h, keep4 m d r h, keep3 m d r h, keep2 m d r h, keep1 m d r h]
theorem keeps_v (q : Fin 4) (d : Dev nD) (r : Ref sig .tc) (h : r ∉ outs) : Vv m q d (ref r) = V0 m d (ref r) := by
  match q with
  | 0 => rfl
  | 1 => show V3 m d (ref r) = _; rw [keep3 m d r h, keep2 m d r h, keep1 m d r h]
  | 2 => show V5 m d (ref r) = _; rw [keep5 m d r h, keep4 m d r h, keep3 m d r h, keep2 m d r h, keep1 m d r h]
  | 3 => show V8 m d (ref r) = _; rw [keep8 m d r h, keep7 m d r h, keep6 m d r h, keep5 m d r h, keep4 m d r h, keep3 m d r h, keep2 m d r h, keep1 m d r h]

theorem arg0 (d : Dev nD) : V0 m d (ref main_arg0) = m ((d.tc : Thread nD τ).loc main_arg0) := by
  unfold V0 ops0; after_results
theorem arg1 (d : Dev nD) : V0 m d (ref main_arg1) = m ((d.tc : Thread nD τ).loc main_arg1) := by
  unfold V0 ops0; after_results
theorem arg2 (d : Dev nD) : V0 m d (ref main_arg2) = m ((d.tc : Thread nD τ).loc main_arg2) := by
  unfold V0 ops0; after_results
theorem arg3 (d : Dev nD) : V0 m d (ref main_arg3) = m ((d.tc : Thread nD τ).loc main_arg3) := by
  unfold V0 ops0; after_results
theorem arg4 (d : Dev nD) : V0 m d (ref main_arg4) = m ((d.tc : Thread nD τ).loc main_arg4) := by
  unfold V0 ops0; after_results
theorem arg5 (d : Dev nD) : V0 m d (ref main_arg5) = m ((d.tc : Thread nD τ).loc main_arg5) := by
  unfold V0 ops0; after_results
theorem arg6 (d : Dev nD) : V0 m d (ref main_arg6) = m ((d.tc : Thread nD τ).loc main_arg6) := by
  unfold V0 ops0; after_results
theorem arg7 (d : Dev nD) : V0 m d (ref main_arg7) = m ((d.tc : Thread nD τ).loc main_arg7) := by
  unfold V0 ops0; after_results
theorem arg8 (d : Dev nD) : V0 m d (ref main_arg8) = m ((d.tc : Thread nD τ).loc main_arg8) := by
  unfold V0 ops0; after_results
theorem arg9 (d : Dev nD) : V0 m d (ref main_arg9) = m ((d.tc : Thread nD τ).loc main_arg9) := by
  unfold V0 ops0; after_results
theorem arg10 (d : Dev nD) : V0 m d (ref main_arg10) = m ((d.tc : Thread nD τ).loc main_arg10) := by
  unfold V0 ops0; after_results
theorem arg11 (d : Dev nD) : V0 m d (ref main_arg11) = m ((d.tc : Thread nD τ).loc main_arg11) := by
  unfold V0 ops0; after_results
theorem arg12 (d : Dev nD) : V0 m d (ref main_arg12) = m ((d.tc : Thread nD τ).loc main_arg12) := by
  unfold V0 ops0; after_results
theorem arg13 (d : Dev nD) : V0 m d (ref main_arg13) = m ((d.tc : Thread nD τ).loc main_arg13) := by
  unfold V0 ops0; after_results

theorem v1_def (d : Dev nD) : V0 m d (ref main_v1) = shapeCast S320000 (extractStridedSlice S1x320000 ![0, 0] (show Vec F S2x320000 .i32 from m ((d.tc : Thread nD τ).loc main_arg1)) slices_S2x320000_S1x320000_0_0) shapeCasts_S1x320000_S320000 := by
  unfold V0 ops0; after_results; rfl
theorem v3_def (d : Dev nD) : V0 m d (ref main_v3) = shapeCast S320000 (extractStridedSlice S1x320000 ![1, 0] (show Vec F S2x320000 .i32 from m ((d.tc : Thread nD τ).loc main_arg1)) slices_S2x320000_S1x320000_1_0) shapeCasts_S1x320000_S320000 := by
  unfold V0 ops0; after_results; rfl

theorem row_apply (r : Fin 2) (x : S2x320000.Idx → BitVec 32) (h : S2x320000.Slices ![r.val, 0] S1x320000) (h' : S1x320000.ShapeCasts S320000) (j : Fin 320000) :
    shapeCast S320000 (extractStridedSlice S1x320000 ![r.val, 0] x h) h' (ValueIdx.ix1 j) = x (ValueIdx.ix2 r j) := by
  refine (shapeCast_1a_a_apply _ h' j).trans ?_
  refine extractStridedSlice_apply _ _ _ _ _ fun a => ?_
  match a with
  | 0 => show r.val = r.val + 0; rfl
  | 1 => show j.val = 0 + j.val; omega

/-- The sources and the targets of the edges: the two rows of the edge list. -/
theorem src_eq (d : Dev nD) (j : Fin 320000) :
    (show S320000.Idx → BitVec 32 from V0 m d (ref main_v1)) (ValueIdx.ix1 j) = (show S2x320000.Idx → BitVec 32 from m ((d.tc : Thread nD τ).loc main_arg1)) (ValueIdx.ix2 0 j) := by
  rw [v1_def]; exact row_apply 0 _ _ _ j
theorem dst_eq (d : Dev nD) (j : Fin 320000) :
    (show S320000.Idx → BitVec 32 from V0 m d (ref main_v3)) (ValueIdx.ix1 j) = (show S2x320000.Idx → BitVec 32 from m ((d.tc : Thread nD τ).loc main_arg1)) (ValueIdx.ix2 1 j) := by
  rw [v3_def]; exact row_apply 1 _ _ _ j

/-- Every word of the edge list is a node's number. -/
def InRange (x : S2x320000.Idx → BitVec 32) : Prop := ∀ i, (x i).toNat < 10000

variable {m} in
theorem src_lt (hx : ∀ d : Dev nD, InRange (show S2x320000.Idx → BitVec 32 from m ((d.tc : Thread nD τ).loc main_arg1))) (q d) (j : S320000.Idx) :
    (show BitVec 32 from Vv m q d (ref main_v1) j).toNat < 10240 := by
  rw [keeps_v m q d main_v1 (by decide)]
  obtain ⟨k, rfl⟩ : ∃ k : Fin 320000, j = ValueIdx.ix1 k := ⟨j 0, funext fun a => by match a with | 0 => rfl⟩
  exact lt_of_eq_of_lt (congrArg BitVec.toNat (src_eq m d k)) (lt_trans (hx d _) (by decide))
variable {m} in
theorem dst_lt (hx : ∀ d : Dev nD, InRange (show S2x320000.Idx → BitVec 32 from m ((d.tc : Thread nD τ).loc main_arg1))) (q d) (j : S320000.Idx) :
    (show BitVec 32 from Vv m q d (ref main_v3) j).toNat < 10240 := by
  rw [keeps_v m q d main_v3 (by decide)]
  obtain ⟨k, rfl⟩ : ∃ k : Fin 320000, j = ValueIdx.ix1 k := ⟨j 0, funext fun a => by match a with | 0 => rfl⟩
  exact lt_of_eq_of_lt (congrArg BitVec.toNat (dst_eq m d k)) (lt_trans (hx d _) (by decide))

variable [∀ e, Nonempty (Elt F e)]

/-- THE RUN AT THE RESULT AND THE ARGUMENTS: from any memory whose edge list names only nodes, every execution ends with the result at
    the chain's last contents, the arguments as they were, and every semaphore at zero. -/
theorem run_args (ρ : Dev nD → PrngReg) (hx : ∀ d : Dev nD, InRange (show S2x320000.Idx → BitVec 32 from m ((d.tc : Thread nD τ).loc main_arg1))) :
    θ_run (Cert.Kernel.defs (F := F)) (Cert.Kernel.threads (F := F)) ⟨m, fun _ => 0, ρ⟩
      (fun r => (∀ c : Dev nD, r.2.mem ((c.tc : Thread nD τ).loc main_v27) = V11 m c (ref main_v27)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13))
        ∧ r.2.sem = fun _ => 0) := by
  refine (θ_run Cert.Kernel.defs _ _).mono (fun r h => ⟨fun c => ⟨h.1 c _ (mem_uc main_v27 rfl), (h.1 c _ (mem_uc main_arg0 rfl)).trans ((keeps m c main_arg0 (by decide)).trans (arg0 m c)), (h.1 c _ (mem_uc main_arg1 rfl)).trans ((keeps m c main_arg1 (by decide)).trans (arg1 m c)), (h.1 c _ (mem_uc main_arg2 rfl)).trans ((keeps m c main_arg2 (by decide)).trans (arg2 m c)), (h.1 c _ (mem_uc main_arg3 rfl)).trans ((keeps m c main_arg3 (by decide)).trans (arg3 m c)), (h.1 c _ (mem_uc main_arg4 rfl)).trans ((keeps m c main_arg4 (by decide)).trans (arg4 m c)), (h.1 c _ (mem_uc main_arg5 rfl)).trans ((keeps m c main_arg5 (by decide)).trans (arg5 m c)), (h.1 c _ (mem_uc main_arg6 rfl)).trans ((keeps m c main_arg6 (by decide)).trans (arg6 m c)), (h.1 c _ (mem_uc main_arg7 rfl)).trans ((keeps m c main_arg7 (by decide)).trans (arg7 m c)), (h.1 c _ (mem_uc main_arg8 rfl)).trans ((keeps m c main_arg8 (by decide)).trans (arg8 m c)), (h.1 c _ (mem_uc main_arg9 rfl)).trans ((keeps m c main_arg9 (by decide)).trans (arg9 m c)), (h.1 c _ (mem_uc main_arg10 rfl)).trans ((keeps m c main_arg10 (by decide)).trans (arg10 m c)), (h.1 c _ (mem_uc main_arg11 rfl)).trans ((keeps m c main_arg11 (by decide)).trans (arg11 m c)), (h.1 c _ (mem_uc main_arg12 rfl)).trans ((keeps m c main_arg12 (by decide)).trans (arg12 m c)), (h.1 c _ (mem_uc main_arg13 rfl)).trans ((keeps m c main_arg13 (by decide)).trans (arg13 m c))⟩, h.2⟩)
    (run m ρ (fun q d j => src_lt hx q d j) (fun q d j => dst_lt hx q d j))

end Cert.Kernel.Own

end

end
-- ==== Proof.Range.lean ====
/- The edge list's range, read off the precondition. -/
module

public import proofs.«01_k».proof.Proof.Keep
public import proofs.«01_k».proof.Proof.Gen.Pre_edges

@[expose] public section

noncomputable section

namespace Cert.Kernel.Own

open Idealize.ShloMosaic

/-- Two comparisons of a word, read as its range. -/
theorem range_of_cmp {x : BitVec 32} (h0 : IntOp.cmpi .sge x 0#32 = 1#1) (h1 : IntOp.cmpi .slt x 10000#32 = 1#1) : x.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0; rw [e1] at h1
  rw [BitVec.toInt_eq_toNat_cond] at h0 h1
  split at h0 <;> omega

instance : Subsingleton Cert.Pre_edges.S_.Idx := ⟨fun a b => funext fun i => i.elim0⟩

theorem edges_range {F : FTy → Type} [FloatOps F] (x0 : FVec F Cert.Pre_edges.S10000x128 .f32) (x1 : IVec Cert.Pre_edges.S2x320000 32) (x2 : FVec F Cert.Pre_edges.S128x128 .f32) (x3 : FVec F Cert.Pre_edges.S128 .f32)
    (x4 x5 : FVec F Cert.Pre_edges.S128x128 .f32) (x6 : FVec F Cert.Pre_edges.S128 .f32) (x7 : FVec F Cert.Pre_edges.S128x128 .f32) (x8 : FVec F Cert.Pre_edges.S64x128 .f32) (x9 : FVec F Cert.Pre_edges.S64 .f32)
    (x10 : FVec F Cert.Pre_edges.S64x128 .f32) (x11 : FVec F Cert.Pre_edges.S_ .f32) (x12 : FVec F Cert.Pre_edges.S1x64 .f32) (x13 : FVec F Cert.Pre_edges.S1 .f32)
    (h : Cert.Pre_edges.fn x0 x1 x2 x3 x4 x5 x6 x7 x8 x9 x10 x11 x12 x13 = fun _ => 1#1) : InRange x1 := fun i => by
  have h' := congrFun h (fun a => a.elim0)
  unfold Cert.Pre_edges.fn at h'
  obtain ⟨ha, hb⟩ := IntOp.andi_eq_one.1 h'
  exact range_of_cmp (Host.reduce_andi_all _ _ _ _ _ ha i) (Host.reduce_andi_all _ _ _ _ _ hb i)

end Cert.Kernel.Own

end

end
-- ==== Proof.Model.lean ====
/- The network over the reals: the layer as the reference writes it (sum the neighbours' features, divide by the degree, then
   the linear map) and as the kernel computes it (the linear map first, then the sum), and that the two are equal; likewise the
   head, which the kernel folds into the third layer's maps. -/
module

public import Idealize.ShloMosaic.PureOps.Ideal

@[expose] public section

noncomputable section

namespace Cert.Sage

open Idealize.ShloMosaic Finset

/-- The sum of `f` over the edges into node `t`: `s` names an edge's source, `d` its target. -/
def S (s d : ℕ → ℕ) (f : ℕ → ℝ) (t : ℕ) : ℝ := ∑ e ∈ range 320000, if d e = t then f (s e) else 0

/-- The degree of node `t`, at least one. -/
def dg (s d : ℕ → ℕ) (t : ℕ) : ℝ := max (S s d (fun _ => 1) t) 1

theorem dg_pos (s d : ℕ → ℕ) (t : ℕ) : 0 < dg s d t := lt_of_lt_of_le one_pos (le_max_right _ _)

/-- PReLU over the reals. -/
def prR (a h : ℝ) : ℝ := if Ideal.cmp .oge (h : EReal) 0 = 1#1 then h else a * h

/-- The kernel's layer. -/
def kL {n : ℕ} (s d : ℕ → ℕ) (X : ℕ → Fin 128 → ℝ) (Wl Wr : Fin n → Fin 128 → ℝ) (b : Fin n → ℝ) (t : ℕ) (p : Fin n) : ℝ :=
  S s d (fun m => ∑ k, Wl p k * X m k) t * (1 / dg s d t) + ((∑ k, Wr p k * X t k) + b p)

/-- The reference's layer. -/
def rL {n : ℕ} (s d : ℕ → ℕ) (X : ℕ → Fin 128 → ℝ) (Wl Wr : Fin n → Fin 128 → ℝ) (b : Fin n → ℝ) (t : ℕ) (p : Fin n) : ℝ :=
  ((∑ k, S s d (fun m => X m k) t / dg s d t * Wl p k) + b p) + ∑ k, X t k * Wr p k

theorem S_lin {ι : Type} [Fintype ι] (s d : ℕ → ℕ) (w : ι → ℝ) (X : ℕ → ι → ℝ) (t : ℕ) :
    S s d (fun m => ∑ k, w k * X m k) t = ∑ k, w k * S s d (fun m => X m k) t := by
  unfold S
  simp only [Finset.mul_sum]
  rw [Finset.sum_comm]
  refine Finset.sum_congr rfl fun e _ => ?_
  split <;> simp

theorem layer_eq {n : ℕ} (s d : ℕ → ℕ) (X : ℕ → Fin 128 → ℝ) (Wl Wr : Fin n → Fin 128 → ℝ) (b : Fin n → ℝ) (t : ℕ) (p : Fin n) :
    kL s d X Wl Wr b t p = rL s d X Wl Wr b t p := by
  unfold kL rL
  rw [S_lin, Finset.sum_mul]
  have h1 : ∑ k, Wl p k * S s d (fun m => X m k) t * (1 / dg s d t) = ∑ k, S s d (fun m => X m k) t / dg s d t * Wl p k :=
    Finset.sum_congr rfl fun k _ => by ring
  have h2 : ∑ k, Wr p k * X t k = ∑ k, X t k * Wr p k := Finset.sum_congr rfl fun k _ => mul_comm _ _
  rw [h1, h2]; ring

/-- The kernel's head: the third layer's maps folded with the last one. -/
def kO (s d : ℕ → ℕ) (X : ℕ → Fin 128 → ℝ) (Wl Wr : Fin 64 → Fin 128 → ℝ) (b Wp : Fin 64 → ℝ) (bp : ℝ) (t : ℕ) : ℝ :=
  (S s d (fun m => ∑ k, (∑ j, Wp j * Wl j k) * X m k) t * (1 / dg s d t) + ∑ k, (∑ j, Wp j * Wr j k) * X t k) + ((∑ j, Wp j * b j) + bp)

/-- The reference's head. -/
def rO (s d : ℕ → ℕ) (X : ℕ → Fin 128 → ℝ) (Wl Wr : Fin 64 → Fin 128 → ℝ) (b Wp : Fin 64 → ℝ) (bp : ℝ) (t : ℕ) : ℝ :=
  (∑ j, rL s d X Wl Wr b t j * Wp j) + bp

theorem head_eq (s d : ℕ → ℕ) (X : ℕ → Fin 128 → ℝ) (Wl Wr : Fin 64 → Fin 128 → ℝ) (b Wp : Fin 64 → ℝ) (bp : ℝ) (t : ℕ) :
    kO s d X Wl Wr b Wp bp t = rO s d X Wl Wr b Wp bp t := by
  unfold kO rO
  have e : ∀ j, rL s d X Wl Wr b t j * Wp j = Wp j * (∑ k, Wl j k * S s d (fun m => X m k) t) * (1 / dg s d t) + Wp j * (∑ k, Wr j k * X t k) + Wp j * b j := fun j => by
    rw [← layer_eq]; unfold kL; rw [S_lin]; ring
  simp only [e, Finset.sum_add_distrib]
  rw [S_lin]
  have h (W : Fin 64 → Fin 128 → ℝ) (Y : Fin 128 → ℝ) : ∑ k, (∑ j, Wp j * W j k) * Y k = ∑ j, Wp j * ∑ k, W j k * Y k := by
    simp only [Finset.sum_mul, Finset.mul_sum]
    rw [Finset.sum_comm]
    exact Finset.sum_congr rfl fun j _ => Finset.sum_congr rfl fun k _ => mul_assoc _ _ _
  rw [h, h, ← Finset.sum_mul]; ring

/-- Thirty-two runs of ten thousand edges are all the edges. -/
theorem sum_tiles (g : ℕ → ℝ) : ∑ w : Fin 32, ∑ e ∈ range 10000, g (10000 * w.val + e) = ∑ e ∈ range 320000, g e := by
  have h : ∀ n, ∑ w ∈ range n, ∑ e ∈ range 10000, g (10000 * w + e) = ∑ e ∈ range (10000 * n), g e := fun n => by
    induction n with
    | zero => simp
    | succ n ih => rw [Finset.sum_range_succ, ih, Nat.mul_succ, Finset.sum_range_add]
  rw [Finset.sum_range (n := 32) (fun w => ∑ e ∈ range 10000, g (10000 * w + e)) |>.symm]
  exact h 32

/-! ## Real values among the extended reals -/

theorem coe_sum {ι : Type} (I : Finset ι) (f : ι → ℝ) : (∑ i ∈ I, ((f i : ℝ) : EReal)) = ((∑ i ∈ I, f i : ℝ) : EReal) := by
  classical
  induction I using Finset.induction_on with
  | empty => simp
  | insert a I h ih => rw [Finset.sum_insert h, Finset.sum_insert h, ih, EReal.coe_add]

theorem coe_mul_sum {ι : Type} (I : Finset ι) (f g : ι → ℝ) : (∑ i ∈ I, ((f i : EReal) * (g i : EReal))) = ((∑ i ∈ I, f i * g i : ℝ) : EReal) := by
  rw [← coe_sum]; exact Finset.sum_congr rfl fun i _ => (EReal.coe_mul _ _).symm

theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem div_real (x y : ℝ) (hy : y ≠ 0) : Ideal.div (x : EReal) (y : EReal) = ((x / y : ℝ) : EReal) := by
  rw [Ideal.div_coe hy, ← EReal.coe_mul]; congr 1; ring

end Cert.Sage

end
-- ==== Proof.Net.lean ====
/- The network's data as real numbers, what it means for the arguments to be that data, and the layers' activations. -/
module

public import proofs.«01_k».proof.Proof.Model
public import Idealize.ShloMosaic.Lib.ValueIdx

@[expose] public section

noncomputable section

namespace Cert.Sage

open Idealize.ShloMosaic Idealize.ShloMosaic.ValueIdx Finset

/-- The network's data: the edges' ends, the nodes' features, the layers' maps and biases, the slope, the head. -/
structure Net where
  s : ℕ → ℕ
  d : ℕ → ℕ
  X : ℕ → Fin 128 → ℝ
  W1l : Fin 128 → Fin 128 → ℝ
  b1 : Fin 128 → ℝ
  W1r : Fin 128 → Fin 128 → ℝ
  W2l : Fin 128 → Fin 128 → ℝ
  b2 : Fin 128 → ℝ
  W2r : Fin 128 → Fin 128 → ℝ
  W3l : Fin 64 → Fin 128 → ℝ
  b3 : Fin 64 → ℝ
  W3r : Fin 64 → Fin 128 → ℝ
  a : ℝ
  Wp : Fin 64 → ℝ
  bp : ℝ

/-- The first layer's activations, as the kernel computes them; -/
def Net.H1 (N : Net) (t : ℕ) (p : Fin 128) : ℝ := prR N.a (kL N.s N.d N.X N.W1l N.W1r N.b1 t p)
/-- the second layer's; -/
def Net.H2 (N : Net) (t : ℕ) (p : Fin 128) : ℝ := prR N.a (kL N.s N.d N.H1 N.W2l N.W2r N.b2 t p)
/-- the result. -/
def Net.out (N : Net) (t : ℕ) : ℝ := kO N.s N.d N.H2 N.W3l N.W3r N.b3 N.Wp N.bp t

theorem Net.H1_eq (N : Net) (t : ℕ) (p : Fin 128) : N.H1 t p = prR N.a (rL N.s N.d N.X N.W1l N.W1r N.b1 t p) := by
  unfold Net.H1; rw [layer_eq]
theorem Net.H2_eq (N : Net) (t : ℕ) (p : Fin 128) : N.H2 t p = prR N.a (rL N.s N.d N.H1 N.W2l N.W2r N.b2 t p) := by
  unfold Net.H2; rw [layer_eq]
theorem Net.out_eq (N : Net) (t : ℕ) : N.out t = rO N.s N.d N.H2 N.W3l N.W3r N.b3 N.Wp N.bp t := head_eq _ _ _ _ _ _ _ _ _

/-- The arguments hold the network's data. -/
structure IsNet (N : Net) (x0 : (⟨2, ![10000, 128]⟩ : Shape).Idx → EReal) (x1 : (⟨2, ![2, 320000]⟩ : Shape).Idx → BitVec 32)
    (x2 : (⟨2, ![128, 128]⟩ : Shape).Idx → EReal) (x3 : (⟨1, ![128]⟩ : Shape).Idx → EReal) (x4 x5 : (⟨2, ![128, 128]⟩ : Shape).Idx → EReal)
    (x6 : (⟨1, ![128]⟩ : Shape).Idx → EReal) (x7 : (⟨2, ![128, 128]⟩ : Shape).Idx → EReal) (x8 : (⟨2, ![64, 128]⟩ : Shape).Idx → EReal)
    (x9 : (⟨1, ![64]⟩ : Shape).Idx → EReal) (x10 : (⟨2, ![64, 128]⟩ : Shape).Idx → EReal) (x11 : (⟨0, ![]⟩ : Shape).Idx → EReal)
    (x12 : (⟨2, ![1, 64]⟩ : Shape).Idx → EReal) (x13 : (⟨1, ![1]⟩ : Shape).Idx → EReal) : Prop where
  src : ∀ e : Fin 320000, (x1 (ix2 0 e)).toNat = N.s e.val
  dst : ∀ e : Fin 320000, (x1 (ix2 1 e)).toNat = N.d e.val
  src_lt : ∀ e : ℕ, N.s e < 10000
  dst_lt : ∀ e : ℕ, N.d e < 10000
  feat : ∀ (t : Fin 10000) k, x0 (ix2 t k) = (N.X t.val k : EReal)
  past : ∀ t k, 10000 ≤ t → N.X t k = 0
  w1l : ∀ p k, x2 (ix2 p k) = (N.W1l p k : EReal)
  bias1 : ∀ p, x3 (ix1 p) = (N.b1 p : EReal)
  w1r : ∀ p k, x4 (ix2 p k) = (N.W1r p k : EReal)
  w2l : ∀ p k, x5 (ix2 p k) = (N.W2l p k : EReal)
  bias2 : ∀ p, x6 (ix1 p) = (N.b2 p : EReal)
  w2r : ∀ p k, x7 (ix2 p k) = (N.W2r p k : EReal)
  w3l : ∀ p k, x8 (ix2 p k) = (N.W3l p k : EReal)
  bias3 : ∀ p, x9 (ix1 p) = (N.b3 p : EReal)
  w3r : ∀ p k, x10 (ix2 p k) = (N.W3r p k : EReal)
  slope : ∀ i, x11 i = (N.a : EReal)
  wp : ∀ j, x12 (ix2 0 j) = (N.Wp j : EReal)
  bp : ∀ i, x13 i = (N.bp : EReal)

/-- A finite value: neither infinity. -/
def Fin' (x : EReal) : Prop := x ≠ ⊤ ∧ x ≠ ⊥

theorem Fin'.coe {x : EReal} (h : Fin' x) : x = ((x.toReal : ℝ) : EReal) := (EReal.coe_toReal h.1 h.2).symm

/-- Finite arguments whose edges name nodes are some network's data. -/
theorem exists_net (x0 : (⟨2, ![10000, 128]⟩ : Shape).Idx → EReal) (x1 : (⟨2, ![2, 320000]⟩ : Shape).Idx → BitVec 32)
    (x2 : (⟨2, ![128, 128]⟩ : Shape).Idx → EReal) (x3 : (⟨1, ![128]⟩ : Shape).Idx → EReal) (x4 x5 : (⟨2, ![128, 128]⟩ : Shape).Idx → EReal)
    (x6 : (⟨1, ![128]⟩ : Shape).Idx → EReal) (x7 : (⟨2, ![128, 128]⟩ : Shape).Idx → EReal) (x8 : (⟨2, ![64, 128]⟩ : Shape).Idx → EReal)
    (x9 : (⟨1, ![64]⟩ : Shape).Idx → EReal) (x10 : (⟨2, ![64, 128]⟩ : Shape).Idx → EReal) (x11 : (⟨0, ![]⟩ : Shape).Idx → EReal)
    (x12 : (⟨2, ![1, 64]⟩ : Shape).Idx → EReal) (x13 : (⟨1, ![1]⟩ : Shape).Idx → EReal)
    (h0 : ∀ i, Fin' (x0 i)) (h1 : ∀ i, (x1 i).toNat < 10000) (h2 : ∀ i, Fin' (x2 i)) (h3 : ∀ i, Fin' (x3 i)) (h4 : ∀ i, Fin' (x4 i)) (h5 : ∀ i, Fin' (x5 i))
    (h6 : ∀ i, Fin' (x6 i)) (h7 : ∀ i, Fin' (x7 i)) (h8 : ∀ i, Fin' (x8 i)) (h9 : ∀ i, Fin' (x9 i)) (h10 : ∀ i, Fin' (x10 i)) (h11 : ∀ i, Fin' (x11 i))
    (h12 : ∀ i, Fin' (x12 i)) (h13 : ∀ i, Fin' (x13 i)) : ∃ N, IsNet N x0 x1 x2 x3 x4 x5 x6 x7 x8 x9 x10 x11 x12 x13 := by
  refine ⟨⟨fun e => if h : e < 320000 then (x1 (ix2 0 ⟨e, h⟩)).toNat else 0, fun e => if h : e < 320000 then (x1 (ix2 1 ⟨e, h⟩)).toNat else 0,
    fun t k => if h : t < 10000 then (x0 (ix2 ⟨t, h⟩ k)).toReal else 0, fun p k => (x2 (ix2 p k)).toReal, fun p => (x3 (ix1 p)).toReal,
    fun p k => (x4 (ix2 p k)).toReal, fun p k => (x5 (ix2 p k)).toReal, fun p => (x6 (ix1 p)).toReal, fun p k => (x7 (ix2 p k)).toReal,
    fun p k => (x8 (ix2 p k)).toReal, fun p => (x9 (ix1 p)).toReal, fun p k => (x10 (ix2 p k)).toReal, (x11 (fun a => a.elim0)).toReal,
    fun j => (x12 (ix2 0 j)).toReal, (x13 (ix1 0)).toReal⟩, ?_⟩
  constructor
  · intro e; dsimp only; rw [dif_pos e.isLt]
  · intro e; dsimp only; rw [dif_pos e.isLt]
  · intro e; dsimp only; split
    · exact h1 _
    · decide
  · intro e; dsimp only; split
    · exact h1 _
    · decide
  · intro t k; dsimp only; rw [dif_pos t.isLt]; exact (h0 _).coe
  · intro t k h; exact dif_neg (Nat.not_lt.2 h)
  · intro p k; exact (h2 _).coe
  · intro p; exact (h3 _).coe
  · intro p k; exact (h4 _).coe
  · intro p k; exact (h5 _).coe
  · intro p; exact (h6 _).coe
  · intro p k; exact (h7 _).coe
  · intro p k; exact (h8 _).coe
  · intro p; exact (h9 _).coe
  · intro p k; exact (h10 _).coe
  · intro i
    obtain rfl : i = fun a => a.elim0 := funext fun a => a.elim0
    exact (h11 _).coe
  · intro j; exact (h12 _).coe
  · intro i
    obtain rfl : i = ix1 0 := funext fun a => by match a with | 0 => exact Subsingleton.elim (α := Fin 1) _ _
    exact (h13 _).coe

end Cert.Sage

end

end
-- ==== Proof.Finite.lean ====
/- What the precondition of the value claim says: every float argument is finite and every edge names a node. -/
module

public import proofs.«01_k».proof.Proof.Range
public import proofs.«01_k».proof.Proof.Net
public import proofs.«01_k».proof.Proof.Gen.Pre_finite

@[expose] public section

noncomputable section

namespace Cert.Sage

open Idealize.ShloMosaic

/-- A value whose magnitude is below infinity is finite. -/
theorem fin_of_cmp {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  have h' : max x (-x) < ⊤ := by
    by_contra hn
    simp [hn] at h
  rw [max_lt_iff] at h'
  exact ⟨h'.1.ne, fun hb => by rw [hb] at h'; simp at h'⟩

instance : Subsingleton Cert.Pre_finite.S_.Idx := ⟨fun a b => funext fun i => i.elim0⟩

/-- The precondition's arguments are some network's data, and their edges are in range. -/
theorem finite_net (x0 : FVec Ideal Cert.Pre_finite.S10000x128 .f32) (x1 : IVec Cert.Pre_finite.S2x320000 32) (x2 : FVec Ideal Cert.Pre_finite.S128x128 .f32) (x3 : FVec Ideal Cert.Pre_finite.S128 .f32)
    (x4 x5 : FVec Ideal Cert.Pre_finite.S128x128 .f32) (x6 : FVec Ideal Cert.Pre_finite.S128 .f32) (x7 : FVec Ideal Cert.Pre_finite.S128x128 .f32) (x8 : FVec Ideal Cert.Pre_finite.S64x128 .f32) (x9 : FVec Ideal Cert.Pre_finite.S64 .f32)
    (x10 : FVec Ideal Cert.Pre_finite.S64x128 .f32) (x11 : FVec Ideal Cert.Pre_finite.S_ .f32) (x12 : FVec Ideal Cert.Pre_finite.S1x64 .f32) (x13 : FVec Ideal Cert.Pre_finite.S1 .f32)
    (h : Cert.Pre_finite.fn x0 x1 x2 x3 x4 x5 x6 x7 x8 x9 x10 x11 x12 x13 = fun _ => 1#1) :
    Cert.Kernel.Own.InRange x1 ∧ ∃ N, IsNet N x0 x1 x2 x3 x4 x5 x6 x7 x8 x9 x10 x11 x12 x13 := by
  have h' := congrFun h (fun a => a.elim0)
  unfold Cert.Pre_finite.fn Cert.Pre_finite.fn_part1 Cert.Pre_finite.fn_part2 Cert.Pre_finite.fn_part3 Cert.Pre_finite.fn_part4 at h'
  obtain ⟨h', hb⟩ := IntOp.andi_eq_one.1 h'
  obtain ⟨h', ha⟩ := IntOp.andi_eq_one.1 h'
  obtain ⟨h', h13⟩ := IntOp.andi_eq_one.1 h'
  obtain ⟨h', h12⟩ := IntOp.andi_eq_one.1 h'
  obtain ⟨h', h11⟩ := IntOp.andi_eq_one.1 h'
  obtain ⟨h', h10⟩ := IntOp.andi_eq_one.1 h'
  obtain ⟨h', h9⟩ := IntOp.andi_eq_one.1 h'
  obtain ⟨h', h8⟩ := IntOp.andi_eq_one.1 h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h0, h2⟩ := IntOp.andi_eq_one.1 h'
  have hr : Cert.Kernel.Own.InRange x1 := fun i => Cert.Kernel.Own.range_of_cmp (Host.reduce_andi_all _ _ _ _ _ ha i) (Host.reduce_andi_all _ _ _ _ _ hb i)
  exact ⟨hr, exists_net _ _ _ _ _ _ _ _ _ _ _ _ _ _ (fun i => fin_of_cmp (Host.reduce_andi_all _ _ _ _ _ h0 i)) hr
    (fun i => fin_of_cmp (Host.reduce_andi_all _ _ _ _ _ h2 i)) (fun i => fin_of_cmp (Host.reduce_andi_all _ _ _ _ _ h3 i))
    (fun i => fin_of_cmp (Host.reduce_andi_all _ _ _ _ _ h4 i)) (fun i => fin_of_cmp (Host.reduce_andi_all _ _ _ _ _ h5 i))
    (fun i => fin_of_cmp (Host.reduce_andi_all _ _ _ _ _ h6 i)) (fun i => fin_of_cmp (Host.reduce_andi_all _ _ _ _ _ h7 i))
    (fun i => fin_of_cmp (Host.reduce_andi_all _ _ _ _ _ h8 i)) (fun i => fin_of_cmp (Host.reduce_andi_all _ _ _ _ _ h9 i))
    (fun i => fin_of_cmp (Host.reduce_andi_all _ _ _ _ _ h10 i)) (fun i => fin_of_cmp (Host.reduce_andi_all _ _ _ _ _ h11 i))
    (fun i => fin_of_cmp (Host.reduce_andi_all _ _ _ _ _ h12 i)) (fun i => fin_of_cmp (Host.reduce_andi_all _ _ _ _ _ h13 i))⟩

end Cert.Sage

end
-- ==== Proof.ValBase.lean ====
/- Facts shared by the modules that read the TensorCore kernels' results at the ideal values. -/
module

public import proofs.«01_k».proof.Proof.Gen.Kernel
public import Idealize.ShloMosaic.Lib.WholeRead
public import Idealize.ShloMosaic.Lib.Pipeline.Value
public import Idealize.ShloMosaic.Lib.MatmulPlain
public import Idealize.ShloMosaic.Lib.IdealHost
public import Idealize.ShloMosaic.Lib.ValueLayout
public import Idealize.ShloMosaic.PureOps.Ideal.Laws

@[expose] public section

noncomputable section

namespace Cert.Kernel.Own

open Cert.Kernel Cert.Kernel.Gen
open Idealize.ShloMosaic Idealize.ShloMosaic.ValueIdx

theorem hz : (![0, 0] : Fin 2 → Nat) = fun _ => 0 := funext fun a => by fin_cases a <;> rfl

/-- A load of a whole staging buffer that holds `X` reads `X`. -/
theorem read_whole {S : Shape} {e : EltTy} (mr : Memref sig .tc .vmem S e) (h : mr.IsWhole) (X : S.Idx → Elt Ideal e) {off : Fin S.rank → Nat}
    (ho : off = fun _ => 0) (inb : ∀ a, off a + S.size a ≤ S.size a) :
    View.readAt (Elt Ideal) mr.view (Rect.unit off S.size inb).toLoadRect (h.unread X) = X := by
  funext x
  rw [h.readAt_unread]
  exact congrFun (View.ld_unit_zero ho inb X) x

theorem one_f32 : (FloatOps.ofBits FTy.f32 0x3F800000#32 : Ideal .f32) = (1 : EReal) := by
  show Ideal.ofBits .f32 0x3F800000#32 = 1
  simp

theorem zero_f32 : (FloatOps.ofBits FTy.f32 0x00000000#32 : Ideal .f32) = (0 : EReal) := by
  show Ideal.ofBits .f32 0x00000000#32 = 0
  simp

theorem mm_t (a : FVec Ideal S128x128 .f32) (b : FVec Ideal S2048x128 .f32) (r : Fin 128) (c : Fin 2048) :
    matmul dot_S128x128_S2048x128_S128x2048_1_1_0_0_n_n none a b (constant (F := Ideal) S128x2048 .f32 0x00000000#32) (ix2 r c)
      = ∑ k : Fin 128, (a (ix2 r k) * b (ix2 c k) : EReal) := by
  refine (Ideal.matmul_transposedRhs_apply (M := 128) (K := 128) (N := 2048) none a b _ r c).trans ?_
  rw [constant_apply]; exact (congrArg (· + _) zero_f32).trans (zero_add _)

theorem mm_p (a : FVec Ideal S128x128 .f32) (b : FVec Ideal S128x2048 .f32) (r : Fin 128) (c : Fin 2048) :
    matmul dot_S128x128_S128x2048_S128x2048_1_0_0_1_n_n none a b (constant (F := Ideal) S128x2048 .f32 0x00000000#32) (ix2 r c)
      = ∑ k : Fin 128, (a (ix2 r k) * b (ix2 k c) : EReal) := by
  refine (Ideal.matmul_plain_apply (M := 128) (K := 128) (N := 2048) none a b _ r c).trans ?_
  rw [constant_apply]; exact (congrArg (· + _) zero_f32).trans (zero_add _)

theorem mm_2 (a : FVec Ideal S2x128 .f32) (b : FVec Ideal S128x2048 .f32) (r : Fin 2) (c : Fin 2048) :
    matmul dot_S2x128_S128x2048_S2x2048_1_0_0_1_n_n none a b (constant (F := Ideal) S2x2048 .f32 0x00000000#32) (ix2 r c)
      = ∑ k : Fin 128, (a (ix2 r k) * b (ix2 k c) : EReal) := by
  refine (Ideal.matmul_plain_apply (M := 2) (K := 128) (N := 2048) none a b _ r c).trans ?_
  rw [constant_apply]; exact (congrArg (· + _) zero_f32).trans (zero_add _)

/-- A sum over the 32 rows of a block. -/
theorem rows32 (v : FVec Ideal S32x2048 .f32) (hφ) (hacc) (c : Fin 2048) :
    multiReduction .add [0] S2048 v 0x00000000#32 reduces_S32x2048_S2048 hφ hacc (ix1 c) = ∑ k : Fin 32, (v (ix2 k c) : EReal) := by
  refine (Ideal.multiReduction_add_single (a := 0) v 0x00000000#32 reduces_S32x2048_S2048 hφ hacc (ix1 c)).trans ?_
  refine Finset.sum_congr rfl fun k _ => congrArg v ?_
  funext a; apply Fin.ext
  match a with
  | ⟨0, _⟩ => rfl
  | ⟨1, _⟩ => rfl

/-- PReLU: `h` where `h ≥ 0`, else `a` times `h`. -/
def pr (a h : EReal) : EReal := if Ideal.cmp .oge h 0 = 1#1 then h else a * h

theorem bc_row {m : ℕ} (v : FVec Ideal ⟨2, ![1, 2048]⟩ .f32) (h : (⟨2, ![1, 2048]⟩ : Shape).Broadcasts ⟨2, ![m, 2048]⟩) (p : Fin m) (c : Fin 2048) :
    broadcastTo ⟨2, ![m, 2048]⟩ v h (ix2 p c) = v (ix2 0 c) := broadcastTo_1b_ab_apply v h p c

theorem bc_col (v : FVec Ideal S128x1 .f32) (h : S128x1.Broadcasts S128x2048) (p : Fin 128) (c : Fin 2048) :
    broadcastTo S128x2048 v h (ix2 p c) = v (ix2 p 0) := by
  refine broadcastTo_apply v h (ix2 p c) (ix2 p 0) fun ax => ?_
  match ax with
  | ⟨0, _⟩ => rfl
  | ⟨1, _⟩ => rfl

theorem bc_one {m : ℕ} (v : FVec Ideal S1x1 .f32) (h : S1x1.Broadcasts ⟨2, ![m, 2048]⟩) (p : Fin m) (c : Fin 2048) :
    broadcastTo ⟨2, ![m, 2048]⟩ v h (ix2 p c) = v (ix2 0 0) := by
  refine broadcastTo_apply v h (ix2 p c) (ix2 0 0) fun ax => ?_
  match ax with
  | ⟨0, _⟩ => rfl
  | ⟨1, _⟩ => rfl

/-- The activation both middle kernels start with, at an index. -/
theorem act_apply (v0 : Vec Ideal S128x2048 .f32) (v2 : Vec Ideal S1x2048 .f32) (v6 : Vec Ideal S128x2048 .f32) (v11 : Vec Ideal S1x1 .f32)
    (p : Fin 128) (c : Fin 2048) :
    (select (cmpf .oge (addf (mulf v0 (broadcastTo S128x2048 v2 broadcasts_S1x2048_S128x2048)) v6) (broadcast S128x2048 (FloatOps.ofBits FTy.f32 0x00000000#32 : Ideal .f32)))
      (addf (mulf v0 (broadcastTo S128x2048 v2 broadcasts_S1x2048_S128x2048)) v6)
      (mulf (broadcastTo S128x2048 v11 broadcasts_S1x1_S128x2048) (addf (mulf v0 (broadcastTo S128x2048 v2 broadcasts_S1x2048_S128x2048)) v6)) : FVec Ideal S128x2048 .f32) (ix2 p c)
      = pr (v11 (ix2 0 0)) (v0 (ix2 p c) * v2 (ix2 0 c) + v6 (ix2 p c)) := by
  rw [select_apply, cmpf_apply, mulf_apply, addf_apply, mulf_apply, bc_row, bc_one]
  have z : (broadcast S128x2048 (FloatOps.ofBits FTy.f32 0x00000000#32 : Ideal .f32) : FVec Ideal S128x2048 .f32) (ix2 p c) = (0 : EReal) := zero_f32
  rw [z]
  rfl

end Cert.Kernel.Own

end
-- ==== Proof.Val1.lean ====
/- The reciprocal degrees: what the first TensorCore kernel leaves in its whole result, at the ideal values. -/
module

public import proofs.«01_k».proof.Proof.Tc1
public import proofs.«01_k».proof.Proof.ValBase

@[expose] public section

set_option Elab.async false

noncomputable section

namespace Cert.Kernel.Own.K1

open Cert.Kernel Cert.Kernel.Gen Cert.Kernel.Own
open Idealize.ShloMosaic Idealize.ShloMosaic.TcCoe Idealize.ShloMosaic.ValueIdx
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)
  (B : Dev nD → Set (SemLoc sig × Ix))

/-- The body's stored block, at an index. -/
theorem pay_apply (v : Vec Ideal S32x2048 .f32) (x : S1x2048.Idx) :
    k1_pay1 (F := Ideal) v x = Ideal.div 1 (max (∑ k : Fin 32, v (ix2 k (x 1))) 1) := by
  obtain ⟨a, b, rfl⟩ : ∃ a b, x = ix2 a b := ⟨_, _, eq_ix2 x⟩
  unfold k1_pay1
  simp only [divf_apply, maximumf_apply, shapeCast_self]
  exact congrArg₂ Ideal.div one_f32 (congrArg₂ max ((shapeCast_a_1a_apply _ _ a b).trans (rows32 v _ _ b)) one_f32)

/-- The whole result. -/
abbrev G (A : S32x10240.Idx → EReal) : S1x10240.Idx → EReal := fun i => Ideal.div 1 (max (∑ k : Fin 32, A (ix2 k (i 1))) 1)

theorem outs_eq (c : Dev nD) (t : Fin cfg1.N) :
    outsAt1 (Ix := Ix) (U := U) (Lvl := Lvl) 𝒱₀ V c t = k1_pay1 (F := Ideal) (iblk V c 0 t) := by
  unfold outsAt1 out1_A_1
  rw [View.read_writes_eq_canon _ _ _ (cover1_A_1 𝒱₀ c _ _ _ _ _ _)]
  refine Eq.trans (b := View.canon [⟨Rect.unit (s := S1x2048) ![0, 0] S1x2048.size inb_S1x2048_S1x2048_0_0, k1_pay1 (F := Ideal) (View.readAt (Elt Ideal) (ms1_0 t).view (Rect.unit (s := S32x2048) ![0, 0] S32x2048.size inb_S32x2048_S32x2048_0_0).toLoadRect ((hs1_0 t).unread (iblk V c 0 t)))⟩]) (congrArg View.canon (by unfold kernelRun1_A; rfl)) ?_
  rw [View.canon_unit_zero hz]; exact congrArg (k1_pay1 (F := Ideal)) (read_whole _ _ _ hz _)

theorem ix1 (t : Fin cfg1.N) : win1_1.index t 0 * win1_1.size 0 = 0 ∧ win1_1.xsize (grid1.coords t) 0 = 1
      ∧ win1_1.index t 1 * win1_1.size 1 = t.val * 2048 ∧ win1_1.xsize (grid1.coords t) 1 = 2048 := by
  rcases fin_N1 t with rfl | rfl | rfl | rfl | rfl <;> decide +kernel

theorem ix0 (t : Fin cfg1.N) : win1_0.index t 0 * win1_0.size 0 = 0 ∧ win1_0.index t 1 * win1_0.size 1 = t.val * 2048 := by
  rcases fin_N1 t with rfl | rfl | rfl | rfl | rfl <;> decide +kernel

theorem mem_blk (t : Fin cfg1.N) (i : S1x10240.Idx) :
    i ∈ ((cfg1.win 1).blk t).view.set ↔ t.val * 2048 ≤ (i 1 : Nat) ∧ (i 1 : Nat) < t.val * 2048 + 2048 := by
  show i ∈ ((View.whole main_v16).slice (win1_1.rect t)).set ↔ _
  rw [View.set_slice_whole, Rect.mem_set_unit]
  have h1 : (i 0 : Nat) < 1 := (i 0).isLt
  have e := ix1 t
  refine ⟨fun h => ?_, fun h a => ?_⟩
  · have : win1_1.index t 1 * win1_1.size 1 ≤ (i 1 : Nat) ∧ (i 1 : Nat) < win1_1.index t 1 * win1_1.size 1 + win1_1.xsize (grid1.coords t) 1 := h 1
    rw [e.2.2.1, e.2.2.2] at this; exact this
  · match a with
    | ⟨0, _⟩ => show win1_1.index t 0 * win1_1.size 0 ≤ (i 0 : Nat) ∧ (i 0 : Nat) < win1_1.index t 0 * win1_1.size 0 + win1_1.xsize (grid1.coords t) 0
                rw [e.1, e.2.1]; omega
    | ⟨1, _⟩ => show win1_1.index t 1 * win1_1.size 1 ≤ (i 1 : Nat) ∧ (i 1 : Nat) < win1_1.index t 1 * win1_1.size 1 + win1_1.xsize (grid1.coords t) 1
                rw [e.2.2.1, e.2.2.2]; exact h

theorem cover (i : S1x10240.Idx) : ∃ t : Fin cfg1.N, (cfg1.win 1).flush t = true ∧ i ∈ ((cfg1.win 1).blk t).view.set := by
  have h0 : (i 1 : Nat) < 10240 := (i 1).isLt
  have hN : cfg1.N = 5 := N_1
  refine ⟨⟨(i 1 : Nat) / 2048, by omega⟩, flush1_1 _, ?_⟩
  rw [mem_blk]
  dsimp only
  omega

theorem flushed_eq (c : Dev nD) (t : Fin cfg1.N) :
    (dat (Ix := Ix) (U := U) (Lvl := Lvl) 𝒱₀ V D B c).flushed 1 t = ((cfg1.win 1).blk t).view.read (Elt Ideal) (G (V c main_v15)) := by
  show (cfg1.win 1).cut (grid1.coords t) ((dat (Ix := Ix) (U := U) (Lvl := Lvl) 𝒱₀ V D B c).after 1 t) = _
  rw [after1_1, outs_eq]
  funext x
  show k1_pay1 (F := Ideal) (iblk V c 0 t) x = G (V c main_v15) ((win1_1.rect t).emb x)
  rw [pay_apply]
  refine congrArg (fun z : EReal => Ideal.div 1 (max z 1)) (Finset.sum_congr rfl fun k _ => ?_)
  refine congrArg (V c main_v15) (a₁ := (win1_0.rect t).emb (ix2 k (x 1))) ?_
  funext a; apply Fin.ext
  match a with
  | ⟨0, _⟩ => exact (win1_0.rect_emb_val t _ 0).trans (by rw [(ix0 t).1, Nat.zero_add]; rfl)
  | ⟨1, _⟩ => exact (win1_0.rect_emb_val t _ 1).trans (Eq.trans (by rw [(ix0 t).2, (ix1 t).2.2.1]; rfl) (win1_1.rect_emb_val t x 1).symm)

/-- The whole result after the kernel. -/
theorem arr (c : Dev nD) : (dat (Ix := Ix) (U := U) (Lvl := Lvl) 𝒱₀ V D B c).arrAt 1 cfg1.N = G (V c main_v15) :=
  (dat (Ix := Ix) (U := U) (Lvl := Lvl) 𝒱₀ V D B c).arrAt_eq_of_cover 1 (G (V c main_v15)) (fun t _ => flushed_eq 𝒱₀ V D B c t) cover

end Cert.Kernel.Own.K1

end
-- ==== Proof.Val2.lean ====
/- The first layer's two linear maps: what the kernel leaves in its whole results, at the ideal values. -/
module

public import proofs.«01_k».proof.Proof.Tc2
public import proofs.«01_k».proof.Proof.ValBase

@[expose] public section

set_option Elab.async false

noncomputable section

namespace Cert.Kernel.Own.K2

open Cert.Kernel Cert.Kernel.Gen Cert.Kernel.Own
open Idealize.ShloMosaic Idealize.ShloMosaic.TcCoe Idealize.ShloMosaic.ValueIdx
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)
  (B : Dev nD → Set (SemLoc sig × Ix))

theorem pay2_apply (x : Vec Ideal S2048x128 .f32) (w : Vec Ideal S128x128 .f32) (p : Fin 128) (j : Fin 2048) :
    k2_pay2 (F := Ideal) x w (ix2 p j) = ∑ k : Fin 128, (w (ix2 p k) * x (ix2 j k) : EReal) := by
  unfold k2_pay2 k2_pay1
  simp only [shapeCast_self]
  exact mm_t _ _ _ _

theorem pay3_apply (x : Vec Ideal S2048x128 .f32) (w : Vec Ideal S128x128 .f32) (b : Vec Ideal S128x1 .f32) (p : Fin 128) (j : Fin 2048) :
    k2_pay3 (F := Ideal) x w b (ix2 p j) = (∑ k : Fin 128, (w (ix2 p k) * x (ix2 j k) : EReal)) + b (ix2 p 0) := by
  unfold k2_pay3 k2_pay1
  simp only [shapeCast_self, addf_apply]
  exact congrArg₂ (fun u v : EReal => u + v) (mm_t _ _ _ _) (bc_col _ _ _ _)

theorem at0 (t : Fin cfg2.N) : win2_0.index t 0 * win2_0.size 0 = t.val * 2048 ∧ win2_0.index t 1 * win2_0.size 1 = 0 := by
  rcases fin_N2 t with rfl | rfl | rfl | rfl | rfl <;> decide +kernel

theorem in0 (c : Dev nD) (t : Fin cfg2.N) (i : Fin 2048) (j : Fin 128) (q : Fin 10240) (hq : q.val = t.val * 2048 + i.val) : iblk V c 0 t (ix2 i j) = V c main_v4 (ix2 q j) := by
  refine congrArg (V c main_v4) (a₁ := (win2_0.rect t).emb (ix2 i j)) ?_
  funext a; apply Fin.ext
  match a with
  | ⟨0, _⟩ => exact (win2_0.rect_emb_val t _ 0).trans (Eq.trans (by rw [(at0 t).1]; rfl) hq.symm)
  | ⟨1, _⟩ => exact (win2_0.rect_emb_val t _ 1).trans (by rw [(at0 t).2, Nat.zero_add]; rfl)

theorem at1 (t : Fin cfg2.N) : win2_1.index t 0 * win2_1.size 0 = 0 ∧ win2_1.index t 1 * win2_1.size 1 = 0 := by
  rcases fin_N2 t with rfl | rfl | rfl | rfl | rfl <;> decide +kernel

theorem in1 (c : Dev nD) (t : Fin cfg2.N) (i : Fin 128) (j : Fin 128)  : iblk V c 1 t (ix2 i j) = V c main_arg2 (ix2 i j) := by
  refine congrArg (V c main_arg2) (a₁ := (win2_1.rect t).emb (ix2 i j)) ?_
  funext a; apply Fin.ext
  match a with
  | ⟨0, _⟩ => exact (win2_1.rect_emb_val t _ 0).trans (by rw [(at1 t).1, Nat.zero_add]; rfl)
  | ⟨1, _⟩ => exact (win2_1.rect_emb_val t _ 1).trans (by rw [(at1 t).2, Nat.zero_add]; rfl)

theorem at2 (t : Fin cfg2.N) : win2_2.index t 0 * win2_2.size 0 = 0 ∧ win2_2.index t 1 * win2_2.size 1 = 0 := by
  rcases fin_N2 t with rfl | rfl | rfl | rfl | rfl <;> decide +kernel

theorem in2 (c : Dev nD) (t : Fin cfg2.N) (i : Fin 128) (j : Fin 128)  : iblk V c 2 t (ix2 i j) = V c main_arg4 (ix2 i j) := by
  refine congrArg (V c main_arg4) (a₁ := (win2_2.rect t).emb (ix2 i j)) ?_
  funext a; apply Fin.ext
  match a with
  | ⟨0, _⟩ => exact (win2_2.rect_emb_val t _ 0).trans (by rw [(at2 t).1, Nat.zero_add]; rfl)
  | ⟨1, _⟩ => exact (win2_2.rect_emb_val t _ 1).trans (by rw [(at2 t).2, Nat.zero_add]; rfl)

theorem at3 (t : Fin cfg2.N) : win2_3.index t 0 * win2_3.size 0 = 0 ∧ win2_3.index t 1 * win2_3.size 1 = 0 := by
  rcases fin_N2 t with rfl | rfl | rfl | rfl | rfl <;> decide +kernel

theorem in3 (c : Dev nD) (t : Fin cfg2.N) (i : Fin 128) (j : Fin 1)  : iblk V c 3 t (ix2 i j) = V c main_v7 (ix2 i j) := by
  refine congrArg (V c main_v7) (a₁ := (win2_3.rect t).emb (ix2 i j)) ?_
  funext a; apply Fin.ext
  match a with
  | ⟨0, _⟩ => exact (win2_3.rect_emb_val t _ 0).trans (by rw [(at3 t).1, Nat.zero_add]; rfl)
  | ⟨1, _⟩ => exact (win2_3.rect_emb_val t _ 1).trans (by rw [(at3 t).2, Nat.zero_add]; rfl)

theorem outs_4 (c : Dev nD) (t : Fin cfg2.N) :
    (outsAt2 (Ix := Ix) (U := U) (Lvl := Lvl) 𝒱₀ V c t).1 = k2_pay2 (F := Ideal) (iblk V c 0 t) (iblk V c 1 t) := by
  unfold outsAt2; dsimp only; unfold out2_A_4
  rw [View.read_writes_eq_canon _ _ _ (cover2_A_4 𝒱₀ c _ _ _ _ _ _ _ _ _ _ _ _ _ _ _ _ _)]
  refine Eq.trans (b := View.canon [⟨Rect.unit (s := S128x2048) ![0, 0] S128x2048.size inb_S128x2048_S128x2048_0_0, k2_pay2 (F := Ideal) (View.readAt (Elt Ideal) (ms2_0 t).view (Rect.unit (s := S2048x128) ![0, 0] S2048x128.size inb_S2048x128_S2048x128_0_0).toLoadRect ((hs2_0 t).unread (iblk V c 0 t))) (View.readAt (Elt Ideal) (ms2_1 t).view (Rect.unit (s := S128x128) ![0, 0] S128x128.size inb_S128x128_S128x128_0_0).toLoadRect ((hs2_1 t).unread (iblk V c 1 t)))⟩]) (congrArg View.canon (by unfold kernelRun2_A; rfl)) ?_
  have h0 : View.readAt (Elt Ideal) (ms2_0 t).view (Rect.unit (s := S2048x128) ![0, 0] S2048x128.size inb_S2048x128_S2048x128_0_0).toLoadRect ((hs2_0 t).unread (iblk V c 0 t)) = iblk V c 0 t := read_whole _ _ _ hz _
  have h1 : View.readAt (Elt Ideal) (ms2_1 t).view (Rect.unit (s := S128x128) ![0, 0] S128x128.size inb_S128x128_S128x128_0_0).toLoadRect ((hs2_1 t).unread (iblk V c 1 t)) = iblk V c 1 t := read_whole _ _ _ hz _
  rw [View.canon_unit_zero hz, h0, h1]

theorem at4 (t : Fin cfg2.N) : win2_4.index t 0 * win2_4.size 0 = 0 ∧ win2_4.xsize (grid2.coords t) 0 = 128
      ∧ win2_4.index t 1 * win2_4.size 1 = t.val * 2048 ∧ win2_4.xsize (grid2.coords t) 1 = 2048 := by
  rcases fin_N2 t with rfl | rfl | rfl | rfl | rfl <;> decide +kernel

theorem mem_blk4 (t : Fin cfg2.N) (i : (⟨2, ![128, 10240]⟩ : Shape).Idx) :
    i ∈ ((cfg2.win 4).blk t).view.set ↔ t.val * 2048 ≤ (i 1 : Nat) ∧ (i 1 : Nat) < t.val * 2048 + 2048 := by
  show i ∈ ((View.whole main_v17_0).slice (win2_4.rect t)).set ↔ _
  rw [View.set_slice_whole, Rect.mem_set_unit]
  have h1 : (i 0 : Nat) < 128 := (i 0).isLt
  have e := at4 t
  refine ⟨fun h => ?_, fun h a => ?_⟩
  · have : win2_4.index t 1 * win2_4.size 1 ≤ (i 1 : Nat) ∧ (i 1 : Nat) < win2_4.index t 1 * win2_4.size 1 + win2_4.xsize (grid2.coords t) 1 := h 1
    rw [e.2.2.1, e.2.2.2] at this; exact this
  · match a with
    | ⟨0, _⟩ => show win2_4.index t 0 * win2_4.size 0 ≤ (i 0 : Nat) ∧ (i 0 : Nat) < win2_4.index t 0 * win2_4.size 0 + win2_4.xsize (grid2.coords t) 0
                rw [e.1, e.2.1]; omega
    | ⟨1, _⟩ => show win2_4.index t 1 * win2_4.size 1 ≤ (i 1 : Nat) ∧ (i 1 : Nat) < win2_4.index t 1 * win2_4.size 1 + win2_4.xsize (grid2.coords t) 1
                rw [e.2.2.1, e.2.2.2]; exact h

theorem cover4 (i : (⟨2, ![128, 10240]⟩ : Shape).Idx) : ∃ t : Fin cfg2.N, (cfg2.win 4).flush t = true ∧ i ∈ ((cfg2.win 4).blk t).view.set := by
  have h0 : (i 1 : Nat) < 10240 := (i 1).isLt
  have hN : cfg2.N = 5 := N_2
  refine ⟨⟨(i 1 : Nat) / 2048, by omega⟩, flush2_4 _, ?_⟩
  rw [mem_blk4]
  dsimp only
  omega

/-- The whole first result. -/
def G4 (A : S10240x128.Idx → EReal) (W : S128x128.Idx → EReal) : S128x10240.Idx → EReal := fun i => ∑ k : Fin 128, W (ix2 (i 0) k) * A (ix2 (i 1) k)

theorem flushed_4 (c : Dev nD) (t : Fin cfg2.N) :
    (dat (Ix := Ix) (U := U) (Lvl := Lvl) 𝒱₀ V D B c).flushed 4 t = ((cfg2.win 4).blk t).view.read (Elt Ideal) (G4 (V c main_v4) (V c main_arg2)) := by
  show (cfg2.win 4).cut (grid2.coords t) ((dat (Ix := Ix) (U := U) (Lvl := Lvl) 𝒱₀ V D B c).after 4 t) = _
  rw [after2_4, outs_4]
  funext x
  obtain ⟨p, j, rfl⟩ : ∃ (p : Fin 128) (j : Fin 2048), x = ix2 p j := ⟨_, _, eq_ix2 x⟩
  show k2_pay2 (F := Ideal) (iblk V c 0 t) (iblk V c 1 t) (ix2 p j) = G4 (V c main_v4) (V c main_arg2) ((win2_4.rect t).emb (ix2 p j))
  have hq : (((win2_4.rect t).emb (ix2 p j) 1 : Fin 10240) : ℕ) = t.val * 2048 + j.val :=
    (win2_4.rect_emb_val t _ 1).trans (by rw [(at4 t).2.2.1]; rfl)
  have hp : ((win2_4.rect t).emb (ix2 p j) 0 : Fin 128) = p :=
    Fin.ext ((win2_4.rect_emb_val t _ 0).trans (by rw [(at4 t).1, Nat.zero_add]; rfl))
  rw [pay2_apply]
  unfold G4
  rw [hp]
  exact Finset.sum_congr rfl fun k _ => congrArg₂ (fun u v : EReal => u * v) (in1 V c t p k) (in0 V c t j k _ hq)

/-- The whole result after the kernel. -/
theorem arr4 (c : Dev nD) : (dat (Ix := Ix) (U := U) (Lvl := Lvl) 𝒱₀ V D B c).arrAt 4 cfg2.N = G4 (V c main_v4) (V c main_arg2) :=
  (dat (Ix := Ix) (U := U) (Lvl := Lvl) 𝒱₀ V D B c).arrAt_eq_of_cover 4 (G4 (V c main_v4) (V c main_arg2)) (fun t _ => flushed_4 𝒱₀ V D B c t) cover4

theorem outs_5 (c : Dev nD) (t : Fin cfg2.N) :
    (outsAt2 (Ix := Ix) (U := U) (Lvl := Lvl) 𝒱₀ V c t).2 = k2_pay3 (F := Ideal) (iblk V c 0 t) (iblk V c 2 t) (iblk V c 3 t) := by
  unfold outsAt2; dsimp only; unfold out2_A_5
  rw [View.read_writes_eq_canon _ _ _ (cover2_A_5 𝒱₀ c _ _ _ _ _ _ _ _ _ _ _ _ _ _ _ _ _)]
  refine Eq.trans (b := View.canon [⟨Rect.unit (s := S128x2048) ![0, 0] S128x2048.size inb_S128x2048_S128x2048_0_0, k2_pay3 (F := Ideal) (View.readAt (Elt Ideal) (ms2_0 t).view (Rect.unit (s := S2048x128) ![0, 0] S2048x128.size inb_S2048x128_S2048x128_0_0).toLoadRect ((hs2_0 t).unread (iblk V c 0 t))) (View.readAt (Elt Ideal) (ms2_2 t).view (Rect.unit (s := S128x128) ![0, 0] S128x128.size inb_S128x128_S128x128_0_0).toLoadRect ((hs2_2 t).unread (iblk V c 2 t))) (View.readAt (Elt Ideal) (ms2_3 t).view (Rect.unit (s := S128x1) ![0, 0] S128x1.size inb_S128x1_S128x1_0_0).toLoadRect ((hs2_3 t).unread (iblk V c 3 t)))⟩]) (congrArg View.canon (by unfold kernelRun2_A; rfl)) ?_
  have h0 : View.readAt (Elt Ideal) (ms2_0 t).view (Rect.unit (s := S2048x128) ![0, 0] S2048x128.size inb_S2048x128_S2048x128_0_0).toLoadRect ((hs2_0 t).unread (iblk V c 0 t)) = iblk V c 0 t := read_whole _ _ _ hz _
  have h2 : View.readAt (Elt Ideal) (ms2_2 t).view (Rect.unit (s := S128x128) ![0, 0] S128x128.size inb_S128x128_S128x128_0_0).toLoadRect ((hs2_2 t).unread (iblk V c 2 t)) = iblk V c 2 t := read_whole _ _ _ hz _
  have h3 : View.readAt (Elt Ideal) (ms2_3 t).view (Rect.unit (s := S128x1) ![0, 0] S128x1.size inb_S128x1_S128x1_0_0).toLoadRect ((hs2_3 t).unread (iblk V c 3 t)) = iblk V c 3 t := read_whole _ _ _ hz _
  rw [View.canon_unit_zero hz, h0, h2, h3]

theorem at5 (t : Fin cfg2.N) : win2_5.index t 0 * win2_5.size 0 = 0 ∧ win2_5.xsize (grid2.coords t) 0 = 128
      ∧ win2_5.index t 1 * win2_5.size 1 = t.val * 2048 ∧ win2_5.xsize (grid2.coords t) 1 = 2048 := by
  rcases fin_N2 t with rfl | rfl | rfl | rfl | rfl <;> decide +kernel

theorem mem_blk5 (t : Fin cfg2.N) (i : (⟨2, ![128, 10240]⟩ : Shape).Idx) :
    i ∈ ((cfg2.win 5).blk t).view.set ↔ t.val * 2048 ≤ (i 1 : Nat) ∧ (i 1 : Nat) < t.val * 2048 + 2048 := by
  show i ∈ ((View.whole main_v17_1).slice (win2_5.rect t)).set ↔ _
  rw [View.set_slice_whole, Rect.mem_set_unit]
  have h1 : (i 0 : Nat) < 128 := (i 0).isLt
  have e := at5 t
  refine ⟨fun h => ?_, fun h a => ?_⟩
  · have : win2_5.index t 1 * win2_5.size 1 ≤ (i 1 : Nat) ∧ (i 1 : Nat) < win2_5.index t 1 * win2_5.size 1 + win2_5.xsize (grid2.coords t) 1 := h 1
    rw [e.2.2.1, e.2.2.2] at this; exact this
  · match a with
    | ⟨0, _⟩ => show win2_5.index t 0 * win2_5.size 0 ≤ (i 0 : Nat) ∧ (i 0 : Nat) < win2_5.index t 0 * win2_5.size 0 + win2_5.xsize (grid2.coords t) 0
                rw [e.1, e.2.1]; omega
    | ⟨1, _⟩ => show win2_5.index t 1 * win2_5.size 1 ≤ (i 1 : Nat) ∧ (i 1 : Nat) < win2_5.index t 1 * win2_5.size 1 + win2_5.xsize (grid2.coords t) 1
                rw [e.2.2.1, e.2.2.2]; exact h

theorem cover5 (i : (⟨2, ![128, 10240]⟩ : Shape).Idx) : ∃ t : Fin cfg2.N, (cfg2.win 5).flush t = true ∧ i ∈ ((cfg2.win 5).blk t).view.set := by
  have h0 : (i 1 : Nat) < 10240 := (i 1).isLt
  have hN : cfg2.N = 5 := N_2
  refine ⟨⟨(i 1 : Nat) / 2048, by omega⟩, flush2_5 _, ?_⟩
  rw [mem_blk5]
  dsimp only
  omega

/-- The whole second result. -/
def G5 (A : S10240x128.Idx → EReal) (W : S128x128.Idx → EReal) (b : S128x1.Idx → EReal) : S128x10240.Idx → EReal :=
  fun i => (∑ k : Fin 128, W (ix2 (i 0) k) * A (ix2 (i 1) k)) + b (ix2 (i 0) 0)

theorem flushed_5 (c : Dev nD) (t : Fin cfg2.N) :
    (dat (Ix := Ix) (U := U) (Lvl := Lvl) 𝒱₀ V D B c).flushed 5 t = ((cfg2.win 5).blk t).view.read (Elt Ideal) (G5 (V c main_v4) (V c main_arg4) (V c main_v7)) := by
  show (cfg2.win 5).cut (grid2.coords t) ((dat (Ix := Ix) (U := U) (Lvl := Lvl) 𝒱₀ V D B c).after 5 t) = _
  rw [after2_5, outs_5]
  funext x
  obtain ⟨p, j, rfl⟩ : ∃ (p : Fin 128) (j : Fin 2048), x = ix2 p j := ⟨_, _, eq_ix2 x⟩
  show k2_pay3 (F := Ideal) (iblk V c 0 t) (iblk V c 2 t) (iblk V c 3 t) (ix2 p j) = G5 (V c main_v4) (V c main_arg4) (V c main_v7) ((win2_5.rect t).emb (ix2 p j))
  have hq : (((win2_5.rect t).emb (ix2 p j) 1 : Fin 10240) : ℕ) = t.val * 2048 + j.val :=
    (win2_5.rect_emb_val t _ 1).trans (by rw [(at5 t).2.2.1]; rfl)
  have hp : ((win2_5.rect t).emb (ix2 p j) 0 : Fin 128) = p :=
    Fin.ext ((win2_5.rect_emb_val t _ 0).trans (by rw [(at5 t).1, Nat.zero_add]; rfl))
  rw [pay3_apply]
  unfold G5
  rw [hp]
  exact congrArg₂ (fun u v : EReal => u + v)
    (Finset.sum_congr rfl fun k _ => congrArg₂ (fun u v : EReal => u * v) (in2 V c t p k) (in0 V c t j k _ hq)) (in3 V c t p 0)

/-- The whole result after the kernel. -/
theorem arr5 (c : Dev nD) : (dat (Ix := Ix) (U := U) (Lvl := Lvl) 𝒱₀ V D B c).arrAt 5 cfg2.N = G5 (V c main_v4) (V c main_arg4) (V c main_v7) :=
  (dat (Ix := Ix) (U := U) (Lvl := Lvl) 𝒱₀ V D B c).arrAt_eq_of_cover 5 (G5 (V c main_v4) (V c main_arg4) (V c main_v7)) (fun t _ => flushed_5 𝒱₀ V D B c t) cover5

end Cert.Kernel.Own.K2

end
-- ==== Proof.Val4.lean ====
/- The second layer's activation and two linear maps: what the kernel leaves in its whole results, at the ideal values. -/
module

public import proofs.«01_k».proof.Proof.Tc4
public import proofs.«01_k».proof.Proof.ValBase

@[expose] public section

set_option Elab.async false

noncomputable section

namespace Cert.Kernel.Own.K4

open Cert.Kernel Cert.Kernel.Gen Cert.Kernel.Own
open Idealize.ShloMosaic Idealize.ShloMosaic.TcCoe Idealize.ShloMosaic.ValueIdx
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)
  (B : Dev nD → Set (SemLoc sig × Ix))

theorem pay1_apply (v0 : Vec Ideal S128x2048 .f32) (v2 : Vec Ideal S1x2048 .f32) (v6 : Vec Ideal S128x2048 .f32) (v11 : Vec Ideal S1x1 .f32) (p : Fin 128) (j : Fin 2048) :
    k4_pay1 (F := Ideal) v0 v2 v6 v11 (ix2 p j) = pr (v11 (ix2 0 0)) (v0 (ix2 p j) * v2 (ix2 0 j) + v6 (ix2 p j)) := by
  unfold k4_pay1
  simp only [shapeCast_self]
  exact act_apply _ _ _ _ _ _

theorem pay2_apply (v0 : Vec Ideal S128x2048 .f32) (v2 : Vec Ideal S1x2048 .f32) (v6 : Vec Ideal S128x2048 .f32) (v11 : Vec Ideal S1x1 .f32) (w : Vec Ideal S128x128 .f32) (p : Fin 128) (j : Fin 2048) :
    k4_pay2 (F := Ideal) v0 v2 v6 v11 w (ix2 p j) = ∑ k : Fin 128, (w (ix2 p k) * pr (v11 (ix2 0 0)) (v0 (ix2 k j) * v2 (ix2 0 j) + v6 (ix2 k j)) : EReal) := by
  unfold k4_pay2
  exact (mm_p _ _ _ _).trans (Finset.sum_congr rfl fun k _ => congrArg (fun u : EReal => w (ix2 p k) * u) (pay1_apply _ _ _ _ _ _))

theorem pay3_apply (v0 : Vec Ideal S128x2048 .f32) (v2 : Vec Ideal S1x2048 .f32) (v6 : Vec Ideal S128x2048 .f32) (v11 : Vec Ideal S1x1 .f32) (w : Vec Ideal S128x128 .f32) (b : Vec Ideal S128x1 .f32) (p : Fin 128) (j : Fin 2048) :
    k4_pay3 (F := Ideal) v0 v2 v6 v11 w b (ix2 p j) = (∑ k : Fin 128, (w (ix2 p k) * pr (v11 (ix2 0 0)) (v0 (ix2 k j) * v2 (ix2 0 j) + v6 (ix2 k j)) : EReal)) + b (ix2 p 0) := by
  unfold k4_pay3
  simp only [shapeCast_self, addf_apply]
  exact congrArg₂ (fun u v : EReal => u + v) ((mm_p _ _ _ _).trans (Finset.sum_congr rfl fun k _ => congrArg (fun u : EReal => w (ix2 p k) * u) (pay1_apply _ _ _ _ _ _))) (bc_col _ _ _ _)

theorem at0 (t : Fin cfg4.N) : win4_0.index t 0 * win4_0.size 0 = 0 ∧ win4_0.index t 1 * win4_0.size 1 = t.val * 2048 := by
  rcases fin_N4 t with rfl | rfl | rfl | rfl | rfl <;> decide +kernel

theorem in0 (c : Dev nD) (t : Fin cfg4.N) (i : Fin 128) (j : Fin 2048) (q : Fin 10240) (hq : q.val = t.val * 2048 + j.val) : iblk V c 0 t (ix2 i j) = V c main_v18 (ix2 i q) := by
  refine congrArg (V c main_v18) (a₁ := (win4_0.rect t).emb (ix2 i j)) ?_
  funext a; apply Fin.ext
  match a with
  | ⟨0, _⟩ => exact (win4_0.rect_emb_val t _ 0).trans (by rw [(at0 t).1, Nat.zero_add]; rfl)
  | ⟨1, _⟩ => exact (win4_0.rect_emb_val t _ 1).trans (Eq.trans (by rw [(at0 t).2]; rfl) hq.symm)

theorem at1 (t : Fin cfg4.N) : win4_1.index t 0 * win4_1.size 0 = 0 ∧ win4_1.index t 1 * win4_1.size 1 = t.val * 2048 := by
  rcases fin_N4 t with rfl | rfl | rfl | rfl | rfl <;> decide +kernel

theorem in1 (c : Dev nD) (t : Fin cfg4.N) (i : Fin 128) (j : Fin 2048) (q : Fin 10240) (hq : q.val = t.val * 2048 + j.val) : iblk V c 1 t (ix2 i j) = V c main_v17_1 (ix2 i q) := by
  refine congrArg (V c main_v17_1) (a₁ := (win4_1.rect t).emb (ix2 i j)) ?_
  funext a; apply Fin.ext
  match a with
  | ⟨0, _⟩ => exact (win4_1.rect_emb_val t _ 0).trans (by rw [(at1 t).1, Nat.zero_add]; rfl)
  | ⟨1, _⟩ => exact (win4_1.rect_emb_val t _ 1).trans (Eq.trans (by rw [(at1 t).2]; rfl) hq.symm)

theorem at2 (t : Fin cfg4.N) : win4_2.index t 0 * win4_2.size 0 = 0 ∧ win4_2.index t 1 * win4_2.size 1 = t.val * 2048 := by
  rcases fin_N4 t with rfl | rfl | rfl | rfl | rfl <;> decide +kernel

theorem in2 (c : Dev nD) (t : Fin cfg4.N) (i : Fin 1) (j : Fin 2048) (q : Fin 10240) (hq : q.val = t.val * 2048 + j.val) : iblk V c 2 t (ix2 i j) = V c main_v16 (ix2 i q) := by
  refine congrArg (V c main_v16) (a₁ := (win4_2.rect t).emb (ix2 i j)) ?_
  funext a; apply Fin.ext
  match a with
  | ⟨0, _⟩ => exact (win4_2.rect_emb_val t _ 0).trans (by rw [(at2 t).1, Nat.zero_add]; rfl)
  | ⟨1, _⟩ => exact (win4_2.rect_emb_val t _ 1).trans (Eq.trans (by rw [(at2 t).2]; rfl) hq.symm)

theorem at3 (t : Fin cfg4.N) : win4_3.index t 0 * win4_3.size 0 = 0 ∧ win4_3.index t 1 * win4_3.size 1 = 0 := by
  rcases fin_N4 t with rfl | rfl | rfl | rfl | rfl <;> decide +kernel

theorem in3 (c : Dev nD) (t : Fin cfg4.N) (i : Fin 1) (j : Fin 1)  : iblk V c 3 t (ix2 i j) = V c main_v6 (ix2 i j) := by
  refine congrArg (V c main_v6) (a₁ := (win4_3.rect t).emb (ix2 i j)) ?_
  funext a; apply Fin.ext
  match a with
  | ⟨0, _⟩ => exact (win4_3.rect_emb_val t _ 0).trans (by rw [(at3 t).1, Nat.zero_add]; rfl)
  | ⟨1, _⟩ => exact (win4_3.rect_emb_val t _ 1).trans (by rw [(at3 t).2, Nat.zero_add]; rfl)

theorem at4 (t : Fin cfg4.N) : win4_4.index t 0 * win4_4.size 0 = 0 ∧ win4_4.index t 1 * win4_4.size 1 = 0 := by
  rcases fin_N4 t with rfl | rfl | rfl | rfl | rfl <;> decide +kernel

theorem in4 (c : Dev nD) (t : Fin cfg4.N) (i : Fin 128) (j : Fin 128)  : iblk V c 4 t (ix2 i j) = V c main_arg5 (ix2 i j) := by
  refine congrArg (V c main_arg5) (a₁ := (win4_4.rect t).emb (ix2 i j)) ?_
  funext a; apply Fin.ext
  match a with
  | ⟨0, _⟩ => exact (win4_4.rect_emb_val t _ 0).trans (by rw [(at4 t).1, Nat.zero_add]; rfl)
  | ⟨1, _⟩ => exact (win4_4.rect_emb_val t _ 1).trans (by rw [(at4 t).2, Nat.zero_add]; rfl)

theorem at5 (t : Fin cfg4.N) : win4_5.index t 0 * win4_5.size 0 = 0 ∧ win4_5.index t 1 * win4_5.size 1 = 0 := by
  rcases fin_N4 t with rfl | rfl | rfl | rfl | rfl <;> decide +kernel

theorem in5 (c : Dev nD) (t : Fin cfg4.N) (i : Fin 128) (j : Fin 128)  : iblk V c 5 t (ix2 i j) = V c main_arg7 (ix2 i j) := by
  refine congrArg (V c main_arg7) (a₁ := (win4_5.rect t).emb (ix2 i j)) ?_
  funext a; apply Fin.ext
  match a with
  | ⟨0, _⟩ => exact (win4_5.rect_emb_val t _ 0).trans (by rw [(at5 t).1, Nat.zero_add]; rfl)
  | ⟨1, _⟩ => exact (win4_5.rect_emb_val t _ 1).trans (by rw [(at5 t).2, Nat.zero_add]; rfl)

theorem at6 (t : Fin cfg4.N) : win4_6.index t 0 * win4_6.size 0 = 0 ∧ win4_6.index t 1 * win4_6.size 1 = 0 := by
  rcases fin_N4 t with rfl | rfl | rfl | rfl | rfl <;> decide +kernel

theorem in6 (c : Dev nD) (t : Fin cfg4.N) (i : Fin 128) (j : Fin 1)  : iblk V c 6 t (ix2 i j) = V c main_v8 (ix2 i j) := by
  refine congrArg (V c main_v8) (a₁ := (win4_6.rect t).emb (ix2 i j)) ?_
  funext a; apply Fin.ext
  match a with
  | ⟨0, _⟩ => exact (win4_6.rect_emb_val t _ 0).trans (by rw [(at6 t).1, Nat.zero_add]; rfl)
  | ⟨1, _⟩ => exact (win4_6.rect_emb_val t _ 1).trans (by rw [(at6 t).2, Nat.zero_add]; rfl)

theorem outs_7 (c : Dev nD) (t : Fin cfg4.N) :
    (outsAt4 (Ix := Ix) (U := U) (Lvl := Lvl) 𝒱₀ V c t).1 = k4_pay2 (F := Ideal) (iblk V c 0 t) (iblk V c 2 t) (iblk V c 1 t) (iblk V c 3 t) (iblk V c 4 t) := by
  unfold outsAt4; dsimp only; unfold out4_A_7
  rw [View.read_writes_eq_canon _ _ _ (cover4_A_7 𝒱₀ c _ _ _ _ _ _ _ _ _ _ _ _ _ _ _ _ _ _ _ _ _ _ _ _ _ _)]
  refine Eq.trans (b := View.canon [⟨Rect.unit (s := S128x2048) ![0, 0] S128x2048.size inb_S128x2048_S128x2048_0_0, k4_pay2 (F := Ideal) (View.readAt (Elt Ideal) (ms4_0 t).view (Rect.unit (s := S128x2048) ![0, 0] S128x2048.size inb_S128x2048_S128x2048_0_0).toLoadRect ((hs4_0 t).unread (iblk V c 0 t))) (View.readAt (Elt Ideal) (ms4_2 t).view (Rect.unit (s := S1x2048) ![0, 0] S1x2048.size inb_S1x2048_S1x2048_0_0).toLoadRect ((hs4_2 t).unread (iblk V c 2 t))) (View.readAt (Elt Ideal) (ms4_1 t).view (Rect.unit (s := S128x2048) ![0, 0] S128x2048.size inb_S128x2048_S128x2048_0_0).toLoadRect ((hs4_1 t).unread (iblk V c 1 t))) (View.readAt (Elt Ideal) (ms4_3 t).view (Rect.unit (s := S1x1) ![0, 0] S1x1.size inb_S1x1_S1x1_0_0).toLoadRect ((hs4_3 t).unread (iblk V c 3 t))) (View.readAt (Elt Ideal) (ms4_4 t).view (Rect.unit (s := S128x128) ![0, 0] S128x128.size inb_S128x128_S128x128_0_0).toLoadRect ((hs4_4 t).unread (iblk V c 4 t)))⟩]) (congrArg View.canon (by unfold kernelRun4_A; rfl)) ?_
  have h0 : View.readAt (Elt Ideal) (ms4_0 t).view (Rect.unit (s := S128x2048) ![0, 0] S128x2048.size inb_S128x2048_S128x2048_0_0).toLoadRect ((hs4_0 t).unread (iblk V c 0 t)) = iblk V c 0 t := read_whole _ _ _ hz _
  have h2 : View.readAt (Elt Ideal) (ms4_2 t).view (Rect.unit (s := S1x2048) ![0, 0] S1x2048.size inb_S1x2048_S1x2048_0_0).toLoadRect ((hs4_2 t).unread (iblk V c 2 t)) = iblk V c 2 t := read_whole _ _ _ hz _
  have h1 : View.readAt (Elt Ideal) (ms4_1 t).view (Rect.unit (s := S128x2048) ![0, 0] S128x2048.size inb_S128x2048_S128x2048_0_0).toLoadRect ((hs4_1 t).unread (iblk V c 1 t)) = iblk V c 1 t := read_whole _ _ _ hz _
  have h3 : View.readAt (Elt Ideal) (ms4_3 t).view (Rect.unit (s := S1x1) ![0, 0] S1x1.size inb_S1x1_S1x1_0_0).toLoadRect ((hs4_3 t).unread (iblk V c 3 t)) = iblk V c 3 t := read_whole _ _ _ hz _
  have h4 : View.readAt (Elt Ideal) (ms4_4 t).view (Rect.unit (s := S128x128) ![0, 0] S128x128.size inb_S128x128_S128x128_0_0).toLoadRect ((hs4_4 t).unread (iblk V c 4 t)) = iblk V c 4 t := read_whole _ _ _ hz _
  rw [View.canon_unit_zero hz, h0, h2, h1, h3, h4]

theorem at7 (t : Fin cfg4.N) : win4_7.index t 0 * win4_7.size 0 = 0 ∧ win4_7.xsize (grid4.coords t) 0 = 128
      ∧ win4_7.index t 1 * win4_7.size 1 = t.val * 2048 ∧ win4_7.xsize (grid4.coords t) 1 = 2048 := by
  rcases fin_N4 t with rfl | rfl | rfl | rfl | rfl <;> decide +kernel

theorem mem_blk7 (t : Fin cfg4.N) (i : (⟨2, ![128, 10240]⟩ : Shape).Idx) :
    i ∈ ((cfg4.win 7).blk t).view.set ↔ t.val * 2048 ≤ (i 1 : Nat) ∧ (i 1 : Nat) < t.val * 2048 + 2048 := by
  show i ∈ ((View.whole main_v19_0).slice (win4_7.rect t)).set ↔ _
  rw [View.set_slice_whole, Rect.mem_set_unit]
  have h1 : (i 0 : Nat) < 128 := (i 0).isLt
  have e := at7 t
  refine ⟨fun h => ?_, fun h a => ?_⟩
  · have : win4_7.index t 1 * win4_7.size 1 ≤ (i 1 : Nat) ∧ (i 1 : Nat) < win4_7.index t 1 * win4_7.size 1 + win4_7.xsize (grid4.coords t) 1 := h 1
    rw [e.2.2.1, e.2.2.2] at this; exact this
  · match a with
    | ⟨0, _⟩ => show win4_7.index t 0 * win4_7.size 0 ≤ (i 0 : Nat) ∧ (i 0 : Nat) < win4_7.index t 0 * win4_7.size 0 + win4_7.xsize (grid4.coords t) 0
                rw [e.1, e.2.1]; omega
    | ⟨1, _⟩ => show win4_7.index t 1 * win4_7.size 1 ≤ (i 1 : Nat) ∧ (i 1 : Nat) < win4_7.index t 1 * win4_7.size 1 + win4_7.xsize (grid4.coords t) 1
                rw [e.2.2.1, e.2.2.2]; exact h

theorem cover7 (i : (⟨2, ![128, 10240]⟩ : Shape).Idx) : ∃ t : Fin cfg4.N, (cfg4.win 7).flush t = true ∧ i ∈ ((cfg4.win 7).blk t).view.set := by
  have h0 : (i 1 : Nat) < 10240 := (i 1).isLt
  have hN : cfg4.N = 5 := N_4
  refine ⟨⟨(i 1 : Nat) / 2048, by omega⟩, flush4_7 _, ?_⟩
  rw [mem_blk7]
  dsimp only
  omega

/-- The whole first result. -/
def G7 (g z : S128x10240.Idx → EReal) (dv : S1x10240.Idx → EReal) (a : S1x1.Idx → EReal) (W : S128x128.Idx → EReal) : S128x10240.Idx → EReal :=
  fun i => ∑ k : Fin 128, W (ix2 (i 0) k) * (pr (a (ix2 0 0)) (g (ix2 k (i 1)) * dv (ix2 0 (i 1)) + z (ix2 k (i 1))))

theorem flushed_7 (c : Dev nD) (t : Fin cfg4.N) :
    (dat (Ix := Ix) (U := U) (Lvl := Lvl) 𝒱₀ V D B c).flushed 7 t = ((cfg4.win 7).blk t).view.read (Elt Ideal) (G7 (V c main_v18) (V c main_v17_1) (V c main_v16) (V c main_v6) (V c main_arg5)) := by
  show (cfg4.win 7).cut (grid4.coords t) ((dat (Ix := Ix) (U := U) (Lvl := Lvl) 𝒱₀ V D B c).after 7 t) = _
  rw [after4_7, outs_7]
  funext x
  obtain ⟨p, j, rfl⟩ : ∃ (p : Fin 128) (j : Fin 2048), x = ix2 p j := ⟨_, _, eq_ix2 x⟩
  show k4_pay2 (F := Ideal) (iblk V c 0 t) (iblk V c 2 t) (iblk V c 1 t) (iblk V c 3 t) (iblk V c 4 t) (ix2 p j) = G7 (V c main_v18) (V c main_v17_1) (V c main_v16) (V c main_v6) (V c main_arg5) ((win4_7.rect t).emb (ix2 p j))
  have hq : (((win4_7.rect t).emb (ix2 p j) 1 : Fin 10240) : ℕ) = t.val * 2048 + j.val :=
    (win4_7.rect_emb_val t _ 1).trans (by rw [(at7 t).2.2.1]; rfl)
  have hp : ((win4_7.rect t).emb (ix2 p j) 0 : Fin 128) = p :=
    Fin.ext ((win4_7.rect_emb_val t _ 0).trans (by rw [(at7 t).1, Nat.zero_add]; rfl))
  rw [pay2_apply]
  unfold G7
  rw [hp]
  exact Finset.sum_congr rfl fun k _ => congrArg₂ (fun u v : EReal => u * v) (in4 V c t p k)
    (congrArg₂ pr (in3 V c t 0 0) (congrArg₂ (fun u v : EReal => u + v) (congrArg₂ (fun u v : EReal => u * v) (in0 V c t k j _ hq) (in2 V c t 0 j _ hq)) (in1 V c t k j _ hq)))

/-- The whole result after the kernel. -/
theorem arr7 (c : Dev nD) : (dat (Ix := Ix) (U := U) (Lvl := Lvl) 𝒱₀ V D B c).arrAt 7 cfg4.N = G7 (V c main_v18) (V c main_v17_1) (V c main_v16) (V c main_v6) (V c main_arg5) :=
  (dat (Ix := Ix) (U := U) (Lvl := Lvl) 𝒱₀ V D B c).arrAt_eq_of_cover 7 (G7 (V c main_v18) (V c main_v17_1) (V c main_v16) (V c main_v6) (V c main_arg5)) (fun t _ => flushed_7 𝒱₀ V D B c t) cover7

theorem outs_8 (c : Dev nD) (t : Fin cfg4.N) :
    (outsAt4 (Ix := Ix) (U := U) (Lvl := Lvl) 𝒱₀ V c t).2 = k4_pay3 (F := Ideal) (iblk V c 0 t) (iblk V c 2 t) (iblk V c 1 t) (iblk V c 3 t) (iblk V c 5 t) (iblk V c 6 t) := by
  unfold outsAt4; dsimp only; unfold out4_A_8
  rw [View.read_writes_eq_canon _ _ _ (cover4_A_8 𝒱₀ c _ _ _ _ _ _ _ _ _ _ _ _ _ _ _ _ _ _ _ _ _ _ _ _ _ _)]
  refine Eq.trans (b := View.canon [⟨Rect.unit (s := S128x2048) ![0, 0] S128x2048.size inb_S128x2048_S128x2048_0_0, k4_pay3 (F := Ideal) (View.readAt (Elt Ideal) (ms4_0 t).view (Rect.unit (s := S128x2048) ![0, 0] S128x2048.size inb_S128x2048_S128x2048_0_0).toLoadRect ((hs4_0 t).unread (iblk V c 0 t))) (View.readAt (Elt Ideal) (ms4_2 t).view (Rect.unit (s := S1x2048) ![0, 0] S1x2048.size inb_S1x2048_S1x2048_0_0).toLoadRect ((hs4_2 t).unread (iblk V c 2 t))) (View.readAt (Elt Ideal) (ms4_1 t).view (Rect.unit (s := S128x2048) ![0, 0] S128x2048.size inb_S128x2048_S128x2048_0_0).toLoadRect ((hs4_1 t).unread (iblk V c 1 t))) (View.readAt (Elt Ideal) (ms4_3 t).view (Rect.unit (s := S1x1) ![0, 0] S1x1.size inb_S1x1_S1x1_0_0).toLoadRect ((hs4_3 t).unread (iblk V c 3 t))) (View.readAt (Elt Ideal) (ms4_5 t).view (Rect.unit (s := S128x128) ![0, 0] S128x128.size inb_S128x128_S128x128_0_0).toLoadRect ((hs4_5 t).unread (iblk V c 5 t))) (View.readAt (Elt Ideal) (ms4_6 t).view (Rect.unit (s := S128x1) ![0, 0] S128x1.size inb_S128x1_S128x1_0_0).toLoadRect ((hs4_6 t).unread (iblk V c 6 t)))⟩]) (congrArg View.canon (by unfold kernelRun4_A; rfl)) ?_
  have h0 : View.readAt (Elt Ideal) (ms4_0 t).view (Rect.unit (s := S128x2048) ![0, 0] S128x2048.size inb_S128x2048_S128x2048_0_0).toLoadRect ((hs4_0 t).unread (iblk V c 0 t)) = iblk V c 0 t := read_whole _ _ _ hz _
  have h2 : View.readAt (Elt Ideal) (ms4_2 t).view (Rect.unit (s := S1x2048) ![0, 0] S1x2048.size inb_S1x2048_S1x2048_0_0).toLoadRect ((hs4_2 t).unread (iblk V c 2 t)) = iblk V c 2 t := read_whole _ _ _ hz _
  have h1 : View.readAt (Elt Ideal) (ms4_1 t).view (Rect.unit (s := S128x2048) ![0, 0] S128x2048.size inb_S128x2048_S128x2048_0_0).toLoadRect ((hs4_1 t).unread (iblk V c 1 t)) = iblk V c 1 t := read_whole _ _ _ hz _
  have h3 : View.readAt (Elt Ideal) (ms4_3 t).view (Rect.unit (s := S1x1) ![0, 0] S1x1.size inb_S1x1_S1x1_0_0).toLoadRect ((hs4_3 t).unread (iblk V c 3 t)) = iblk V c 3 t := read_whole _ _ _ hz _
  have h5 : View.readAt (Elt Ideal) (ms4_5 t).view (Rect.unit (s := S128x128) ![0, 0] S128x128.size inb_S128x128_S128x128_0_0).toLoadRect ((hs4_5 t).unread (iblk V c 5 t)) = iblk V c 5 t := read_whole _ _ _ hz _
  have h6 : View.readAt (Elt Ideal) (ms4_6 t).view (Rect.unit (s := S128x1) ![0, 0] S128x1.size inb_S128x1_S128x1_0_0).toLoadRect ((hs4_6 t).unread (iblk V c 6 t)) = iblk V c 6 t := read_whole _ _ _ hz _
  rw [View.canon_unit_zero hz, h0, h2, h1, h3, h5, h6]

theorem at8 (t : Fin cfg4.N) : win4_8.index t 0 * win4_8.size 0 = 0 ∧ win4_8.xsize (grid4.coords t) 0 = 128
      ∧ win4_8.index t 1 * win4_8.size 1 = t.val * 2048 ∧ win4_8.xsize (grid4.coords t) 1 = 2048 := by
  rcases fin_N4 t with rfl | rfl | rfl | rfl | rfl <;> decide +kernel

theorem mem_blk8 (t : Fin cfg4.N) (i : (⟨2, ![128, 10240]⟩ : Shape).Idx) :
    i ∈ ((cfg4.win 8).blk t).view.set ↔ t.val * 2048 ≤ (i 1 : Nat) ∧ (i 1 : Nat) < t.val * 2048 + 2048 := by
  show i ∈ ((View.whole main_v19_1).slice (win4_8.rect t)).set ↔ _
  rw [View.set_slice_whole, Rect.mem_set_unit]
  have h1 : (i 0 : Nat) < 128 := (i 0).isLt
  have e := at8 t
  refine ⟨fun h => ?_, fun h a => ?_⟩
  · have : win4_8.index t 1 * win4_8.size 1 ≤ (i 1 : Nat) ∧ (i 1 : Nat) < win4_8.index t 1 * win4_8.size 1 + win4_8.xsize (grid4.coords t) 1 := h 1
    rw [e.2.2.1, e.2.2.2] at this; exact this
  · match a with
    | ⟨0, _⟩ => show win4_8.index t 0 * win4_8.size 0 ≤ (i 0 : Nat) ∧ (i 0 : Nat) < win4_8.index t 0 * win4_8.size 0 + win4_8.xsize (grid4.coords t) 0
                rw [e.1, e.2.1]; omega
    | ⟨1, _⟩ => show win4_8.index t 1 * win4_8.size 1 ≤ (i 1 : Nat) ∧ (i 1 : Nat) < win4_8.index t 1 * win4_8.size 1 + win4_8.xsize (grid4.coords t) 1
                rw [e.2.2.1, e.2.2.2]; exact h

theorem cover8 (i : (⟨2, ![128, 10240]⟩ : Shape).Idx) : ∃ t : Fin cfg4.N, (cfg4.win 8).flush t = true ∧ i ∈ ((cfg4.win 8).blk t).view.set := by
  have h0 : (i 1 : Nat) < 10240 := (i 1).isLt
  have hN : cfg4.N = 5 := N_4
  refine ⟨⟨(i 1 : Nat) / 2048, by omega⟩, flush4_8 _, ?_⟩
  rw [mem_blk8]
  dsimp only
  omega

/-- The whole second result. -/
def G8 (g z : S128x10240.Idx → EReal) (dv : S1x10240.Idx → EReal) (a : S1x1.Idx → EReal) (W : S128x128.Idx → EReal) (b : S128x1.Idx → EReal) : S128x10240.Idx → EReal :=
  fun i => (∑ k : Fin 128, W (ix2 (i 0) k) * (pr (a (ix2 0 0)) (g (ix2 k (i 1)) * dv (ix2 0 (i 1)) + z (ix2 k (i 1))))) + b (ix2 (i 0) 0)

theorem flushed_8 (c : Dev nD) (t : Fin cfg4.N) :
    (dat (Ix := Ix) (U := U) (Lvl := Lvl) 𝒱₀ V D B c).flushed 8 t = ((cfg4.win 8).blk t).view.read (Elt Ideal) (G8 (V c main_v18) (V c main_v17_1) (V c main_v16) (V c main_v6) (V c main_arg7) (V c main_v8)) := by
  show (cfg4.win 8).cut (grid4.coords t) ((dat (Ix := Ix) (U := U) (Lvl := Lvl) 𝒱₀ V D B c).after 8 t) = _
  rw [after4_8, outs_8]
  funext x
  obtain ⟨p, j, rfl⟩ : ∃ (p : Fin 128) (j : Fin 2048), x = ix2 p j := ⟨_, _, eq_ix2 x⟩
  show k4_pay3 (F := Ideal) (iblk V c 0 t) (iblk V c 2 t) (iblk V c 1 t) (iblk V c 3 t) (iblk V c 5 t) (iblk V c 6 t) (ix2 p j) = G8 (V c main_v18) (V c main_v17_1) (V c main_v16) (V c main_v6) (V c main_arg7) (V c main_v8) ((win4_8.rect t).emb (ix2 p j))
  have hq : (((win4_8.rect t).emb (ix2 p j) 1 : Fin 10240) : ℕ) = t.val * 2048 + j.val :=
    (win4_8.rect_emb_val t _ 1).trans (by rw [(at8 t).2.2.1]; rfl)
  have hp : ((win4_8.rect t).emb (ix2 p j) 0 : Fin 128) = p :=
    Fin.ext ((win4_8.rect_emb_val t _ 0).trans (by rw [(at8 t).1, Nat.zero_add]; rfl))
  rw [pay3_apply]
  unfold G8
  rw [hp]
  exact congrArg₂ (fun u v : EReal => u + v) (Finset.sum_congr rfl fun k _ => congrArg₂ (fun u v : EReal => u * v) (in5 V c t p k)
    (congrArg₂ pr (in3 V c t 0 0) (congrArg₂ (fun u v : EReal => u + v) (congrArg₂ (fun u v : EReal => u * v) (in0 V c t k j _ hq) (in2 V c t 0 j _ hq)) (in1 V c t k j _ hq)))) (in6 V c t p 0)

/-- The whole result after the kernel. -/
theorem arr8 (c : Dev nD) : (dat (Ix := Ix) (U := U) (Lvl := Lvl) 𝒱₀ V D B c).arrAt 8 cfg4.N = G8 (V c main_v18) (V c main_v17_1) (V c main_v16) (V c main_v6) (V c main_arg7) (V c main_v8) :=
  (dat (Ix := Ix) (U := U) (Lvl := Lvl) 𝒱₀ V D B c).arrAt_eq_of_cover 8 (G8 (V c main_v18) (V c main_v17_1) (V c main_v16) (V c main_v6) (V c main_arg7) (V c main_v8)) (fun t _ => flushed_8 𝒱₀ V D B c t) cover8

end Cert.Kernel.Own.K4

end
-- ==== Proof.Val6.lean ====
/- The third layer's activation and the folded head: what the kernel leaves in its whole result, at the ideal values. -/
module

public import proofs.«01_k».proof.Proof.Tc6
public import proofs.«01_k».proof.Proof.ValBase

@[expose] public section

set_option Elab.async false

noncomputable section

namespace Cert.Kernel.Own.K6

open Cert.Kernel Cert.Kernel.Gen Cert.Kernel.Own
open Idealize.ShloMosaic Idealize.ShloMosaic.TcCoe Idealize.ShloMosaic.ValueIdx
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)
  (B : Dev nD → Set (SemLoc sig × Ix))

theorem pay_apply (v0 : Vec Ideal S128x2048 .f32) (v2 : Vec Ideal S1x2048 .f32) (v6 : Vec Ideal S128x2048 .f32) (v11 : Vec Ideal S1x1 .f32) (w : Vec Ideal S2x128 .f32) (p : Fin 2) (j : Fin 2048) :
    k6_pay1 (F := Ideal) v0 v2 v6 v11 w (ix2 p j) = ∑ k : Fin 128, (w (ix2 p k) * pr (v11 (ix2 0 0)) (v0 (ix2 k j) * v2 (ix2 0 j) + v6 (ix2 k j)) : EReal) := by
  unfold k6_pay1
  simp only [shapeCast_self]
  exact (mm_2 _ _ _ _).trans (Finset.sum_congr rfl fun k _ => congrArg (fun u : EReal => w (ix2 p k) * u) (act_apply _ _ _ _ _ _))

theorem at0 (t : Fin cfg6.N) : win6_0.index t 0 * win6_0.size 0 = 0 ∧ win6_0.index t 1 * win6_0.size 1 = t.val * 2048 := by
  rcases fin_N6 t with rfl | rfl | rfl | rfl | rfl <;> decide +kernel

theorem in0 (c : Dev nD) (t : Fin cfg6.N) (i : Fin 128) (j : Fin 2048) (q : Fin 10240) (hq : q.val = t.val * 2048 + j.val) : iblk V c 0 t (ix2 i j) = V c main_v20 (ix2 i q) := by
  refine congrArg (V c main_v20) (a₁ := (win6_0.rect t).emb (ix2 i j)) ?_
  funext a; apply Fin.ext
  match a with
  | ⟨0, _⟩ => exact (win6_0.rect_emb_val t _ 0).trans (by rw [(at0 t).1, Nat.zero_add]; rfl)
  | ⟨1, _⟩ => exact (win6_0.rect_emb_val t _ 1).trans (Eq.trans (by rw [(at0 t).2]; rfl) hq.symm)

theorem at1 (t : Fin cfg6.N) : win6_1.index t 0 * win6_1.size 0 = 0 ∧ win6_1.index t 1 * win6_1.size 1 = t.val * 2048 := by
  rcases fin_N6 t with rfl | rfl | rfl | rfl | rfl <;> decide +kernel

theorem in1 (c : Dev nD) (t : Fin cfg6.N) (i : Fin 128) (j : Fin 2048) (q : Fin 10240) (hq : q.val = t.val * 2048 + j.val) : iblk V c 1 t (ix2 i j) = V c main_v19_1 (ix2 i q) := by
  refine congrArg (V c main_v19_1) (a₁ := (win6_1.rect t).emb (ix2 i j)) ?_
  funext a; apply Fin.ext
  match a with
  | ⟨0, _⟩ => exact (win6_1.rect_emb_val t _ 0).trans (by rw [(at1 t).1, Nat.zero_add]; rfl)
  | ⟨1, _⟩ => exact (win6_1.rect_emb_val t _ 1).trans (Eq.trans (by rw [(at1 t).2]; rfl) hq.symm)

theorem at2 (t : Fin cfg6.N) : win6_2.index t 0 * win6_2.size 0 = 0 ∧ win6_2.index t 1 * win6_2.size 1 = t.val * 2048 := by
  rcases fin_N6 t with rfl | rfl | rfl | rfl | rfl <;> decide +kernel

theorem in2 (c : Dev nD) (t : Fin cfg6.N) (i : Fin 1) (j : Fin 2048) (q : Fin 10240) (hq : q.val = t.val * 2048 + j.val) : iblk V c 2 t (ix2 i j) = V c main_v16 (ix2 i q) := by
  refine congrArg (V c main_v16) (a₁ := (win6_2.rect t).emb (ix2 i j)) ?_
  funext a; apply Fin.ext
  match a with
  | ⟨0, _⟩ => exact (win6_2.rect_emb_val t _ 0).trans (by rw [(at2 t).1, Nat.zero_add]; rfl)
  | ⟨1, _⟩ => exact (win6_2.rect_emb_val t _ 1).trans (Eq.trans (by rw [(at2 t).2]; rfl) hq.symm)

theorem at3 (t : Fin cfg6.N) : win6_3.index t 0 * win6_3.size 0 = 0 ∧ win6_3.index t 1 * win6_3.size 1 = 0 := by
  rcases fin_N6 t with rfl | rfl | rfl | rfl | rfl <;> decide +kernel

theorem in3 (c : Dev nD) (t : Fin cfg6.N) (i : Fin 1) (j : Fin 1)  : iblk V c 3 t (ix2 i j) = V c main_v6 (ix2 i j) := by
  refine congrArg (V c main_v6) (a₁ := (win6_3.rect t).emb (ix2 i j)) ?_
  funext a; apply Fin.ext
  match a with
  | ⟨0, _⟩ => exact (win6_3.rect_emb_val t _ 0).trans (by rw [(at3 t).1, Nat.zero_add]; rfl)
  | ⟨1, _⟩ => exact (win6_3.rect_emb_val t _ 1).trans (by rw [(at3 t).2, Nat.zero_add]; rfl)

theorem at4 (t : Fin cfg6.N) : win6_4.index t 0 * win6_4.size 0 = 0 ∧ win6_4.index t 1 * win6_4.size 1 = 0 := by
  rcases fin_N6 t with rfl | rfl | rfl | rfl | rfl <;> decide +kernel

theorem in4 (c : Dev nD) (t : Fin cfg6.N) (i : Fin 2) (j : Fin 128)  : iblk V c 4 t (ix2 i j) = V c main_v11 (ix2 i j) := by
  refine congrArg (V c main_v11) (a₁ := (win6_4.rect t).emb (ix2 i j)) ?_
  funext a; apply Fin.ext
  match a with
  | ⟨0, _⟩ => exact (win6_4.rect_emb_val t _ 0).trans (by rw [(at4 t).1, Nat.zero_add]; rfl)
  | ⟨1, _⟩ => exact (win6_4.rect_emb_val t _ 1).trans (by rw [(at4 t).2, Nat.zero_add]; rfl)

theorem outs_5 (c : Dev nD) (t : Fin cfg6.N) :
    (outsAt6 (Ix := Ix) (U := U) (Lvl := Lvl) 𝒱₀ V c t) = k6_pay1 (F := Ideal) (iblk V c 0 t) (iblk V c 2 t) (iblk V c 1 t) (iblk V c 3 t) (iblk V c 4 t) := by
  unfold outsAt6; unfold out6_A_5
  rw [View.read_writes_eq_canon _ _ _ (cover6_A_5 𝒱₀ c _ _ _ _ _ _ _ _ _ _ _ _ _ _ _ _ _ _)]
  refine Eq.trans (b := View.canon [⟨Rect.unit (s := S2x2048) ![0, 0] S2x2048.size inb_S2x2048_S2x2048_0_0, k6_pay1 (F := Ideal) (View.readAt (Elt Ideal) (ms6_0 t).view (Rect.unit (s := S128x2048) ![0, 0] S128x2048.size inb_S128x2048_S128x2048_0_0).toLoadRect ((hs6_0 t).unread (iblk V c 0 t))) (View.readAt (Elt Ideal) (ms6_2 t).view (Rect.unit (s := S1x2048) ![0, 0] S1x2048.size inb_S1x2048_S1x2048_0_0).toLoadRect ((hs6_2 t).unread (iblk V c 2 t))) (View.readAt (Elt Ideal) (ms6_1 t).view (Rect.unit (s := S128x2048) ![0, 0] S128x2048.size inb_S128x2048_S128x2048_0_0).toLoadRect ((hs6_1 t).unread (iblk V c 1 t))) (View.readAt (Elt Ideal) (ms6_3 t).view (Rect.unit (s := S1x1) ![0, 0] S1x1.size inb_S1x1_S1x1_0_0).toLoadRect ((hs6_3 t).unread (iblk V c 3 t))) (View.readAt (Elt Ideal) (ms6_4 t).view (Rect.unit (s := S2x128) ![0, 0] S2x128.size inb_S2x128_S2x128_0_0).toLoadRect ((hs6_4 t).unread (iblk V c 4 t)))⟩]) (congrArg View.canon (by unfold kernelRun6_A; rfl)) ?_
  have h0 : View.readAt (Elt Ideal) (ms6_0 t).view (Rect.unit (s := S128x2048) ![0, 0] S128x2048.size inb_S128x2048_S128x2048_0_0).toLoadRect ((hs6_0 t).unread (iblk V c 0 t)) = iblk V c 0 t := read_whole _ _ _ hz _
  have h2 : View.readAt (Elt Ideal) (ms6_2 t).view (Rect.unit (s := S1x2048) ![0, 0] S1x2048.size inb_S1x2048_S1x2048_0_0).toLoadRect ((hs6_2 t).unread (iblk V c 2 t)) = iblk V c 2 t := read_whole _ _ _ hz _
  have h1 : View.readAt (Elt Ideal) (ms6_1 t).view (Rect.unit (s := S128x2048) ![0, 0] S128x2048.size inb_S128x2048_S128x2048_0_0).toLoadRect ((hs6_1 t).unread (iblk V c 1 t)) = iblk V c 1 t := read_whole _ _ _ hz _
  have h3 : View.readAt (Elt Ideal) (ms6_3 t).view (Rect.unit (s := S1x1) ![0, 0] S1x1.size inb_S1x1_S1x1_0_0).toLoadRect ((hs6_3 t).unread (iblk V c 3 t)) = iblk V c 3 t := read_whole _ _ _ hz _
  have h4 : View.readAt (Elt Ideal) (ms6_4 t).view (Rect.unit (s := S2x128) ![0, 0] S2x128.size inb_S2x128_S2x128_0_0).toLoadRect ((hs6_4 t).unread (iblk V c 4 t)) = iblk V c 4 t := read_whole _ _ _ hz _
  rw [View.canon_unit_zero hz, h0, h2, h1, h3, h4]

theorem at5 (t : Fin cfg6.N) : win6_5.index t 0 * win6_5.size 0 = 0 ∧ win6_5.xsize (grid6.coords t) 0 = 2
      ∧ win6_5.index t 1 * win6_5.size 1 = t.val * 2048 ∧ win6_5.xsize (grid6.coords t) 1 = 2048 := by
  rcases fin_N6 t with rfl | rfl | rfl | rfl | rfl <;> decide +kernel

theorem mem_blk5 (t : Fin cfg6.N) (i : (⟨2, ![2, 10240]⟩ : Shape).Idx) :
    i ∈ ((cfg6.win 5).blk t).view.set ↔ t.val * 2048 ≤ (i 1 : Nat) ∧ (i 1 : Nat) < t.val * 2048 + 2048 := by
  show i ∈ ((View.whole main_v21).slice (win6_5.rect t)).set ↔ _
  rw [View.set_slice_whole, Rect.mem_set_unit]
  have h1 : (i 0 : Nat) < 2 := (i 0).isLt
  have e := at5 t
  refine ⟨fun h => ?_, fun h a => ?_⟩
  · have : win6_5.index t 1 * win6_5.size 1 ≤ (i 1 : Nat) ∧ (i 1 : Nat) < win6_5.index t 1 * win6_5.size 1 + win6_5.xsize (grid6.coords t) 1 := h 1
    rw [e.2.2.1, e.2.2.2] at this; exact this
  · match a with
    | ⟨0, _⟩ => show win6_5.index t 0 * win6_5.size 0 ≤ (i 0 : Nat) ∧ (i 0 : Nat) < win6_5.index t 0 * win6_5.size 0 + win6_5.xsize (grid6.coords t) 0
                rw [e.1, e.2.1]; omega
    | ⟨1, _⟩ => show win6_5.index t 1 * win6_5.size 1 ≤ (i 1 : Nat) ∧ (i 1 : Nat) < win6_5.index t 1 * win6_5.size 1 + win6_5.xsize (grid6.coords t) 1
                rw [e.2.2.1, e.2.2.2]; exact h

theorem cover5 (i : (⟨2, ![2, 10240]⟩ : Shape).Idx) : ∃ t : Fin cfg6.N, (cfg6.win 5).flush t = true ∧ i ∈ ((cfg6.win 5).blk t).view.set := by
  have h0 : (i 1 : Nat) < 10240 := (i 1).isLt
  have hN : cfg6.N = 5 := N_6
  refine ⟨⟨(i 1 : Nat) / 2048, by omega⟩, flush6_5 _, ?_⟩
  rw [mem_blk5]
  dsimp only
  omega

/-- The whole result. -/
def G5 (g z : S128x10240.Idx → EReal) (dv : S1x10240.Idx → EReal) (a : S1x1.Idx → EReal) (W : S2x128.Idx → EReal) : S2x10240.Idx → EReal :=
  fun i => ∑ k : Fin 128, W (ix2 (i 0) k) * (pr (a (ix2 0 0)) (g (ix2 k (i 1)) * dv (ix2 0 (i 1)) + z (ix2 k (i 1))))

theorem flushed_5 (c : Dev nD) (t : Fin cfg6.N) :
    (dat (Ix := Ix) (U := U) (Lvl := Lvl) 𝒱₀ V D B c).flushed 5 t = ((cfg6.win 5).blk t).view.read (Elt Ideal) (G5 (V c main_v20) (V c main_v19_1) (V c main_v16) (V c main_v6) (V c main_v11)) := by
  show (cfg6.win 5).cut (grid6.coords t) ((dat (Ix := Ix) (U := U) (Lvl := Lvl) 𝒱₀ V D B c).after 5 t) = _
  rw [after6_5, outs_5]
  funext x
  obtain ⟨p, j, rfl⟩ : ∃ (p : Fin 2) (j : Fin 2048), x = ix2 p j := ⟨_, _, eq_ix2 x⟩
  show k6_pay1 (F := Ideal) (iblk V c 0 t) (iblk V c 2 t) (iblk V c 1 t) (iblk V c 3 t) (iblk V c 4 t) (ix2 p j) = G5 (V c main_v20) (V c main_v19_1) (V c main_v16) (V c main_v6) (V c main_v11) ((win6_5.rect t).emb (ix2 p j))
  have hq : (((win6_5.rect t).emb (ix2 p j) 1 : Fin 10240) : ℕ) = t.val * 2048 + j.val :=
    (win6_5.rect_emb_val t _ 1).trans (by rw [(at5 t).2.2.1]; rfl)
  have hp : ((win6_5.rect t).emb (ix2 p j) 0 : Fin 2) = p :=
    Fin.ext ((win6_5.rect_emb_val t _ 0).trans (by rw [(at5 t).1, Nat.zero_add]; rfl))
  rw [pay_apply]
  unfold G5
  rw [hp]
  exact Finset.sum_congr rfl fun k _ => congrArg₂ (fun u v : EReal => u * v) (in4 V c t p k)
    (congrArg₂ pr (in3 V c t 0 0) (congrArg₂ (fun u v : EReal => u + v) (congrArg₂ (fun u v : EReal => u * v) (in0 V c t k j _ hq) (in2 V c t 0 j _ hq)) (in1 V c t k j _ hq)))

/-- The whole result after the kernel. -/
theorem arr5 (c : Dev nD) : (dat (Ix := Ix) (U := U) (Lvl := Lvl) 𝒱₀ V D B c).arrAt 5 cfg6.N = G5 (V c main_v20) (V c main_v19_1) (V c main_v16) (V c main_v6) (V c main_v11) :=
  (dat (Ix := Ix) (U := U) (Lvl := Lvl) 𝒱₀ V D B c).arrAt_eq_of_cover 5 (G5 (V c main_v20) (V c main_v19_1) (V c main_v16) (V c main_v6) (V c main_v11)) (fun t _ => flushed_5 𝒱₀ V D B c t) cover5

end Cert.Kernel.Own.K6

end
-- ==== Proof.Val8.lean ====
/- The output: what the last kernel leaves in its whole result, at the ideal values. -/
module

public import proofs.«01_k».proof.Proof.Tc8
public import proofs.«01_k».proof.Proof.ValBase

@[expose] public section

set_option Elab.async false

noncomputable section

namespace Cert.Kernel.Own.K8

open Cert.Kernel Cert.Kernel.Gen Cert.Kernel.Own
open Idealize.ShloMosaic Idealize.ShloMosaic.TcCoe Idealize.ShloMosaic.ValueIdx
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)
  (B : Dev nD → Set (SemLoc sig × Ix))

theorem pay_apply (v0 : Vec Ideal S32x2048 .f32) (v4 : Vec Ideal S1x2048 .f32) (v7 : Vec Ideal S1x2048 .f32) (v10 : Vec Ideal S1x1 .f32) (p : Fin 1) (j : Fin 2048) :
    k8_pay1 (F := Ideal) v0 v4 v7 v10 (ix2 p j) = ((∑ k : Fin 32, (v0 (ix2 k j) : EReal)) * v4 (ix2 p j) + v7 (ix2 p j)) + v10 (ix2 0 0) := by
  unfold k8_pay1
  simp only [shapeCast_self, addf_apply, mulf_apply]
  exact congrArg₂ (fun u v : EReal => u + v) (congrArg (fun u : EReal => u * v4 (ix2 p j) + v7 (ix2 p j)) ((shapeCast_a_1a_apply _ _ p j).trans (rows32 v0 _ _ j))) (bc_one _ _ _ _)

theorem row1 (X : Vec Ideal S2x2048 .f32) (p : Fin 1) (j : Fin 2048) :
    View.ld X (Rect.unit (s := S2x2048) ![1, 0] S1x2048.size inb_S2x2048_S1x2048_1_0) (ix2 p j) = X (ix2 1 j) := by
  refine congrArg X ?_
  funext a; apply Fin.ext
  match a with
  | ⟨0, _⟩ => show 1 + 1 * p.val = 1; omega
  | ⟨1, _⟩ => show 0 + 1 * j.val = j.val; omega

theorem at0 (t : Fin cfg8.N) : win8_0.index t 0 * win8_0.size 0 = 0 ∧ win8_0.index t 1 * win8_0.size 1 = t.val * 2048 := by
  rcases fin_N8 t with rfl | rfl | rfl | rfl | rfl <;> decide +kernel

theorem in0 (c : Dev nD) (t : Fin cfg8.N) (i : Fin 32) (j : Fin 2048) (q : Fin 10240) (hq : q.val = t.val * 2048 + j.val) : iblk V c 0 t (ix2 i j) = V c main_v24 (ix2 i q) := by
  refine congrArg (V c main_v24) (a₁ := (win8_0.rect t).emb (ix2 i j)) ?_
  funext a; apply Fin.ext
  match a with
  | ⟨0, _⟩ => exact (win8_0.rect_emb_val t _ 0).trans (by rw [(at0 t).1, Nat.zero_add]; rfl)
  | ⟨1, _⟩ => exact (win8_0.rect_emb_val t _ 1).trans (Eq.trans (by rw [(at0 t).2]; rfl) hq.symm)

theorem at1 (t : Fin cfg8.N) : win8_1.index t 0 * win8_1.size 0 = 0 ∧ win8_1.index t 1 * win8_1.size 1 = t.val * 2048 := by
  rcases fin_N8 t with rfl | rfl | rfl | rfl | rfl <;> decide +kernel

theorem in1 (c : Dev nD) (t : Fin cfg8.N) (i : Fin 2) (j : Fin 2048) (q : Fin 10240) (hq : q.val = t.val * 2048 + j.val) : iblk V c 1 t (ix2 i j) = V c main_v21 (ix2 i q) := by
  refine congrArg (V c main_v21) (a₁ := (win8_1.rect t).emb (ix2 i j)) ?_
  funext a; apply Fin.ext
  match a with
  | ⟨0, _⟩ => exact (win8_1.rect_emb_val t _ 0).trans (by rw [(at1 t).1, Nat.zero_add]; rfl)
  | ⟨1, _⟩ => exact (win8_1.rect_emb_val t _ 1).trans (Eq.trans (by rw [(at1 t).2]; rfl) hq.symm)

theorem at2 (t : Fin cfg8.N) : win8_2.index t 0 * win8_2.size 0 = 0 ∧ win8_2.index t 1 * win8_2.size 1 = t.val * 2048 := by
  rcases fin_N8 t with rfl | rfl | rfl | rfl | rfl <;> decide +kernel

theorem in2 (c : Dev nD) (t : Fin cfg8.N) (i : Fin 1) (j : Fin 2048) (q : Fin 10240) (hq : q.val = t.val * 2048 + j.val) : iblk V c 2 t (ix2 i j) = V c main_v16 (ix2 i q) := by
  refine congrArg (V c main_v16) (a₁ := (win8_2.rect t).emb (ix2 i j)) ?_
  funext a; apply Fin.ext
  match a with
  | ⟨0, _⟩ => exact (win8_2.rect_emb_val t _ 0).trans (by rw [(at2 t).1, Nat.zero_add]; rfl)
  | ⟨1, _⟩ => exact (win8_2.rect_emb_val t _ 1).trans (Eq.trans (by rw [(at2 t).2]; rfl) hq.symm)

theorem at3 (t : Fin cfg8.N) : win8_3.index t 0 * win8_3.size 0 = 0 ∧ win8_3.index t 1 * win8_3.size 1 = 0 := by
  rcases fin_N8 t with rfl | rfl | rfl | rfl | rfl <;> decide +kernel

theorem in3 (c : Dev nD) (t : Fin cfg8.N) (i : Fin 1) (j : Fin 1)  : iblk V c 3 t (ix2 i j) = V c main_v14 (ix2 i j) := by
  refine congrArg (V c main_v14) (a₁ := (win8_3.rect t).emb (ix2 i j)) ?_
  funext a; apply Fin.ext
  match a with
  | ⟨0, _⟩ => exact (win8_3.rect_emb_val t _ 0).trans (by rw [(at3 t).1, Nat.zero_add]; rfl)
  | ⟨1, _⟩ => exact (win8_3.rect_emb_val t _ 1).trans (by rw [(at3 t).2, Nat.zero_add]; rfl)

theorem outs_4 (c : Dev nD) (t : Fin cfg8.N) :
    (outsAt8 (Ix := Ix) (U := U) (Lvl := Lvl) 𝒱₀ V c t) = k8_pay1 (F := Ideal) (iblk V c 0 t) (iblk V c 2 t) (View.ld (iblk V c 1 t) (Rect.unit (s := S2x2048) ![1, 0] S1x2048.size inb_S2x2048_S1x2048_1_0)) (iblk V c 3 t) := by
  unfold outsAt8; unfold out8_A_4
  rw [View.read_writes_eq_canon _ _ _ (cover8_A_4 𝒱₀ c _ _ _ _ _ _ _ _ _ _ _ _ _ _ _)]
  refine Eq.trans (b := View.canon [⟨Rect.unit (s := S1x2048) ![0, 0] S1x2048.size inb_S1x2048_S1x2048_0_0, k8_pay1 (F := Ideal) (View.readAt (Elt Ideal) (ms8_0 t).view (Rect.unit (s := S32x2048) ![0, 0] S32x2048.size inb_S32x2048_S32x2048_0_0).toLoadRect ((hs8_0 t).unread (iblk V c 0 t))) (View.readAt (Elt Ideal) (ms8_2 t).view (Rect.unit (s := S1x2048) ![0, 0] S1x2048.size inb_S1x2048_S1x2048_0_0).toLoadRect ((hs8_2 t).unread (iblk V c 2 t))) (View.readAt (Elt Ideal) (ms8_1 t).view (Rect.unit (s := S2x2048) ![1, 0] S1x2048.size inb_S2x2048_S1x2048_1_0).toLoadRect ((hs8_1 t).unread (iblk V c 1 t))) (View.readAt (Elt Ideal) (ms8_3 t).view (Rect.unit (s := S1x1) ![0, 0] S1x1.size inb_S1x1_S1x1_0_0).toLoadRect ((hs8_3 t).unread (iblk V c 3 t)))⟩]) (congrArg View.canon (by unfold kernelRun8_A; rfl)) ?_
  have h0 : View.readAt (Elt Ideal) (ms8_0 t).view (Rect.unit (s := S32x2048) ![0, 0] S32x2048.size inb_S32x2048_S32x2048_0_0).toLoadRect ((hs8_0 t).unread (iblk V c 0 t)) = iblk V c 0 t := read_whole _ _ _ hz _
  have h2 : View.readAt (Elt Ideal) (ms8_2 t).view (Rect.unit (s := S1x2048) ![0, 0] S1x2048.size inb_S1x2048_S1x2048_0_0).toLoadRect ((hs8_2 t).unread (iblk V c 2 t)) = iblk V c 2 t := read_whole _ _ _ hz _
  have h1 : View.readAt (Elt Ideal) (ms8_1 t).view (Rect.unit (s := S2x2048) ![1, 0] S1x2048.size inb_S2x2048_S1x2048_1_0).toLoadRect ((hs8_1 t).unread (iblk V c 1 t)) = View.ld (iblk V c 1 t) (Rect.unit (s := S2x2048) ![1, 0] S1x2048.size inb_S2x2048_S1x2048_1_0) := funext fun x => (hs8_1 t).readAt_unread _ _ x
  have h3 : View.readAt (Elt Ideal) (ms8_3 t).view (Rect.unit (s := S1x1) ![0, 0] S1x1.size inb_S1x1_S1x1_0_0).toLoadRect ((hs8_3 t).unread (iblk V c 3 t)) = iblk V c 3 t := read_whole _ _ _ hz _
  rw [View.canon_unit_zero hz, h0, h2, h1, h3]

theorem at4 (t : Fin cfg8.N) : win8_4.index t 0 * win8_4.size 0 = 0 ∧ win8_4.xsize (grid8.coords t) 0 = 1
      ∧ win8_4.index t 1 * win8_4.size 1 = t.val * 2048 ∧ win8_4.xsize (grid8.coords t) 1 = 2048 := by
  rcases fin_N8 t with rfl | rfl | rfl | rfl | rfl <;> decide +kernel

theorem mem_blk4 (t : Fin cfg8.N) (i : (⟨2, ![1, 10240]⟩ : Shape).Idx) :
    i ∈ ((cfg8.win 4).blk t).view.set ↔ t.val * 2048 ≤ (i 1 : Nat) ∧ (i 1 : Nat) < t.val * 2048 + 2048 := by
  show i ∈ ((View.whole main_v25).slice (win8_4.rect t)).set ↔ _
  rw [View.set_slice_whole, Rect.mem_set_unit]
  have h1 : (i 0 : Nat) < 1 := (i 0).isLt
  have e := at4 t
  refine ⟨fun h => ?_, fun h a => ?_⟩
  · have : win8_4.index t 1 * win8_4.size 1 ≤ (i 1 : Nat) ∧ (i 1 : Nat) < win8_4.index t 1 * win8_4.size 1 + win8_4.xsize (grid8.coords t) 1 := h 1
    rw [e.2.2.1, e.2.2.2] at this; exact this
  · match a with
    | ⟨0, _⟩ => show win8_4.index t 0 * win8_4.size 0 ≤ (i 0 : Nat) ∧ (i 0 : Nat) < win8_4.index t 0 * win8_4.size 0 + win8_4.xsize (grid8.coords t) 0
                rw [e.1, e.2.1]; omega
    | ⟨1, _⟩ => show win8_4.index t 1 * win8_4.size 1 ≤ (i 1 : Nat) ∧ (i 1 : Nat) < win8_4.index t 1 * win8_4.size 1 + win8_4.xsize (grid8.coords t) 1
                rw [e.2.2.1, e.2.2.2]; exact h

theorem cover4 (i : (⟨2, ![1, 10240]⟩ : Shape).Idx) : ∃ t : Fin cfg8.N, (cfg8.win 4).flush t = true ∧ i ∈ ((cfg8.win 4).blk t).view.set := by
  have h0 : (i 1 : Nat) < 10240 := (i 1).isLt
  have hN : cfg8.N = 5 := N_8
  refine ⟨⟨(i 1 : Nat) / 2048, by omega⟩, flush8_4 _, ?_⟩
  rw [mem_blk4]
  dsimp only
  omega

/-- The whole result. -/
def G4 (s : S32x10240.Idx → EReal) (st : S2x10240.Idx → EReal) (dv : S1x10240.Idx → EReal) (b : S1x1.Idx → EReal) : S1x10240.Idx → EReal :=
  fun i => ((∑ k : Fin 32, s (ix2 k (i 1))) * dv (ix2 (i 0) (i 1)) + st (ix2 1 (i 1))) + b (ix2 0 0)

theorem flushed_4 (c : Dev nD) (t : Fin cfg8.N) :
    (dat (Ix := Ix) (U := U) (Lvl := Lvl) 𝒱₀ V D B c).flushed 4 t = ((cfg8.win 4).blk t).view.read (Elt Ideal) (G4 (V c main_v24) (V c main_v21) (V c main_v16) (V c main_v14)) := by
  show (cfg8.win 4).cut (grid8.coords t) ((dat (Ix := Ix) (U := U) (Lvl := Lvl) 𝒱₀ V D B c).after 4 t) = _
  rw [after8_4, outs_4]
  funext x
  obtain ⟨p, j, rfl⟩ : ∃ (p : Fin 1) (j : Fin 2048), x = ix2 p j := ⟨_, _, eq_ix2 x⟩
  show k8_pay1 (F := Ideal) (iblk V c 0 t) (iblk V c 2 t) (View.ld (iblk V c 1 t) (Rect.unit (s := S2x2048) ![1, 0] S1x2048.size inb_S2x2048_S1x2048_1_0)) (iblk V c 3 t) (ix2 p j) = G4 (V c main_v24) (V c main_v21) (V c main_v16) (V c main_v14) ((win8_4.rect t).emb (ix2 p j))
  have hq : (((win8_4.rect t).emb (ix2 p j) 1 : Fin 10240) : ℕ) = t.val * 2048 + j.val :=
    (win8_4.rect_emb_val t _ 1).trans (by rw [(at4 t).2.2.1]; rfl)
  have hp : ((win8_4.rect t).emb (ix2 p j) 0 : Fin 1) = p :=
    Fin.ext ((win8_4.rect_emb_val t _ 0).trans (by rw [(at4 t).1, Nat.zero_add]; rfl))
  rw [pay_apply]
  unfold G4
  rw [hp]
  exact congrArg₂ (fun u v : EReal => u + v) (congrArg₂ (fun u v : EReal => u + v) (congrArg₂ (fun u v : EReal => u * v)
    (Finset.sum_congr rfl fun k _ => in0 V c t k j _ hq) (in2 V c t p j _ hq)) ((row1 _ _ _).trans (in1 V c t 1 j _ hq))) (in3 V c t 0 0)

/-- The whole result after the kernel. -/
theorem arr4 (c : Dev nD) : (dat (Ix := Ix) (U := U) (Lvl := Lvl) 𝒱₀ V D B c).arrAt 4 cfg8.N = G4 (V c main_v24) (V c main_v21) (V c main_v16) (V c main_v14) :=
  (dat (Ix := Ix) (U := U) (Lvl := Lvl) 𝒱₀ V D B c).arrAt_eq_of_cover 4 (G4 (V c main_v24) (V c main_v21) (V c main_v16) (V c main_v14)) (fun t _ => flushed_4 𝒱₀ V D B c t) cover4

end Cert.Kernel.Own.K8

end
-- ==== Proof.KBuf.lean ====
/- What every call leaves in the buffers, over the ideal values: each output of a call as a function of the buffers it read. -/
module

public import proofs.«01_k».proof.Proof.Keep
public import proofs.«01_k».proof.Proof.Val1
public import proofs.«01_k».proof.Proof.Val2
public import proofs.«01_k».proof.Proof.Val4
public import proofs.«01_k».proof.Proof.Val6
public import proofs.«01_k».proof.Proof.Val8

@[expose] public section

set_option Elab.async false

noncomputable section

namespace Cert.Kernel.Own

open Cert.Kernel Cert.Kernel.Gen
open Idealize.ShloMosaic Idealize.ShloMosaic.ValueIdx
open Idealize.ShloMosaic.Pipeline (Dat afterRegion arrRef)
open Idealize.ShloMosaic.TcCoe

variable (m : (ℓ : Loc nD τ sig) → Buf (Elt Ideal) ℓ)

/-! ## What a call leaves alone -/

theorem stay2 (d : Dev nD) (r : Ref sig .tc) (h : ∀ w, arrRef spec1 w = r → (win1 w).isOut = false) : V2 m d (ref r) = V1 m d (ref r) :=
  Pipeline.afterRegion_keeps (dat0 m d) (V1 m d) launch1.win.arr_inj (fun _ => rfl) r h
theorem stay3 (d : Dev nD) (r : Ref sig .tc) (h : ∀ w, arrRef spec2 w = r → (win2 w).isOut = false) : V3 m d (ref r) = V2 m d (ref r) :=
  Pipeline.afterRegion_keeps (dat1 m d) (V2 m d) launch2.win.arr_inj (fun _ => rfl) r h
theorem stay5 (d : Dev nD) (r : Ref sig .tc) (h : ∀ w, arrRef spec4 w = r → (win4 w).isOut = false) : V5 m d (ref r) = V4 m d (ref r) :=
  Pipeline.afterRegion_keeps (dat2 m d) (V4 m d) launch4.win.arr_inj (fun _ => rfl) r h
theorem stay7 (d : Dev nD) (r : Ref sig .tc) (h : ∀ w, arrRef spec6 w = r → (win6 w).isOut = false) : V7 m d (ref r) = V6 m d (ref r) :=
  Pipeline.afterRegion_keeps (dat3 m d) (V6 m d) launch6.win.arr_inj (fun _ => rfl) r h
theorem stay10 (d : Dev nD) (r : Ref sig .tc) (h : ∀ w, arrRef spec8 w = r → (win8 w).isOut = false) : V10 m d (ref r) = V9 m d (ref r) :=
  Pipeline.afterRegion_keeps (dat4 m d) (V9 m d) launch8.win.arr_inj (fun _ => rfl) r h
theorem stay1 (d : Dev nD) (r : Ref sig .tc) (h : r ≠ main_v15) : V1 m d (ref r) = V0 m d (ref r) := by
  unfold V1; exact Function.update_of_ne (StableHlo.devRef_ne_of_ne h) _ _
theorem stay4 (d : Dev nD) (r : Ref sig .tc) (h : r ≠ main_v18) : V4 m d (ref r) = V3 m d (ref r) := by
  unfold V4; exact Function.update_of_ne (StableHlo.devRef_ne_of_ne h) _ _
theorem stay6 (d : Dev nD) (r : Ref sig .tc) (h : r ≠ main_v20) : V6 m d (ref r) = V5 m d (ref r) := by
  unfold V6; exact Function.update_of_ne (StableHlo.devRef_ne_of_ne h) _ _
theorem stay9 (d : Dev nD) (r : Ref sig .tc) (h : r ≠ main_v24) : V9 m d (ref r) = V8 m d (ref r) := by
  unfold V9; exact Function.update_of_ne (StableHlo.devRef_ne_of_ne h) _ _
theorem stay8 (d : Dev nD) (r : Ref sig .tc) (h : r ≠ main_v22) (h' : r ≠ main_v23) : V8 m d (ref r) = V7 m d (ref r) := by
  unfold V8 ops1
  rw [StableHlo.after_cons, StableHlo.after_cons, StableHlo.after_nil,
    StableHlo.reshape_result_ne (h := h'), StableHlo.unary_result_ne (h := h)]

/-! ## What a call writes -/

theorem at1 (d : Dev nD) : V1 m d (ref main_v15) = ret0 (V0 m d) := by unfold V1; exact Function.update_self _ _ _
theorem at4 (d : Dev nD) : V4 m d (ref main_v18) = ret1 (V3 m d) := by unfold V4; exact Function.update_self _ _ _
theorem at6 (d : Dev nD) : V6 m d (ref main_v20) = ret2 (V5 m d) := by unfold V6; exact Function.update_self _ _ _
theorem at9 (d : Dev nD) : V9 m d (ref main_v24) = ret3 (V8 m d) := by unfold V9; exact Function.update_self _ _ _
theorem at2 (d : Dev nD) : V2 m d (ref main_v16) = K1.G (V1 m d (ref main_v15)) :=
  (Pipeline.afterRegion_arr (dat0 m d) (V1 m d) launch1.win.arr_inj 1).trans (K1.arr _ _ _ _ d)
theorem at3_0 (d : Dev nD) : V3 m d (ref main_v17_0) = K2.G4 (V2 m d (ref main_v4)) (V2 m d (ref main_arg2)) :=
  (Pipeline.afterRegion_arr (dat1 m d) (V2 m d) launch2.win.arr_inj 4).trans (K2.arr4 _ _ _ _ d)
theorem at3_1 (d : Dev nD) : V3 m d (ref main_v17_1) = K2.G5 (V2 m d (ref main_v4)) (V2 m d (ref main_arg4)) (V2 m d (ref main_v7)) :=
  (Pipeline.afterRegion_arr (dat1 m d) (V2 m d) launch2.win.arr_inj 5).trans (K2.arr5 _ _ _ _ d)
theorem at5_0 (d : Dev nD) : V5 m d (ref main_v19_0) = K4.G7 (V4 m d (ref main_v18)) (V4 m d (ref main_v17_1)) (V4 m d (ref main_v16)) (V4 m d (ref main_v6)) (V4 m d (ref main_arg5)) :=
  (Pipeline.afterRegion_arr (dat2 m d) (V4 m d) launch4.win.arr_inj 7).trans (K4.arr7 _ _ _ _ d)
theorem at5_1 (d : Dev nD) : V5 m d (ref main_v19_1) = K4.G8 (V4 m d (ref main_v18)) (V4 m d (ref main_v17_1)) (V4 m d (ref main_v16)) (V4 m d (ref main_v6)) (V4 m d (ref main_arg7)) (V4 m d (ref main_v8)) :=
  (Pipeline.afterRegion_arr (dat2 m d) (V4 m d) launch4.win.arr_inj 8).trans (K4.arr8 _ _ _ _ d)
theorem at7 (d : Dev nD) : V7 m d (ref main_v21) = K6.G5 (V6 m d (ref main_v20)) (V6 m d (ref main_v19_1)) (V6 m d (ref main_v16)) (V6 m d (ref main_v6)) (V6 m d (ref main_v11)) :=
  (Pipeline.afterRegion_arr (dat3 m d) (V6 m d) launch6.win.arr_inj 5).trans (K6.arr5 _ _ _ _ d)
theorem at10 (d : Dev nD) : V10 m d (ref main_v25) = K8.G4 (V9 m d (ref main_v24)) (V9 m d (ref main_v21)) (V9 m d (ref main_v16)) (V9 m d (ref main_v14)) :=
  (Pipeline.afterRegion_arr (dat4 m d) (V9 m d) launch8.win.arr_inj 4).trans (K8.arr4 _ _ _ _ d)
theorem at8 (d : Dev nD) : V8 m d (ref main_v23) = shapeCast S10240 (extractStridedSlice S1x10240 ![0, 0] (show FVec Ideal S2x10240 .f32 from V7 m d (ref main_v21)) slices_S2x10240_S1x10240_0_0) shapeCasts_S1x10240_S10240 := by
  unfold V8 ops1; after_results; rfl
theorem at11 (d : Dev nD) : V11 m d (ref main_v27) = shapeCast S10000 (extractStridedSlice S1x10000 ![0, 0] (show FVec Ideal S1x10240 .f32 from V10 m d (ref main_v25)) slices_S1x10240_S1x10000_0_0) shapeCasts_S1x10000_S10000 := by
  unfold V11 ops2; after_results; rfl

/-! ## The outputs a later call reads -/

theorem v16_4 (d : Dev nD) : V4 m d (ref main_v16) = V2 m d (ref main_v16) := by
  rw [stay4 m d main_v16 (by decide), stay3 m d main_v16 (by decide)]
theorem v16_6 (d : Dev nD) : V6 m d (ref main_v16) = V2 m d (ref main_v16) := by
  rw [stay6 m d main_v16 (by decide), stay5 m d main_v16 (by decide), v16_4]
theorem v16_9 (d : Dev nD) : V9 m d (ref main_v16) = V2 m d (ref main_v16) := by
  rw [stay9 m d main_v16 (by decide), stay8 m d main_v16 (by decide) (by decide), stay7 m d main_v16 (by decide), v16_6]
theorem v17_4 (d : Dev nD) : V4 m d (ref main_v17_1) = V3 m d (ref main_v17_1) := stay4 m d main_v17_1 (by decide)
theorem v19_6 (d : Dev nD) : V6 m d (ref main_v19_1) = V5 m d (ref main_v19_1) := stay6 m d main_v19_1 (by decide)
theorem v21_9 (d : Dev nD) : V9 m d (ref main_v21) = V7 m d (ref main_v21) := by
  rw [stay9 m d main_v21 (by decide), stay8 m d main_v21 (by decide) (by decide)]

/-! ## The first host operations -/

theorem v4_def (d : Dev nD) : V0 m d (ref main_v4) = pad S10240x128 ![0, 0] ![240, 0] ![0, 0] (show FVec Ideal S10000x128 .f32 from m ((d.tc : Thread nD τ).loc main_arg0)) (sitofp (F := Ideal) .f32 (constantI S_ 32 0#32)) pads_S10000x128_S10240x128_02400_000 h_S_ := by
  unfold V0 ops0; after_results
theorem v5_def (d : Dev nD) : V0 m d (ref main_v5) = broadcastInDim S10240 ![] bcast_S_S10240 (constant (F := Ideal) S_ .f32 0x3F800000#32) := by
  unfold V0 ops0; after_results
theorem v6_def (d : Dev nD) : V0 m d (ref main_v6) = shapeCast S1x1 (show FVec Ideal S_ .f32 from m ((d.tc : Thread nD τ).loc main_arg11)) shapeCasts_S_S1x1 := by
  unfold V0 ops0; after_results; rfl
theorem v7_def (d : Dev nD) : V0 m d (ref main_v7) = shapeCast S128x1 (show FVec Ideal S128 .f32 from m ((d.tc : Thread nD τ).loc main_arg3)) shapeCasts_S128_S128x1 := by
  unfold V0 ops0; after_results; rfl
theorem v8_def (d : Dev nD) : V0 m d (ref main_v8) = shapeCast S128x1 (show FVec Ideal S128 .f32 from m ((d.tc : Thread nD τ).loc main_arg6)) shapeCasts_S128_S128x1 := by
  unfold V0 ops0; after_results; rfl
theorem v11_def (d : Dev nD) : V0 m d (ref main_v11) = concatenate S2x128 0
    [⟨S1x128, Host.dotGeneral (F := Ideal) dot_S1x64_S64x128_S1x128_1_0_0_1_n_n none (show FVec Ideal S1x64 .f32 from m ((d.tc : Thread nD τ).loc main_arg12)) (show FVec Ideal S64x128 .f32 from m ((d.tc : Thread nD τ).loc main_arg8))⟩,
     ⟨S1x128, Host.dotGeneral (F := Ideal) dot_S1x64_S64x128_S1x128_1_0_0_1_n_n none (show FVec Ideal S1x64 .f32 from m ((d.tc : Thread nD τ).loc main_arg12)) (show FVec Ideal S64x128 .f32 from m ((d.tc : Thread nD τ).loc main_arg10))⟩] concatenates_S1x128_S1x128_S2x128_d0 := by
  unfold V0 ops0; after_results
theorem v14_def (d : Dev nD) : V0 m d (ref main_v14) = shapeCast S1x1 (addf (F := Ideal) (Host.dotGeneral (F := Ideal) dot_S1x64_S64_S1_1_0_0_n_n_n none (show FVec Ideal S1x64 .f32 from m ((d.tc : Thread nD τ).loc main_arg12)) (show FVec Ideal S64 .f32 from m ((d.tc : Thread nD τ).loc main_arg9)))
    (show FVec Ideal S1 .f32 from m ((d.tc : Thread nD τ).loc main_arg13))) shapeCasts_S1_S1x1 := by
  unfold V0 ops0; after_results; rfl

end Cert.Kernel.Own

end

end
-- ==== Proof.KVal.lean ====
/- The kernel's buffers as real numbers, call by call, from arguments that hold a network's data: the result is the network's. -/
module

public import proofs.«01_k».proof.Proof.KBuf
public import proofs.«01_k».proof.Proof.Net
public import Idealize.ShloMosaic.Lib.KernelVsHost
public import Idealize.ShloMosaic.Lib.StackMember
public import Idealize.ShloMosaic.Lib.ValueLayoutCasts
public import Idealize.ShloMosaic.Lib.Pipeline.Value

@[expose] public section

set_option Elab.async false

noncomputable section

namespace Cert.Kernel.Own

open Cert.Kernel Cert.Kernel.Gen Cert.Sage
open Idealize.ShloMosaic hiding ix1 ix2
open Idealize.ShloMosaic.ValueIdx
open Idealize.ShloMosaic.TcCoe

/-! ## The SparseCore sums over the reals -/

/-- A running sum of real values is their sum. -/
theorem segAcc_coe (P : ℕ → Prop) [DecidablePred P] (v : ℕ → Ideal .f32) (f : ℕ → ℝ) (n : ℕ) (h : ∀ e < n, v e = ((f e : ℝ) : EReal)) :
    segAcc (F := Ideal) (Scalar.ofBits .f32 0x00000000#32) P v n = ((∑ e ∈ Finset.range n, if P e then f e else 0 : ℝ) : EReal) := by
  induction n with
  | zero => exact zero_f32.trans (by simp)
  | succ n ih =>
    have ih' := ih fun e he => h e (he.trans (Nat.lt_succ_self n))
    rw [Finset.sum_range_succ]
    by_cases hP : P n
    · rw [if_pos hP]
      refine (if_pos hP).trans ?_
      rw [ih', h n (Nat.lt_succ_self n), Ideal.idxAddf_def, EReal.coe_add]
    · rw [if_neg hP, add_zero]
      exact (if_neg hP).trans ih'

variable {N : Net} {src dst : S320000.Idx → BitVec 32}

/-- The edge lists hold the network's edges. -/
structure Edges (N : Net) (src dst : S320000.Idx → BitVec 32) : Prop where
  src : ∀ e < 320000, nodeAt src e = N.s e
  dst : ∀ e < 320000, nodeAt dst e = N.d e
  lt : ∀ e, N.s e < 10000

theorem res0_sum (hE : Edges N src dst) (tab : S10240.Idx → EReal) (T : ℕ → ℝ) (hT : ∀ t : Fin 10240, t.val < 10000 → tab (ix1 t) = (T t.val : EReal)) (t : Fin 10240) :
    ∑ w : Fin 32, res0 (F := Ideal) tab src dst (ix2 w t) = ((S N.s N.d T t.val : ℝ) : EReal) := by
  have h (w : Fin 32) : res0 (F := Ideal) tab src dst (ix2 w t)
      = ((∑ e ∈ Finset.range 10000, if N.d (10000 * w.val + e) = t.val then T (N.s (10000 * w.val + e)) else 0 : ℝ) : EReal) := by
    show segAcc (F := Ideal) (Scalar.ofBits .f32 0x00000000#32) (fun e => nodeAt dst (10000 * w.val + e) = t.val) (fun e => entAt (F := Ideal) tab (nodeAt src (10000 * w.val + e))) 10000 = _
    have hw (e : ℕ) (he : e < 10000) : 10000 * w.val + e < 320000 := by have := w.isLt; omega
    rw [segAcc_congr (F := Ideal) (z' := Scalar.ofBits .f32 0x00000000#32) (P' := fun e => N.d (10000 * w.val + e) = t.val) (v' := fun e => entAt (F := Ideal) tab (nodeAt src (10000 * w.val + e))) rfl
      (fun e he => by rw [hE.dst _ (hw e he)]) (fun e he => rfl)]
    refine segAcc_coe _ _ (fun e => T (N.s (10000 * w.val + e))) _ fun e he => ?_
    show entAt (F := Ideal) tab (nodeAt src (10000 * w.val + e)) = _
    rw [hE.src _ (hw e he)]
    unfold entAt
    rw [dif_pos (lt_trans (hE.lt _) (by decide))]
    exact hT _ (hE.lt _)
  simp only [h]
  rw [coe_sum, sum_tiles (fun e => if N.d e = t.val then T (N.s e) else 0)]
  rfl

theorem res3_sum (hE : Edges N src dst) (tab : S128x10240.Idx → EReal) (T : ℕ → Fin 128 → ℝ) (hT : ∀ (t : Fin 10240) p, t.val < 10000 → tab (ix2 p t) = (T t.val p : EReal)) (t : Fin 10240) (p : Fin 128) :
    res3 (F := Ideal) tab src dst (ix2 p t) = ((S N.s N.d (fun m => T m p) t.val : ℝ) : EReal) := by
  show segAcc (F := Ideal) (Scalar.ofBits .f32 0x00000000#32) (fun e => nodeAt dst e = t.val) (fun e => entAt2 (F := Ideal) tab p.val (nodeAt src e)) 320000 = _
  rw [segAcc_congr (F := Ideal) (z' := Scalar.ofBits .f32 0x00000000#32) (P' := fun e => N.d e = t.val) (v' := fun e => entAt2 (F := Ideal) tab p.val (nodeAt src e)) rfl
    (fun e he => by rw [hE.dst _ he]) (fun e he => rfl)]
  refine segAcc_coe _ _ (fun e => T (N.s e) p) _ fun e he => ?_
  show entAt2 (F := Ideal) tab p.val (nodeAt src e) = _
  rw [hE.src _ he]
  unfold entAt2
  rw [dif_pos ⟨p.isLt, lt_trans (hE.lt _) (by decide)⟩]
  exact hT _ _ (hE.lt _)

/-! ## The TensorCore kernels over the reals -/

theorem pr_coe (a h : ℝ) : pr (a : EReal) (h : EReal) = ((prR a h : ℝ) : EReal) := by
  unfold pr prR
  split
  · rfl
  · rw [EReal.coe_mul]

theorem act_coe {g z dv a : EReal} {g' z' dv' a' : ℝ} (hg : g = g') (hz : z = z') (hd : dv = dv') (ha : a = a') :
    pr a (g * dv + z) = ((prR a' (g' * dv' + z') : ℝ) : EReal) := by
  rw [hg, hz, hd, ha, ← EReal.coe_mul, ← EReal.coe_add, pr_coe]

theorem lin_coe {n : ℕ} {W A : Fin n → EReal} {W' A' : Fin n → ℝ} (hW : ∀ k, W k = W' k) (hA : ∀ k, A k = A' k) :
    ∑ k, W k * A k = ((∑ k, W' k * A' k : ℝ) : EReal) := by
  rw [← coe_mul_sum]; exact Finset.sum_congr rfl fun k _ => by rw [hW, hA]

variable (m : (ℓ : Loc nD τ sig) → Buf (Elt Ideal) ℓ)

/-- The arguments in memory hold the network's data. -/
abbrev Has (N : Net) (d : Dev nD) : Prop :=
  IsNet N (m ((d.tc : Thread nD τ).loc main_arg0)) (m ((d.tc : Thread nD τ).loc main_arg1)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) (m ((d.tc : Thread nD τ).loc main_arg7))
    (m ((d.tc : Thread nD τ).loc main_arg8)) (m ((d.tc : Thread nD τ).loc main_arg9)) (m ((d.tc : Thread nD τ).loc main_arg10)) (m ((d.tc : Thread nD τ).loc main_arg11))
    (m ((d.tc : Thread nD τ).loc main_arg12)) (m ((d.tc : Thread nD τ).loc main_arg13))

variable {m} {d : Dev nD} (h : Has m N d)
include h

theorem edges0 : Edges N (V0 m d (ref main_v1)) (V0 m d (ref main_v3)) where
  src e he := by
    unfold nodeAt; rw [dif_pos he]
    exact (congrArg BitVec.toNat (src_eq m d ⟨e, he⟩)).trans (h.src ⟨e, he⟩)
  dst e he := by
    unfold nodeAt; rw [dif_pos he]
    exact (congrArg BitVec.toNat (dst_eq m d ⟨e, he⟩)).trans (h.dst ⟨e, he⟩)
  lt := h.src_lt

/-! ### The first host operations -/

theorem r4 (t : Fin 10240) (k : Fin 128) : (show S10240x128.Idx → EReal from V0 m d (ref main_v4)) (ix2 t k) = (N.X t.val k : EReal) := by
  rw [v4_def]
  by_cases ht : t.val < 10000
  · refine (pad_apply_of_inside _ _ _ _ _ _ _ _ (ix2 ⟨t.val, ht⟩ k) fun a => ?_).trans (h.feat ⟨t.val, ht⟩ k)
    match a with
    | 0 => show t.val = 0 + t.val * (0 + 1); omega
    | 1 => show k.val = 0 + k.val * (0 + 1); omega
  · refine (pad_apply_of_not_inside _ _ _ _ _ _ _ _ 0 fun hh => ht ?_).trans ?_
    · have h2 : (t.val - 0) / (0 + 1) < 10000 := hh.2.2
      rw [Nat.sub_zero, Nat.zero_add, Nat.div_one] at h2; exact h2
    · rw [h.past t.val k (Nat.le_of_not_lt ht)]
      show (((0#32 : BitVec 32).toInt : ℝ) : EReal) = _
      simp
omit h in
theorem r5 (t : Fin 10240) : (show S10240.Idx → EReal from V0 m d (ref main_v5)) (ix1 t) = ((1 : ℝ) : EReal) := by
  rw [v5_def]; exact one_f32
theorem r6 : (show S1x1.Idx → EReal from V0 m d (ref main_v6)) (ix2 0 0) = (N.a : EReal) := by
  rw [v6_def]; exact h.slope _
theorem r7 (p : Fin 128) : (show S128x1.Idx → EReal from V0 m d (ref main_v7)) (ix2 p 0) = (N.b1 p : EReal) := by
  rw [v7_def]; exact (shapeCast_a_a1_apply _ _ _ _).trans (h.bias1 p)
theorem r8 (p : Fin 128) : (show S128x1.Idx → EReal from V0 m d (ref main_v8)) (ix2 p 0) = (N.b2 p : EReal) := by
  rw [v8_def]; exact (shapeCast_a_a1_apply _ _ _ _).trans (h.bias2 p)
theorem r11_0 (k : Fin 128) : (show S2x128.Idx → EReal from V0 m d (ref main_v11)) (ix2 0 k) = ((∑ j, N.Wp j * N.W3l j k : ℝ) : EReal) := by
  rw [v11_def]
  refine (concatenate_pair_apply_left (t := S2x128) (s₁ := S1x128) (s₂ := S1x128) 0 _ _ _ (ix2 0 k) rfl (ix2 0 k) fun b => ?_).trans ?_
  · match b with | 0 => rfl | 1 => rfl
  · refine (StackMember.dotGeneral_plain_apply (m := 1) (n := 128) (k := 64) none _ _ 0 k).trans (lin_coe (fun j => h.wp j) fun j => h.w3l j k)
theorem r11_1 (k : Fin 128) : (show S2x128.Idx → EReal from V0 m d (ref main_v11)) (ix2 1 k) = ((∑ j, N.Wp j * N.W3r j k : ℝ) : EReal) := by
  rw [v11_def]
  refine (concatenate_pair_apply_right (t := S2x128) (s₁ := S1x128) (s₂ := S1x128) 0 _ _ _ (ix2 1 k) rfl rfl (ix2 0 k) (fun b hb => ?_) rfl).trans ?_
  · match b with
    | 0 => exact absurd rfl hb
    | 1 => rfl
  · refine (StackMember.dotGeneral_plain_apply (m := 1) (n := 128) (k := 64) none _ _ 0 k).trans (lin_coe (fun j => h.wp j) fun j => h.w3r j k)

theorem r14 : (show S1x1.Idx → EReal from V0 m d (ref main_v14)) (ix2 0 0) = (((∑ j, N.Wp j * N.b3 j) + N.bp : ℝ) : EReal) := by
  rw [v14_def]
  refine (shapeCast_a_a1_apply _ _ _ _).trans ?_
  rw [EReal.coe_add]
  refine congrArg₂ (· + ·) ?_ (h.bp _)
  show FloatOps.dotGeneral _ _ _ _ _ _ = _
  rw [Ideal.dotGeneral_apply, ← Equiv.sum_comp (contrEquiv1 dot_S1x64_S64_S1_1_0_0_n_n_n 64 rfl rfl).symm]
  refine lin_coe (fun j => ?_) (fun j => ?_)
  · refine (congrArg (m ((d.tc : Thread nD τ).loc main_arg12)) (funext fun a => ?_)).trans (h.wp j)
    match a with | 0 => rfl | 1 => rfl
  · refine (congrArg (m ((d.tc : Thread nD τ).loc main_arg9)) (funext fun a => ?_)).trans (h.bias3 j)
    match a with | 0 => rfl

/-! ### The calls -/

theorem edges3 : Edges N (V3 m d (ref main_v1)) (V3 m d (ref main_v3)) := by
  have e1 : V3 m d (ref main_v1) = V0 m d (ref main_v1) := keeps_v m 1 d main_v1 (by decide)
  have e2 : V3 m d (ref main_v3) = V0 m d (ref main_v3) := keeps_v m 1 d main_v3 (by decide)
  rw [e1, e2]; exact edges0 h
theorem edges5 : Edges N (V5 m d (ref main_v1)) (V5 m d (ref main_v3)) := by
  have e1 : V5 m d (ref main_v1) = V0 m d (ref main_v1) := keeps_v m 2 d main_v1 (by decide)
  have e2 : V5 m d (ref main_v3) = V0 m d (ref main_v3) := keeps_v m 2 d main_v3 (by decide)
  rw [e1, e2]; exact edges0 h
theorem edges8 : Edges N (V8 m d (ref main_v1)) (V8 m d (ref main_v3)) := by
  have e1 : V8 m d (ref main_v1) = V0 m d (ref main_v1) := keeps_v m 3 d main_v1 (by decide)
  have e2 : V8 m d (ref main_v3) = V0 m d (ref main_v3) := keeps_v m 3 d main_v3 (by decide)
  rw [e1, e2]; exact edges0 h

/-- The inverse degrees. -/
theorem f16 (t : Fin 10240) : (show S1x10240.Idx → EReal from V2 m d (ref main_v16)) (ix2 0 t) = ((1 / dg N.s N.d t.val : ℝ) : EReal) := by
  rw [at2, at1]
  show Ideal.div 1 (max (∑ w : Fin 32, res0 (F := Ideal) (V0 m d (ref main_v5)) (V0 m d (ref main_v1)) (V0 m d (ref main_v3)) (ix2 w t)) 1) = _
  rw [res0_sum (edges0 h) _ (fun _ => 1) (fun t _ => r5 t) t, ← EReal.coe_one, coe_max]
  exact div_real 1 _ (ne_of_gt (dg_pos N.s N.d t.val))

theorem v4_2 : V2 m d (ref main_v4) = V0 m d (ref main_v4) := by
  rw [keep2 m d _ (by decide), keep1 m d _ (by decide)]
theorem f17_0 (t : Fin 10240) (p : Fin 128) : (show S128x10240.Idx → EReal from V3 m d (ref main_v17_0)) (ix2 p t) = ((∑ k, N.W1l p k * N.X t.val k : ℝ) : EReal) := by
  rw [at3_0, v4_2 h, keep2 m d main_arg2 (by decide), keep1 m d main_arg2 (by decide), arg2]
  exact lin_coe (fun k => h.w1l p k) (fun k => r4 h t k)
theorem f17_1 (t : Fin 10240) (p : Fin 128) : (show S128x10240.Idx → EReal from V3 m d (ref main_v17_1)) (ix2 p t) = (((∑ k, N.W1r p k * N.X t.val k) + N.b1 p : ℝ) : EReal) := by
  rw [at3_1, v4_2 h, keep2 m d main_arg4 (by decide), keep1 m d main_arg4 (by decide), arg4, keep2 m d main_v7 (by decide), keep1 m d main_v7 (by decide), EReal.coe_add]
  exact congrArg₂ (· + ·) (lin_coe (fun k => h.w1r p k) (fun k => r4 h t k)) (r7 h p)
theorem f18 (t : Fin 10240) (p : Fin 128) : (show S128x10240.Idx → EReal from V4 m d (ref main_v18)) (ix2 p t) = ((S N.s N.d (fun m => ∑ k, N.W1l p k * N.X m k) t.val : ℝ) : EReal) := by
  rw [at4]
  exact res3_sum (edges3 h) _ (fun t p => ∑ k, N.W1l p k * N.X t k) (fun t p _ => f17_0 h t p) t p

theorem v6_4 : V4 m d (ref main_v6) = V0 m d (ref main_v6) := by
  rw [keep4 m d _ (by decide), keep3 m d _ (by decide), keep2 m d _ (by decide), keep1 m d _ (by decide)]
/-- The first layer's activations. -/
theorem h1 (t : Fin 10240) (k : Fin 128) : pr ((show S1x1.Idx → EReal from V4 m d (ref main_v6)) (ix2 0 0))
    ((show S128x10240.Idx → EReal from V4 m d (ref main_v18)) (ix2 k t) * (show S1x10240.Idx → EReal from V4 m d (ref main_v16)) (ix2 0 t)
      + (show S128x10240.Idx → EReal from V4 m d (ref main_v17_1)) (ix2 k t)) = ((N.H1 t.val k : ℝ) : EReal) := by
  refine act_coe (f18 h t k) ?_ ?_ ?_
  · rw [v17_4]; exact f17_1 h t k
  · rw [v16_4]; exact f16 h t
  · rw [v6_4 h]; exact r6 h
theorem f19_0 (t : Fin 10240) (p : Fin 128) : (show S128x10240.Idx → EReal from V5 m d (ref main_v19_0)) (ix2 p t) = ((∑ k, N.W2l p k * N.H1 t.val k : ℝ) : EReal) := by
  rw [at5_0]
  refine lin_coe (fun k => ?_) (fun k => h1 h t k)
  rw [keep4 m d main_arg5 (by decide), keep3 m d main_arg5 (by decide), keep2 m d main_arg5 (by decide), keep1 m d main_arg5 (by decide), arg5]
  exact h.w2l p k
theorem f19_1 (t : Fin 10240) (p : Fin 128) : (show S128x10240.Idx → EReal from V5 m d (ref main_v19_1)) (ix2 p t) = (((∑ k, N.W2r p k * N.H1 t.val k) + N.b2 p : ℝ) : EReal) := by
  rw [at5_1, EReal.coe_add]
  refine congrArg₂ (· + ·) (lin_coe (fun k => ?_) (fun k => h1 h t k)) ?_
  · rw [keep4 m d main_arg7 (by decide), keep3 m d main_arg7 (by decide), keep2 m d main_arg7 (by decide), keep1 m d main_arg7 (by decide), arg7]
    exact h.w2r p k
  · rw [keep4 m d main_v8 (by decide), keep3 m d main_v8 (by decide), keep2 m d main_v8 (by decide), keep1 m d main_v8 (by decide)]
    exact r8 h p
theorem f20 (t : Fin 10240) (p : Fin 128) : (show S128x10240.Idx → EReal from V6 m d (ref main_v20)) (ix2 p t) = ((S N.s N.d (fun m => ∑ k, N.W2l p k * N.H1 m k) t.val : ℝ) : EReal) := by
  rw [at6]
  exact res3_sum (edges5 h) _ (fun t p => ∑ k, N.W2l p k * N.H1 t k) (fun t p _ => f19_0 h t p) t p

omit h in
theorem to6 (r : Ref sig .tc) (hr : r ∉ outs) : V6 m d (ref r) = V0 m d (ref r) := by
  rw [keep6 m d r hr, keep5 m d r hr, keep4 m d r hr, keep3 m d r hr, keep2 m d r hr, keep1 m d r hr]
/-- The second layer's activations. -/
theorem h2 (t : Fin 10240) (k : Fin 128) : pr ((show S1x1.Idx → EReal from V6 m d (ref main_v6)) (ix2 0 0))
    ((show S128x10240.Idx → EReal from V6 m d (ref main_v20)) (ix2 k t) * (show S1x10240.Idx → EReal from V6 m d (ref main_v16)) (ix2 0 t)
      + (show S128x10240.Idx → EReal from V6 m d (ref main_v19_1)) (ix2 k t)) = ((N.H2 t.val k : ℝ) : EReal) := by
  refine act_coe (f20 h t k) ?_ ?_ ?_
  · rw [v19_6]; exact f19_1 h t k
  · rw [v16_6]; exact f16 h t
  · rw [to6 main_v6 (by decide)]; exact r6 h
theorem f21_0 (t : Fin 10240) : (show S2x10240.Idx → EReal from V7 m d (ref main_v21)) (ix2 0 t) = ((∑ k, (∑ j, N.Wp j * N.W3l j k) * N.H2 t.val k : ℝ) : EReal) := by
  rw [at7]
  refine lin_coe (fun k => ?_) (fun k => h2 h t k)
  rw [to6 main_v11 (by decide)]; exact r11_0 h k
theorem f21_1 (t : Fin 10240) : (show S2x10240.Idx → EReal from V7 m d (ref main_v21)) (ix2 1 t) = ((∑ k, (∑ j, N.Wp j * N.W3r j k) * N.H2 t.val k : ℝ) : EReal) := by
  rw [at7]
  refine lin_coe (fun k => ?_) (fun k => h2 h t k)
  rw [to6 main_v11 (by decide)]; exact r11_1 h k
theorem f23 (t : Fin 10240) : (show S10240.Idx → EReal from V8 m d (ref main_v23)) (ix1 t) = ((∑ k, (∑ j, N.Wp j * N.W3l j k) * N.H2 t.val k : ℝ) : EReal) := by
  rw [at8]
  refine (shapeCast_1a_a_apply _ _ t).trans ((extractStridedSlice_apply _ _ _ _ (ix2 0 t) fun a => ?_).trans (f21_0 h t))
  match a with
  | 0 => rfl
  | 1 => show t.val = 0 + t.val; omega
/-- The result, over all the padded nodes. -/
theorem f25 (t : Fin 10240) : (show S1x10240.Idx → EReal from V10 m d (ref main_v25)) (ix2 0 t) = ((N.out t.val : ℝ) : EReal) := by
  rw [at10, at9, v16_9, v21_9, keep9 m d main_v14 (by decide), keep8 m d main_v14 (by decide), keep7 m d main_v14 (by decide), to6 main_v14 (by decide)]
  show ((∑ w : Fin 32, res0 (F := Ideal) (V8 m d (ref main_v23)) (V8 m d (ref main_v1)) (V8 m d (ref main_v3)) (ix2 w t)) * (show S1x10240.Idx → EReal from V2 m d (ref main_v16)) (ix2 0 t)
    + (show S2x10240.Idx → EReal from V7 m d (ref main_v21)) (ix2 1 t)) + (show S1x1.Idx → EReal from V0 m d (ref main_v14)) (ix2 0 0) = _
  rw [res0_sum (edges8 h) _ (fun t => ∑ k, (∑ j, N.Wp j * N.W3l j k) * N.H2 t k) (fun t _ => f23 h t) t, f16 h t, f21_1 h t, r14 h,
    ← EReal.coe_mul, ← EReal.coe_add, ← EReal.coe_add]
  rfl
/-- The kernel's result is the network's. -/
theorem f27 (t : Fin 10000) : (show S10000.Idx → EReal from V11 m d (ref main_v27)) (ix1 t) = ((N.out t.val : ℝ) : EReal) := by
  rw [at11]
  refine (shapeCast_1a_a_apply _ _ t).trans ((extractStridedSlice_apply _ _ _ _ (ix2 0 ⟨t.val, lt_trans t.isLt (by decide)⟩) fun a => ?_).trans (f25 h ⟨t.val, lt_trans t.isLt (by decide)⟩))
  match a with
  | 0 => rfl
  | 1 => show t.val = 0 + t.val; omega

end Cert.Kernel.Own

end
-- ==== Proof.RVal.lean ====
/- The reference's result as real numbers, from arguments that hold a network's data: the result is the network's. -/
module

public import proofs.«01_k».proof.Proof.Gen.ReferenceIdeal.Run
public import proofs.«01_k».proof.Proof.Net
public import Idealize.ShloMosaic.Lib.Routing.Ops
public import Idealize.ShloMosaic.Lib.Routing.OpsPair
public import Idealize.ShloMosaic.Lib.StackMember
public import Idealize.ShloMosaic.Lib.ReduceAll
public import Idealize.ShloMosaic.Lib.ValueLayout
public import Idealize.ShloMosaic.Lib.IdealHost
public import Idealize.ShloMosaic.Lib.Pipeline.Value
public import Idealize.ShloMosaic.PureOps.Ideal.Laws

@[expose] public section

set_option Elab.async false

noncomputable section

namespace Cert.ReferenceIdeal.Own

open Cert.ReferenceIdeal Cert.ReferenceIdeal.Gen Cert.ReferenceIdeal.Value Cert.Sage
open Idealize.ShloMosaic
open Idealize.ShloMosaic.ValueIdx
open Idealize.ShloMosaic.TcCoe
open Idealize.ShloMosaic.StableHlo (launchContents)

/-! ## Where an update of a scatter lands -/

theorem lands1 (idx : IVec S320000x1 32) (e : Fin 320000) (t : Fin 10000) :
    scatter_S10000_S320000x1_S320000_n_0_0_1.resultIdx? (ix1 e) idx = some (ix1 t) ↔ (idx (ix2 e 0)).toInt = t.val := by
  rw [Routing.resultIdx?_ix1]
  have h1 : scatter_S10000_S320000x1_S320000_n_0_0_1.start (ix1 e) idx 0 = (idx (ix2 e 0)).toInt := by
    refine (dif_pos (by decide)).trans (congrArg (fun i => (idx i).toInt) (funext fun a => ?_))
    match a with
    | 0 => exact Fin.ext rfl
    | 1 => exact Fin.ext rfl
  have h2 : scatter_S10000_S320000x1_S320000_n_0_0_1.window (ix1 e) 0 = 0 := dif_neg (by decide)
  rw [h1, h2]
  simp

theorem lands2 (idx : IVec S320000x1 32) (e : Fin 320000) (k' : Fin 128) (t : Fin 10000) (k : Fin 128) :
    scatter_S10000x128_S320000x1_S320000x128_1_0_0_1.resultIdx? (ix2 e k') idx = some (ix2 t k) ↔ (idx (ix2 e 0)).toInt = t.val ∧ k' = k := by
  rw [Routing.resultIdx?_ix2]
  have h1 : scatter_S10000x128_S320000x1_S320000x128_1_0_0_1.start (ix2 e k') idx 0 = (idx (ix2 e 0)).toInt := by
    refine (dif_pos (by decide)).trans (congrArg (fun i => (idx i).toInt) (funext fun a => ?_))
    match a with
    | 0 => exact Fin.ext rfl
    | 1 => exact Fin.ext rfl
  have h2 : scatter_S10000x128_S320000x1_S320000x128_1_0_0_1.window (ix2 e k') 0 = 0 := dif_neg (by decide)
  have h3 : scatter_S10000x128_S320000x1_S320000x128_1_0_0_1.start (ix2 e k') idx 1 = 0 := dif_neg (by decide)
  have h4 : scatter_S10000x128_S320000x1_S320000x128_1_0_0_1.window (ix2 e k') 1 = k'.val := (dif_pos (by decide)).trans rfl
  rw [h1, h2, h3, h4]
  constructor
  · rintro ⟨a, b⟩; exact ⟨by simpa using a, Fin.ext (by omega)⟩
  · rintro ⟨a, rfl⟩; exact ⟨by simpa using a, by simp⟩

/-! ## The reference's terms -/

/-- The indices a lookup reads: a negative one counts from the end. -/
def wrapped (v : IVec S320000 32) : IVec S320000x1 32 :=
  broadcastInDim S320000x1 ![0] bcast_S320000_S320000x1_0 (select (cmpi .slt v (broadcastInDim S320000 ![] bcast_S_S320000 (constantI S_ 32 0#32))) (addi v (broadcastInDim S320000 ![] bcast_S_S320000 (constantI S_ 32 10000#32))) v)

/-- The rows of `X` at the indices `i`, where they are in range. -/
def taken (X : FVec Ideal S10000x128 .f32) (i : IVec S320000x1 32) : FVec Ideal S320000x128 .f32 :=
  select (broadcastInDim S320000x128 ![0] bcast_S320000_S320000x128_0 (Host.reduce IntOp.andi (andi (cmpi .sge i (broadcastInDim S320000x1 ![] bcast_S_S320000x1 (constantI S_ 32 0#32))) (cmpi .sle i (broadcastInDim S320000x1 ![0, 1] bcast_S1x1_S320000x1_0_1 (broadcastInDim S1x1 ![1] bcast_S1_S1x1_1 (constantI S1 32 9999#32))))) (constantI S_ 1 1#1) reducesTo_S320000x1_S320000_d1 h_S_)) (Host.gather gather_S10000x128_S320000x1_S320000x128_1_0_n_n_0_1_1128 X i) (broadcastInDim S320000x128 ![] bcast_S_S320000x128 (constant S_ .f32 0x7FC00000#32))

/-- The sums of the rows taken, by target. -/
def summed (X : FVec Ideal S10000x128 .f32) (i : IVec S320000x1 32) (v : IVec S320000 32) : FVec Ideal S10000x128 .f32 :=
  Host.scatterAdd scatter_S10000x128_S320000x1_S320000x128_1_0_0_1 (broadcastInDim S10000x128 ![] bcast_S_S10000x128 (constant S_ .f32 0x00000000#32)) (broadcastInDim S320000x1 ![0] bcast_S320000_S320000x1_0 v) (taken X i)

/-- The degrees, at least one. -/
def degree (v : IVec S320000 32) : FVec Ideal S10000 .f32 :=
  maximumf (Host.scatterAdd scatter_S10000_S320000x1_S320000_n_0_0_1 (broadcastInDim S10000 ![] bcast_S_S10000 (constant S_ .f32 0x00000000#32)) (broadcastInDim S320000x1 ![0] bcast_S320000_S320000x1_0 v) (broadcastInDim S320000 ![] bcast_S_S320000 (constant S_ .f32 0x3F800000#32))) (broadcastInDim S10000 ![] bcast_S_S10000 (constant S_ .f32 0x3F800000#32))

/-- The means. -/
def mean (X : FVec Ideal S10000x128 .f32) (i : IVec S320000x1 32) (v : IVec S320000 32) : FVec Ideal S10000x128 .f32 :=
  Host.divf (summed X i v) (broadcastInDim S10000x128 ![0, 1] bcast_S10000x1_S10000x128_0_1 (broadcastInDim S10000x1 ![0] bcast_S10000_S10000x1_0 (degree v)))

/-- A layer of 128 features, before its activation. -/
def layer (X : FVec Ideal S10000x128 .f32) (i : IVec S320000x1 32) (v : IVec S320000 32) (Wl : FVec Ideal S128x128 .f32) (b : FVec Ideal S128 .f32) (Wr : FVec Ideal S128x128 .f32) : FVec Ideal S10000x128 .f32 :=
  addf (addf (Host.dotGeneral dot_S10000x128_S128x128_S10000x128_1_0_0_1_n_n none (mean X i v) (transpose S128x128 [1, 0] Wl transposes_S128x128_S128x128_1_0)) (broadcastInDim S10000x128 ![0, 1] bcast_S1x128_S10000x128_0_1 (broadcastInDim S1x128 ![1] bcast_S128_S1x128_1 b))) (Host.dotGeneral dot_S10000x128_S128x128_S10000x128_1_0_0_1_n_n none X (transpose S128x128 [1, 0] Wr transposes_S128x128_S128x128_1_0))

/-- The activation. -/
def act (h : FVec Ideal S10000x128 .f32) (a : FVec Ideal S_ .f32) : FVec Ideal S10000x128 .f32 :=
  select (cmpf .oge h (broadcastInDim S10000x128 ![] bcast_S_S10000x128 (constant S_ .f32 0x00000000#32))) h (mulf (broadcastInDim S10000x128 ![] bcast_S_S10000x128 a) h)

/-- The last layer, of 64 features. -/
def layer3 (X : FVec Ideal S10000x128 .f32) (i : IVec S320000x1 32) (v : IVec S320000 32) (Wl : FVec Ideal S64x128 .f32) (b : FVec Ideal S64 .f32) (Wr : FVec Ideal S64x128 .f32) : FVec Ideal S10000x64 .f32 :=
  addf (addf (Host.dotGeneral dot_S10000x128_S128x64_S10000x64_1_0_0_1_n_n none (mean X i v) (transpose S128x64 [1, 0] Wl transposes_S64x128_S128x64_1_0)) (broadcastInDim S10000x64 ![0, 1] bcast_S1x64_S10000x64_0_1 (broadcastInDim S1x64 ![1] bcast_S64_S1x64_1 b))) (Host.dotGeneral dot_S10000x128_S128x64_S10000x64_1_0_0_1_n_n none X (transpose S128x64 [1, 0] Wr transposes_S64x128_S128x64_1_0))

/-- The head. -/
def head (Y : FVec Ideal S10000x64 .f32) (Wp : FVec Ideal S1x64 .f32) (bp : FVec Ideal S1 .f32) : FVec Ideal S10000 .f32 :=
  shapeCast _ (addf (Host.dotGeneral dot_S10000x64_S64x1_S10000x1_1_0_0_1_n_n none Y (transpose S64x1 [1, 0] Wp transposes_S1x64_S64x1_1_0)) (broadcastInDim S10000x1 ![0, 1] bcast_S1x1_S10000x1_0_1 (broadcastInDim S1x1 ![1] bcast_S1_S1x1_1 bp))) shapeCasts_S10000x1_S10000

/-! ## The terms over the reals -/

theorem one_f32 : (FloatOps.ofBits FTy.f32 0x3F800000#32 : Ideal .f32) = (1 : EReal) := by
  show Ideal.ofBits .f32 0x3F800000#32 = 1
  simp

theorem zero_f32 : (FloatOps.ofBits FTy.f32 0x00000000#32 : Ideal .f32) = (0 : EReal) := by
  show Ideal.ofBits .f32 0x00000000#32 = 0
  simp

theorem lin_coe {n : ℕ} {W A : Fin n → EReal} {W' A' : Fin n → ℝ} (hW : ∀ k, W k = W' k) (hA : ∀ k, A k = A' k) :
    ∑ k, W k * A k = ((∑ k, W' k * A' k : ℝ) : EReal) := by
  rw [← coe_mul_sum]; exact Finset.sum_congr rfl fun k _ => by rw [hW, hA]

section Edges

variable {s d : ℕ → ℕ} {u v : IVec S320000 32}

theorem toInt_of (x : BitVec 32) (n : ℕ) (h : x.toNat = n) (hn : n < 10000) : x.toInt = n := by
  rw [BitVec.toInt_eq_toNat_of_lt (by omega), h]

theorem wrapped_eq (hu : ∀ e : Fin 320000, (u (ix1 e)).toNat = s e.val) (hs : ∀ e, s e < 10000) (e : Fin 320000) :
    wrapped u (ix2 e 0) = BitVec.ofNat 32 (s e.val) := by
  unfold wrapped
  refine (Routing.bcCol (n := 320000) _ _ e).trans ?_
  rw [select_apply]
  have h : (u (ix1 e)).toNat < 2 ^ 31 := by have := hu e; have := hs e.val; omega
  refine (Routing.wrap_of_lt (u (ix1 e)) _ h).trans ?_
  apply BitVec.eq_of_toNat_eq
  rw [hu e, BitVec.toNat_ofNat, Nat.mod_eq_of_lt (by have := hs e.val; omega)]

theorem taken_eq {X : FVec Ideal S10000x128 .f32} {T : ℕ → Fin 128 → ℝ} (hX : ∀ (t : Fin 10000) k, X (ix2 t k) = (T t.val k : EReal))
    (hu : ∀ e : Fin 320000, (u (ix1 e)).toNat = s e.val) (hs : ∀ e, s e < 10000) (e : Fin 320000) (k : Fin 128) :
    taken X (wrapped u) (ix2 e k) = (T (s e.val) k : EReal) := by
  unfold taken
  rw [select_apply]
  have hm : broadcastInDim S320000x128 ![0] bcast_S320000_S320000x128_0 (Host.reduce IntOp.andi (andi (cmpi .sge (wrapped u) (broadcastInDim S320000x1 ![] bcast_S_S320000x1 (constantI S_ 32 0#32))) (cmpi .sle (wrapped u) (broadcastInDim S320000x1 ![0, 1] bcast_S1x1_S320000x1_0_1 (broadcastInDim S1x1 ![1] bcast_S1_S1x1_1 (constantI S1 32 9999#32))))) (constantI S_ 1 1#1) reducesTo_S320000x1_S320000_d1 h_S_) (ix2 e k) = 1#1 := by
    unfold broadcastInDim
    refine Host.reduce_andi_one _ _ _ _ _ rfl fun i => ?_
    obtain ⟨e', rfl⟩ : ∃ e', i = ix2 e' 0 := ⟨i 0, funext fun a => by
      match a with
      | 0 => rfl
      | 1 => exact Subsingleton.elim (α := Fin 1) _ _⟩
    show IntOp.andi (IntOp.cmpi .sge (wrapped u (ix2 e' 0)) 0#32) (IntOp.cmpi .sle (wrapped u (ix2 e' 0)) 9999#32) = 1#1
    rw [wrapped_eq hu hs e']
    have hl := hs e'.val
    have ht : (BitVec.ofNat 32 (s e'.val)).toInt = s e'.val := toInt_of _ _ (by rw [BitVec.toNat_ofNat, Nat.mod_eq_of_lt (by omega)]) hl
    rw [IntOp.andi_eq_one]
    refine ⟨?_, ?_⟩
    · rw [IntOp.cmpi_sge, ht]; simp
    · rw [IntOp.cmpi_sle, ht]
      show (s e'.val : Int) ≤ 9999
      omega
  rw [hm]
  refine (Routing.gather_row gather_S10000x128_S320000x1_S320000x128_1_0_n_n_0_1_1128 rfl rfl rfl rfl rfl X (wrapped u) e k ⟨s e.val, hs e.val⟩ (wrapped_eq hu hs e) (by decide)).trans ?_
  exact hX _ _

theorem summed_eq {X : FVec Ideal S10000x128 .f32} {T : ℕ → Fin 128 → ℝ} (hX : ∀ (t : Fin 10000) k, X (ix2 t k) = (T t.val k : EReal))
    (hu : ∀ e : Fin 320000, (u (ix1 e)).toNat = s e.val) (hs : ∀ e, s e < 10000)
    (hv : ∀ e : Fin 320000, (v (ix1 e)).toNat = d e.val) (hd : ∀ e, d e < 10000) (t : Fin 10000) (k : Fin 128) :
    summed X (wrapped u) v (ix2 t k) = ((S s d (fun m => T m k) t.val : ℝ) : EReal) := by
  show broadcastInDim S10000x128 ![] bcast_S_S10000x128 (constant (F := Ideal) S_ .f32 0x00000000#32) (ix2 t k) + Finset.sum (Finset.univ.filter _) (taken X (wrapped u)) = _
  rw [Routing.bc0 (s := S10000x128), Finset.sum_filter, sum_idx2]
  refine (congrArg₂ (· + ·) zero_f32 (?_ : _ = ((∑ e : Fin 320000, (if d e.val = t.val then T (s e.val) k else 0) : ℝ) : EReal))).trans ?_
  · rw [← coe_sum]
    refine Finset.sum_congr rfl fun e _ => ?_
    have hi : ((broadcastInDim S320000x1 ![0] bcast_S320000_S320000x1_0 v : IVec S320000x1 32) (ix2 e 0)).toInt = d e.val := by
      refine (congrArg BitVec.toInt (Routing.bcCol (n := 320000) _ _ e)).trans (toInt_of _ _ (hv e) (hd _))
    rw [Finset.sum_eq_single k]
    · by_cases hc : d e.val = t.val
      · rw [if_pos hc]
        refine (if_pos ((lands2 _ e k t k).2 ⟨by rw [hi, hc], rfl⟩)).trans (taken_eq hX hu hs e k)
      · rw [if_neg hc]
        exact if_neg fun hl => hc (by have := ((lands2 _ e k t k).1 hl).1; rw [hi] at this; exact_mod_cast this)
    · intro k' _ hk
      exact if_neg fun hl => hk ((lands2 _ e k' t k).1 hl).2
    · intro hk; exact absurd (Finset.mem_univ k) hk
  · unfold S
    rw [zero_add, Finset.sum_range]

theorem degree_eq (hv : ∀ e : Fin 320000, (v (ix1 e)).toNat = d e.val) (hd : ∀ e, d e < 10000) (t : Fin 10000) :
    degree v (ix1 t) = ((dg s d t.val : ℝ) : EReal) := by
  have h : Host.scatterAdd (F := Ideal) (φ := .f32) scatter_S10000_S320000x1_S320000_n_0_0_1 (broadcastInDim S10000 ![] bcast_S_S10000 (constant S_ .f32 0x00000000#32)) (broadcastInDim S320000x1 ![0] bcast_S320000_S320000x1_0 v) (broadcastInDim S320000 ![] bcast_S_S320000 (constant S_ .f32 0x3F800000#32)) (ix1 t)
      = ((S s d (fun _ => 1) t.val : ℝ) : EReal) := by
    show broadcastInDim S10000 ![] bcast_S_S10000 (constant (F := Ideal) S_ .f32 0x00000000#32) (ix1 t) + Finset.sum (Finset.univ.filter _) (broadcastInDim S320000 ![] bcast_S_S320000 (constant (F := Ideal) S_ .f32 0x3F800000#32)) = _
    rw [Routing.bc0 (s := S10000), Finset.sum_filter]
    refine (congrArg₂ (· + ·) zero_f32 (?_ : _ = ((∑ e : Fin 320000, (if d e.val = t.val then 1 else 0) : ℝ) : EReal))).trans ?_
    · rw [← coe_sum]
      refine (Fintype.sum_equiv ⟨fun i => i 0, fun e => ix1 e, fun i => funext fun a => by match a with | 0 => rfl, fun _ => rfl⟩ _ _ fun i => ?_)
      obtain ⟨e, rfl⟩ : ∃ e, i = ix1 e := ⟨i 0, funext fun a => by match a with | 0 => rfl⟩
      have hi : ((broadcastInDim S320000x1 ![0] bcast_S320000_S320000x1_0 v : IVec S320000x1 32) (ix2 e 0)).toInt = d e.val := by
        refine (congrArg BitVec.toInt (Routing.bcCol (n := 320000) _ _ e)).trans (toInt_of _ _ (hv e) (hd _))
      show _ = (((if d e.val = t.val then 1 else 0 : ℝ)) : EReal)
      by_cases hc : d e.val = t.val
      · rw [if_pos hc]
        exact (if_pos ((lands1 _ e t).2 (by rw [hi, hc]))).trans one_f32
      · rw [if_neg hc]
        exact if_neg fun hl => hc (by have := (lands1 _ e t).1 hl; rw [hi] at this; exact_mod_cast this)
    · unfold S
      rw [zero_add, Finset.sum_range]
  unfold degree
  rw [maximumf_apply, h]
  refine (congrArg (max _) one_f32).trans ?_
  exact coe_max _ 1

theorem mean_eq {X : FVec Ideal S10000x128 .f32} {T : ℕ → Fin 128 → ℝ} (hX : ∀ (t : Fin 10000) k, X (ix2 t k) = (T t.val k : EReal))
    (hu : ∀ e : Fin 320000, (u (ix1 e)).toNat = s e.val) (hs : ∀ e, s e < 10000)
    (hv : ∀ e : Fin 320000, (v (ix1 e)).toNat = d e.val) (hd : ∀ e, d e < 10000) (t : Fin 10000) (k : Fin 128) :
    mean X (wrapped u) v (ix2 t k) = ((S s d (fun m => T m k) t.val / dg s d t.val : ℝ) : EReal) := by
  unfold mean
  rw [hostDivf_apply, summed_eq hX hu hs hv hd]
  refine (congrArg (Ideal.div _) ((Routing.bcRows (n := 10000) (m := 128) _ _ _ t k).trans (degree_eq (s := s) hv hd t))).trans ?_
  exact div_real _ _ (dg_pos _ _ _).ne'

theorem layer_eq' {X : FVec Ideal S10000x128 .f32} {T : ℕ → Fin 128 → ℝ} (hX : ∀ (t : Fin 10000) k, X (ix2 t k) = (T t.val k : EReal))
    (hu : ∀ e : Fin 320000, (u (ix1 e)).toNat = s e.val) (hs : ∀ e, s e < 10000)
    (hv : ∀ e : Fin 320000, (v (ix1 e)).toNat = d e.val) (hd : ∀ e, d e < 10000)
    {Wl Wr : FVec Ideal S128x128 .f32} {b : FVec Ideal S128 .f32} {Wl' Wr' : Fin 128 → Fin 128 → ℝ} {b' : Fin 128 → ℝ}
    (hl : ∀ p k, Wl (ix2 p k) = (Wl' p k : EReal)) (hr : ∀ p k, Wr (ix2 p k) = (Wr' p k : EReal)) (hb : ∀ p, b (ix1 p) = (b' p : EReal))
    (t : Fin 10000) (p : Fin 128) : layer X (wrapped u) v Wl b Wr (ix2 t p) = ((rL s d T Wl' Wr' b' t.val p : ℝ) : EReal) := by
  unfold layer rL
  rw [addf_apply, addf_apply, EReal.coe_add, EReal.coe_add]
  refine congrArg₂ (· + ·) (congrArg₂ (· + ·) ?_ ?_) ?_
  · refine (StackMember.dotGeneral_plain_apply (m := 10000) (n := 128) (k := 128) none _ _ t p).trans (lin_coe (fun k => mean_eq hX hu hs hv hd t k) fun k => ?_)
    exact (transpose_ix2_apply _ _ k p).trans (hl p k)
  · exact (Routing.bcCols (n := 10000) (m := 128) _ _ _ t p).trans (hb p)
  · refine (StackMember.dotGeneral_plain_apply (m := 10000) (n := 128) (k := 128) none _ _ t p).trans (lin_coe (fun k => hX t k) fun k => ?_)
    exact (transpose_ix2_apply _ _ k p).trans (hr p k)

theorem layer3_eq {X : FVec Ideal S10000x128 .f32} {T : ℕ → Fin 128 → ℝ} (hX : ∀ (t : Fin 10000) k, X (ix2 t k) = (T t.val k : EReal))
    (hu : ∀ e : Fin 320000, (u (ix1 e)).toNat = s e.val) (hs : ∀ e, s e < 10000)
    (hv : ∀ e : Fin 320000, (v (ix1 e)).toNat = d e.val) (hd : ∀ e, d e < 10000)
    {Wl Wr : FVec Ideal S64x128 .f32} {b : FVec Ideal S64 .f32} {Wl' Wr' : Fin 64 → Fin 128 → ℝ} {b' : Fin 64 → ℝ}
    (hl : ∀ p k, Wl (ix2 p k) = (Wl' p k : EReal)) (hr : ∀ p k, Wr (ix2 p k) = (Wr' p k : EReal)) (hb : ∀ p, b (ix1 p) = (b' p : EReal))
    (t : Fin 10000) (p : Fin 64) : layer3 X (wrapped u) v Wl b Wr (ix2 t p) = ((rL s d T Wl' Wr' b' t.val p : ℝ) : EReal) := by
  unfold layer3 rL
  rw [addf_apply, addf_apply, EReal.coe_add, EReal.coe_add]
  refine congrArg₂ (· + ·) (congrArg₂ (· + ·) ?_ ?_) ?_
  · refine (StackMember.dotGeneral_plain_apply (m := 10000) (n := 64) (k := 128) none _ _ t p).trans (lin_coe (fun k => mean_eq hX hu hs hv hd t k) fun k => ?_)
    exact (transpose_ix2_apply _ _ k p).trans (hl p k)
  · exact (Routing.bcCols (n := 10000) (m := 64) _ _ _ t p).trans (hb p)
  · refine (StackMember.dotGeneral_plain_apply (m := 10000) (n := 64) (k := 128) none _ _ t p).trans (lin_coe (fun k => hX t k) fun k => ?_)
    exact (transpose_ix2_apply _ _ k p).trans (hr p k)

end Edges

theorem act_eq {h : FVec Ideal S10000x128 .f32} {a : FVec Ideal S_ .f32} {g : ℕ → Fin 128 → ℝ} {a' : ℝ} (hh : ∀ (t : Fin 10000) k, h (ix2 t k) = (g t.val k : EReal))
    (ha : ∀ i, a i = (a' : EReal)) (t : Fin 10000) (k : Fin 128) : act h a (ix2 t k) = ((prR a' (g t.val k) : ℝ) : EReal) := by
  unfold act prR
  rw [select_apply, cmpf_apply, mulf_apply, hh, Routing.bc0 (s := S10000x128), Routing.bc0 (s := S10000x128), ha]
  have z : (constant (F := Ideal) S_ .f32 0x00000000#32) ix0 = (0 : EReal) := zero_f32
  rw [z]
  show (if Ideal.cmp .oge _ _ = 1#1 then _ else _ : EReal) = _
  split
  · rfl
  · rw [EReal.coe_mul]

theorem head_eq' {Y : FVec Ideal S10000x64 .f32} {Wp : FVec Ideal S1x64 .f32} {bp : FVec Ideal S1 .f32} {Y' : ℕ → Fin 64 → ℝ} {Wp' : Fin 64 → ℝ} {bp' : ℝ}
    (hY : ∀ (t : Fin 10000) j, Y (ix2 t j) = (Y' t.val j : EReal)) (hW : ∀ j, Wp (ix2 0 j) = (Wp' j : EReal)) (hb : ∀ i, bp i = (bp' : EReal)) (t : Fin 10000) :
    head Y Wp bp (ix1 t) = (((∑ j, Y' t.val j * Wp' j) + bp' : ℝ) : EReal) := by
  unfold head
  refine (Routing.cast21 (a := 10000) (b := 1) (n := 10000) _ _ t 0 t (by simp)).trans ?_
  rw [addf_apply, EReal.coe_add]
  refine congrArg₂ (· + ·) ?_ (hb _)
  refine (StackMember.dotGeneral_plain_apply (m := 10000) (n := 1) (k := 64) none _ _ t 0).trans (lin_coe (fun j => hY t j) fun j => ?_)
  exact (transpose_ix2_apply _ _ j 0).trans (hW j)

/-! ## The reference's result -/

variable (m : (ℓ : Loc nD τ sig) → Buf (Elt Ideal) ℓ)

/-- The arguments in memory hold the network's data. -/
abbrev Has (N : Net) (d : Dev nD) : Prop :=
  IsNet N (m ((d.tc : Thread nD τ).loc main_arg0)) (m ((d.tc : Thread nD τ).loc main_arg1)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) (m ((d.tc : Thread nD τ).loc main_arg7))
    (m ((d.tc : Thread nD τ).loc main_arg8)) (m ((d.tc : Thread nD τ).loc main_arg9)) (m ((d.tc : Thread nD τ).loc main_arg10)) (m ((d.tc : Thread nD τ).loc main_arg11))
    (m ((d.tc : Thread nD τ).loc main_arg12)) (m ((d.tc : Thread nD τ).loc main_arg13))

variable {m} {N : Net} {d : Dev nD} (h : Has m N d)
include h

theorem srcs (e : Fin 320000) : ((show S320000.Idx → BitVec 32 from res_main_v1 (launchContents m d)) (ix1 e)).toNat = N.s e.val := by
  refine (congrArg BitVec.toNat ?_).trans (h.src e)
  refine (Routing.cast21 (a := 1) (b := 320000) (n := 320000) _ _ 0 e e (by simp)).trans (extractStridedSlice_apply _ _ _ _ _ fun a => ?_)
  match a with
  | 0 => rfl
  | 1 => show e.val = 0 + e.val; omega

theorem dsts (e : Fin 320000) : ((show S320000.Idx → BitVec 32 from res_main_v3 (launchContents m d)) (ix1 e)).toNat = N.d e.val := by
  refine (congrArg BitVec.toNat ?_).trans (h.dst e)
  refine (Routing.cast21 (a := 1) (b := 320000) (n := 320000) _ _ 0 e e (by simp)).trans (extractStridedSlice_apply _ _ _ _ _ fun a => ?_)
  match a with
  | 0 => rfl
  | 1 => show e.val = 0 + e.val; omega

theorem v29 (t : Fin 10000) (k : Fin 128) : (show S10000x128.Idx → EReal from res_main_v29 (launchContents m d)) (ix2 t k) = ((N.H1 t.val k : ℝ) : EReal) := by
  rw [Net.H1_eq]
  exact act_eq (g := rL N.s N.d N.X N.W1l N.W1r N.b1) (fun t k => layer_eq' h.feat (srcs h) h.src_lt (dsts h) h.dst_lt h.w1l h.w1r h.bias1 t k) h.slope t k

theorem v55 (t : Fin 10000) (k : Fin 128) : (show S10000x128.Idx → EReal from res_main_v55 (launchContents m d)) (ix2 t k) = ((N.H2 t.val k : ℝ) : EReal) := by
  rw [Net.H2_eq]
  exact act_eq (g := rL N.s N.d N.H1 N.W2l N.W2r N.b2) (fun t k => layer_eq' (v29 h) (srcs h) h.src_lt (dsts h) h.dst_lt h.w2l h.w2r h.bias2 t k) h.slope t k

theorem result (t : Fin 10000) :
    head (layer3 (res_main_v55 (launchContents m d)) (wrapped (res_main_v1 (launchContents m d))) (res_main_v3 (launchContents m d)) (m ((d.tc : Thread nD τ).loc main_arg8)) (m ((d.tc : Thread nD τ).loc main_arg9)) (m ((d.tc : Thread nD τ).loc main_arg10)))
      (m ((d.tc : Thread nD τ).loc main_arg12)) (m ((d.tc : Thread nD τ).loc main_arg13)) (ix1 t) = ((N.out t.val : ℝ) : EReal) := by
  rw [Net.out_eq]
  exact head_eq' (fun t j => layer3_eq (v55 h) (srcs h) h.src_lt (dsts h) h.dst_lt h.w3l h.w3r h.bias3 t j) h.wp h.bp t

omit h in
/-- The reference's run: its result is the network's, its arguments are unchanged. -/
theorem run_net (m : (ℓ : Loc nD τ sig) → Buf (Elt Ideal) ℓ) (ρ : Dev nD → PrngReg) (N : Dev nD → Net) (h : ∀ d, Has m (N d) d) :
    θ_run defs (onTc (τ := τ) (main (F := Ideal))) ⟨m, fun _ => 0, ρ⟩ fun r => ∀ c : Dev nD,
      r.2.mem ((c.tc : Thread nD τ).loc main_v82) = (fun i : S10000.Idx => (((N c).out (i 0).val : ℝ) : EReal))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) := by
  refine (θ_run defs _ _).mono (fun r hr c => ⟨(hr c).1.trans ?_, (hr c).2⟩) (run m ρ)
  funext i
  obtain ⟨t, rfl⟩ : ∃ t, i = ix1 t := ⟨i 0, funext fun a => by match a with | 0 => rfl⟩
  exact result (h c) t

end Cert.ReferenceIdeal.Own

end
-- ==== Proof.Transport.lean ====
/- The two printed programs are one: the idealized program applies no rewrite, so its definitions are the kernel's, stated twice. -/
module

public import proofs.«01_k».proof.Proof.Gen.Kernel
public import proofs.«01_k».proof.Proof.Gen.KernelIdeal

@[expose] public section

set_option Elab.async false
set_option maxRecDepth 100000
set_option maxHeartbeats 8000000

noncomputable section

namespace Cert.Transport

open Idealize.ShloMosaic

variable {F : FTy → Type} [FloatOps F]

theorem row_tc (l : Fin 9) : Cert.Kernel.defs₀ (F := F) .tc l = Cert.KernelIdeal.defs₀ (F := F) .tc l := by
  funext a
  match l with
  | 0 => rfl
  | 1 => rfl
  | 2 => rfl
  | 3 => rfl
  | 4 => rfl
  | 5 => rfl
  | 6 => rfl
  | 7 => rfl
  | 8 => rfl

end Cert.Transport

end

end
-- ==== Proof.Transport2.lean ====
/- The two printed programs are one: the SparseCore bodies and the tables. -/
module

public import proofs.«01_k».proof.Proof.Transport

@[expose] public section

set_option Elab.async false
set_option maxRecDepth 100000
set_option maxHeartbeats 16000000

noncomputable section

namespace Cert.Transport

open Idealize.ShloMosaic

variable {F : FTy → Type} [FloatOps F]

theorem row_scalar (c) (l : Fin 9) : Cert.Kernel.defs₀ (F := F) (.scScalar c) l = Cert.KernelIdeal.defs₀ (F := F) (.scScalar c) l := by
  funext a
  match l with
  | 0 => rfl
  | 1 => rfl
  | 2 => rfl
  | 3 => rfl
  | 4 => rfl
  | 5 => rfl
  | 6 => rfl
  | 7 => rfl
  | 8 => rfl

theorem row_vector (c s) (l : Fin 9) : Cert.Kernel.defs₀ (F := F) (.scVector c s) l = Cert.KernelIdeal.defs₀ (F := F) (.scVector c s) l := by
  funext a
  match l with
  | 0 => rfl
  | 1 => rfl
  | 2 => rfl
  | 3 => rfl
  | 4 => rfl
  | 5 => rfl
  | 6 => rfl
  | 7 => rfl
  | 8 => rfl

theorem defs₀_eq : (Cert.KernelIdeal.defs₀ (F := F)) = Cert.Kernel.defs₀ (F := F) := by
  funext p l
  match p with
  | .tc => exact (row_tc l).symm
  | .scScalar c => exact (row_scalar c l).symm
  | .scVector c s => exact (row_vector c s l).symm

theorem defs_eq : (Cert.KernelIdeal.defs (F := F)) = Cert.Kernel.defs (F := F) := by
  have e : Cert.KernelIdeal.defs (F := F) = Cert.KernelIdeal.sc.defs (Pipeline.defs Cert.KernelIdeal.pcfgs (Cert.KernelIdeal.defs₀ (F := F))) := rfl
  rw [e, defs₀_eq]
  have e2 : ∀ X : Defs Cert.Kernel.nD Cert.Kernel.τ Cert.Kernel.sig (Elt F) Cert.Kernel.Λ₀,
    (Cert.KernelIdeal.sc (F := F)).defs (Pipeline.defs (Cert.KernelIdeal.pcfgs (F := F)) X) = (Cert.Kernel.sc (F := F)).defs (Pipeline.defs (Cert.Kernel.pcfgs (F := F)) X) := fun X => rfl
  exact e2 _

theorem main_eq : (Cert.KernelIdeal.main (F := F)) = Cert.Kernel.main (F := F) := rfl

theorem threads_eq : (Cert.KernelIdeal.threads (F := F)) = Cert.Kernel.threads (F := F) := by
  have e : Cert.KernelIdeal.threads (F := F) = (Cert.KernelIdeal.sc (F := F)).threads (Cert.KernelIdeal.main (F := F)) := rfl
  rw [e, main_eq]
  rfl

theorem run_transport (σ : MemSt Cert.Kernel.nD Cert.Kernel.τ Cert.Kernel.sig (Elt F)) (Q : PUnit × MemSt Cert.Kernel.nD Cert.Kernel.τ Cert.Kernel.sig (Elt F) → Prop)
    (h : θ_run (Cert.Kernel.defs (F := F)) (Cert.Kernel.threads (F := F)) σ Q) :
    θ_run (Cert.KernelIdeal.defs (F := F)) (Cert.KernelIdeal.threads (F := F)) σ Q := by
  rw [defs_eq, threads_eq]; exact h

end Cert.Transport

end

end
-- ==== Proof.lean ====
module

public import proofs.«01_k».proof.Defs
public import proofs.«01_k».proof.Proof.Keep
public import proofs.«01_k».proof.Proof.Range
public import proofs.«01_k».proof.Proof.Finite
public import proofs.«01_k».proof.Proof.KVal
public import proofs.«01_k».proof.Proof.RVal
public import proofs.«01_k».proof.Proof.Transport2
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_edges
public import proofs.«01_k».proof.Proof.Gen.Pre_finite
public import Idealize.ShloMosaic.Lib.Quiescent
public import Idealize.ShloMosaic.Adequacy
public import Idealize.ShloMosaic.Init

@[expose] public section

set_option Elab.async false

noncomputable section

namespace Cert.Proof

open Idealize.ShloMosaic Idealize.SL.Sem Cert.Kernel

/-- The kernel's frame: its run, with the range of the edges from the precondition. -/
theorem quiescent_kernel : Cert.quiescent_Kernel := fun m g h =>
  (θ_run Cert.Kernel.defs _ _).mono (fun _ hr => ⟨fun c => (hr.1 c).2, hr.2⟩)
    (Cert.Kernel.Own.run_args (F := Bits) m g fun d => Cert.Kernel.Own.edges_range _ _ _ _ _ _ _ _ _ _ _ _ _ _ (h d))

/-- The idealized kernel's frame: the same run at the ideal values. -/
theorem quiescent_kernelIdeal : Cert.quiescent_KernelIdeal := fun m g h =>
  Cert.Transport.run_transport _ _ <|
  (θ_run Cert.Kernel.defs _ _).mono (fun _ hr => ⟨fun c => (hr.1 c).2, hr.2⟩)
    (Cert.Kernel.Own.run_args (F := Ideal) m g fun d => Cert.Kernel.Own.edges_range _ _ _ _ _ _ _ _ _ _ _ _ _ _ (h d))

/-- The reference's frame: its run; it declares no semaphore. -/
theorem quiescent_referenceIdeal : Cert.quiescent_ReferenceIdeal := fun m g _ =>
  (θ_run Cert.ReferenceIdeal.defs _ _).mono (fun r hr => ⟨fun c => (hr c).2, sem_eq_zero_of_no_sems rfl r.2⟩)
    (Cert.ReferenceIdeal.Value.run m g)

/-- The idealized kernel's frame under the value claim's precondition. -/
theorem quiescent_kernelIdeal_finite : Cert.quiescent_KernelIdeal_pre_finite := fun m g h =>
  Cert.Transport.run_transport _ _ <|
  (θ_run Cert.Kernel.defs _ _).mono (fun _ hr => ⟨fun c => (hr.1 c).2, hr.2⟩)
    (Cert.Kernel.Own.run_args (F := Ideal) m g fun d => (Cert.Sage.finite_net _ _ _ _ _ _ _ _ _ _ _ _ _ _ (h d)).1)

/-- The reference's frame under the value claim's precondition. -/
theorem quiescent_referenceIdeal_finite : Cert.quiescent_ReferenceIdeal_pre_finite := fun m g _ =>
  (θ_run Cert.ReferenceIdeal.defs _ _).mono (fun r hr => ⟨fun c => (hr c).2, sem_eq_zero_of_no_sems rfl r.2⟩)
    (Cert.ReferenceIdeal.Value.run m g)

/-- The value claim: both results are the output of the network whose data the arguments are. -/
theorem algebraic : Cert.algebraic_KernelIdeal_ReferenceIdeal_pre_finite := by
  intro m g m' g' h he
  choose N hN using fun d => (Cert.Sage.finite_net _ _ _ _ _ _ _ _ _ _ _ _ _ _ (h d)).2
  have hN' : ∀ d, Cert.ReferenceIdeal.Own.Has m' (N d) d := fun d => by
    obtain ⟨e0, e1, e2, e3, e4, e5, e6, e7, e8, e9, e10, e11, e12, e13⟩ := he d
    unfold Cert.ReferenceIdeal.Own.Has
    rw [e0, e1, e2, e3, e4, e5, e6, e7, e8, e9, e10, e11, e12, e13]
    exact hN d
  refine ⟨fun c => (fun i : (⟨1, ![10000]⟩ : Shape).Idx => (((N c).out (i 0).val : ℝ) : EReal)), ?_, ?_⟩
  · refine Cert.Transport.run_transport _ _ <| (θ_run Cert.Kernel.defs _ _).mono (fun r hr c => ⟨(hr.1 c).1.trans ?_, (hr.1 c).2⟩)
      (Cert.Kernel.Own.run_args (F := Ideal) m g fun d => (Cert.Sage.finite_net _ _ _ _ _ _ _ _ _ _ _ _ _ _ (h d)).1)
    funext i
    obtain ⟨t, rfl⟩ : ∃ t : Fin 10000, i = ValueIdx.ix1 t := ⟨i 0, funext fun a => by match a with | 0 => rfl⟩
    exact Cert.Kernel.Own.f27 (hN c) t
  · exact (θ_run Cert.ReferenceIdeal.defs _ _).mono (fun r hr c => ⟨(hr c).1, (hr c).2⟩) (Cert.ReferenceIdeal.Own.run_net m' g' N hN')

theorem claim : Cert.Claim := ⟨Cert.Kernel.Gen.facts, Cert.KernelIdeal.Gen.facts, Cert.ReferenceIdeal.Gen.facts, Cert.Pre_edges.Gen.facts,
  Cert.Pre_finite.Gen.facts, quiescent_kernel, quiescent_kernelIdeal, quiescent_kernelIdeal_finite, quiescent_referenceIdeal,
  quiescent_referenceIdeal_finite, trivial, algebraic⟩

end Cert.Proof

end
